-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "root_half" .f32 0x3F3504F3#32 (((Real.sqrt 2)⁻¹ : ℝ) : EReal)
  ∧ IdealRules.named_const.Statement Cert.KernelIdeal.κ "gauss" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v86) = v4 c
          ∧ r.2.mem ((c.tc : Thread Cert.ReferenceIdeal.nD Cert.ReferenceIdeal.τ).loc Cert.ReferenceIdeal.main_v79) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_v82) = v1 c
          ∧ r.2.mem ((c.tc : Thread Cert.Reference2Ideal.nD Cert.Reference2Ideal.τ).loc Cert.Reference2Ideal.main_v83) = v2 c
          ∧ r.2.mem ((c.tc : Thread Cert.Reference2Ideal.nD Cert.Reference2Ideal.τ).loc Cert.Reference2Ideal.main_v84) = v3 c
          ∧ r.2.mem ((c.tc : Thread Cert.Reference2Ideal.nD Cert.Reference2Ideal.τ).loc Cert.Reference2Ideal.main_v85) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v186) = v0 c
          ∧ r.2.mem ((c.tc : Thread Cert.Reference3Ideal.nD Cert.Reference3Ideal.τ).loc Cert.Reference3Ideal.main_v187) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_1)) (v2 : (c : Dev Cert.Kernel4Ideal.nD) → Buf (Elt Ideal) ((c.tc : Thread Cert.Kernel4Ideal.nD Cert.Kernel4Ideal.τ).loc Cert.Kernel4Ideal.main_v27_2)) (v3 : (c : Dev Cert.Kernel4Ideal.nD) → Buf (Elt Ideal) ((c.tc : Thread Cert.Kernel4Ideal.nD Cert.Kernel4Ideal.τ).loc Cert.Kernel4Ideal.main_v27_3)) (v4 : (c : Dev Cert.Kernel4Ideal.nD) → Buf (Elt Ideal) ((c.tc : Thread Cert.Kernel4Ideal.nD Cert.Kernel4Ideal.τ).loc Cert.Kernel4Ideal.main_v27_4)) (v5 : (c : Dev Cert.Kernel4Ideal.nD) → Buf (Elt Ideal) ((c.tc : Thread Cert.Kernel4Ideal.nD Cert.Kernel4Ideal.τ).loc Cert.Kernel4Ideal.main_v27_5)) (v6 : (c : Dev Cert.Kernel4Ideal.nD) → Buf (Elt Ideal) ((c.tc : Thread Cert.Kernel4Ideal.nD Cert.Kernel4Ideal.τ).loc Cert.Kernel4Ideal.main_v27_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_1) = v1 c
          ∧ r.2.mem ((c.tc : Thread Cert.Kernel4Ideal.nD Cert.Kernel4Ideal.τ).loc Cert.Kernel4Ideal.main_v27_2) = v2 c
          ∧ r.2.mem ((c.tc : Thread Cert.Kernel4Ideal.nD Cert.Kernel4Ideal.τ).loc Cert.Kernel4Ideal.main_v27_3) = v3 c
          ∧ r.2.mem ((c.tc : Thread Cert.Kernel4Ideal.nD Cert.Kernel4Ideal.τ).loc Cert.Kernel4Ideal.main_v27_4) = v4 c
          ∧ r.2.mem ((c.tc : Thread Cert.Kernel4Ideal.nD Cert.Kernel4Ideal.τ).loc Cert.Kernel4Ideal.main_v27_5) = v5 c
          ∧ r.2.mem ((c.tc : Thread Cert.Kernel4Ideal.nD Cert.Kernel4Ideal.τ).loc Cert.Kernel4Ideal.main_v27_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_v75) = v2 c
          ∧ r.2.mem ((c.tc : Thread Cert.Reference4Ideal.nD Cert.Reference4Ideal.τ).loc Cert.Reference4Ideal.main_v77) = v3 c
          ∧ r.2.mem ((c.tc : Thread Cert.Reference4Ideal.nD Cert.Reference4Ideal.τ).loc Cert.Reference4Ideal.main_v78) = v4 c
          ∧ r.2.mem ((c.tc : Thread Cert.Reference4Ideal.nD Cert.Reference4Ideal.τ).loc Cert.Reference4Ideal.main_v69) = v5 c
          ∧ r.2.mem ((c.tc : Thread Cert.Reference4Ideal.nD Cert.Reference4Ideal.τ).loc Cert.Reference4Ideal.main_v81) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)) (v2 : (c : Dev Cert.Kernel5Ideal.nD) → Buf (Elt Ideal) ((c.tc : Thread Cert.Kernel5Ideal.nD Cert.Kernel5Ideal.τ).loc Cert.Kernel5Ideal.main_v22_2)) (v3 : (c : Dev Cert.Kernel5Ideal.nD) → Buf (Elt Ideal) ((c.tc : Thread Cert.Kernel5Ideal.nD Cert.Kernel5Ideal.τ).loc Cert.Kernel5Ideal.main_v22_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_v22_2) = v2 c
          ∧ r.2.mem ((c.tc : Thread Cert.Kernel5Ideal.nD Cert.Kernel5Ideal.τ).loc Cert.Kernel5Ideal.main_v22_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_v76) = v1 c
          ∧ r.2.mem ((c.tc : Thread Cert.Reference5Ideal.nD Cert.Reference5Ideal.τ).loc Cert.Reference5Ideal.main_v77) = v2 c
          ∧ r.2.mem ((c.tc : Thread Cert.Reference5Ideal.nD Cert.Reference5Ideal.τ).loc Cert.Reference5Ideal.main_v78) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v25_0)) (v1 : (c : Dev Cert.Kernel6Ideal.nD) → Buf (Elt Ideal) ((c.tc : Thread Cert.Kernel6Ideal.nD Cert.Kernel6Ideal.τ).loc Cert.Kernel6Ideal.main_v25_1)) (v2 : (c : Dev Cert.Kernel6Ideal.nD) → Buf (Elt Ideal) ((c.tc : Thread Cert.Kernel6Ideal.nD Cert.Kernel6Ideal.τ).loc Cert.Kernel6Ideal.main_v25_2)) (v3 : (c : Dev Cert.Kernel6Ideal.nD) → Buf (Elt Ideal) ((c.tc : Thread Cert.Kernel6Ideal.nD Cert.Kernel6Ideal.τ).loc Cert.Kernel6Ideal.main_v25_3)) (v4 : (c : Dev Cert.Kernel6Ideal.nD) → Buf (Elt Ideal) ((c.tc : Thread Cert.Kernel6Ideal.nD Cert.Kernel6Ideal.τ).loc Cert.Kernel6Ideal.main_v25_4)) (v5 : (c : Dev Cert.Kernel6Ideal.nD) → Buf (Elt Ideal) ((c.tc : Thread Cert.Kernel6Ideal.nD Cert.Kernel6Ideal.τ).loc Cert.Kernel6Ideal.main_v25_5)) (v6 : (c : Dev Cert.Kernel6Ideal.nD) → Buf (Elt Ideal) ((c.tc : Thread Cert.Kernel6Ideal.nD Cert.Kernel6Ideal.τ).loc Cert.Kernel6Ideal.main_v25_6)) (v7 : (c : Dev Cert.Kernel6Ideal.nD) → Buf (Elt Ideal) ((c.tc : Thread Cert.Kernel6Ideal.nD Cert.Kernel6Ideal.τ).loc Cert.Kernel6Ideal.main_v25_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_0) = v0 c
          ∧ r.2.mem ((c.tc : Thread Cert.Kernel6Ideal.nD Cert.Kernel6Ideal.τ).loc Cert.Kernel6Ideal.main_v25_1) = v1 c
          ∧ r.2.mem ((c.tc : Thread Cert.Kernel6Ideal.nD Cert.Kernel6Ideal.τ).loc Cert.Kernel6Ideal.main_v25_2) = v2 c
          ∧ r.2.mem ((c.tc : Thread Cert.Kernel6Ideal.nD Cert.Kernel6Ideal.τ).loc Cert.Kernel6Ideal.main_v25_3) = v3 c
          ∧ r.2.mem ((c.tc : Thread Cert.Kernel6Ideal.nD Cert.Kernel6Ideal.τ).loc Cert.Kernel6Ideal.main_v25_4) = v4 c
          ∧ r.2.mem ((c.tc : Thread Cert.Kernel6Ideal.nD Cert.Kernel6Ideal.τ).loc Cert.Kernel6Ideal.main_v25_5) = v5 c
          ∧ r.2.mem ((c.tc : Thread Cert.Kernel6Ideal.nD Cert.Kernel6Ideal.τ).loc Cert.Kernel6Ideal.main_v25_6) = v6 c
          ∧ r.2.mem ((c.tc : Thread Cert.Kernel6Ideal.nD Cert.Kernel6Ideal.τ).loc Cert.Kernel6Ideal.main_v25_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_v48) = v2 c
          ∧ r.2.mem ((c.tc : Thread Cert.Reference6Ideal.nD Cert.Reference6Ideal.τ).loc Cert.Reference6Ideal.main_v49) = v3 c
          ∧ r.2.mem ((c.tc : Thread Cert.Reference6Ideal.nD Cert.Reference6Ideal.τ).loc Cert.Reference6Ideal.main_v50) = v4 c
          ∧ r.2.mem ((c.tc : Thread Cert.Reference6Ideal.nD Cert.Reference6Ideal.τ).loc Cert.Reference6Ideal.main_v55) = v5 c
          ∧ r.2.mem ((c.tc : Thread Cert.Reference6Ideal.nD Cert.Reference6Ideal.τ).loc Cert.Reference6Ideal.main_v56) = v6 c
          ∧ r.2.mem ((c.tc : Thread Cert.Reference6Ideal.nD Cert.Reference6Ideal.τ).loc Cert.Reference6Ideal.main_v57) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "root_half" .f32 0x3F3504F3#32 (((Real.sqrt 2)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v1) = v1 c
          ∧ r.2.mem ((c.tc : Thread Cert.Reference8Ideal.nD Cert.Reference8Ideal.τ).loc Cert.Reference8Ideal.main_v29) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S2048x1024 : Shape := ⟨2, ![2048, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S3x2816 : S_.BroadcastsInDim S3x2816 (![] : Fin 0 → Fin S3x2816.rank)
  reducesTo_S3x2816_S_d0_1 : S3x2816.ReducesTo [0, 1] S_
  bcast_S_S2816 : S_.BroadcastsInDim S2816 (![] : Fin 0 → Fin S2816.rank)
  reducesTo_S2816_S_d0 : S2816.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S3x2816 .f32) (main_arg5 : FVec F S2816 .f32) (main_arg6 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S3x2816 .f32 := Host.absf main_arg4
  let main_cst_6 : FVec F S_ .f32 := constant S_ .f32 0x7F800000#32
  let main_v20 : FVec F S3x2816 .f32 := broadcastInDim S3x2816 ![] bcast_S_S3x2816 main_cst_6
  let main_v21 : IVec S3x2816 1 := cmpf .olt main_v19 main_v20
  let main_c_7 : IVec S_ 1 := constantI S_ 1 1#1
  let main_v22 : IVec S_ 1 := (fun x v => Host.reduce IntOp.andi x v reducesTo_S3x2816_S_d0_1 h_S_) main_v21 main_c_7
  let main_v23 : IVec S_ 1 := andi main_v18 main_v22
  let main_v24 : FVec F S2816 .f32 := Host.absf main_arg5
  let main_cst_8 : FVec F S_ .f32 := constant S_ .f32 0x7F800000#32
  let main_v25 : FVec F S2816 .f32 := broadcastInDim S2816 ![] bcast_S_S2816 main_cst_8
  let main_v26 : IVec S2816 1 := cmpf .olt main_v24 main_v25
  let main_c_9 : IVec S_ 1 := constantI S_ 1 1#1
  let main_v27 : IVec S_ 1 := (fun x v => Host.reduce IntOp.andi x v reducesTo_S2816_S_d0 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  main_v33

def fn {F : FTy → Type} [FloatOps F] (main_arg0 : FVec F S2048x1024 .f32) (main_arg1 : FVec F S2048x1024 .f32) (main_arg2 : FVec F S1024x2816 .f32) (main_arg3 : FVec F S1024x2816 .f32) (main_arg4 : FVec F S3x2816 .f32) (main_arg5 : FVec F S2816 .f32) (main_arg6 : FVec F S2816x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_finite2.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2048x2816 .bf16) (main_arg1 : FVec F S2816x1024 .f32) (main_arg2 : FVec F S2048x1024 .f32) (main_arg3 : FVec F S2048x1024 .f32) (main_arg4 : FVec F S1024 .f32) (main_arg5 : FVec F S1024 .f32) : IVec S_ 1 :=
  let main_v0 : FVec F S2048x2816 .bf16 := Host.absf main_arg0
  let main_cst : FVec F S_ .bf16 := constant S_ .bf16 0x7F80#16
  let main_v1 : FVec F S2048x2816 .bf16 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v13 main_v16
-- ==== Pre_finite3.lean ====
abbrev S2048x512 : Shape := ⟨2, ![2048, 512]⟩
abbrev S2048x2048 : Shape := ⟨2, ![2048, 2048]⟩
abbrev S2048x1024 : Shape := ⟨2, ![2048, 1024]⟩
abbrev S1024x4096 : Shape := ⟨2, ![1024, 4096]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .bf16) (main_arg1 : FVec F S2048x512 .bf16) (main_arg2 : FVec F S2048x512 .bf16) (main_arg3 : FVec F S2048x512 .f32) (main_arg4 : FVec F S2048x2048 .bf16) (main_arg5 : FVec F S2048x1024 .f32) (main_arg6 : FVec F S1024x4096 .f32) : IVec S_ 1 :=
  let main_v0 : FVec F S2048x512 .f32 := Host.absf main_arg3
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite5.lean ====
abbrev S2048x1024 : Shape := ⟨2, ![2048, 1024]⟩
abbrev S2048x2816 : Shape := ⟨2, ![2048, 2816]⟩
abbrev S1024x2816 : Shape := ⟨2, ![1024, 2816]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x2816 : S_.BroadcastsInDim S2048x2816 (![] : Fin 0 → Fin S2048x2816.rank)
  reducesTo_S2048x2816_S_d0_1 : S2048x2816.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x2816 .f32) (main_arg5 : FVec F S2048x1024 .f32) (main_arg6 : FVec F S1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2048x1024 .f32) (main_arg1 : FVec F S2048x2816 .bf16) (main_arg2 : FVec F S2048x2816 .bf16) (main_arg3 : FVec F S1024x2816 .f32) (main_arg4 : FVec F S1024x2816 .f32) (main_arg5 : FVec F S2048x1024 .f32) (main_arg6 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x2816 .bf16 := Host.absf main_arg1
  let main_cst_0 : FVec F S_ .bf16 := constant S_ .bf16 0x7F80#16
  let main_v5 : FVec F S2048x2816 .bf16 := broadcastInDim S2048x2816 ![] bcast_S_S2048x2816 main_cst_0
  let main_v6 : IVec S2048x2816 1 := cmpf .olt main_v4 main_v5
  let main_c_1 : IVec S_ 1 := constantI S_ 1 1#1
  let main_v7 : IVec S_ 1 := (fun x v => Host.reduce IntOp.andi x v reducesTo_S2048x2816_S_d0_1 h_S_) main_v6 main_c_1
  let main_v8 : IVec S_ 1 := andi main_v3 main_v7
  let main_v9 : FVec F S2048x2816 .bf16 := Host.absf main_arg2
  let main_cst_2 : FVec F S_ .bf16 := constant S_ .bf16 0x7F80#16
  let main_v10 : FVec F S2048x2816 .bf16 := broadcastInDim S2048x2816 ![] bcast_S_S2048x2816 main_cst_2
  let main_v11 : IVec S2048x2816 1 := cmpf .olt main_v9 main_v10
  let main_c_3 : IVec S_ 1 := constantI S_ 1 1#1
  let main_v12 : IVec S_ 1 := (fun x v => Host.reduce IntOp.andi x v reducesTo_S2048x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Kernel.lean ====
abbrev S2048x1024 : Shape := ⟨2, ![2048, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S2048x2816 : Shape := ⟨2, ![2048, 2816]⟩
abbrev S1x2816 : Shape := ⟨2, ![1, 2816]⟩
abbrev S8x2816 : Shape := ⟨2, ![8, 2816]⟩
abbrev S2048x256 : Shape := ⟨2, ![2048, 256]⟩
abbrev S256x1024 : Shape := ⟨2, ![256, 1024]⟩
abbrev S3x256 : Shape := ⟨2, ![3, 256]⟩
abbrev S1x256 : Shape := ⟨2, ![1, 256]⟩
abbrev S8x256 : Shape := ⟨2, ![8, 256]⟩
abbrev S256 : Shape := ⟨1, ![256]⟩
abbrev S4x256 : Shape := ⟨2, ![4, 256]⟩

abbrev nBuf : Space → Nat
  | .hbm => 19
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S2048x2816, .f32⟩
  | .hbm, ⟨8, _⟩ => ⟨S2048x2816, .f32⟩
  | .hbm, ⟨9, _⟩ => ⟨S2048x1024, .bf16⟩
  | .hbm, ⟨10, _⟩ => ⟨S2048x1024, .bf16⟩
  | .hbm, ⟨11, _⟩ => ⟨S2816x1024, .bf16⟩
  | .hbm, ⟨12, _⟩ => ⟨S1x2816, .f32⟩
  | .hbm, ⟨13, _⟩ => ⟨S2048x2816, .bf16⟩
  | .hbm, ⟨14, _⟩ => ⟨S2048x2816, .bf16⟩
  | .hbm, ⟨15, _⟩ => ⟨S2816x1024, .bf16⟩
  | .hbm, ⟨16, _⟩ => ⟨S2816x1024, .bf16⟩
  | .hbm, ⟨17, _⟩ => ⟨S2816x1024, .bf16⟩
  | .hbm, ⟨18, _⟩ => ⟨S8x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x1024, .bf16⟩
  | .local _ .vmem, ⟨7, _⟩ => ⟨S256x1024, .bf16⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S8x256, .f32⟩
  | .local _ .vmem, ⟨23, _⟩ => ⟨S8x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "gauss" => some (((Real.sqrt (2 * Real.pi))⁻¹ : ℝ) : EReal)
  | "root_half" => some (((Real.sqrt 2)⁻¹ : ℝ) : EReal)
  | _ => none
-- ==== ReferenceIdeal.lean ====
abbrev S2048x1024 : Shape := ⟨2, ![2048, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S2048x2816 : Shape := ⟨2, ![2048, 2816]⟩
abbrev S_ : Shape := ⟨0, ![]⟩
abbrev S2x2816 : Shape := ⟨2, ![2, 2816]⟩
abbrev S2050x2816 : Shape := ⟨2, ![2050, 2816]⟩
abbrev S1x2816 : Shape := ⟨2, ![1, 2816]⟩
abbrev S4x2816 : Shape := ⟨2, ![4, 2816]⟩
abbrev S8x2816 : Shape := ⟨2, ![8, 2816]⟩

abbrev nBuf : Space → Nat
  | .hbm => 115
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2816, .f32⟩
  | .hbm, ⟨3, _⟩ => ⟨S1024x2816, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2x2816, .f32⟩
  | .hbm, ⟨11, _⟩ => ⟨S2050x2816, .f32⟩
  | .hbm, ⟨12, _⟩ => ⟨S_, .f32⟩
  | .hbm, ⟨13, _⟩ => ⟨S2x2816, .f32⟩
  | .hbm, ⟨14, _⟩ => ⟨S2048x2816, .f32⟩
  | .hbm, ⟨15, _⟩ => ⟨S1x2816, .f32⟩
  | .hbm, ⟨16, _⟩ => ⟨S2816, .f32⟩
  | .hbm, ⟨17, _⟩ => ⟨S1x2816, .f32⟩
  | .hbm, ⟨18, _⟩ => ⟨S2048x2816, .f32⟩
  | .hbm, ⟨19, _⟩ => ⟨S2048x2816, .f32⟩
  | .hbm, ⟨20, _⟩ => ⟨S_, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S1x2816, .f32⟩
  | .hbm, ⟨25, _⟩ => ⟨S2816, .f32⟩
  | .hbm, ⟨26, _⟩ => ⟨S1x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S1x2816, .f32⟩
  | .hbm, ⟨32, _⟩ => ⟨S2816, .f32⟩
  | .hbm, ⟨33, _⟩ => ⟨S1x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S1x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x1024, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x1024, .f32⟩
  | .hbm, ⟨48, _⟩ => ⟨S1024x2816, .f32⟩
  | .hbm, ⟨49, _⟩ => ⟨S2816x1024, .f32⟩
  | .hbm, ⟨50, _⟩ => ⟨S_, .f32⟩
  | .hbm, ⟨51, _⟩ => ⟨S2816, .f32⟩
  | .hbm, ⟨52, _⟩ => ⟨S1x2816, .f32⟩
  | .hbm, ⟨53, _⟩ => ⟨S_, .f32⟩
  | .hbm, ⟨54, _⟩ => ⟨S2816, .f32⟩
  | .hbm, ⟨55, _⟩ => ⟨S2048x2816, .f32⟩
  | .hbm, ⟨56, _⟩ => ⟨S_, .f32⟩
  | .hbm, ⟨57, _⟩ => ⟨S2816, .f32⟩
  | .hbm, ⟨58, _⟩ => ⟨S1x2816, .f32⟩
  | .hbm, ⟨59, _⟩ => ⟨S2048x2816, .f32⟩
  | .hbm, ⟨60, _⟩ => ⟨S2048x2816, .f32⟩
  | .hbm, ⟨61, _⟩ => ⟨S_, .f32⟩
  | .hbm, ⟨62, _⟩ => ⟨S2816, .f32⟩
  | .hbm, ⟨63, _⟩ => ⟨S1x2816, .f32⟩
  | .hbm, ⟨64, _⟩ => ⟨S_, .f32⟩
  | .hbm, ⟨65, _⟩ => ⟨S3x2816, .f32⟩
  | .hbm, ⟨66, _⟩ => ⟨S_, .f32⟩
  | .hbm, ⟨67, _⟩ => ⟨S2050x2816, .f32⟩
  | .hbm, ⟨68, _⟩ => ⟨S2048x2816, .f32⟩
  | .hbm, ⟨69, _⟩ => ⟨S_, .f32⟩
  | .hbm, ⟨70, _⟩ => ⟨S2816, .f32⟩
  | .hbm, ⟨71, _⟩ => ⟨S1x2816, .f32⟩
  | .hbm, ⟨72, _⟩ => ⟨S2048x2816, .f32⟩
  | .hbm, ⟨73, _⟩ => ⟨S2048x2816, .f32⟩
  | .hbm, ⟨74, _⟩ => ⟨S_, .f32⟩
  | .hbm, ⟨75, _⟩ => ⟨S2816, .f32⟩
  | .hbm, ⟨76, _⟩ => ⟨S1x2816, .f32⟩
  | .hbm, ⟨77, _⟩ => ⟨S_, .f32⟩
  | .hbm, ⟨78, _⟩ => ⟨S3x2816, .f32⟩
  | .hbm, ⟨79, _⟩ => ⟨S3x2816, .f32⟩
  | .hbm, ⟨80, _⟩ => ⟨S_, .f32⟩
  | .hbm, ⟨81, _⟩ => ⟨S2050x2816, .f32⟩
  | .hbm, ⟨82, _⟩ => ⟨S2050x2816, .f32⟩
  | .hbm, ⟨83, _⟩ => ⟨S2048x2816, .f32⟩
  | .hbm, ⟨84, _⟩ => ⟨S_, .f32⟩
  | .hbm, ⟨85, _⟩ => ⟨S2816, .f32⟩
  | .hbm, ⟨86, _⟩ => ⟨S1x2816, .f32⟩
  | .hbm, ⟨87, _⟩ => ⟨S2048x2816, .f32⟩
  | .hbm, ⟨88, _⟩ => ⟨S2048x2816, .f32⟩
  | .hbm, ⟨89, _⟩ => ⟨S_, .f32⟩
  | .hbm, ⟨90, _⟩ => ⟨S2816, .f32⟩
  | .hbm, ⟨91, _⟩ => ⟨S1x2816, .f32⟩
  | .hbm, ⟨92, _⟩ => ⟨S_, .f32⟩
  | .hbm, ⟨93, _⟩ => ⟨S3x2816, .f32⟩
  | .hbm, ⟨94, _⟩ => ⟨S3x2816, .f32⟩
  | .hbm, ⟨95, _⟩ => ⟨S_, .f32⟩
  | .hbm, ⟨96, _⟩ => ⟨S2050x2816, .f32⟩
  | .hbm, ⟨97, _⟩ => ⟨S2050x2816, .f32⟩
  | .hbm, ⟨98, _⟩ => ⟨S2x2816, .f32⟩
  | .hbm, ⟨99, _⟩ => ⟨S2048x2816, .f32⟩
  | .hbm, ⟨100, _⟩ => ⟨S2816x1024, .f32⟩
  | .hbm, ⟨101, _⟩ => ⟨S1024x2816, .f32⟩
  | .hbm, ⟨102, _⟩ => ⟨S2816x1024, .f32⟩
  | .hbm, ⟨103, _⟩ => ⟨S1024x2816, .f32⟩
  | .hbm, ⟨104, _⟩ => ⟨S1x2816, .f32⟩
  | .hbm, ⟨105, _⟩ => ⟨S_, .f32⟩
  | .hbm, ⟨106, _⟩ => ⟨S4x2816, .f32⟩
  | .hbm, ⟨107, _⟩ => ⟨S8x2816, .f32⟩
  | .hbm, ⟨108, _⟩ => ⟨S2048x2816, .bf16⟩
  | .hbm, ⟨109, _⟩ => ⟨S2048x2816, .bf16⟩
  | .hbm, ⟨110, _⟩ => ⟨S2816x1024, .bf16⟩
  | .hbm, ⟨111, _⟩ => ⟨S2816x1024, .f32⟩
  | .hbm, ⟨112, _⟩ => ⟨S2816x1024, .bf16⟩
  | .hbm, ⟨113, _⟩ => ⟨S2816x1024, .f32⟩
  | .hbm, ⟨114, _⟩ => ⟨S2816x1024, .bf16⟩
  | .local _ .vmem, ⟨0, _⟩ => ⟨S2048x2816, .f32⟩
  | .local _ .vmem, ⟨1, _⟩ => ⟨S2048x2816, .f32⟩
  | .local _ .vmem, ⟨2, _⟩ => ⟨S2048x2816, .f32⟩
  | .local _ .vmem, ⟨3, _⟩ => ⟨S2048x2816, .f32⟩
  | .local _ .vmem, ⟨4, _⟩ => ⟨S2048x2816, .f32⟩
  | .local _ .vmem, ⟨5, _⟩ => ⟨S2048x2816, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "erf_slope" => some ((2 * (Real.sqrt Real.pi)⁻¹ : ℝ) : EReal)
  | "root_half" => some (((Real.sqrt 2)⁻¹ : ℝ) : EReal)
  | _ => none

abbrev grid0 : Pipeline.Grid := .none

abbrev stage0_0 : Fin 1 → Memref sig .tc .vmem S2048x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Kernel2.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S1x1024 : Shape := ⟨2, ![1, 1024]⟩
abbrev S8x128 : Shape := ⟨2, ![8, 128]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 14
  | .vmem => 16
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x1024, .bf16⟩
  | .hbm, ⟨11, _⟩ => ⟨S8x128, .f32⟩
  | .hbm, ⟨12, _⟩ => ⟨S1x1024, .f32⟩
  | .hbm, ⟨13, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S8x128, .f32⟩
  | .local _ .vmem, ⟨14, _⟩ => ⟨S1x1024, .f32⟩
  | .local _ .vmem, ⟨15, _⟩ => ⟨S1x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x128 : Shape := ⟨2, ![8, 128]⟩

abbrev nBuf : Space → Nat
  | .hbm => 119
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x2816, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S2048, .f32⟩
  | .hbm, ⟨66, _⟩ => ⟨S_, .f32⟩
  | .hbm, ⟨67, _⟩ => ⟨S2048, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S1024, .f32⟩
  | .hbm, ⟨76, _⟩ => ⟨S2048x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S1024, .f32⟩
  | .hbm, ⟨84, _⟩ => ⟨S2048x1024, .f32⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S2048x1024, .f32⟩
  | .hbm, ⟨89, _⟩ => ⟨S2048x1024, .f32⟩
  | .hbm, ⟨90, _⟩ => ⟨S2048x1, .f32⟩
  | .hbm, ⟨91, _⟩ => ⟨S2048x1024, .f32⟩
  | .hbm, ⟨92, _⟩ => ⟨S_, .f32⟩
  | .hbm, ⟨93, _⟩ => ⟨S2048, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S_, .f32⟩
  | .hbm, ⟨104, _⟩ => ⟨S2048, .f32⟩
  | .hbm, ⟨105, _⟩ => ⟨S2048x1, .f32⟩
  | .hbm, ⟨106, _⟩ => ⟨S2048x1024, .f32⟩
  | .hbm, ⟨107, _⟩ => ⟨S2048x1, .f32⟩
  | .hbm, ⟨108, _⟩ => ⟨S_, .f32⟩
  | .hbm, ⟨109, _⟩ => ⟨S2048x1, .f32⟩
  | .hbm, ⟨110, _⟩ => ⟨S2048x1, .f32⟩
  | .hbm, ⟨111, _⟩ => ⟨S_, .f32⟩
  | .hbm, ⟨112, _⟩ => ⟨S2048, .f32⟩
  | .hbm, ⟨113, _⟩ => ⟨S2048x1024, .f32⟩
  | .hbm, ⟨114, _⟩ => ⟨S2048x1024, .f32⟩
  | .hbm, ⟨115, _⟩ => ⟨S2048x1024, .bf16⟩
  | .hbm, ⟨116, _⟩ => ⟨S8x128, .f32⟩
  | .hbm, ⟨117, _⟩ => ⟨S1x1024, .f32⟩
  | .hbm, ⟨118, _⟩ => ⟨S1x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_cst_12 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_cst_17 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_20 : Ref sig .tc := ⟨.hbm, 92, rfl⟩
abbrev main_v65 : Ref sig .tc := ⟨.hbm, 93, rfl⟩
abbrev main_v66 : Ref sig .tc := ⟨.hbm, 94, rfl⟩
abbrev main_cst_21 : Ref sig .tc := ⟨.hbm, 95, rfl⟩
abbrev main_v67 : Ref sig .tc := ⟨.hbm, 96, rfl⟩
abbrev main_v68 : Ref sig .tc := ⟨.hbm, 97, rfl⟩
abbrev main_cst_22 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_23 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_24 : Ref sig .tc := ⟨.hbm, 108, rfl⟩
abbrev main_v77 : Ref sig .tc := ⟨.hbm, 109, rfl⟩
abbrev main_v78 : Ref sig .tc := ⟨.hbm, 110, rfl⟩
abbrev main_cst_25 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩

abbrev nD : Nat := 1
abbrev τ : Topo := Topo.v7x

variable {F : FTy → Type} [FloatOps F]
-- ==== Kernel3.lean ====
abbrev S2048x512 : Shape := ⟨2, ![2048, 512]⟩
abbrev S2048x2048 : Shape := ⟨2, ![2048, 2048]⟩
abbrev S2048x1024 : Shape := ⟨2, ![2048, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S2048x4096 : Shape := ⟨2, ![2048, 4096]⟩
abbrev S256x512 : Shape := ⟨2, ![256, 512]⟩
abbrev S16x512 : Shape := ⟨2, ![16, 512]⟩
abbrev S256x2048 : Shape := ⟨2, ![256, 2048]⟩
abbrev S256x1024 : Shape := ⟨2, ![256, 1024]⟩
abbrev S256x4096 : Shape := ⟨2, ![256, 4096]⟩
abbrev S272x512 : Shape := ⟨2, ![272, 512]⟩
abbrev S256x128 : Shape := ⟨2, ![256, 128]⟩
abbrev S256x1 : Shape := ⟨2, ![256, 1]⟩
abbrev S16x128 : Shape := ⟨2, ![16, 128]⟩
abbrev S16x1 : Shape := ⟨2, ![16, 1]⟩
abbrev S1x1024x512 : Shape := ⟨3, ![1, 1024, 512]⟩
abbrev S1024x512 : Shape := ⟨2, ![1024, 512]⟩

abbrev nBuf : Space → Nat
  | .hbm => 12
  | .vmem => 20
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .f32⟩
  | .hbm, ⟨4, _⟩ => ⟨S2048x2048, .bf16⟩
  | .hbm, ⟨5, _⟩ => ⟨S2048x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | .hbm, ⟨10, _⟩ => ⟨S2048x1024, .f32⟩
  | .hbm, ⟨11, _⟩ => ⟨S2048x4096, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S16x512, .f32⟩
  | .local _ .vmem, ⟨9, _⟩ => ⟨S16x512, .f32⟩
  | .local _ .vmem, ⟨10, _⟩ => ⟨S256x2048, .bf16⟩
  | .local _ .vmem, ⟨11, _⟩ => ⟨S256x2048, .bf16⟩
  | .local _ .vmem, ⟨12, _⟩ => ⟨S256x1024, .f32⟩
  | .local _ .vmem, ⟨13, _⟩ => ⟨S256x1024, .f32⟩
  | .local _ .vmem, ⟨14, _⟩ => ⟨S8x1024x512, .bf16⟩
  | .local _ .vmem, ⟨15, _⟩ => ⟨S256x1024, .f32⟩
  | .local _ .vmem, ⟨16, _⟩ => ⟨S256x1024, .f32⟩
  | .local _ .vmem, ⟨17, _⟩ => ⟨S256x4096, .bf16⟩
  | .local _ .vmem, ⟨18, _⟩ => ⟨S256x4096, .bf16⟩
  | .local _ .vmem, ⟨19, _⟩ => ⟨S272x512, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2048x512 : Shape := ⟨2, ![2048, 512]⟩
abbrev S2048x2048 : Shape := ⟨2, ![2048, 2048]⟩
abbrev S2048x1024 : Shape := ⟨2, ![2048, 1024]⟩
abbrev S1024x4096 : Shape := ⟨2, ![1024, 4096]⟩
abbrev S_ : Shape := ⟨0, ![]⟩
abbrev S2048x4096 : Shape := ⟨2, ![2048, 4096]⟩
abbrev S1x512 : Shape := ⟨2, ![1, 512]⟩
abbrev S2049x512 : Shape := ⟨2, ![2049, 512]⟩
abbrev S2048 : Shape := ⟨1, ![2048]⟩
abbrev S2048x128 : Shape := ⟨2, ![2048, 128]⟩
abbrev S2049x128 : Shape := ⟨2, ![2049, 128]⟩
abbrev S2048x1 : Shape := ⟨2, ![2048, 1]⟩

abbrev nBuf : Space → Nat
  | .hbm => 250
  | .vmem => 0
  | .smem => 0
  | _ => 0

abbrev hbmTy0_0 (i : Nat) : BufTy := match i % 128 with
  | 0 => ⟨S2048x512, .bf16⟩
  | 1 => ⟨S2048x512, .bf16⟩
  | 2 => ⟨S2048x512, .bf16⟩
  | 3 => ⟨S2048x512, .f32⟩
  | 4 => ⟨S2048x2048, .bf16⟩
  | 5 => ⟨S2048x1024, .f32⟩
  | 6 => ⟨S1024x4096, .f32⟩
  | 7 => ⟨S_, .f32⟩
  | 8 => ⟨S2048x4096, .f32⟩
  | 9 => ⟨S2048x512, .f32⟩
  | 10 => ⟨S2048x512, .f32⟩
  | 11 => ⟨S2048x512, .f32⟩
  | 12 => ⟨S2048x512, .f32⟩
  | 13 => ⟨S_, .f32⟩
  | 14 => ⟨S1x512, .f32⟩
  | 15 => ⟨S_, .f32⟩
  | 16 => ⟨S_, .f32⟩
  | 17 => ⟨S2048x512, .f32⟩
  | 18 => ⟨S2049x512, .f32⟩
  | 19 => ⟨S_, .f32⟩
  | 20 => ⟨S1x512, .f32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S_, .i32⟩
  | 32 => ⟨S2048, .i32⟩
  | 33 => ⟨S2048, .i32⟩
  | 34 => ⟨S2048, .i32⟩
  | 35 => ⟨S2048, .f32⟩
  | 36 => ⟨S2048x128, .f32⟩
  | 37 => ⟨S2049x128, .f32⟩
  | 38 => ⟨S_, .i32⟩
  | 39 => ⟨S2048, .i32⟩
  | 40 => ⟨S2048, .i1⟩
  | 41 => ⟨S_, .i32⟩
  | 42 => ⟨S2048, .i32⟩
  | 43 => ⟨S2048, .i32⟩
  | 44 => ⟨S2048, .i32⟩
  | 45 => ⟨S2048x1, .i32⟩
  | 46 => ⟨S2048x128, .f32⟩
  | 47 => ⟨S2048x128, .f32⟩
  | 48 => ⟨S2048x1, .f32⟩
  | 49 => ⟨S2048x128, .f32⟩
  | 50 => ⟨S2048x128, .f32⟩
  | 51 => ⟨S2048x128, .f32⟩
  | 52 => ⟨S2048x128, .f32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S2048, .i32⟩
  | 66 => ⟨S2048, .f32⟩
  | 67 => ⟨S2048x128, .f32⟩
  | 68 => ⟨S2049x128, .f32⟩
  | 69 => ⟨S_, .i32⟩
  | 70 => ⟨S2048, .i32⟩
  | 71 => ⟨S2048, .i1⟩
  | 72 => ⟨S_, .i32⟩
  | 73 => ⟨S2048, .i32⟩
  | 74 => ⟨S2048, .i32⟩
  | 75 => ⟨S2048, .i32⟩
  | 76 => ⟨S2048x1, .i32⟩
  | 77 => ⟨S2048x128, .f32⟩
  | 78 => ⟨S2048x128, .f32⟩
  | 79 => ⟨S2048x1, .f32⟩
  | 80 => ⟨S2048x128, .f32⟩
  | 81 => ⟨S2048x128, .f32⟩
  | 82 => ⟨S2048x128, .f32⟩
  | 83 => ⟨S2048x128, .f32⟩
  | 84 => ⟨S_, .i32⟩
  | 85 => ⟨S2048, .i32⟩
  | 86 => ⟨S2048, .i32⟩
  | 87 => ⟨S_, .i32⟩
  | 88 => ⟨S2048, .i32⟩
  | 89 => ⟨S2048, .i32⟩
  | 90 => ⟨S_, .i32⟩
  | 91 => ⟨S2048, .i32⟩
  | 92 => ⟨S2048, .i32⟩
  | 93 => ⟨S_, .i32⟩
  | 94 => ⟨S2048, .i32⟩
  | 95 => ⟨S2048, .i32⟩
  | 96 => ⟨S2048, .i32⟩
  | 97 => ⟨S2048, .f32⟩
  | 98 => ⟨S2048x128, .f32⟩
  | 99 => ⟨S2049x128, .f32⟩
  | 100 => ⟨S_, .i32⟩
  | 101 => ⟨S2048, .i32⟩
  | 102 => ⟨S2048, .i1⟩
  | 103 => ⟨S_, .i32⟩
  | 104 => ⟨S2048, .i32⟩
  | 105 => ⟨S2048, .i32⟩
  | 106 => ⟨S2048, .i32⟩
  | 107 => ⟨S2048x1, .i32⟩
  | 108 => ⟨S2048x128, .f32⟩
  | 109 => ⟨S2048x128, .f32⟩
  | 110 => ⟨S2048x1, .f32⟩
  | 111 => ⟨S2048x128, .f32⟩
  | 112 => ⟨S2048x128, .f32⟩
  | 113 => ⟨S2048x128, .f32⟩
  | 114 => ⟨S2048x128, .f32⟩
  | 115 => ⟨S_, .i32⟩
  | 116 => ⟨S2048, .i32⟩
  | 117 => ⟨S2048, .i32⟩
  | 118 => ⟨S_, .i32⟩
  | 119 => ⟨S2048, .i32⟩
  | 120 => ⟨S2048, .i32⟩
  | 121 => ⟨S_, .i32⟩
  | 122 => ⟨S2048, .i32⟩
  | 123 => ⟨S2048, .i32⟩
  | 124 => ⟨S_, .i32⟩
  | 125 => ⟨S2048, .i32⟩
  | 126 => ⟨S2048, .i32⟩
  | 127 => ⟨S2048, .i32⟩
  | _ => ⟨S2048x512, .bf16⟩

abbrev hbmTy0_1 (i : Nat) : BufTy := match i % 128 with
  | 0 => ⟨S2048, .f32⟩
  | 1 => ⟨S2048x128, .f32⟩
  | 2 => ⟨S2049x128, .f32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S2048x1, .i32⟩
  | 11 => ⟨S2048x128, .f32⟩
  | 12 => ⟨S2048x128, .f32⟩
  | 13 => ⟨S2048x1, .f32⟩
  | 14 => ⟨S2048x128, .f32⟩
  | 15 => ⟨S2048x128, .f32⟩
  | 16 => ⟨S2048x128, .f32⟩
  | 17 => ⟨S2048x128, .f32⟩
  | 18 => ⟨S2048x512, .f32⟩
  | 19 => ⟨S2048x2048, .f32⟩
  | 20 => ⟨S2048x512, .f32⟩
  | 21 => ⟨S2048x512, .f32⟩
  | 22 => ⟨S2048x512, .f32⟩
  | 23 => ⟨S2048x2048, .f32⟩
  | 24 => ⟨S_, .f32⟩
  | 25 => ⟨S2048x4096, .f32⟩
  | 26 => ⟨S2048x128, .f32⟩
  | 27 => ⟨S2048x128, .f32⟩
  | 28 => ⟨S2048x128, .f32⟩
  | 29 => ⟨S2048x128, .f32⟩
  | 30 => ⟨S2048x128, .f32⟩
  | 31 => ⟨S_, .f32⟩
  | 32 => ⟨S2048x512, .f32⟩
  | 33 => ⟨S2048x128, .f32⟩
  | 34 => ⟨S2048x128, .f32⟩
  | 35 => ⟨S2048x128, .f32⟩
  | 36 => ⟨S_, .f32⟩
  | 37 => ⟨S2049x128, .f32⟩
  | 38 => ⟨S2049x128, .f32⟩
  | 39 => ⟨S_, .f32⟩
  | 40 => ⟨S2049x512, .f32⟩
  | 41 => ⟨S_, .f32⟩
  | 42 => ⟨S2049x512, .f32⟩
  | 43 => ⟨S2049x512, .f32⟩
  | 44 => ⟨S2048x128, .f32⟩
  | 45 => ⟨S_, .f32⟩
  | 46 => ⟨S2048x512, .f32⟩
  | 47 => ⟨S2048x512, .f32⟩
  | 48 => ⟨S2048x128, .f32⟩
  | 49 => ⟨S2048x128, .f32⟩
  | 50 => ⟨S2048x128, .f32⟩
  | 51 => ⟨S_, .f32⟩
  | 52 => ⟨S2049x128, .f32⟩
  | 53 => ⟨S2049x128, .f32⟩
  | 54 => ⟨S_, .f32⟩
  | 55 => ⟨S2049x512, .f32⟩
  | 56 => ⟨S2049x512, .f32⟩
  | 57 => ⟨S_, .f32⟩
  | 58 => ⟨S2049x512, .f32⟩
  | 59 => ⟨S2049x512, .f32⟩
  | 60 => ⟨S2048x128, .f32⟩
  | 61 => ⟨S_, .f32⟩
  | 62 => ⟨S2048x512, .f32⟩
  | 63 => ⟨S2048x512, .f32⟩
  | 64 => ⟨S2048x128, .f32⟩
  | 65 => ⟨S2048x128, .f32⟩
  | 66 => ⟨S2048x128, .f32⟩
  | 67 => ⟨S_, .f32⟩
  | 68 => ⟨S2049x128, .f32⟩
  | 69 => ⟨S2049x128, .f32⟩
  | 70 => ⟨S_, .f32⟩
  | 71 => ⟨S2049x512, .f32⟩
  | 72 => ⟨S2049x512, .f32⟩
  | 73 => ⟨S_, .f32⟩
  | 74 => ⟨S2049x512, .f32⟩
  | 75 => ⟨S2049x512, .f32⟩
  | 76 => ⟨S2048x128, .f32⟩
  | 77 => ⟨S_, .f32⟩
  | 78 => ⟨S2048x512, .f32⟩
  | 79 => ⟨S2048x512, .f32⟩
  | 80 => ⟨S2048x128, .f32⟩
  | 81 => ⟨S2048x128, .f32⟩
  | 82 => ⟨S2048x128, .f32⟩
  | 83 => ⟨S_, .f32⟩
  | 84 => ⟨S2049x128, .f32⟩
  | 85 => ⟨S2049x128, .f32⟩
  | 86 => ⟨S_, .f32⟩
  | 87 => ⟨S2049x512, .f32⟩
  | 88 => ⟨S2049x512, .f32⟩
  | 89 => ⟨S_, .f32⟩
  | 90 => ⟨S2049x512, .f32⟩
  | 91 => ⟨S2049x512, .f32⟩
  | 92 => ⟨S1x512, .f32⟩
  | 93 => ⟨S2048x512, .f32⟩
  | 94 => ⟨S_, .f32⟩
  | 95 => ⟨S_, .f32⟩
  | 96 => ⟨S2048x512, .f32⟩
  | 97 => ⟨S2048x512, .f32⟩
  | 98 => ⟨S_, .f32⟩
  | 99 => ⟨S2048x4096, .f32⟩
  | 100 => ⟨S2048x4096, .f32⟩
  | 101 => ⟨S_, .f32⟩
  | 102 => ⟨S2048x4096, .f32⟩
  | 103 => ⟨S2048x4096, .f32⟩
  | 104 => ⟨S_, .f32⟩
  | 105 => ⟨S2048x4096, .f32⟩
  | 106 => ⟨S2048x4096, .f32⟩
  | 107 => ⟨S_, .f32⟩
  | 108 => ⟨S2048x4096, .f32⟩
  | 109 => ⟨S2048x4096, .f32⟩
  | 110 => ⟨S_, .f32⟩
  | 111 => ⟨S2048x1024, .f32⟩
  | 112 => ⟨S2048x4096, .f32⟩
  | 113 => ⟨S_, .f32⟩
  | 114 => ⟨S2048x1024, .f32⟩
  | 115 => ⟨S2048x1024, .f32⟩
  | 116 => ⟨S_, .f32⟩
  | 117 => ⟨S2048x1024, .f32⟩
  | 118 => ⟨S2048x1024, .f32⟩
  | 119 => ⟨S2048x1024, .f32⟩
  | 120 => ⟨S2048x1024, .f32⟩
  | 121 => ⟨S2048x4096, .bf16⟩
  | _ => ⟨S2048x512, .bf16⟩

abbrev hbmTy (i : Nat) : BufTy := match i / 128 with
  | 0 => hbmTy0_0 i
  | 1 => hbmTy0_1 i
  | _ => ⟨S2048x512, .bf16⟩

abbrev bufTy : (tb : Table) → Fin (tcTables nBuf tb) → BufTy
  | .hbm, ⟨i, _⟩ => hbmTy i
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_c_14 : Ref sig .tc := ⟨.hbm, 87, rfl⟩
abbrev main_v62 : Ref sig .tc := ⟨.hbm, 88, rfl⟩
abbrev main_v63 : Ref sig .tc := ⟨.hbm, 89, rfl⟩
abbrev main_c_15 : Ref sig .tc := ⟨.hbm, 90, rfl⟩
abbrev main_v64 : Ref sig .tc := ⟨.hbm, 91, rfl⟩
abbrev main_v65 : Ref sig .tc := ⟨.hbm, 92, rfl⟩
abbrev main_c_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_17 : Ref sig .tc := ⟨.hbm, 100, rfl⟩
abbrev main_v72 : Ref sig .tc := ⟨.hbm, 101, rfl⟩
abbrev main_v73 : Ref sig .tc := ⟨.hbm, 102, rfl⟩
abbrev main_c_18 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_19 : Ref sig .tc := ⟨.hbm, 115, rfl⟩
abbrev main_v85 : Ref sig .tc := ⟨.hbm, 116, rfl⟩
abbrev main_v86 : Ref sig .tc := ⟨.hbm, 117, rfl⟩
abbrev main_c_20 : Ref sig .tc := ⟨.hbm, 118, rfl⟩
abbrev main_v87 : Ref sig .tc := ⟨.hbm, 119, rfl⟩
abbrev main_v88 : Ref sig .tc := ⟨.hbm, 120, rfl⟩
abbrev main_c_21 : Ref sig .tc := ⟨.hbm, 121, rfl⟩
abbrev main_v89 : Ref sig .tc := ⟨.hbm, 122, rfl⟩
abbrev main_v90 : Ref sig .tc := ⟨.hbm, 123, rfl⟩
abbrev main_c_22 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_23 : Ref sig .tc := ⟨.hbm, 131, rfl⟩
abbrev main_v97 : Ref sig .tc := ⟨.hbm, 132, rfl⟩
abbrev main_v98 : Ref sig .tc := ⟨.hbm, 133, rfl⟩
abbrev main_c_24 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_25 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_26 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_27 : Ref sig .tc := ⟨.hbm, 164, rfl⟩
abbrev main_v126 : Ref sig .tc := ⟨.hbm, 165, rfl⟩
abbrev main_v127 : Ref sig .tc := ⟨.hbm, 166, rfl⟩
abbrev main_cst_28 : Ref sig .tc := ⟨.hbm, 167, rfl⟩
abbrev main_v128 : Ref sig .tc := ⟨.hbm, 168, rfl⟩
abbrev main_cst_29 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_30 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_31 : Ref sig .tc := ⟨.hbm, 179, rfl⟩
abbrev main_v137 : Ref sig .tc := ⟨.hbm, 180, rfl⟩
abbrev main_v138 : Ref sig .tc := ⟨.hbm, 181, rfl⟩
abbrev main_cst_32 : Ref sig .tc := ⟨.hbm, 182, rfl⟩
abbrev main_v139 : Ref sig .tc := ⟨.hbm, 183, rfl⟩
abbrev main_v140 : Ref sig .tc := ⟨.hbm, 184, rfl⟩
abbrev main_cst_33 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_34 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_35 : Ref sig .tc := ⟨.hbm, 195, rfl⟩
abbrev main_v149 : Ref sig .tc := ⟨.hbm, 196, rfl⟩
abbrev main_v150 : Ref sig .tc := ⟨.hbm, 197, rfl⟩
abbrev main_cst_36 : Ref sig .tc := ⟨.hbm, 198, rfl⟩
abbrev main_v151 : Ref sig .tc := ⟨.hbm, 199, rfl⟩
abbrev main_v152 : Ref sig .tc := ⟨.hbm, 200, rfl⟩
abbrev main_cst_37 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_cst_38 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_39 : Ref sig .tc := ⟨.hbm, 211, rfl⟩
abbrev main_v161 : Ref sig .tc := ⟨.hbm, 212, rfl⟩
abbrev main_v162 : Ref sig .tc := ⟨.hbm, 213, rfl⟩
abbrev main_cst_40 : Ref sig .tc := ⟨.hbm, 214, rfl⟩
abbrev main_v163 : Ref sig .tc := ⟨.hbm, 215, rfl⟩
abbrev main_v164 : Ref sig .tc := ⟨.hbm, 216, rfl⟩
abbrev main_cst_41 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_call1_cst : Ref sig .tc := ⟨.hbm, 222, rfl⟩
abbrev main_call1_v0 : Ref sig .tc := ⟨.hbm, 223, rfl⟩
abbrev main_v169 : Ref sig .tc := ⟨.hbm, 224, rfl⟩
abbrev main_v170 : Ref sig .tc := ⟨.hbm, 225, rfl⟩
abbrev main_cst_42 : Ref sig .tc := ⟨.hbm, 226, rfl⟩
abbrev main_v171 : Ref sig .tc := ⟨.hbm, 227, rfl⟩
abbrev main_v172 : Ref sig .tc := ⟨.hbm, 228, rfl⟩
abbrev main_cst_43 : Ref sig .tc := ⟨.hbm, 229, rfl⟩
abbrev main_v173 : Ref sig .tc := ⟨.hbm, 230, rfl⟩
abbrev main_v174 : Ref sig .tc := ⟨.hbm, 231, rfl⟩
abbrev main_cst_44 : Ref sig .tc := ⟨.hbm, 232, rfl⟩
abbrev main_v175 : Ref sig .tc := ⟨.hbm, 233, rfl⟩
abbrev main_v176 : Ref sig .tc := ⟨.hbm, 234, rfl⟩
abbrev main_cst_45 : Ref sig .tc := ⟨.hbm, 235, rfl⟩
abbrev main_v177 : Ref sig .tc := ⟨.hbm, 236, rfl⟩
abbrev main_v178 : Ref sig .tc := ⟨.hbm, 237, rfl⟩
abbrev main_cst_46 : Ref sig .tc := ⟨.hbm, 238, rfl⟩
abbrev main_v179 : Ref sig .tc := ⟨.hbm, 239, rfl⟩
abbrev main_v180 : Ref sig .tc := ⟨.hbm, 240, rfl⟩
abbrev main_cst_47 : Ref sig .tc := ⟨.hbm, 241, rfl⟩
abbrev main_v181 : Ref sig .tc := ⟨.hbm, 242, rfl⟩
abbrev main_v182 : Ref sig .tc := ⟨.hbm, 243, rfl⟩
abbrev main_cst_48 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩

abbrev nD : Nat := 1
abbrev τ : Topo := Topo.v7x

variable {F : FTy → Type} [FloatOps F]
-- ==== Kernel4.lean ====
abbrev S2048x1024 : Shape := ⟨2, ![2048, 1024]⟩
abbrev S1024x4096 : Shape := ⟨2, ![1024, 4096]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S1024x8x512 : Shape := ⟨3, ![1024, 8, 512]⟩
abbrev S8x1024x512 : Shape := ⟨3, ![8, 1024, 512]⟩
abbrev S1x2048 : Shape := ⟨2, ![1, 2048]⟩
abbrev S1024x2048 : Shape := ⟨2, ![1024, 2048]⟩
abbrev S2048x512 : Shape := ⟨2, ![2048, 512]⟩
abbrev S2048x2048 : Shape := ⟨2, ![2048, 2048]⟩
abbrev S8x1x512 : Shape := ⟨3, ![8, 1, 512]⟩
abbrev S256x1024 : Shape := ⟨2, ![256, 1024]⟩
abbrev S256x128 : Shape := ⟨2, ![256, 128]⟩
abbrev S1024x256 : Shape := ⟨2, ![1024, 256]⟩
abbrev S256x512 : Shape := ⟨2, ![256, 512]⟩
abbrev S256x2048 : Shape := ⟨2, ![256, 2048]⟩
abbrev S1x1x512 : Shape := ⟨3, ![1, 1, 512]⟩
abbrev S1x1024x512 : Shape := ⟨3, ![1, 1024, 512]⟩
abbrev S1024x512 : Shape := ⟨2, ![1024, 512]⟩
abbrev S512 : Shape := ⟨1, ![512]⟩
abbrev S1x512 : Shape := ⟨2, ![1, 512]⟩

abbrev nBuf : Space → Nat
  | .hbm => 40
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S2048, .f32⟩
  | .hbm, ⟨14, _⟩ => ⟨S2048x1, .f32⟩
  | .hbm, ⟨15, _⟩ => ⟨S1x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S1x2048x1x32, .f32⟩
  | .hbm, ⟨22, _⟩ => ⟨S1x2048x4x32, .f32⟩
  | .hbm, ⟨23, _⟩ => ⟨S2048x128, .f32⟩
  | .hbm, ⟨24, _⟩ => ⟨S2048x32, .f32⟩
  | .hbm, ⟨25, _⟩ => ⟨S2048x64, .f32⟩
  | .hbm, ⟨26, _⟩ => ⟨S1x2048x1x64, .f32⟩
  | .hbm, ⟨27, _⟩ => ⟨S1x2048x2x64, .f32⟩
  | .hbm, ⟨28, _⟩ => ⟨S2048x128, .f32⟩
  | .hbm, ⟨29, _⟩ => ⟨S1024x8x512, .f32⟩
  | .hbm, ⟨30, _⟩ => ⟨S8x1024x512, .f32⟩
  | .hbm, ⟨31, _⟩ => ⟨S8x1024x512, .bf16⟩
  | .hbm, ⟨32, _⟩ => ⟨S1x2048, .f32⟩
  | .hbm, ⟨33, _⟩ => ⟨S1024x2048, .bf16⟩
  | .hbm, ⟨34, _⟩ => ⟨S2048x512, .f32⟩
  | .hbm, ⟨35, _⟩ => ⟨S2048x512, .f32⟩
  | .hbm, ⟨36, _⟩ => ⟨S2048x512, .bf16⟩
  | .hbm, ⟨37, _⟩ => ⟨S2048x512, .f32⟩
  | .hbm, ⟨38, _⟩ => ⟨S2048x2048, .f32⟩
  | .hbm, ⟨39, _⟩ => ⟨S8x1x512, .f32⟩
  | .local _ .vmem, ⟨0, _⟩ => ⟨S256x1024, .f32⟩
  | .local _ .vmem, ⟨1, _⟩ => ⟨S256x1024, .f32⟩
  | .local _ .vmem, ⟨2, _⟩ => ⟨S8x1024x512, .bf16⟩
  | .local _ .vmem, ⟨3, _⟩ => ⟨S1x2048, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1024x256, .bf16⟩
  | .local _ .vmem, ⟨9, _⟩ => ⟨S1024x256, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .f32⟩
  | .local _ .vmem, ⟨17, _⟩ => ⟨S256x512, .f32⟩
  | .local _ .vmem, ⟨18, _⟩ => ⟨S256x2048, .f32⟩
  | .local _ .vmem, ⟨19, _⟩ => ⟨S256x2048, .f32⟩
  | .local _ .vmem, ⟨20, _⟩ => ⟨S1x1x512, .f32⟩
  | .local _ .vmem, ⟨21, _⟩ => ⟨S1x1x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev main_v27_2 : Ref sig .tc := ⟨.hbm, 35, rfl⟩
abbrev main_v27_3 : Ref sig .tc := ⟨.hbm, 36, rfl⟩
abbrev main_v27_4 : Ref sig .tc := ⟨.hbm, 37, rfl⟩
abbrev main_v27_5 : Ref sig .tc := ⟨.hbm, 38, rfl⟩
abbrev main_v27_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S2048x1024 : Shape := ⟨2, ![2048, 1024]⟩
abbrev S1024x4096 : Shape := ⟨2, ![1024, 4096]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x4096 : Shape := ⟨2, ![2048, 4096]⟩
abbrev S2048x512 : Shape := ⟨2, ![2048, 512]⟩
abbrev S2048x8x64 : Shape := ⟨3, ![2048, 8, 64]⟩
abbrev S8x2048x64 : Shape := ⟨3, ![8, 2048, 64]⟩
abbrev S8x2048x32 : Shape := ⟨3, ![8, 2048, 32]⟩
abbrev S1x2048x32 : Shape := ⟨3, ![1, 2048, 32]⟩
abbrev S8x8x256x64 : Shape := ⟨4, ![8, 8, 256, 64]⟩
abbrev S8x8x64 : Shape := ⟨3, ![8, 8, 64]⟩
abbrev S2048x2048 : Shape := ⟨2, ![2048, 2048]⟩
abbrev S1x2048 : Shape := ⟨2, ![1, 2048]⟩
abbrev S1024x2048 : Shape := ⟨2, ![1024, 2048]⟩
abbrev S8x512 : Shape := ⟨2, ![8, 512]⟩
abbrev S8x1x512 : Shape := ⟨3, ![8, 1, 512]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S2048, .f32⟩
  | .hbm, ⟨14, _⟩ => ⟨S2048x1, .f32⟩
  | .hbm, ⟨15, _⟩ => ⟨S1x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x4096, .f32⟩
  | .hbm, ⟨22, _⟩ => ⟨S2048x512, .f32⟩
  | .hbm, ⟨23, _⟩ => ⟨S2048x8x64, .f32⟩
  | .hbm, ⟨24, _⟩ => ⟨S8x2048x64, .f32⟩
  | .hbm, ⟨25, _⟩ => ⟨S8x2048x32, .f32⟩
  | .hbm, ⟨26, _⟩ => ⟨S8x2048x32, .f32⟩
  | .hbm, ⟨27, _⟩ => ⟨S1x2048x32, .f32⟩
  | .hbm, ⟨28, _⟩ => ⟨S8x2048x32, .f32⟩
  | .hbm, ⟨29, _⟩ => ⟨S8x2048x32, .f32⟩
  | .hbm, ⟨30, _⟩ => ⟨S1x2048x32, .f32⟩
  | .hbm, ⟨31, _⟩ => ⟨S8x2048x32, .f32⟩
  | .hbm, ⟨32, _⟩ => ⟨S8x2048x32, .f32⟩
  | .hbm, ⟨33, _⟩ => ⟨S8x2048x32, .f32⟩
  | .hbm, ⟨34, _⟩ => ⟨S1x2048x32, .f32⟩
  | .hbm, ⟨35, _⟩ => ⟨S8x2048x32, .f32⟩
  | .hbm, ⟨36, _⟩ => ⟨S8x2048x32, .f32⟩
  | .hbm, ⟨37, _⟩ => ⟨S1x2048x32, .f32⟩
  | .hbm, ⟨38, _⟩ => ⟨S8x2048x32, .f32⟩
  | .hbm, ⟨39, _⟩ => ⟨S8x2048x32, .f32⟩
  | .hbm, ⟨40, _⟩ => ⟨S8x2048x32, .f32⟩
  | .hbm, ⟨41, _⟩ => ⟨S8x2048x64, .f32⟩
  | .hbm, ⟨42, _⟩ => ⟨S2048x512, .f32⟩
  | .hbm, ⟨43, _⟩ => ⟨S2048x8x64, .f32⟩
  | .hbm, ⟨44, _⟩ => ⟨S8x2048x64, .f32⟩
  | .hbm, ⟨45, _⟩ => ⟨S8x2048x32, .f32⟩
  | .hbm, ⟨46, _⟩ => ⟨S8x2048x32, .f32⟩
  | .hbm, ⟨47, _⟩ => ⟨S1x2048x32, .f32⟩
  | .hbm, ⟨48, _⟩ => ⟨S8x2048x32, .f32⟩
  | .hbm, ⟨49, _⟩ => ⟨S8x2048x32, .f32⟩
  | .hbm, ⟨50, _⟩ => ⟨S1x2048x32, .f32⟩
  | .hbm, ⟨51, _⟩ => ⟨S8x2048x32, .f32⟩
  | .hbm, ⟨52, _⟩ => ⟨S8x2048x32, .f32⟩
  | .hbm, ⟨53, _⟩ => ⟨S8x2048x32, .f32⟩
  | .hbm, ⟨54, _⟩ => ⟨S1x2048x32, .f32⟩
  | .hbm, ⟨55, _⟩ => ⟨S8x2048x32, .f32⟩
  | .hbm, ⟨56, _⟩ => ⟨S8x2048x32, .f32⟩
  | .hbm, ⟨57, _⟩ => ⟨S1x2048x32, .f32⟩
  | .hbm, ⟨58, _⟩ => ⟨S8x2048x32, .f32⟩
  | .hbm, ⟨59, _⟩ => ⟨S8x2048x32, .f32⟩
  | .hbm, ⟨60, _⟩ => ⟨S8x2048x32, .f32⟩
  | .hbm, ⟨61, _⟩ => ⟨S8x2048x64, .f32⟩
  | .hbm, ⟨62, _⟩ => ⟨S8x8x256x64, .f32⟩
  | .hbm, ⟨63, _⟩ => ⟨S_, .f32⟩
  | .hbm, ⟨64, _⟩ => ⟨S8x8x64, .f32⟩
  | .hbm, ⟨65, _⟩ => ⟨S_, .f32⟩
  | .hbm, ⟨66, _⟩ => ⟨S8x8x64, .f32⟩
  | .hbm, ⟨67, _⟩ => ⟨S8x8x64, .f32⟩
  | .hbm, ⟨68, _⟩ => ⟨S2048x2048, .f32⟩
  | .hbm, ⟨69, _⟩ => ⟨S1x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S_, .f32⟩
  | .hbm, ⟨75, _⟩ => ⟨S2048x2048, .f32⟩
  | .hbm, ⟨76, _⟩ => ⟨S2048x2048, .f32⟩
  | .hbm, ⟨77, _⟩ => ⟨S_, .f32⟩
  | .hbm, ⟨78, _⟩ => ⟨S2048x2048, .f32⟩
  | .hbm, ⟨79, _⟩ => ⟨S2048x2048, .f32⟩
  | .hbm, ⟨80, _⟩ => ⟨S1024x2048, .f32⟩
  | .hbm, ⟨81, _⟩ => ⟨S1024x2048, .bf16⟩
  | .hbm, ⟨82, _⟩ => ⟨S2048x8x64, .f32⟩
  | .hbm, ⟨83, _⟩ => ⟨S2048x512, .f32⟩
  | .hbm, ⟨84, _⟩ => ⟨S2048x8x64, .f32⟩
  | .hbm, ⟨85, _⟩ => ⟨S2048x512, .f32⟩
  | .hbm, ⟨86, _⟩ => ⟨S2048x512, .f32⟩
  | .hbm, ⟨87, _⟩ => ⟨S2048x512, .bf16⟩
  | .hbm, ⟨88, _⟩ => ⟨S2048x512, .f32⟩
  | .hbm, ⟨89, _⟩ => ⟨S8x8x64, .f32⟩
  | .hbm, ⟨90, _⟩ => ⟨S8x512, .f32⟩
  | .hbm, ⟨91, _⟩ => ⟨S8x1x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_cst_2 : Ref sig .tc := ⟨.hbm, 63, rfl⟩
abbrev main_v57 : Ref sig .tc := ⟨.hbm, 64, rfl⟩
abbrev main_cst_3 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_4 : Ref sig .tc := ⟨.hbm, 74, rfl⟩
abbrev main_v66 : Ref sig .tc := ⟨.hbm, 75, rfl⟩
abbrev main_v67 : Ref sig .tc := ⟨.hbm, 76, rfl⟩
abbrev main_cst_5 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩

abbrev nD : Nat := 1
abbrev τ : Topo := Topo.v7x

variable {F : FTy → Type} [FloatOps F]
-- ==== Kernel5.lean ====
abbrev S2048x1024 : Shape := ⟨2, ![2048, 1024]⟩
abbrev S2048x2816 : Shape := ⟨2, ![2048, 2816]⟩
abbrev S1024x2816 : Shape := ⟨2, ![1024, 2816]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2816x1024 : Shape := ⟨2, ![2816, 1024]⟩
abbrev S2048x128 : Shape := ⟨2, ![2048, 128]⟩
abbrev S1x1024 : Shape := ⟨2, ![1, 1024]⟩
abbrev S256x1024 : Shape := ⟨2, ![256, 1024]⟩
abbrev S256x2816 : Shape := ⟨2, ![256, 2816]⟩
abbrev S256x128 : Shape := ⟨2, ![256, 128]⟩
abbrev S256x1 : Shape := ⟨2, ![256, 1]⟩
abbrev S256 : Shape := ⟨1, ![256]⟩

abbrev nBuf : Space → Nat
  | .hbm => 38
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2048x2816, .bf16⟩
  | .hbm, ⟨3, _⟩ => ⟨S1024x2816, .f32⟩
  | .hbm, ⟨4, _⟩ => ⟨S1024x2816, .f32⟩
  | .hbm, ⟨5, _⟩ => ⟨S2048x1024, .f32⟩
  | .hbm, ⟨6, _⟩ => ⟨S1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2816x1024, .f32⟩
  | .hbm, ⟨27, _⟩ => ⟨S2816x1024, .bf16⟩
  | .hbm, ⟨28, _⟩ => ⟨S2816x1024, .f32⟩
  | .hbm, ⟨29, _⟩ => ⟨S2816x1024, .bf16⟩
  | .hbm, ⟨30, _⟩ => ⟨S2048x1024, .f32⟩
  | .hbm, ⟨31, _⟩ => ⟨S2048x1024, .f32⟩
  | .hbm, ⟨32, _⟩ => ⟨S2048x128, .f32⟩
  | .hbm, ⟨33, _⟩ => ⟨S1x1024, .f32⟩
  | .hbm, ⟨34, _⟩ => ⟨S2048x1024, .f32⟩
  | .hbm, ⟨35, _⟩ => ⟨S2048x1024, .bf16⟩
  | .hbm, ⟨36, _⟩ => ⟨S1x1024, .f32⟩
  | .hbm, ⟨37, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S2816x1024, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S2048x1024 : Shape := ⟨2, ![2048, 1024]⟩
abbrev S2048x2816 : Shape := ⟨2, ![2048, 2816]⟩
abbrev S1024x2816 : Shape := ⟨2, ![1024, 2816]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2048x2816, .bf16⟩
  | .hbm, ⟨3, _⟩ => ⟨S1024x2816, .f32⟩
  | .hbm, ⟨4, _⟩ => ⟨S1024x2816, .f32⟩
  | .hbm, ⟨5, _⟩ => ⟨S2048x1024, .f32⟩
  | .hbm, ⟨6, _⟩ => ⟨S1024, .f32⟩
  | .hbm, ⟨7, _⟩ => ⟨S_, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S2048x1024, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x1024, .f32⟩
  | .hbm, ⟨79, _⟩ => ⟨S2048x1024, .f32⟩
  | .hbm, ⟨80, _⟩ => ⟨S2048x1, .f32⟩
  | .hbm, ⟨81, _⟩ => ⟨S2048x1024, .f32⟩
  | .hbm, ⟨82, _⟩ => ⟨S_, .f32⟩
  | .hbm, ⟨83, _⟩ => ⟨S2048, .f32⟩
  | .hbm, ⟨84, _⟩ => ⟨S2048x1, .f32⟩
  | .hbm, ⟨85, _⟩ => ⟨S_, .f32⟩
  | .hbm, ⟨86, _⟩ => ⟨S2048x1, .f32⟩
  | .hbm, ⟨87, _⟩ => ⟨S2048x1, .f32⟩
  | .hbm, ⟨88, _⟩ => ⟨S_, .f32⟩
  | .hbm, ⟨89, _⟩ => ⟨S2048, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S_, .f32⟩
  | .hbm, ⟨94, _⟩ => ⟨S2048, .f32⟩
  | .hbm, ⟨95, _⟩ => ⟨S2048x1, .f32⟩
  | .hbm, ⟨96, _⟩ => ⟨S2048x1024, .f32⟩
  | .hbm, ⟨97, _⟩ => ⟨S2048x1, .f32⟩
  | .hbm, ⟨98, _⟩ => ⟨S_, .f32⟩
  | .hbm, ⟨99, _⟩ => ⟨S2048x1, .f32⟩
  | .hbm, ⟨100, _⟩ => ⟨S2048x1, .f32⟩
  | .hbm, ⟨101, _⟩ => ⟨S_, .f32⟩
  | .hbm, ⟨102, _⟩ => ⟨S2048, .f32⟩
  | .hbm, ⟨103, _⟩ => ⟨S2048x1024, .f32⟩
  | .hbm, ⟨104, _⟩ => ⟨S2048x1024, .f32⟩
  | .hbm, ⟨105, _⟩ => ⟨S2048x1024, .bf16⟩
  | .hbm, ⟨106, _⟩ => ⟨S1x1024, .f32⟩
  | .hbm, ⟨107, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_v52 : Ref sig .tc := ⟨.hbm, 74, rfl⟩
abbrev main_cst_14 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_cst_16 : Ref sig .tc := ⟨.hbm, 85, rfl⟩
abbrev main_v61 : Ref sig .tc := ⟨.hbm, 86, rfl⟩
abbrev main_v62 : Ref sig .tc := ⟨.hbm, 87, rfl⟩
abbrev main_cst_17 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_18 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_19 : Ref sig .tc := ⟨.hbm, 98, rfl⟩
abbrev main_v71 : Ref sig .tc := ⟨.hbm, 99, rfl⟩
abbrev main_v72 : Ref sig .tc := ⟨.hbm, 100, rfl⟩
abbrev main_cst_20 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]
-- ==== Kernel6.lean ====
abbrev S2048x1024 : Shape := ⟨2, ![2048, 1024]⟩
abbrev S2048x512 : Shape := ⟨2, ![2048, 512]⟩
abbrev S2048x2048 : Shape := ⟨2, ![2048, 2048]⟩
abbrev S2048 : Shape := ⟨1, ![2048]⟩
abbrev S512x1024 : Shape := ⟨2, ![512, 1024]⟩
abbrev S4x128x128 : Shape := ⟨3, ![4, 128, 128]⟩
abbrev S512 : Shape := ⟨1, ![512]⟩
abbrev S1024x1024 : Shape := ⟨2, ![1024, 1024]⟩
abbrev S2048x4x128 : Shape := ⟨3, ![2048, 4, 128]⟩
abbrev S4x128x2048 : Shape := ⟨3, ![4, 128, 2048]⟩
abbrev S1x512 : Shape := ⟨2, ![1, 512]⟩
abbrev S1x2048 : Shape := ⟨2, ![1, 2048]⟩
abbrev S_ : Shape := ⟨0, ![]⟩
abbrev S256x1024 : Shape := ⟨2, ![256, 1024]⟩
abbrev S256x2048 : Shape := ⟨2, ![256, 2048]⟩
abbrev S256x512 : Shape := ⟨2, ![256, 512]⟩
abbrev S1x1024 : Shape := ⟨2, ![1, 1024]⟩
abbrev S1024 : Shape := ⟨1, ![1024]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 45
  | .vmem => 29
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x2048, .f32⟩
  | .hbm, ⟨4, _⟩ => ⟨S2048, .f32⟩
  | .hbm, ⟨5, _⟩ => ⟨S512x1024, .f32⟩
  | .hbm, ⟨6, _⟩ => ⟨S4x128x128, .f32⟩
  | .hbm, ⟨7, _⟩ => ⟨S512, .f32⟩
  | .hbm, ⟨8, _⟩ => ⟨S512x1024, .f32⟩
  | .hbm, ⟨9, _⟩ => ⟨S1024x1024, .f32⟩
  | .hbm, ⟨10, _⟩ => ⟨S2048x4x128, .f32⟩
  | .hbm, ⟨11, _⟩ => ⟨S4x128x2048, .f32⟩
  | .hbm, ⟨12, _⟩ => ⟨S2048x4x128, .f32⟩
  | .hbm, ⟨13, _⟩ => ⟨S2048x512, .f32⟩
  | .hbm, ⟨14, _⟩ => ⟨S2048x1024, .bf16⟩
  | .hbm, ⟨15, _⟩ => ⟨S2048x1024, .f32⟩
  | .hbm, ⟨16, _⟩ => ⟨S2048x1024, .bf16⟩
  | .hbm, ⟨17, _⟩ => ⟨S1x512, .f32⟩
  | .hbm, ⟨18, _⟩ => ⟨S2048x512, .f32⟩
  | .hbm, ⟨19, _⟩ => ⟨S2048x512, .f32⟩
  | .hbm, ⟨20, _⟩ => ⟨S2048x1024, .f32⟩
  | .hbm, ⟨21, _⟩ => ⟨S2048x1024, .bf16⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S1024x1024, .bf16⟩
  | .hbm, ⟨34, _⟩ => ⟨S512x1024, .bf16⟩
  | .hbm, ⟨35, _⟩ => ⟨S512x1024, .bf16⟩
  | .hbm, ⟨36, _⟩ => ⟨S1x512, .f32⟩
  | .hbm, ⟨37, _⟩ => ⟨S2048x2048, .bf16⟩
  | .hbm, ⟨38, _⟩ => ⟨S2048x1024, .bf16⟩
  | .hbm, ⟨39, _⟩ => ⟨S2048x1024, .bf16⟩
  | .hbm, ⟨40, _⟩ => ⟨S2048x512, .f32⟩
  | .hbm, ⟨41, _⟩ => ⟨S2048x512, .bf16⟩
  | .hbm, ⟨42, _⟩ => ⟨S2048x512, .f32⟩
  | .hbm, ⟨43, _⟩ => ⟨S1x2048, .f32⟩
  | .hbm, ⟨44, _⟩ => ⟨S1x512, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x512, .f32⟩
  | .local _ .vmem, ⟨9, _⟩ => ⟨S256x512, .f32⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S4x128x128, .f32⟩
  | .local _ .vmem, ⟨14, _⟩ => ⟨S1x512, .f32⟩
  | .local _ .vmem, ⟨15, _⟩ => ⟨S256x2048, .bf16⟩
  | .local _ .vmem, ⟨16, _⟩ => ⟨S256x2048, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x512, .f32⟩
  | .local _ .vmem, ⟨22, _⟩ => ⟨S256x512, .f32⟩
  | .local _ .vmem, ⟨23, _⟩ => ⟨S256x512, .bf16⟩
  | .local _ .vmem, ⟨24, _⟩ => ⟨S256x512, .bf16⟩
  | .local _ .vmem, ⟨25, _⟩ => ⟨S256x512, .f32⟩
  | .local _ .vmem, ⟨26, _⟩ => ⟨S256x512, .f32⟩
  | .local _ .vmem, ⟨27, _⟩ => ⟨S1x2048, .f32⟩
  | .local _ .vmem, ⟨28, _⟩ => ⟨S1x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v25_4 : Ref sig .tc := ⟨.hbm, 41, rfl⟩
abbrev main_v25_5 : Ref sig .tc := ⟨.hbm, 42, rfl⟩
abbrev main_v25_6 : Ref sig .tc := ⟨.hbm, 43, rfl⟩
abbrev main_v25_7 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference6Ideal.lean ====
abbrev S2048x1024 : Shape := ⟨2, ![2048, 1024]⟩
abbrev S2048x512 : Shape := ⟨2, ![2048, 512]⟩
abbrev S2048x2048 : Shape := ⟨2, ![2048, 2048]⟩
abbrev S2048 : Shape := ⟨1, ![2048]⟩
abbrev S512x1024 : Shape := ⟨2, ![512, 1024]⟩
abbrev S4x128x128 : Shape := ⟨3, ![4, 128, 128]⟩
abbrev S512 : Shape := ⟨1, ![512]⟩
abbrev S1024x1024 : Shape := ⟨2, ![1024, 1024]⟩
abbrev S2048x4x128 : Shape := ⟨3, ![2048, 4, 128]⟩
abbrev S4x128x2048 : Shape := ⟨3, ![4, 128, 2048]⟩
abbrev S1x512 : Shape := ⟨2, ![1, 512]⟩
abbrev S1x2048 : Shape := ⟨2, ![1, 2048]⟩
abbrev S_ : Shape := ⟨0, ![]⟩
abbrev S4x2048x128 : Shape := ⟨3, ![4, 2048, 128]⟩

abbrev nBuf : Space → Nat
  | .hbm => 77
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x512, .f32⟩
  | .hbm, ⟨3, _⟩ => ⟨S2048x2048, .f32⟩
  | .hbm, ⟨4, _⟩ => ⟨S2048, .f32⟩
  | .hbm, ⟨5, _⟩ => ⟨S512x1024, .f32⟩
  | .hbm, ⟨6, _⟩ => ⟨S4x128x128, .f32⟩
  | .hbm, ⟨7, _⟩ => ⟨S512, .f32⟩
  | .hbm, ⟨8, _⟩ => ⟨S512x1024, .f32⟩
  | .hbm, ⟨9, _⟩ => ⟨S1024x1024, .f32⟩
  | .hbm, ⟨10, _⟩ => ⟨S2048x1024, .f32⟩
  | .hbm, ⟨11, _⟩ => ⟨S2048x4x128, .f32⟩
  | .hbm, ⟨12, _⟩ => ⟨S4x128x2048, .f32⟩
  | .hbm, ⟨13, _⟩ => ⟨S2048x4x128, .f32⟩
  | .hbm, ⟨14, _⟩ => ⟨S2048x512, .f32⟩
  | .hbm, ⟨15, _⟩ => ⟨S1x512, .f32⟩
  | .hbm, ⟨16, _⟩ => ⟨S2048x512, .f32⟩
  | .hbm, ⟨17, _⟩ => ⟨S2048x512, .f32⟩
  | .hbm, ⟨18, _⟩ => ⟨S2048x1024, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x2048, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S_, .f32⟩
  | .hbm, ⟨55, _⟩ => ⟨S2048, .f32⟩
  | .hbm, ⟨56, _⟩ => ⟨S2048x512, .f32⟩
  | .hbm, ⟨57, _⟩ => ⟨S2048x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S2048x512, .f32⟩
  | .hbm, ⟨62, _⟩ => ⟨S2048x512, .f32⟩
  | .hbm, ⟨63, _⟩ => ⟨S_, .f32⟩
  | .hbm, ⟨64, _⟩ => ⟨S512, .f32⟩
  | .hbm, ⟨65, _⟩ => ⟨S2048x2048, .bf16⟩
  | .hbm, ⟨66, _⟩ => ⟨S2048x1024, .bf16⟩
  | .hbm, ⟨67, _⟩ => ⟨S2048x1024, .bf16⟩
  | .hbm, ⟨68, _⟩ => ⟨S2048x512, .f32⟩
  | .hbm, ⟨69, _⟩ => ⟨S2048x512, .bf16⟩
  | .hbm, ⟨70, _⟩ => ⟨S2048x4x128, .f32⟩
  | .hbm, ⟨71, _⟩ => ⟨S4x128x2048, .f32⟩
  | .hbm, ⟨72, _⟩ => ⟨S4x2048x128, .f32⟩
  | .hbm, ⟨73, _⟩ => ⟨S2048x4x128, .f32⟩
  | .hbm, ⟨74, _⟩ => ⟨S2048x512, .f32⟩
  | .hbm, ⟨75, _⟩ => ⟨S1x2048, .f32⟩
  | .hbm, ⟨76, _⟩ => ⟨S1x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Kernel7.lean ====
abbrev S2048x1024 : Shape := ⟨2, ![2048, 1024]⟩
abbrev S2048x4096 : Shape := ⟨2, ![2048, 4096]⟩
abbrev S1024x2048 : Shape := ⟨2, ![1024, 2048]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S1024x2048, .f32⟩
  | .hbm, ⟨3, _⟩ => ⟨S1024x2048, .bf16⟩
  | .hbm, ⟨4, _⟩ => ⟨S8x1024x512, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S2048x4096, .f32⟩
  | .hbm, ⟨6, _⟩ => ⟨S4096x1024, .f32⟩
  | .hbm, ⟨7, _⟩ => ⟨S1024x4096, .f32⟩
  | .hbm, ⟨8, _⟩ => ⟨S1024x8x512, .f32⟩
  | .hbm, ⟨9, _⟩ => ⟨S8x1024x512, .f32⟩
  | .hbm, ⟨10, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2048x1024 : Shape := ⟨2, ![2048, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S2048x2816 : Shape := ⟨2, ![2048, 2816]⟩
abbrev S256x1024 : Shape := ⟨2, ![256, 1024]⟩
abbrev S3x256 : Shape := ⟨2, ![3, 256]⟩
abbrev S1x256 : Shape := ⟨2, ![1, 256]⟩
abbrev S2048x256 : Shape := ⟨2, ![2048, 256]⟩

abbrev nBuf : Space → Nat
  | .hbm => 14
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2048x1024, .bf16⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S1x2816, .f32⟩
  | .hbm, ⟨11, _⟩ => ⟨S2048x2816, .f32⟩
  | .hbm, ⟨12, _⟩ => ⟨S2048x2816, .f32⟩
  | .hbm, ⟨13, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S3x256, .f32⟩
  | .local _ .vmem, ⟨6, _⟩ => ⟨S3x256, .f32⟩
  | .local _ .vmem, ⟨7, _⟩ => ⟨S1x256, .f32⟩
  | .local _ .vmem, ⟨8, _⟩ => ⟨S1x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .bf16⟩
  | .local _ .vmem, ⟨14, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel8Ideal.lean ====
variable {F : FTy → Type} [FloatOps F] [Named F]
def κ : String → Option EReal := fun
  | "root_half" => some (((Real.sqrt 2)⁻¹ : ℝ) : EReal)
  | _ => none
-- ==== Reference8Ideal.lean ====
abbrev S2048x1024 : Shape := ⟨2, ![2048, 1024]⟩
abbrev S1024x2816 : Shape := ⟨2, ![1024, 2816]⟩
abbrev S3x2816 : Shape := ⟨2, ![3, 2816]⟩
abbrev S2816 : Shape := ⟨1, ![2816]⟩
abbrev S2048x2816 : Shape := ⟨2, ![2048, 2816]⟩
abbrev S_ : Shape := ⟨0, ![]⟩
abbrev S2x2816 : Shape := ⟨2, ![2, 2816]⟩
abbrev S2050x2816 : Shape := ⟨2, ![2050, 2816]⟩
abbrev S1x2816 : Shape := ⟨2, ![1, 2816]⟩

abbrev nBuf : Space → Nat
  | .hbm => 37
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2x2816, .f32⟩
  | .hbm, ⟨9, _⟩ => ⟨S2050x2816, .f32⟩
  | .hbm, ⟨10, _⟩ => ⟨S2048x2816, .f32⟩
  | .hbm, ⟨11, _⟩ => ⟨S1x2816, .f32⟩
  | .hbm, ⟨12, _⟩ => ⟨S2816, .f32⟩
  | .hbm, ⟨13, _⟩ => ⟨S1x2816, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S1x2816, .f32⟩
  | .hbm, ⟨21, _⟩ => ⟨S2816, .f32⟩
  | .hbm, ⟨22, _⟩ => ⟨S1x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S1x2816, .f32⟩
  | .hbm, ⟨28, _⟩ => ⟨S2816, .f32⟩
  | .hbm, ⟨29, _⟩ => ⟨S1x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S1x2816, .f32⟩
  | .hbm, ⟨34, _⟩ => ⟨S2048x2816, .f32⟩
  | .hbm, ⟨35, _⟩ => ⟨S2048x2816, .f32⟩
  | .hbm, ⟨36, _⟩ => ⟨S2048x2816, .bf16⟩
  | .local _ .vmem, ⟨0, _⟩ => ⟨S2048x2816, .f32⟩
  | .local _ .vmem, ⟨1, _⟩ => ⟨S2048x2816, .f32⟩
  | .local _ .vmem, ⟨2, _⟩ => ⟨S2048x2816, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F] [Named F]

def κ : String → Option EReal := fun
  | "root_half" => some (((Real.sqrt 2)⁻¹ : ℝ) : EReal)
  | _ => none

abbrev grid0 : Pipeline.Grid := .none

abbrev stage0_0 : Fin 1 → Memref sig .tc .vmem S2048x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Spec.lean ====
/- THE GRADIENT OF THE CONVFFN AS MATHEMATICS, on extended reals: the functions of the arguments that both programs' results are
   shown to be. Arrays are functions of a row and a column; nothing here mentions either program. -/
module

public import Idealize.ShloMosaic.PureOps.Ideal

@[expose] public section

noncomputable section

namespace Cert.Proof

open Idealize.ShloMosaic

/-- One half, the square root of one half, and the height of the normal density at zero. -/
def half : EReal := ((2⁻¹ : ℝ) : EReal)
def rootHalf : EReal := (((Real.sqrt 2)⁻¹ : ℝ) : EReal)
def gauss : EReal := (((Real.sqrt (2 * Real.pi))⁻¹ : ℝ) : EReal)
/-- The slope of `erf` at zero. -/
def slope : EReal := ((2 * (Real.sqrt Real.pi)⁻¹ : ℝ) : EReal)

/-- The normal distribution function. -/
def cdf (t : EReal) : EReal := half * (1 + Ideal.erf (t * rootHalf))
/-- GELU, and its derivative. -/
def gelu (t : EReal) : EReal := t * cdf t
def gelu' (t : EReal) : EReal := cdf t + t * (Ideal.exp (-half * t * t) * gauss)

/-- A column read `k` rows earlier, zero before its first row. -/
def late {n : Nat} (k : Nat) (f : Fin n → EReal) (r : Fin n) : EReal :=
  if k ≤ r.val then f ⟨r.val - k, Nat.lt_of_le_of_lt (Nat.sub_le _ _) r.isLt⟩ else 0
/-- A column read `k` rows later, zero past its last row. -/
def early {n : Nat} (k : Nat) (f : Fin n → EReal) (r : Fin n) : EReal :=
  if h : r.val + k < n then f ⟨r.val + k, h⟩ else 0

/-- The causal depthwise convolution of a column with taps `w0 w1 w2` and bias `b`. -/
def conv {n : Nat} (w0 w1 w2 b : EReal) (f : Fin n → EReal) (r : Fin n) : EReal :=
  w2 * f r + w1 * late 1 f r + w0 * late 2 f r + b
/-- Its transpose: what a cotangent of the convolution is of the convolved column. -/
def convT {n : Nat} (w0 w1 w2 : EReal) (f : Fin n → EReal) (r : Fin n) : EReal :=
  w2 * f r + w1 * early 1 f r + w0 * early 2 f r

/-- The arguments: tokens `x`, the cotangent `dr`, the gate and up weights, the taps, the bias, the down weights. -/
structure Args where
  x : Fin 2048 → Fin 1024 → EReal
  dr : Fin 2048 → Fin 1024 → EReal
  wg : Fin 1024 → Fin 2816 → EReal
  wu : Fin 1024 → Fin 2816 → EReal
  cw : Fin 3 → Fin 2816 → EReal
  cb : Fin 2816 → EReal
  wd : Fin 2816 → Fin 1024 → EReal

namespace Args

variable (p : Args)

/-- The gate and up products, column by column. -/
def a (j : Fin 2816) (r : Fin 2048) : EReal := ∑ k, p.x r k * p.wg k j
def u (j : Fin 2816) (r : Fin 2048) : EReal := ∑ k, p.x r k * p.wu k j
/-- The cotangent of the activation. -/
def dy (j : Fin 2816) (r : Fin 2048) : EReal := ∑ k, p.dr r k * p.wd j k
/-- The convolved gate. -/
def ac (j : Fin 2816) (r : Fin 2048) : EReal := conv (p.cw 0 j) (p.cw 1 j) (p.cw 2 j) (p.cb j) (p.a j) r
/-- The activation. -/
def act (j : Fin 2816) (r : Fin 2048) : EReal := gelu (p.ac j r) * p.u j r
/-- The cotangents of the convolved gate, of the gate and of the up product. -/
def dac (j : Fin 2816) (r : Fin 2048) : EReal := p.dy j r * p.u j r * gelu' (p.ac j r)
def da (j : Fin 2816) (r : Fin 2048) : EReal := convT (p.cw 0 j) (p.cw 1 j) (p.cw 2 j) (p.dac j) r
def du (j : Fin 2816) (r : Fin 2048) : EReal := p.dy j r * gelu (p.ac j r)
/-- The gradients of the three weights. -/
def dwd (j : Fin 2816) (k : Fin 1024) : EReal := ∑ r, p.act j r * p.dr r k
def dwg (j : Fin 2816) (k : Fin 1024) : EReal := ∑ r, p.da j r * p.x r k
def dwu (j : Fin 2816) (k : Fin 1024) : EReal := ∑ r, p.du j r * p.x r k
/-- The gradients of the taps, then of the bias, then four rows of zeros. -/
def dc (i : Fin 8) (j : Fin 2816) : EReal :=
  if i.val = 0 then ∑ r, p.dac j r * late 2 (p.a j) r
  else if i.val = 1 then ∑ r, p.dac j r * late 1 (p.a j) r
  else if i.val = 2 then ∑ r, p.dac j r * p.a j r
  else if i.val = 3 then ∑ r, p.dac j r
  else 0

end Args

end Cert.Proof
-- ==== Proof.Gelu.lean ====
/- THE DERIVATIVE OF GELU, in the two spellings: the kernel's `cdf t + t · (exp (−½ t t) / √(2π))`, and what differentiating
   `½ t (1 + erf (t / √2))` line by line gives. They are the same real number; on extended reals they are the same where the
   three values they are built of are finite (at an infinity the second spelling's sum is of opposite infinities where the
   first's is not), so finiteness is carried to here. -/
module

public import proofs.«01_k».proof.Proof.Spec
import Mathlib.Tactic.Ring
import Mathlib.Tactic.FieldSimp

@[expose] public section

noncomputable section

namespace Cert.Proof

open Idealize.ShloMosaic

/-- A value that is a real number. -/
def Real' (t : EReal) : Prop := ∃ r : ℝ, t = (r : EReal)

theorem Real'.add {s t : EReal} : Real' s → Real' t → Real' (s + t)
  | ⟨a, ha⟩, ⟨b, hb⟩ => ⟨a + b, by rw [ha, hb, EReal.coe_add]⟩
theorem Real'.mul {s t : EReal} : Real' s → Real' t → Real' (s * t)
  | ⟨a, ha⟩, ⟨b, hb⟩ => ⟨a * b, by rw [ha, hb, EReal.coe_mul]⟩
theorem Real'.zero : Real' 0 := ⟨0, rfl⟩
theorem Real'.sum {ι : Type} (s : Finset ι) (f : ι → EReal) (h : ∀ i ∈ s, Real' (f i)) : Real' (∑ i ∈ s, f i) :=
  Finset.sum_induction f Real' (fun _ _ => Real'.add) Real'.zero h

theorem Real'.late {n k : Nat} {f : Fin n → EReal} (h : ∀ r, Real' (f r)) (r : Fin n) : Real' (late k f r) := by
  unfold Proof.late
  split
  · exact h _
  · exact .zero

/-- Every argument's elements are real numbers. -/
structure Args.Finite (p : Args) : Prop where
  x : ∀ r k, Real' (p.x r k)
  dr : ∀ r k, Real' (p.dr r k)
  wg : ∀ k j, Real' (p.wg k j)
  wu : ∀ k j, Real' (p.wu k j)
  cw : ∀ i j, Real' (p.cw i j)
  cb : ∀ j, Real' (p.cb j)
  wd : ∀ j k, Real' (p.wd j k)

namespace Args.Finite

variable {p : Args} (h : p.Finite)
include h

theorem a (j : Fin 2816) (r : Fin 2048) : Real' (p.a j r) := .sum _ _ fun k _ => (h.x r k).mul (h.wg k j)
theorem u (j : Fin 2816) (r : Fin 2048) : Real' (p.u j r) := .sum _ _ fun k _ => (h.x r k).mul (h.wu k j)
theorem dy (j : Fin 2816) (r : Fin 2048) : Real' (p.dy j r) := .sum _ _ fun k _ => (h.dr r k).mul (h.wd j k)
theorem ac (j : Fin 2816) (r : Fin 2048) : Real' (p.ac j r) :=
  ((((h.cw 2 j).mul (h.a j r)).add ((h.cw 1 j).mul (.late (h.a j) r))).add ((h.cw 0 j).mul (.late (h.a j) r))).add (h.cb j)

end Args.Finite

/-- What the reference's spelling multiplies the activation's cotangent and the up product by. -/
theorem gelu'_eq {t d u : EReal} (ht : Real' t) (hd : Real' d) (hu : Real' u) :
    slope * (half * t * (d * u)) * Ideal.exp (0 - t * rootHalf * (t * rootHalf)) * rootHalf
        + half * (d * u * (1 + Ideal.erf (t * rootHalf)))
      = d * u * gelu' t := by
  obtain ⟨t, rfl⟩ := ht
  obtain ⟨d, rfl⟩ := hd
  obtain ⟨u, rfl⟩ := hu
  unfold gelu' cdf slope half rootHalf gauss
  rw [← EReal.coe_mul t, Ideal.erf_coe]
  rw [← EReal.coe_one, ← EReal.coe_zero]
  simp only [← EReal.coe_mul, ← EReal.coe_add, ← EReal.coe_sub, ← EReal.coe_neg, Ideal.exp_coe]
  congr 1
  have hs : Real.sqrt 2 ≠ 0 := by positivity
  have hp : Real.sqrt Real.pi ≠ 0 := (Real.sqrt_pos.mpr Real.pi_pos).ne'
  have h2 : Real.sqrt 2 * Real.sqrt 2 = 2 := Real.mul_self_sqrt (by norm_num)
  have he : (0 : ℝ) - t * (Real.sqrt 2)⁻¹ * (t * (Real.sqrt 2)⁻¹) = -2⁻¹ * t * t := by
    have : (Real.sqrt 2)⁻¹ * (Real.sqrt 2)⁻¹ = 2⁻¹ := by rw [← mul_inv, h2]
    linear_combination (-(t * t)) * this
  rw [he, Real.sqrt_mul (by norm_num : (0 : ℝ) ≤ 2), mul_inv]
  ring

theorem gelu_eq (t : EReal) : half * t * (1 + Ideal.erf (t * rootHalf)) = gelu t := by
  unfold gelu cdf
  rw [mul_comm half t, mul_assoc]

theorem ofBits_half : Ideal.ofBits .f32 0x3F000000#32 = half := by
  simp [Ideal.ofBits, Ideal.ieee, half]
  rw [← EReal.coe_mul]; norm_num

end Cert.Proof
-- ==== Proof.Pay.lean ====
/- WHAT ONE BLOCK OF THE KERNEL COMPUTES, read at an index: the values of a grid point's body, given that its seven blocks hold the
   columns `J l` of the arrays of the specification (`Blocks`). Every value is the specification's at column `J l`, with no
   condition: the block's rotations under their masks are the shifts `late` and `early`. -/
module

public import proofs.«01_k».proof.Proof.Gen.KernelIdeal.Skeleton
public import proofs.«01_k».proof.Proof.Gelu
public import Idealize.ShloMosaic.Lib.Pointwise
public import Idealize.ShloMosaic.Lib.WordCmp

@[expose] public section

noncomputable section

namespace Cert.Proof

open Cert.KernelIdeal Cert.KernelIdeal.Gen
open Idealize.ShloMosaic

theorem named_root_half : (Named.named (F := Ideal) Cert.KernelIdeal.κ "root_half" 0x3F3504F3#32 : Ideal .f32) = rootHalf :=
  IdealRules.named_const.ideal_named_scalar _ _ _ _ rfl
theorem named_gauss : (Named.named (F := Ideal) Cert.KernelIdeal.κ "gauss" 0x3ECC422A#32 : Ideal .f32) = gauss :=
  IdealRules.named_const.ideal_named_scalar _ _ _ _ rfl
theorem ofBits_neg_half : Ideal.ofBits .f32 0xBF000000#32 = -half := by
  simp [Ideal.ofBits, Ideal.ieee, half]
  rw [← EReal.coe_mul]; norm_num

/-- A rotation down by `k` rows, masked to the rows from `k` on, is the column read `k` rows earlier. -/
theorem select_late (k : Nat) (hk : k < 2048) (w : EReal) (f : Fin 2048 → EReal) (r : Fin 2048) (h : (r.val + 2048 - k) % 2048 < 2048) :
    Scalar.select (IntOp.cmpi .sge (BitVec.ofNat 32 r.val) (BitVec.ofNat 32 k)) (w * f ⟨(r.val + 2048 - k) % 2048, h⟩) 0
      = w * late k f r := by
  have := r.isLt
  rw [WordCmp.cmpi_sge_ofNat (by omega) (by omega), WordCmp.select_ofBool]
  simp only [decide_eq_true_eq]
  unfold late
  by_cases hr : k ≤ r.val
  · rw [if_pos hr, if_pos hr]
    congr 2
    apply Fin.ext
    show (r.val + 2048 - k) % 2048 = r.val - k
    omega
  · rw [if_neg hr, if_neg hr, mul_zero]

/-- A rotation up by `k` rows, masked to the rows before the last `k`, is the column read `k` rows later. -/
theorem select_early (k : Nat) (hk : k < 2048) (w : EReal) (f : Fin 2048 → EReal) (r : Fin 2048) (h : (r.val + 2048 - (2048 - k)) % 2048 < 2048) :
    Scalar.select (IntOp.cmpi .slt (BitVec.ofNat 32 r.val) (BitVec.ofNat 32 (2048 - k))) (w * f ⟨(r.val + 2048 - (2048 - k)) % 2048, h⟩) 0
      = w * early k f r := by
  have := r.isLt
  rw [WordCmp.cmpi_slt_ofNat (by omega) (by omega), WordCmp.select_ofBool]
  simp only [decide_eq_true_eq]
  unfold early
  by_cases hr : r.val + k < 2048
  · rw [if_pos (by omega), dif_pos hr]
    congr 2
    apply Fin.ext
    show (r.val + 2048 - (2048 - k)) % 2048 = r.val + k
    omega
  · rw [if_neg (by omega), dif_neg hr, mul_zero]

variable (p : Args) (J : Fin 256 → Fin 2816)

/-- The seven blocks of a grid point hold the columns `J l` of the specification's arrays. -/
structure Blocks (x0 x1 : Vec Ideal S2048x1024 .bf16) (x2 x3 : Vec Ideal S2048x256 .f32) (x4 : Vec Ideal S256x1024 .bf16)
    (x5 : Vec Ideal S3x256 .f32) (x6 : Vec Ideal S1x256 .f32) : Prop where
  dr : ∀ r k, x0 (ix2 r k) = p.dr r k
  x : ∀ r k, x1 (ix2 r k) = p.x r k
  a : ∀ r l, x2 (ix2 r l) = p.a (J l) r
  u : ∀ r l, x3 (ix2 r l) = p.u (J l) r
  wd : ∀ l k, x4 (ix2 l k) = p.wd (J l) k
  cw : ∀ i l, x5 (ix2 i l) = p.cw i (J l)
  cb : ∀ i l, x6 (ix2 i l) = p.cb (J l)

variable {p J}
variable {x0 x1 : Vec Ideal S2048x1024 .bf16} {x2 x3 : Vec Ideal S2048x256 .f32} {x4 : Vec Ideal S256x1024 .bf16}
variable {x5 : Vec Ideal S3x256 .f32} {x6 : Vec Ideal S1x256 .f32}

theorem pay8_apply (h : Blocks p J x0 x1 x2 x3 x4 x5 x6) (r : Fin 2048) (l : Fin 256) :
    k0_pay8 (F := Ideal) x0 x4 (ix2 r l) = p.dy (J l) r := by
  pointwise [k0_pay8, k0_pay4]
  simp only [h.dr, h.wd]
  rfl

theorem pay11_apply (h : Blocks p J x0 x1 x2 x3 x4 x5 x6) (r : Fin 2048) (l : Fin 256) :
    k0_pay9 (F := Ideal) x2 x5 (ix2 r l) + k0_pay10 (F := Ideal) x6 (ix2 r l) = p.ac (J l) r := by
  pointwise [k0_pay9, k0_pay10, k0_pay6]
  simp only [h.a, h.cw, h.cb]
  rw [select_late 1 (by omega), select_late 2 (by omega)]
  rfl

theorem pay13_apply (h : Blocks p J x0 x1 x2 x3 x4 x5 x6) (r : Fin 2048) (l : Fin 256) :
    k0_pay13 (F := Ideal) (k0_pay9 x2 x5) (k0_pay10 x6) (ix2 r l) = gelu (p.ac (J l) r) := by
  pointwise [k0_pay13, k0_pay12, k0_pay11]
  rw [pay11_apply h, named_root_half, ofBits_half]
  rfl

theorem pay16_apply (h : Blocks p J x0 x1 x2 x3 x4 x5 x6) (r : Fin 2048) (l : Fin 256) :
    k0_pay16 (F := Ideal) (k0_pay7 x3) (k0_pay8 x0 x4) (k0_pay9 x2 x5) (k0_pay10 x6) (ix2 r l) = p.dac (J l) r := by
  pointwise [k0_pay16, k0_pay13, k0_pay12, k0_pay11, k0_pay7]
  rw [pay11_apply h, pay8_apply h, h.u, named_root_half, named_gauss, ofBits_half, ofBits_neg_half]
  rfl

theorem pay15_apply (h : Blocks p J x0 x1 x2 x3 x4 x5 x6) (r : Fin 2048) (l : Fin 256) :
    k0_pay15 (F := Ideal) (k0_pay8 x0 x4) (k0_pay9 x2 x5) (k0_pay10 x6) (ix2 r l) = p.du (J l) r := by
  pointwise [k0_pay15]
  rw [pay13_apply h, pay8_apply h]
  rfl

theorem pay14_apply (h : Blocks p J x0 x1 x2 x3 x4 x5 x6) (l : Fin 256) (k : Fin 1024) :
    k0_pay14 (F := Ideal) (k0_pay4 x0) (k0_pay7 x3) (k0_pay9 x2 x5) (k0_pay10 x6) (ix2 l k) = p.dwd (J l) k := by
  pointwise [k0_pay14, k0_pay7, k0_pay4]
  simp only [pay13_apply h, h.u, h.dr]
  rfl

set_option maxRecDepth 20000 in
/-- The block of the gate's cotangent, a column's transposed convolution. -/
theorem pay22_apply (h : Blocks p J x0 x1 x2 x3 x4 x5 x6) (r : Fin 2048) (l : Fin 256) :
    k0_pay22 (F := Ideal) (k0_pay17 (k0_pay7 x3) x5 (k0_pay8 x0 x4) (k0_pay9 x2 x5) (k0_pay10 x6)) (k0_pay18 x5) k0_pay19
      (k0_pay20 (k0_pay7 x3) (k0_pay8 x0 x4) (k0_pay9 x2 x5) (k0_pay10 x6)) k0_pay21 (ix2 r l) = p.da (J l) r := by
  pointwise [k0_pay22, k0_pay17, k0_pay18, k0_pay19, k0_pay20, k0_pay21]
  simp only [pay16_apply h, h.cw]
  exact congrArg₂ (· + ·) (congrArg₂ (· + ·) rfl (select_early 1 (by omega) (p.cw 1 (J l)) (p.dac (J l)) r (by omega)))
    (select_early 2 (by omega) (p.cw 0 (J l)) (p.dac (J l)) r (by omega))

theorem pay23_apply (h : Blocks p J x0 x1 x2 x3 x4 x5 x6) (l : Fin 256) (k : Fin 1024) :
    k0_pay23 (F := Ideal) (k0_pay5 x1) (k0_pay17 (k0_pay7 x3) x5 (k0_pay8 x0 x4) (k0_pay9 x2 x5) (k0_pay10 x6)) (k0_pay18 x5) k0_pay19
      (k0_pay20 (k0_pay7 x3) (k0_pay8 x0 x4) (k0_pay9 x2 x5) (k0_pay10 x6)) k0_pay21 (ix2 l k) = p.dwg (J l) k := by
  pointwise [k0_pay23, k0_pay5]
  simp only [pay22_apply h, h.x]
  rfl

theorem pay24_apply (h : Blocks p J x0 x1 x2 x3 x4 x5 x6) (l : Fin 256) (k : Fin 1024) :
    k0_pay24 (F := Ideal) (k0_pay5 x1) (k0_pay15 (k0_pay8 x0 x4) (k0_pay9 x2 x5) (k0_pay10 x6)) (ix2 l k) = p.dwu (J l) k := by
  pointwise [k0_pay24, k0_pay5]
  simp only [pay15_apply h, h.x]
  rfl

theorem pay25_apply (h : Blocks p J x0 x1 x2 x3 x4 x5 x6) (i : Fin 1) (l : Fin 256) :
    k0_pay25 (F := Ideal) (k0_pay6 x2) (k0_pay16 (k0_pay7 x3) (k0_pay8 x0 x4) (k0_pay9 x2 x5) (k0_pay10 x6)) (ix2 i l)
      = ∑ r, p.dac (J l) r * late 2 (p.a (J l)) r := by
  pointwise [k0_pay25, k0_pay6]
  simp only [pay16_apply h, h.a]
  exact Finset.sum_congr rfl fun r _ => select_late 2 (by omega) _ _ _ _

theorem pay26_apply (h : Blocks p J x0 x1 x2 x3 x4 x5 x6) (i : Fin 1) (l : Fin 256) :
    k0_pay26 (F := Ideal) (k0_pay6 x2) (k0_pay16 (k0_pay7 x3) (k0_pay8 x0 x4) (k0_pay9 x2 x5) (k0_pay10 x6)) (ix2 i l)
      = ∑ r, p.dac (J l) r * late 1 (p.a (J l)) r := by
  pointwise [k0_pay26, k0_pay6]
  simp only [pay16_apply h, h.a]
  exact Finset.sum_congr rfl fun r _ => select_late 1 (by omega) _ _ _ _

theorem pay1_apply (h : Blocks p J x0 x1 x2 x3 x4 x5 x6) (i : Fin 1) (l : Fin 256) :
    k0_pay1 (F := Ideal) (k0_pay6 x2) (k0_pay16 (k0_pay7 x3) (k0_pay8 x0 x4) (k0_pay9 x2 x5) (k0_pay10 x6)) (ix2 i l)
      = ∑ r, p.dac (J l) r * p.a (J l) r := by
  pointwise [k0_pay1, k0_pay6]
  simp only [pay16_apply h, h.a]

theorem pay2_apply (h : Blocks p J x0 x1 x2 x3 x4 x5 x6) (i : Fin 1) (l : Fin 256) :
    k0_pay2 (F := Ideal) (k0_pay16 (k0_pay7 x3) (k0_pay8 x0 x4) (k0_pay9 x2 x5) (k0_pay10 x6)) (ix2 i l)
      = ∑ r, p.dac (J l) r := by
  pointwise [k0_pay2]
  simp only [pay16_apply h]

theorem pay3_apply (i : Fin 4) (l : Fin 256) : k0_pay3 (F := Ideal) (ix2 i l) = 0 := by
  pointwise [k0_pay3]

end Cert.Proof
-- ==== Proof.Block.lean ====
/- WHAT ONE GRID POINT LEAVES in its six output blocks: the pieces the run found, read at an index. -/
module

public import proofs.«01_k».proof.Proof.Gen.KernelIdeal.Value
public import proofs.«01_k».proof.Proof.Pay

@[expose] public section

noncomputable section

namespace Cert.Proof

open Cert.KernelIdeal Cert.KernelIdeal.Gen
open Idealize.ShloMosaic Idealize.ShloMosaic.TcCoe

variable {p : Args} {J : Fin 256 → Fin 2816} (m : (ℓ : Loc nD τ sig) → Buf (Elt Ideal) ℓ)

/-- The blocks a grid point reads. -/
def AtPoint (c : Dev nD) (t : Fin cfg0.N) (p : Args) (J : Fin 256 → Fin 2816) : Prop :=
  Blocks p J (iblk m c 0 t) (iblk m c 1 t) (iblk m c 2 t) (iblk m c 3 t) (iblk m c 4 t) (iblk m c 5 t) (iblk m c 6 t)

theorem zero2 : (![0, 0] : Fin 2 → Nat) = fun _ => 0 := by
  funext i; fin_cases i <;> rfl

/-- A load of a whole block is the block. -/
theorem ld_whole {a b : Nat} {e : EltTy} (x : (⟨2, ![a, b]⟩ : Shape).Idx → Elt Ideal e)
    (h : ∀ i, (![0, 0] : Fin 2 → Nat) i + (![a, b] : Fin 2 → Nat) i ≤ (⟨2, ![a, b]⟩ : Shape).size i) :
    View.ld x (Rect.unit (s := ⟨2, ![a, b]⟩) ![0, 0] ![a, b] h) = x :=
  View.ld_unit_zero (S := ⟨2, ![a, b]⟩) zero2 h x

theorem da_block (c : Dev nD) (t : Fin cfg0.N) (h : AtPoint m c t p J) (r : Fin 2048) (l : Fin 256) :
    (outsAt0 (F := Ideal) m c t).1 (ix2 r l) = p.da (J l) r := by
  rw [← pay22_apply h]
  refine congrFun ?_ (ix2 r l)
  unfold outsAt0 out0_A_7
  dsimp only
  rw [View.read_writes_eq_canon _ _ _ (cover0_A_7 c _ _ _ _ _ _ _ _ _ _ _ _ _ _ _ _ _ _ _ _ _ _ _ _ _ _ _ _ _ _ _ _ _ _ )]
  unfold kernelRun0_A
  dsimp only
  sl_unfold_words
  refine (View.canon_unit_zero zero2 _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread,
    ld_whole (iblk m c 0 t), ld_whole (iblk m c 1 t), ld_whole (iblk m c 2 t), ld_whole (iblk m c 3 t), ld_whole (iblk m c 4 t),
    ld_whole (iblk m c 5 t), ld_whole (iblk m c 6 t)]

theorem du_block (c : Dev nD) (t : Fin cfg0.N) (h : AtPoint m c t p J) (r : Fin 2048) (l : Fin 256) :
    (outsAt0 (F := Ideal) m c t).2.1 (ix2 r l) = p.du (J l) r := by
  rw [← pay15_apply h]
  refine congrFun ?_ (ix2 r l)
  unfold outsAt0 out0_A_8
  dsimp only
  rw [View.read_writes_eq_canon _ _ _ (cover0_A_8 c _ _ _ _ _ _ _ _ _ _ _ _ _ _ _ _ _ _ _ _ _ _ _ _ _ _ _ _ _ _ _ _ _ _ )]
  unfold kernelRun0_A
  dsimp only
  sl_unfold_words
  refine (View.canon_unit_zero zero2 _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread,
    ld_whole (iblk m c 0 t), ld_whole (iblk m c 1 t), ld_whole (iblk m c 2 t), ld_whole (iblk m c 3 t), ld_whole (iblk m c 4 t),
    ld_whole (iblk m c 5 t), ld_whole (iblk m c 6 t)]

theorem dwd_block (c : Dev nD) (t : Fin cfg0.N) (h : AtPoint m c t p J) (l : Fin 256) (k : Fin 1024) :
    (outsAt0 (F := Ideal) m c t).2.2.1 (ix2 l k) = p.dwd (J l) k := by
  rw [← pay14_apply h]
  refine congrFun ?_ (ix2 l k)
  unfold outsAt0 out0_A_9
  dsimp only
  rw [View.read_writes_eq_canon _ _ _ (cover0_A_9 c _ _ _ _ _ _ _ _ _ _ _ _ _ _ _ _ _ _ _ _ _ _ _ _ _ _ _ _ _ _ _ _ _ _ )]
  unfold kernelRun0_A
  dsimp only
  sl_unfold_words
  refine (View.canon_unit_zero zero2 _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread,
    ld_whole (iblk m c 0 t), ld_whole (iblk m c 1 t), ld_whole (iblk m c 2 t), ld_whole (iblk m c 3 t), ld_whole (iblk m c 4 t),
    ld_whole (iblk m c 5 t), ld_whole (iblk m c 6 t)]

theorem dwg_block (c : Dev nD) (t : Fin cfg0.N) (h : AtPoint m c t p J) (l : Fin 256) (k : Fin 1024) :
    (outsAt0 (F := Ideal) m c t).2.2.2.1 (ix2 l k) = p.dwg (J l) k := by
  rw [← pay23_apply h]
  refine congrFun ?_ (ix2 l k)
  unfold outsAt0 out0_A_10
  dsimp only
  rw [View.read_writes_eq_canon _ _ _ (cover0_A_10 c _ _ _ _ _ _ _ _ _ _ _ _ _ _ _ _ _ _ _ _ _ _ _ _ _ _ _ _ _ _ _ _ _ _ )]
  unfold kernelRun0_A
  dsimp only
  sl_unfold_words
  refine (View.canon_unit_zero zero2 _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread,
    ld_whole (iblk m c 0 t), ld_whole (iblk m c 1 t), ld_whole (iblk m c 2 t), ld_whole (iblk m c 3 t), ld_whole (iblk m c 4 t),
    ld_whole (iblk m c 5 t), ld_whole (iblk m c 6 t)]

theorem dwu_block (c : Dev nD) (t : Fin cfg0.N) (h : AtPoint m c t p J) (l : Fin 256) (k : Fin 1024) :
    (outsAt0 (F := Ideal) m c t).2.2.2.2.1 (ix2 l k) = p.dwu (J l) k := by
  rw [← pay24_apply h]
  refine congrFun ?_ (ix2 l k)
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ )]
  unfold kernelRun0_A
  dsimp only
  sl_unfold_words
  refine (View.canon_unit_zero zero2 _ _).trans ?_
  simp only [View.readAt_eq_ld, (hs0_0 t).read_unread, (hs0_1 t).read_unread, (hs0_2 t).read_unread, (hs0_3 t).read_unread,
    (hs0_4 t).read_unread, (hs0_5 t).read_unread, (hs0_6 t).read_unread,
    ld_whole (iblk m c 0 t), ld_whole (iblk m c 1 t), ld_whole (iblk m c 2 t), ld_whole (iblk m c 3 t), ld_whole (iblk m c 4 t),
    ld_whole (iblk m c 5 t), ld_whole (iblk m c 6 t)]

/-- Rows `k …` of an eight-row block, read at an index of a piece that starts there. -/
theorem emb_rows {n : Nat} (k : Nat) (hk : ∀ a, (![k, 0] : Fin 2 → Nat) a + (![n, 256] : Fin 2 → Nat) a ≤ S8x256.size a)
    (i : Fin n) (l : Fin 256) (hi : k + i.val < 8) :
    (Rect.unit (s := S8x256) ![k, 0] ![n, 256] hk).emb (ix2 i l) = (ix2 ⟨k + i.val, hi⟩ l : S8x256.Idx) := by
  funext a
  match a with
  | ⟨0, _⟩ => exact Fin.ext (show k + 1 * i.val = k + i.val by omega)
  | ⟨1, _⟩ => exact Fin.ext (show 0 + 1 * l.val = l.val by omega)

/-- The eight rows of the sixth block are stored in five pieces: four rows one by one, then the four rows of zeros. -/
theorem dc_block (c : Dev nD) (t : Fin cfg0.N) (h : AtPoint m c t p J) (i : Fin 8) (l : Fin 256) :
    (outsAt0 (F := Ideal) m c t).2.2.2.2.2 (ix2 i l) = p.dc i (J l) := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ )]
  refine View.canon_apply_of_pieces (Val := Elt Ideal) (S := S8x256) (e := .f32) (fun y : S8x256.Idx => p.dc (y 0) (J (y 1))) _ ?_
    (ix2 i l) (cover0_A_12 c _ _ _ _ _ _ _ _ _ _ _ _ _ _ _ _ _ _ _ _ _ _ _ _ _ _ _ _ _ _ _ _ _ _ _)
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread,
    ld_whole (iblk m c 0 t), ld_whole (iblk m c 1 t), ld_whole (iblk m c 2 t), ld_whole (iblk m c 3 t), ld_whole (iblk m c 4 t),
    ld_whole (iblk m c 5 t), ld_whole (iblk m c 6 t)]
  have split : ∀ {a b : Nat} (x : (⟨2, ![a, b]⟩ : Shape).Idx), ∃ i l, x = ix2 i l := fun x => ⟨x 0, x 1, eq_ix2 x⟩
  refine List.forall_mem_cons.2 ⟨fun x => ?_, List.forall_mem_cons.2 ⟨fun x => ?_, List.forall_mem_cons.2 ⟨fun x => ?_,
    List.forall_mem_cons.2 ⟨fun x => ?_, List.forall_mem_cons.2 ⟨fun x => ?_, fun _ hn => absurd hn List.not_mem_nil⟩⟩⟩⟩⟩
  · obtain ⟨i', l', rfl⟩ := split (a := 4) (b := 256) x
    refine (pay3_apply i' l').trans ?_
    rw [emb_rows 4 _ i' l' (by omega)]
    show _ = p.dc ⟨4 + i'.val, _⟩ (J l')
    unfold Args.dc
    have e : ∀ k < 4, ¬ (4 + i'.val = k) := fun k hk => by omega
    rw [if_neg (e 0 (by omega)), if_neg (e 1 (by omega)), if_neg (e 2 (by omega)), if_neg (e 3 (by omega))]
  · obtain ⟨i', l', rfl⟩ := split (a := 1) (b := 256) x
    obtain rfl : i' = 0 := Subsingleton.elim _ _
    refine (pay2_apply h 0 l').trans ?_
    rw [emb_rows 3 _ 0 l' (by decide)]
    rfl
  · obtain ⟨i', l', rfl⟩ := split (a := 1) (b := 256) x
    obtain rfl : i' = 0 := Subsingleton.elim _ _
    refine (pay1_apply h 0 l').trans ?_
    rw [emb_rows 2 _ 0 l' (by decide)]
    rfl
  · obtain ⟨i', l', rfl⟩ := split (a := 1) (b := 256) x
    obtain rfl : i' = 0 := Subsingleton.elim _ _
    refine (pay26_apply h 0 l').trans ?_
    rw [emb_rows 1 _ 0 l' (by decide)]
    rfl
  · obtain ⟨i', l', rfl⟩ := split (a := 1) (b := 256) x
    obtain rfl : i' = 0 := Subsingleton.elim _ _
    refine (pay25_apply h 0 l').trans ?_
    rw [emb_rows 0 _ 0 l' (by decide)]
    rfl

end Cert.Proof
-- ==== Proof.Arrays.lean ====
/- WHAT THE KERNEL'S SIX RESULT ARRAYS HOLD after its run: the specification's arrays of the program's arguments. -/
module

public import proofs.«01_k».proof.Proof.Block

@[expose] public section

noncomputable section

namespace Cert.Proof

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The program's arguments on device `c`, as arrays. -/
abbrev A0 : FVec Ideal S2048x1024 .f32 := m ((c : Thread nD τ).loc main_arg0)
abbrev A1 : FVec Ideal S2048x1024 .f32 := m ((c : Thread nD τ).loc main_arg1)
abbrev A2 : FVec Ideal S1024x2816 .f32 := m ((c : Thread nD τ).loc main_arg2)
abbrev A3 : FVec Ideal S1024x2816 .f32 := m ((c : Thread nD τ).loc main_arg3)
abbrev A4 : FVec Ideal S3x2816 .f32 := m ((c : Thread nD τ).loc main_arg4)
abbrev A5 : FVec Ideal S2816 .f32 := m ((c : Thread nD τ).loc main_arg5)
abbrev A6 : FVec Ideal S2816x1024 .f32 := m ((c : Thread nD τ).loc main_arg6)

/-- The same, as functions of a row and a column. -/
def kargs : Args where
  x r k := A0 m c (ix2 r k)
  dr r k := A1 m c (ix2 r k)
  wg k j := A2 m c (ix2 k j)
  wu k j := A3 m c (ix2 k j)
  cw i j := A4 m c (ix2 i j)
  cb j := A5 m c (ix1 j)
  wd j k := A6 m c (ix2 j k)

/- The arrays the call reads: the two products, the arguments, the bias as a row. -/

theorem entry_dr (r : Fin 2048) (k : Fin 1024) :
    (V m c main_v2 : FVec Ideal S2048x1024 .bf16) (ix2 r k) = (kargs m c).dr r k := by
  have e : (V m c main_v2 : FVec Ideal S2048x1024 .bf16) = truncf .bf16 (A1 m c) bitsLt_bf16_f32 := by
    simp only [V, hostOps0]
    after_results_simp <;> rfl
  rw [e]; rfl

theorem entry_x (r : Fin 2048) (k : Fin 1024) :
    (V m c main_v3 : FVec Ideal S2048x1024 .bf16) (ix2 r k) = (kargs m c).x r k := by
  have e : (V m c main_v3 : FVec Ideal S2048x1024 .bf16) = truncf .bf16 (A0 m c) bitsLt_bf16_f32 := by
    simp only [V, hostOps0]
    after_results_simp <;> rfl
  rw [e]; rfl

theorem entry_wd (j : Fin 2816) (k : Fin 1024) :
    (V m c main_v4 : FVec Ideal S2816x1024 .bf16) (ix2 j k) = (kargs m c).wd j k := by
  have e : (V m c main_v4 : FVec Ideal S2816x1024 .bf16) = truncf .bf16 (A6 m c) bitsLt_bf16_f32 := by
    simp only [V, hostOps0]
    after_results_simp <;> rfl
  rw [e]; rfl

theorem entry_a (r : Fin 2048) (j : Fin 2816) :
    (V m c main_v0 : FVec Ideal S2048x2816 .f32) (ix2 r j) = (kargs m c).a j r := by
  have e : (V m c main_v0 : FVec Ideal S2048x2816 .f32)
      = Host.dotGeneral dot_S2048x1024_S1024x2816_S2048x2816_1_0_0_1_n_n none (A0 m c) (A2 m c) := by
    simp only [V, hostOps0]
    after_results_simp <;> rfl
  rw [e]
  pointwise
  rfl

theorem entry_u (r : Fin 2048) (j : Fin 2816) :
    (V m c main_v1 : FVec Ideal S2048x2816 .f32) (ix2 r j) = (kargs m c).u j r := by
  have e : (V m c main_v1 : FVec Ideal S2048x2816 .f32)
      = Host.dotGeneral dot_S2048x1024_S1024x2816_S2048x2816_1_0_0_1_n_n none (A0 m c) (A3 m c) := by
    simp only [V, hostOps0]
    after_results_simp <;> rfl
  rw [e]
  pointwise
  rfl

theorem entry_cw (i : Fin 3) (j : Fin 2816) :
    (V m c main_arg4 : FVec Ideal S3x2816 .f32) (ix2 i j) = (kargs m c).cw i j := by
  have e : (V m c main_arg4 : FVec Ideal S3x2816 .f32) = A4 m c := by
    simp only [V, hostOps0]
    after_results_simp <;> rfl
  rw [e]; rfl

theorem entry_cb (i : Fin 1) (j : Fin 2816) :
    (V m c main_v5 : FVec Ideal S1x2816 .f32) (ix2 i j) = (kargs m c).cb j := by
  have e : (V m c main_v5 : FVec Ideal S1x2816 .f32) = broadcastInDim S1x2816 ![1] bcast_S2816_S1x2816_1 (A5 m c) := by
    simp only [V, hostOps0]
    after_results_simp <;> rfl
  rw [e]
  pointwise
  rfl

/-- The channel that line `l` of point `t`'s blocks is. -/
def col (t : Fin cfg0.N) (l : Fin 256) : Fin 2816 :=
  ⟨t.val * 256 + l.val, by have := t.isLt; have : cfg0.N = 11 := N_0; omega⟩

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, t.val] := (by decide +kernel : ∀ t : Fin grid0.N, win0_2.index t = ![0, t.val])
theorem index3 : ∀ t : Fin cfg0.N, win0_3.index t = ![0, t.val] := (by decide +kernel : ∀ t : Fin grid0.N, win0_3.index t = ![0, t.val])
theorem index4 : ∀ t : Fin cfg0.N, win0_4.index t = ![t.val, 0] := (by decide +kernel : ∀ t : Fin grid0.N, win0_4.index t = ![t.val, 0])
theorem index5 : ∀ t : Fin cfg0.N, win0_5.index t = ![0, t.val] := (by decide +kernel : ∀ t : Fin grid0.N, win0_5.index t = ![0, t.val])
theorem index6 : ∀ t : Fin cfg0.N, win0_6.index t = ![0, t.val] := (by decide +kernel : ∀ t : Fin grid0.N, win0_6.index t = ![0, t.val])
theorem index7 : ∀ t : Fin cfg0.N, win0_7.index t = ![0, t.val] := (by decide +kernel : ∀ t : Fin grid0.N, win0_7.index t = ![0, t.val])
theorem index8 : ∀ t : Fin cfg0.N, win0_8.index t = ![0, t.val] := (by decide +kernel : ∀ t : Fin grid0.N, win0_8.index t = ![0, t.val])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])
theorem index11 : ∀ t : Fin cfg0.N, win0_11.index t = ![t.val, 0] := (by decide +kernel : ∀ t : Fin grid0.N, win0_11.index t = ![t.val, 0])
theorem index12 : ∀ t : Fin cfg0.N, win0_12.index t = ![0, t.val] := (by decide +kernel : ∀ t : Fin grid0.N, win0_12.index t = ![0, t.val])

/-- Two indices of a matrix are one when both coordinates, given as block index times block size plus offset, are. -/
theorem eq_of_emb {a b : Nat} (x : (⟨2, ![a, b]⟩ : Shape).Idx) (i : Fin a) (j : Fin b) {I S y : Fin 2 → Nat}
    (hx : ∀ k, (x k : Nat) = I k * S k + y k) (h0 : I 0 * S 0 + y 0 = i.val) (h1 : I 1 * S 1 + y 1 = j.val) : x = ix2 i j := by
  funext k
  match k with
  | ⟨0, _⟩ => exact Fin.ext ((hx 0).trans h0)
  | ⟨1, _⟩ => exact Fin.ext ((hx 1).trans h1)

theorem emb0 (t : Fin cfg0.N) (r : Fin 2048) (l : Fin 1024) : (win0_0.rect t).emb (ix2 r l) = ix2 r l :=
  eq_of_emb (a := 2048) (b := 1024) _ _ _ (I := ![0, 0]) (S := ![2048, 1024]) (y := ![r.val, l.val])
    (fun k => by rw [win0_0.rect_emb_val, index0]; match k with | ⟨0, _⟩ => rfl | ⟨1, _⟩ => rfl) (by simp) (by simp)

theorem emb1 (t : Fin cfg0.N) (r : Fin 2048) (l : Fin 1024) : (win0_1.rect t).emb (ix2 r l) = ix2 r l :=
  eq_of_emb (a := 2048) (b := 1024) _ _ _ (I := ![0, 0]) (S := ![2048, 1024]) (y := ![r.val, l.val])
    (fun k => by rw [win0_1.rect_emb_val, index1]; match k with | ⟨0, _⟩ => rfl | ⟨1, _⟩ => rfl) (by simp) (by simp)

theorem emb2 (t : Fin cfg0.N) (r : Fin 2048) (l : Fin 256) : (win0_2.rect t).emb (ix2 r l) = ix2 r (col t l) :=
  eq_of_emb (a := 2048) (b := 2816) _ _ _ (I := ![0, t.val]) (S := ![2048, 256]) (y := ![r.val, l.val])
    (fun k => by rw [win0_2.rect_emb_val, index2]; match k with | ⟨0, _⟩ => rfl | ⟨1, _⟩ => rfl) (by simp) rfl

theorem emb3 (t : Fin cfg0.N) (r : Fin 2048) (l : Fin 256) : (win0_3.rect t).emb (ix2 r l) = ix2 r (col t l) :=
  eq_of_emb (a := 2048) (b := 2816) _ _ _ (I := ![0, t.val]) (S := ![2048, 256]) (y := ![r.val, l.val])
    (fun k => by rw [win0_3.rect_emb_val, index3]; match k with | ⟨0, _⟩ => rfl | ⟨1, _⟩ => rfl) (by simp) rfl

theorem emb4 (t : Fin cfg0.N) (r : Fin 256) (l : Fin 1024) : (win0_4.rect t).emb (ix2 r l) = ix2 (col t r) l :=
  eq_of_emb (a := 2816) (b := 1024) _ _ _ (I := ![t.val, 0]) (S := ![256, 1024]) (y := ![r.val, l.val])
    (fun k => by rw [win0_4.rect_emb_val, index4]; match k with | ⟨0, _⟩ => rfl | ⟨1, _⟩ => rfl) rfl (by simp)

theorem emb5 (t : Fin cfg0.N) (r : Fin 3) (l : Fin 256) : (win0_5.rect t).emb (ix2 r l) = ix2 r (col t l) :=
  eq_of_emb (a := 3) (b := 2816) _ _ _ (I := ![0, t.val]) (S := ![3, 256]) (y := ![r.val, l.val])
    (fun k => by rw [win0_5.rect_emb_val, index5]; match k with | ⟨0, _⟩ => rfl | ⟨1, _⟩ => rfl) (by simp) rfl

theorem emb6 (t : Fin cfg0.N) (r : Fin 1) (l : Fin 256) : (win0_6.rect t).emb (ix2 r l) = ix2 r (col t l) :=
  eq_of_emb (a := 1) (b := 2816) _ _ _ (I := ![0, t.val]) (S := ![1, 256]) (y := ![r.val, l.val])
    (fun k => by rw [win0_6.rect_emb_val, index6]; match k with | ⟨0, _⟩ => rfl | ⟨1, _⟩ => rfl) (by simp) rfl

theorem emb7 (t : Fin cfg0.N) (r : Fin 2048) (l : Fin 256) : (win0_7.rect t).emb (ix2 r l) = ix2 r (col t l) :=
  eq_of_emb (a := 2048) (b := 2816) _ _ _ (I := ![0, t.val]) (S := ![2048, 256]) (y := ![r.val, l.val])
    (fun k => by rw [win0_7.rect_emb_val, index7]; match k with | ⟨0, _⟩ => rfl | ⟨1, _⟩ => rfl) (by simp) rfl

theorem emb8 (t : Fin cfg0.N) (r : Fin 2048) (l : Fin 256) : (win0_8.rect t).emb (ix2 r l) = ix2 r (col t l) :=
  eq_of_emb (a := 2048) (b := 2816) _ _ _ (I := ![0, t.val]) (S := ![2048, 256]) (y := ![r.val, l.val])
    (fun k => by rw [win0_8.rect_emb_val, index8]; match k with | ⟨0, _⟩ => rfl | ⟨1, _⟩ => rfl) (by simp) rfl

theorem emb9 (t : Fin cfg0.N) (r : Fin 256) (l : Fin 1024) : (win0_9.rect t).emb (ix2 r l) = ix2 (col t r) l :=
  eq_of_emb (a := 2816) (b := 1024) _ _ _ (I := ![t.val, 0]) (S := ![256, 1024]) (y := ![r.val, l.val])
    (fun k => by rw [win0_9.rect_emb_val, index9]; match k with | ⟨0, _⟩ => rfl | ⟨1, _⟩ => rfl) rfl (by simp)

theorem emb10 (t : Fin cfg0.N) (r : Fin 256) (l : Fin 1024) : (win0_10.rect t).emb (ix2 r l) = ix2 (col t r) l :=
  eq_of_emb (a := 2816) (b := 1024) _ _ _ (I := ![t.val, 0]) (S := ![256, 1024]) (y := ![r.val, l.val])
    (fun k => by rw [win0_10.rect_emb_val, index10]; match k with | ⟨0, _⟩ => rfl | ⟨1, _⟩ => rfl) rfl (by simp)

theorem emb11 (t : Fin cfg0.N) (r : Fin 256) (l : Fin 1024) : (win0_11.rect t).emb (ix2 r l) = ix2 (col t r) l :=
  eq_of_emb (a := 2816) (b := 1024) _ _ _ (I := ![t.val, 0]) (S := ![256, 1024]) (y := ![r.val, l.val])
    (fun k => by rw [win0_11.rect_emb_val, index11]; match k with | ⟨0, _⟩ => rfl | ⟨1, _⟩ => rfl) rfl (by simp)

theorem emb12 (t : Fin cfg0.N) (r : Fin 8) (l : Fin 256) : (win0_12.rect t).emb (ix2 r l) = ix2 r (col t l) :=
  eq_of_emb (a := 8) (b := 2816) _ _ _ (I := ![0, t.val]) (S := ![8, 256]) (y := ![r.val, l.val])
    (fun k => by rw [win0_12.rect_emb_val, index12]; match k with | ⟨0, _⟩ => rfl | ⟨1, _⟩ => rfl) (by simp) rfl

/-- So every point reads its own channels of the arguments' arrays. -/
theorem atPoint (t : Fin cfg0.N) : AtPoint m c t (kargs m c) (col t) where
  dr r k := (congrArg (V m c main_v2) (emb0 t r k)).trans (entry_dr m c r k)
  x r k := (congrArg (V m c main_v3) (emb1 t r k)).trans (entry_x m c r k)
  a r l := (congrArg (V m c main_v0) (emb2 t r l)).trans (entry_a m c r (col t l))
  u r l := (congrArg (V m c main_v1) (emb3 t r l)).trans (entry_u m c r (col t l))
  wd l k := (congrArg (V m c main_v4) (emb4 t l k)).trans (entry_wd m c (col t l) k)
  cw i l := (congrArg (V m c main_arg4) (emb5 t i l)).trans (entry_cw m c i (col t l))
  cb i l := (congrArg (V m c main_v5) (emb6 t i l)).trans (entry_cb m c i (col t l))

/-- Every channel is some line of some point's blocks. -/
theorem col_surj (j : Fin 2816) : ∃ t l, col t l = j :=
  ⟨⟨j.val / 256, by have : cfg0.N = 11 := N_0; omega⟩, ⟨j.val % 256, by omega⟩,
    Fin.ext (by show j.val / 256 * 256 + j.val % 256 = j.val; omega)⟩

/- The result arrays, one element at a time: the point that wrote it left the specification's value there. -/

theorem final_da (r : Fin 2048) (j : Fin 2816) :
    ((dats m 0 c).arrAt 7 cfg0.N : FVec Ideal S2048x2816 .bf16) (ix2 r j) = (kargs m c).da j r := by
  obtain ⟨t, l, rfl⟩ := col_surj j
  have e : ((cfg0.win 7).blk t).view.emb (ix2 r l) = _ := emb7 t r l
  have h := (dats m 0 c).arrAt_emb_eq_flushed 7 Value.disjoint7 t (flush0_7 t) (ix2 r l)
  rw [e, Value.flushed7] at h
  exact h.trans (da_block m c t (atPoint m c t) r l)

theorem final_du (r : Fin 2048) (j : Fin 2816) :
    ((dats m 0 c).arrAt 8 cfg0.N : FVec Ideal S2048x2816 .bf16) (ix2 r j) = (kargs m c).du j r := by
  obtain ⟨t, l, rfl⟩ := col_surj j
  have e : ((cfg0.win 8).blk t).view.emb (ix2 r l) = _ := emb8 t r l
  have h := (dats m 0 c).arrAt_emb_eq_flushed 8 Value.disjoint8 t (flush0_8 t) (ix2 r l)
  rw [e, Value.flushed8] at h
  exact h.trans (du_block m c t (atPoint m c t) r l)

theorem final_dwd (j : Fin 2816) (k : Fin 1024) :
    ((dats m 0 c).arrAt 9 cfg0.N : FVec Ideal S2816x1024 .bf16) (ix2 j k) = (kargs m c).dwd j k := by
  obtain ⟨t, l, rfl⟩ := col_surj j
  have e : ((cfg0.win 9).blk t).view.emb (ix2 l k) = _ := emb9 t l k
  have h := (dats m 0 c).arrAt_emb_eq_flushed 9 Value.disjoint9 t (flush0_9 t) (ix2 l k)
  rw [e, Value.flushed9] at h
  exact h.trans (dwd_block m c t (atPoint m c t) l k)

theorem final_dwg (j : Fin 2816) (k : Fin 1024) :
    ((dats m 0 c).arrAt 10 cfg0.N : FVec Ideal S2816x1024 .bf16) (ix2 j k) = (kargs m c).dwg j k := by
  obtain ⟨t, l, rfl⟩ := col_surj j
  have e : ((cfg0.win 10).blk t).view.emb (ix2 l k) = _ := emb10 t l k
  have h := (dats m 0 c).arrAt_emb_eq_flushed 10 Value.disjoint10 t (flush0_10 t) (ix2 l k)
  rw [e, Value.flushed10] at h
  exact h.trans (dwg_block m c t (atPoint m c t) l k)

theorem final_dwu (j : Fin 2816) (k : Fin 1024) :
    ((dats m 0 c).arrAt 11 cfg0.N : FVec Ideal S2816x1024 .bf16) (ix2 j k) = (kargs m c).dwu j k := by
  obtain ⟨t, l, rfl⟩ := col_surj j
  have e : ((cfg0.win 11).blk t).view.emb (ix2 l k) = _ := emb11 t l k
  have h := (dats m 0 c).arrAt_emb_eq_flushed 11 Value.disjoint11 t (flush0_11 t) (ix2 l k)
  rw [e, Value.flushed11] at h
  exact h.trans (dwu_block m c t (atPoint m c t) l k)

theorem final_dc (i : Fin 8) (j : Fin 2816) :
    ((dats m 0 c).arrAt 12 cfg0.N : FVec Ideal S8x2816 .f32) (ix2 i j) = (kargs m c).dc i j := by
  obtain ⟨t, l, rfl⟩ := col_surj j
  have e : ((cfg0.win 12).blk t).view.emb (ix2 i l) = _ := emb12 t i l
  have h := (dats m 0 c).arrAt_emb_eq_flushed 12 Value.disjoint12 t (flush0_12 t) (ix2 i l)
  rw [e, Value.flushed12] at h
  exact h.trans (dc_block m c t (atPoint m c t) i l)

end Cert.Proof
-- ==== Proof.RefRegion.lean ====
/- WHAT THE REFERENCE'S KERNEL REGION LEAVES — GELU times the up product, and its two cotangents — in terms of the
   reference's arguments: the specification's activation, the cotangent of the convolved gate and that of the up product. -/
module

public import proofs.«01_k».proof.Proof.Gen.ReferenceIdeal.Run
public import proofs.«01_k».proof.Proof.Gelu
public import Idealize.ShloMosaic.Lib.Pointwise

@[expose] public section

noncomputable section

namespace Cert.Proof.Ref

open Cert.ReferenceIdeal Cert.ReferenceIdeal.Gen
open Idealize.ShloMosaic Idealize.ShloMosaic.TcCoe Idealize.ShloMosaic.StableHlo

variable (m : (ℓ : Loc nD τ sig) → Buf (Elt Ideal) ℓ) (c : Dev nD)

/-- The program's arguments on device `c`, as arrays. -/
abbrev A0 : FVec Ideal S2048x1024 .f32 := m ((c : Thread nD τ).loc main_arg0)
abbrev A1 : FVec Ideal S2048x1024 .f32 := m ((c : Thread nD τ).loc main_arg1)
abbrev A2 : FVec Ideal S1024x2816 .f32 := m ((c : Thread nD τ).loc main_arg2)
abbrev A3 : FVec Ideal S1024x2816 .f32 := m ((c : Thread nD τ).loc main_arg3)
abbrev A4 : FVec Ideal S3x2816 .f32 := m ((c : Thread nD τ).loc main_arg4)
abbrev A5 : FVec Ideal S2816 .f32 := m ((c : Thread nD τ).loc main_arg5)
abbrev A6 : FVec Ideal S2816x1024 .f32 := m ((c : Thread nD τ).loc main_arg6)

/-- The same, as functions of a row and a column. -/
def args : Args where
  x r k := A0 m c (ix2 r k)
  dr r k := A1 m c (ix2 r k)
  wg k j := A2 m c (ix2 k j)
  wu k j := A3 m c (ix2 k j)
  cw i j := A4 m c (ix2 i j)
  cb j := A5 m c (ix1 j)
  wd j k := A6 m c (ix2 j k)

/-- The gate product below two rows of zeros, read `2 - k` rows down: the gate `k` rows earlier. -/
abbrev padded : FVec Ideal S2050x2816 .f32 :=
  concatenate S2050x2816 0 [⟨S2x2816, broadcastInDim S2x2816 ![] bcast_S_S2x2816 (constant S_ .f32 0x00000000#32)⟩,
    ⟨S2048x2816, Host.dotGeneral dot_S2048x1024_S1024x2816_S2048x2816_1_0_0_1_n_n none (A0 m c) (A2 m c)⟩]
    concatenates_S2x2816_S2048x2816_S2050x2816_d0

/-- Reading below two rows of zeros from `s` rows down (row `i`) is reading `2 - s` rows earlier. -/
theorem dite_late (k : Nat) (f : Fin 2048 → EReal) (r : Fin 2048) (i : Nat) (hi : i + k = r.val + 2) (h' : ¬ i < 2 → i - 2 < 2048) :
    (if h : i < 2 then 0 else f ⟨i - 2, h' h⟩) = late k f r := by
  unfold late
  by_cases h : i < 2
  · rw [dif_pos h, if_neg (by omega)]
  · rw [dif_neg h, if_pos (by omega)]
    congr 1
    exact Fin.ext (by show i - 2 = r.val - k; omega)

theorem late2_eq (r : Fin 2048) (j : Fin 2816) :
    extractStridedSlice S2048x2816 ![0, 0] (padded m c) slices_S2050x2816_S2048x2816_0_0 (ix2 r j) = late 2 ((args m c).a j) r := by
  unfold padded
  pointwise
  exact dite_late 2 ((args m c).a j) r r.val rfl (by omega)

theorem late1_eq (r : Fin 2048) (j : Fin 2816) :
    extractStridedSlice S2048x2816 ![1, 0] (padded m c) slices_S2050x2816_S2048x2816_1_0 (ix2 r j) = late 1 ((args m c).a j) r := by
  unfold padded
  pointwise
  exact dite_late 1 ((args m c).a j) r (1 + r.val) (by omega) (by omega)

theorem late0_eq (r : Fin 2048) (j : Fin 2816) :
    extractStridedSlice S2048x2816 ![2, 0] (padded m c) slices_S2050x2816_S2048x2816_2_0 (ix2 r j) = (args m c).a j r := by
  unfold padded
  pointwise
  rfl

/-- Row `i` of the taps, along every row. -/
abbrev tap (i : Nat) (h : S3x2816.Slices ![i, 0] S1x2816) : FVec Ideal S2048x2816 .f32 :=
  broadcastInDim S2048x2816 ![0, 1] bcast_S1x2816_S2048x2816_0_1 (broadcastInDim S1x2816 ![1] bcast_S2816_S1x2816_1
    (shapeCast _ (extractStridedSlice S1x2816 ![i, 0] (A4 m c) h) shapeCasts_S1x2816_S2816))

theorem tap_eq (i : Fin 3) (h : S3x2816.Slices ![i.val, 0] S1x2816) (r : Fin 2048) (j : Fin 2816) :
    tap m c i.val h (ix2 r j) = (args m c).cw i j := by
  unfold tap
  pointwise
  rfl

theorem entry_u (r : Fin 2048) (j : Fin 2816) :
    (V m c main_v1 : FVec Ideal S2048x2816 .f32) (ix2 r j) = (args m c).u j r := by
  have e : (V m c main_v1 : FVec Ideal S2048x2816 .f32)
      = Host.dotGeneral dot_S2048x1024_S1024x2816_S2048x2816_1_0_0_1_n_n none (A0 m c) (A3 m c) := by
    show V0 m c (Proc.devRef .tc main_v1) = _
    simp only [V0, hostOps0, List.flatten_cons, List.flatten_nil, List.append_nil, List.cons_append, List.nil_append]
    after_results_simp <;> rfl
  rw [e]
  pointwise
  rfl

theorem entry_dy (r : Fin 2048) (j : Fin 2816) :
    (V m c main_v32 : FVec Ideal S2048x2816 .f32) (ix2 r j) = (args m c).dy j r := by
  have e : (V m c main_v32 : FVec Ideal S2048x2816 .f32)
      = Host.dotGeneral dot_S2048x1024_S2816x1024_S2048x2816_1_1_0_0_n_n none (A1 m c) (A6 m c) := by
    show V0 m c (Proc.devRef .tc main_v32) = _
    simp only [V0, hostOps0, List.flatten_cons, List.flatten_nil, List.append_nil, List.cons_append, List.nil_append]
    after_results_simp <;> rfl
  rw [e]
  pointwise
  rfl

set_option maxHeartbeats 2000000 in
theorem V_ac : (V m c main_v29 : FVec Ideal S2048x2816 .f32) = addf (F := Ideal) (φ := .f32) (s := S2048x2816) (addf (addf (addf
      (broadcastInDim S2048x2816 ![] bcast_S_S2048x2816 (constant S_ .f32 0x00000000#32))
      (mulf (extractStridedSlice S2048x2816 ![0, 0] (padded m c) slices_S2050x2816_S2048x2816_0_0) (tap m c 0 slices_S3x2816_S1x2816_0_0)))
      (mulf (extractStridedSlice S2048x2816 ![1, 0] (padded m c) slices_S2050x2816_S2048x2816_1_0) (tap m c 1 slices_S3x2816_S1x2816_1_0)))
      (mulf (extractStridedSlice S2048x2816 ![2, 0] (padded m c) slices_S2050x2816_S2048x2816_2_0) (tap m c 2 slices_S3x2816_S1x2816_2_0)))
      (broadcastInDim S2048x2816 ![0, 1] bcast_S1x2816_S2048x2816_0_1 (broadcastInDim S1x2816 ![1] bcast_S2816_S1x2816_1 (A5 m c))) := by
  show V0 m c (Proc.devRef .tc main_v29) = _
  simp only [V0, hostOps0, List.flatten_cons, List.flatten_nil, List.append_nil, List.cons_append, List.nil_append]
  after_results_simp <;> rfl

theorem conv_eq (w0 w1 w2 b : EReal) (f : Fin 2048 → EReal) (r : Fin 2048) :
    0 + late 2 f r * w0 + late 1 f r * w1 + f r * w2 + b = conv w0 w1 w2 b f r := by
  unfold conv
  rw [zero_add, mul_comm _ w0, mul_comm _ w1, mul_comm _ w2]
  congr 1
  rw [add_comm, ← add_assoc, add_right_comm, add_comm (w2 * f r), add_right_comm, add_comm (w1 * late 1 f r)]

theorem entry_ac (r : Fin 2048) (j : Fin 2816) :
    (V m c main_v29 : FVec Ideal S2048x2816 .f32) (ix2 r j) = (args m c).ac j r := by
  rw [V_ac]
  unfold Args.ac
  rw [← conv_eq, ← late2_eq m c, ← late1_eq m c, ← late0_eq m c, ← tap_eq m c 0 slices_S3x2816_S1x2816_0_0 r,
    ← tap_eq m c 1 slices_S3x2816_S1x2816_1_0 r, ← tap_eq m c 2 slices_S3x2816_S1x2816_2_0 r]
  generalize extractStridedSlice S2048x2816 ![0, 0] (padded m c) slices_S2050x2816_S2048x2816_0_0 = p2
  generalize extractStridedSlice S2048x2816 ![1, 0] (padded m c) slices_S2050x2816_S2048x2816_1_0 = p1
  generalize extractStridedSlice S2048x2816 ![2, 0] (padded m c) slices_S2050x2816_S2048x2816_2_0 = p0
  pointwise
  rfl

/- The region's one point reads the three arrays whole and writes its three results whole. -/

theorem index_zero : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0])

/-- An index of a matrix at the block index zero is the block's own. -/
theorem eq_of_emb {a b : Nat} (x : (⟨2, ![a, b]⟩ : Shape).Idx) (i : Fin a) (j : Fin b) {I S : Fin 2 → Nat} (hI : I = ![0, 0])
    (hx : ∀ k, (x k : Nat) = I k * S k + ![i.val, j.val] k) : x = ix2 i j := by
  subst hI
  funext k
  match k with
  | ⟨0, _⟩ => exact Fin.ext ((hx 0).trans (by simp))
  | ⟨1, _⟩ => exact Fin.ext ((hx 1).trans (by simp))

theorem emb0 (t : Fin cfg0.N) (r : Fin 2048) (j : Fin 2816) : (win0_0.rect t).emb (ix2 r j) = ix2 r j :=
  eq_of_emb (a := 2048) (b := 2816) _ _ _ (index_zero t).1 (S := ![2048, 2816])
    fun k => by rw [win0_0.rect_emb_val]; match k with | ⟨0, _⟩ => rfl | ⟨1, _⟩ => rfl
theorem emb1 (t : Fin cfg0.N) (r : Fin 2048) (j : Fin 2816) : (win0_1.rect t).emb (ix2 r j) = ix2 r j :=
  eq_of_emb (a := 2048) (b := 2816) _ _ _ (index_zero t).2.1 (S := ![2048, 2816])
    fun k => by rw [win0_1.rect_emb_val]; match k with | ⟨0, _⟩ => rfl | ⟨1, _⟩ => rfl
theorem emb2 (t : Fin cfg0.N) (r : Fin 2048) (j : Fin 2816) : (win0_2.rect t).emb (ix2 r j) = ix2 r j :=
  eq_of_emb (a := 2048) (b := 2816) _ _ _ (index_zero t).2.2.1 (S := ![2048, 2816])
    fun k => by rw [win0_2.rect_emb_val]; match k with | ⟨0, _⟩ => rfl | ⟨1, _⟩ => rfl
theorem emb3 (t : Fin cfg0.N) (r : Fin 2048) (j : Fin 2816) : (win0_3.rect t).emb (ix2 r j) = ix2 r j :=
  eq_of_emb (a := 2048) (b := 2816) _ _ _ (index_zero t).2.2.2.1 (S := ![2048, 2816])
    fun k => by rw [win0_3.rect_emb_val]; match k with | ⟨0, _⟩ => rfl | ⟨1, _⟩ => rfl
theorem emb4 (t : Fin cfg0.N) (r : Fin 2048) (j : Fin 2816) : (win0_4.rect t).emb (ix2 r j) = ix2 r j :=
  eq_of_emb (a := 2048) (b := 2816) _ _ _ (index_zero t).2.2.2.2.1 (S := ![2048, 2816])
    fun k => by rw [win0_4.rect_emb_val]; match k with | ⟨0, _⟩ => rfl | ⟨1, _⟩ => rfl
theorem emb5 (t : Fin cfg0.N) (r : Fin 2048) (j : Fin 2816) : (win0_5.rect t).emb (ix2 r j) = ix2 r j :=
  eq_of_emb (a := 2048) (b := 2816) _ _ _ (index_zero t).2.2.2.2.2 (S := ![2048, 2816])
    fun k => by rw [win0_5.rect_emb_val]; match k with | ⟨0, _⟩ => rfl | ⟨1, _⟩ => rfl

/-- There is one point, so no two distinct ones write one element. -/
theorem one (t t' : Fin cfg0.N) : t = t' := by have := t.isLt; have := t'.isLt; have : cfg0.N = 1 := N_0; exact Fin.ext (by omega)
theorem one3 : ∀ t t' : Fin cfg0.N, (cfg0.win 3).flush t = true → (cfg0.win 3).flush t' = true → t ≠ t' →
    Disjoint ((cfg0.win 3).blk t).view.set ((cfg0.win 3).blk t').view.set := fun t t' _ _ hn => absurd (one t t') hn
theorem one4 : ∀ t t' : Fin cfg0.N, (cfg0.win 4).flush t = true → (cfg0.win 4).flush t' = true → t ≠ t' →
    Disjoint ((cfg0.win 4).blk t).view.set ((cfg0.win 4).blk t').view.set := fun t t' _ _ hn => absurd (one t t') hn
theorem one5 : ∀ t t' : Fin cfg0.N, (cfg0.win 5).flush t = true → (cfg0.win 5).flush t' = true → t ≠ t' →
    Disjoint ((cfg0.win 5).blk t).view.set ((cfg0.win 5).blk t').view.set := fun t t' _ _ hn => absurd (one t t') hn

theorem named_root_half : (Named.named (F := Ideal) Cert.ReferenceIdeal.κ "root_half" 0x3F3504F3#32 : Ideal .f32) = rootHalf :=
  IdealRules.named_const.ideal_named_scalar _ _ _ _ rfl

theorem named_erf_slope : (Named.named (F := Ideal) Cert.ReferenceIdeal.κ "erf_slope" 0x3F906EBB#32 : Ideal .f32) = slope :=
  IdealRules.named_const.ideal_named_scalar _ _ _ _ rfl

/-- What the region is given. -/
structure Given (p : Args) (x0 x1 x2 : Vec Ideal S2048x2816 .f32) : Prop where
  ac : ∀ r j, x0 (ix2 r j) = p.ac j r
  u : ∀ r j, x1 (ix2 r j) = p.u j r
  dy : ∀ r j, x2 (ix2 r j) = p.dy j r

variable {p : Args} {x0 x1 x2 : Vec Ideal S2048x2816 .f32}

theorem pay7_apply (h : Given p x0 x1 x2) (r : Fin 2048) (j : Fin 2816) :
    (k0_pay7 (F := Ideal) x0 x1 : S2048x2816.Idx → EReal) (ix2 r j) = p.act j r := by
  pointwise [k0_pay7, k0_pay6, k0_pay5, k0_pay4, k0_pay3, k0_pay2, k0_pay1]
  rw [h.ac, h.u, named_root_half, ofBits_half, Args.act, ← gelu_eq]
  rfl

theorem pay9_apply (h : Given p x0 x1 x2) (r : Fin 2048) (j : Fin 2816) :
    (k0_pay9 (F := Ideal) x0 x2 : S2048x2816.Idx → EReal) (ix2 r j) = p.du j r := by
  pointwise [k0_pay9, k0_pay8, k0_pay6, k0_pay5, k0_pay4, k0_pay3, k0_pay1]
  rw [h.ac, h.dy, named_root_half, ofBits_half, Args.du, ← gelu_eq]
  exact mul_comm _ _

theorem pay10_apply (h : Given p x0 x1 x2) (hp : p.Finite) (r : Fin 2048) (j : Fin 2816) :
    (k0_pay10 (F := Ideal) x0 x1 x2 : S2048x2816.Idx → EReal) (ix2 r j) = p.dac j r := by
  pointwise [k0_pay10, k0_pay8, k0_pay5, k0_pay4, k0_pay3, k0_pay2, k0_pay1]
  rw [h.ac, h.u, h.dy, named_root_half, named_erf_slope, ofBits_half]
  exact gelu'_eq (hp.ac j r) (hp.dy j r) (hp.u j r)

theorem iblk_ac (t : Fin cfg0.N) (r : Fin 2048) (j : Fin 2816) :
    (iblk m c 0 t : Vec Ideal S2048x2816 .f32) (ix2 r j) = (args m c).ac j r :=
  (congrArg (V m c main_v29) (emb0 t r j)).trans (entry_ac m c r j)
theorem iblk_u (t : Fin cfg0.N) (r : Fin 2048) (j : Fin 2816) :
    (iblk m c 1 t : Vec Ideal S2048x2816 .f32) (ix2 r j) = (args m c).u j r :=
  (congrArg (V m c main_v1) (emb1 t r j)).trans (entry_u m c r j)
theorem iblk_dy (t : Fin cfg0.N) (r : Fin 2048) (j : Fin 2816) :
    (iblk m c 2 t : Vec Ideal S2048x2816 .f32) (ix2 r j) = (args m c).dy j r :=
  (congrArg (V m c main_v32) (emb2 t r j)).trans (entry_dy m c r j)

theorem given (t : Fin cfg0.N) : Given (args m c) (iblk m c 0 t) (iblk m c 1 t) (iblk m c 2 t) :=
  ⟨iblk_ac m c t, iblk_u m c t, iblk_dy m c t⟩

theorem zero2 : (![0, 0] : Fin 2 → Nat) = fun _ => 0 := by
  funext i; fin_cases i <;> rfl

theorem region_act (r : Fin 2048) (j : Fin 2816) :
    (Value.reg_main_v33_0 m c : FVec Ideal S2048x2816 .f32) (ix2 r j) = (args m c).act j r := by
  have e : ((cfg0.win 3).blk t0_0).view.emb (ix2 r j) = _ := emb3 t0_0 r j
  have h := (dats m 0 c).arrAt_emb_eq_flushed 3 one3 t0_0 (flush0_3 t0_0) (ix2 r j)
  rw [e] at h
  refine h.trans ?_
  show (dats m 0 c).after 3 t0_0 (ix2 r j) = _
  rw [after0_3]
  unfold out0_3
  rw [View.canon_unit_zero zero2, View.ld_unit_zero zero2, View.ld_unit_zero zero2]
  exact pay7_apply (given m c t0_0) r j

theorem region_dac (hp : (args m c).Finite) (r : Fin 2048) (j : Fin 2816) :
    (Value.reg_main_v33_1 m c : FVec Ideal S2048x2816 .f32) (ix2 r j) = (args m c).dac j r := by
  have e : ((cfg0.win 4).blk t0_0).view.emb (ix2 r j) = _ := emb4 t0_0 r j
  have h := (dats m 0 c).arrAt_emb_eq_flushed 4 one4 t0_0 (flush0_4 t0_0) (ix2 r j)
  rw [e] at h
  refine h.trans ?_
  show (dats m 0 c).after 4 t0_0 (ix2 r j) = _
  rw [after0_4]
  unfold out0_4
  rw [View.canon_unit_zero zero2, View.ld_unit_zero zero2, View.ld_unit_zero zero2, View.ld_unit_zero zero2]
  exact pay10_apply (given m c t0_0) hp r j

theorem region_du (r : Fin 2048) (j : Fin 2816) :
    (Value.reg_main_v33_2 m c : FVec Ideal S2048x2816 .f32) (ix2 r j) = (args m c).du j r := by
  have e : ((cfg0.win 5).blk t0_0).view.emb (ix2 r j) = _ := emb5 t0_0 r j
  have h := (dats m 0 c).arrAt_emb_eq_flushed 5 one5 t0_0 (flush0_5 t0_0) (ix2 r j)
  rw [e] at h
  refine h.trans ?_
  show (dats m 0 c).after 5 t0_0 (ix2 r j) = _
  rw [after0_5]
  unfold out0_5
  rw [View.canon_unit_zero zero2, View.ld_unit_zero zero2, View.ld_unit_zero zero2]
  exact pay9_apply (given m c t0_0) r j

end Cert.Proof.Ref
-- ==== Proof.RefResults.lean ====
/- WHAT THE REFERENCE'S SIX RESULTS HOLD, element by element: the specification's arrays of its arguments. -/
module

public import proofs.«01_k».proof.Proof.RefRegion

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo

variable (m : (ℓ : Loc nD τ sig) → Buf (Elt Ideal) ℓ) (c : Dev nD)

/-- The transposed convolution as the reference spells it: three products padded to two more rows, summed, the first two rows
    dropped. -/
theorem convT_apply (d : FVec Ideal S2048x2816 .f32) (w0 w1 w2 : FVec Ideal S1x2816 .f32) (r : Fin 2048) (j : Fin 2816) :
    (extractStridedSlice S2048x2816 ![2, 0] (addf (F := Ideal) (s := S2050x2816) (φ := .f32) (addf
      (pad S2050x2816 ![2, 0] ![0, 0] ![0, 0] (mulf d (broadcastInDim S2048x2816 ![0, 1] bcast_S1x2816_S2048x2816_0_1 w2)) (constant S_ .f32 0x00000000#32) pads_S2048x2816_S2050x2816_200_000 h_S_)
      (pad S2050x2816 ![1, 0] ![1, 0] ![0, 0] (mulf d (broadcastInDim S2048x2816 ![0, 1] bcast_S1x2816_S2048x2816_0_1 w1)) (constant S_ .f32 0x00000000#32) pads_S2048x2816_S2050x2816_110_000 h_S_))
      (pad S2050x2816 ![0, 0] ![2, 0] ![0, 0] (mulf d (broadcastInDim S2048x2816 ![0, 1] bcast_S1x2816_S2048x2816_0_1 w0)) (constant S_ .f32 0x00000000#32) pads_S2048x2816_S2050x2816_020_000 h_S_))
      slices_S2050x2816_S2048x2816_2_0 : S2048x2816.Idx → EReal) (ix2 r j)
    = convT (w0 (ix2 0 j)) (w1 (ix2 0 j)) (w2 (ix2 0 j)) (fun r => d (ix2 r j)) r := by
  pointwise
  unfold convT early
  rw [mul_comm (d (ix2 r j)), mul_comm (w1 (ix2 0 j)), mul_comm (w0 (ix2 0 j))]
  congr 1
  · congr 1
    by_cases h : r.val + 1 < 2048
    · rw [dif_pos (by omega), dif_pos h]
      congr 3
      exact Fin.ext (by show 2 + r.val - 1 = r.val + 1; omega)
    · rw [dif_neg (by omega), dif_neg h, zero_mul]
  · by_cases h : r.val + 2 < 2048
    · rw [dif_pos (by omega), dif_pos h]
      congr 3
      exact Fin.ext (by show 2 + r.val = r.val + 2; omega)
    · rw [dif_neg (by omega), dif_neg h, zero_mul]

/-- The sums of a matrix's columns, as a row. -/
abbrev sums (x : FVec Ideal S2048x2816 .f32) : FVec Ideal S1x2816 .f32 :=
  broadcastInDim S1x2816 ![1] bcast_S2816_S1x2816_1 (Host.reduceAdd (shapeCast S1x2816 (Host.reduceAdd x (constant S_ .f32 0x00000000#32) reducesTo_S2048x2816_S2816_d0 h_S_) shapeCasts_S2816_S1x2816) (constant S_ .f32 0x00000000#32) reducesTo_S1x2816_S2816_d0 h_S_)

theorem sums_apply (x : FVec Ideal S2048x2816 .f32) (j : Fin 2816) : (sums x : S1x2816.Idx → EReal) (ix2 0 j) = ∑ r : Fin 2048, x (ix2 r j) := by
  unfold sums
  pointwise
  exact Fin.sum_univ_one _

theorem dc_apply (s0 s1 s2 s3 : FVec Ideal S1x2816 .f32) (i : Fin 8) (j : Fin 2816) :
    (concatenate S8x2816 0 [⟨S3x2816, (addf (F := Ideal) (s := S3x2816) (φ := .f32) (addf
      (pad S3x2816 ![2, 0] ![0, 0] ![0, 0] s2 (constant S_ .f32 0x00000000#32) pads_S1x2816_S3x2816_200_000 h_S_)
      (pad S3x2816 ![1, 0] ![1, 0] ![0, 0] s1 (constant S_ .f32 0x00000000#32) pads_S1x2816_S3x2816_110_000 h_S_))
      (pad S3x2816 ![0, 0] ![2, 0] ![0, 0] s0 (constant S_ .f32 0x00000000#32) pads_S1x2816_S3x2816_020_000 h_S_) : FVec Ideal S3x2816 .f32)⟩,
      ⟨S1x2816, s3⟩, ⟨S4x2816, (broadcastInDim S4x2816 ![] bcast_S_S4x2816 (constant (F := Ideal) S_ .f32 0x00000000#32) : FVec Ideal S4x2816 .f32)⟩]
      concatenates_S3x2816_S1x2816_S4x2816_S8x2816_d0 : S8x2816.Idx → EReal) (ix2 i j)
    = if i.val = 0 then s0 (ix2 0 j) else if i.val = 1 then s1 (ix2 0 j) else if i.val = 2 then s2 (ix2 0 j)
      else if i.val = 3 then s3 (ix2 0 j) else 0 := by
  pointwise
  fin_cases i <;> simp

theorem dac_eq (hp : (args m c).Finite) (r : Fin 2048) (j : Fin 2816) :
    (exitV m c (Proc.devRef .tc main_v33_1) : FVec Ideal S2048x2816 .f32) (ix2 r j) = (args m c).dac j r :=
  (congrFun (exit_main_v33_1 m c) _).trans (region_dac m c hp r j)

theorem du_eq (r : Fin 2048) (j : Fin 2816) :
    (exitV m c (Proc.devRef .tc main_v33_2) : FVec Ideal S2048x2816 .f32) (ix2 r j) = (args m c).du j r :=
  (congrFun (exit_main_v33_2 m c) _).trans (region_du m c r j)

theorem act_eq (r : Fin 2048) (j : Fin 2816) :
    (exitV m c (Proc.devRef .tc main_v33_0) : FVec Ideal S2048x2816 .f32) (ix2 r j) = (args m c).act j r :=
  (congrFun (exit_main_v33_0 m c) _).trans (region_act m c r j)

theorem tap0_eq (j : Fin 2816) : (exitV m c (Proc.devRef .tc main_v8) : FVec Ideal S1x2816 .f32) (ix2 0 j) = (args m c).cw 0 j := by
  rw [exit_main_v8]; pointwise; rfl
theorem tap1_eq (j : Fin 2816) : (exitV m c (Proc.devRef .tc main_v16) : FVec Ideal S1x2816 .f32) (ix2 0 j) = (args m c).cw 1 j := by
  rw [exit_main_v16]; pointwise; rfl
theorem tap2_eq (j : Fin 2816) : (exitV m c (Proc.devRef .tc main_v23) : FVec Ideal S1x2816 .f32) (ix2 0 j) = (args m c).cw 2 j := by
  rw [exit_main_v23]; pointwise; rfl

theorem da_eq (hp : (args m c).Finite) (r : Fin 2048) (j : Fin 2816) :
    (res_main_v72 (exitV m c) : FVec Ideal S2048x2816 .f32) (ix2 r j) = (args m c).da j r := by
  refine (convT_apply _ _ _ _ r j).trans ?_
  rw [tap0_eq, tap1_eq, tap2_eq]
  unfold Args.da
  congr 1
  funext r
  exact dac_eq m c hp r j

/-- The gradients of the weights as the reference takes them: the transposes of products, in either order. -/
theorem dwd_apply (x : FVec Ideal S2048x1024 .f32) (y : FVec Ideal S2048x2816 .f32) (j : Fin 2816) (k : Fin 1024) :
    (truncf .bf16 (transpose S2816x1024 [1, 0] (Host.dotGeneral (φ₁ := .f32) (φ₂ := .f32) dot_S2048x1024_S2048x2816_S1024x2816_0_0_1_1_n_n none
      x y) transposes_S1024x2816_S2816x1024_1_0) bitsLt_bf16_f32 : FVec Ideal S2816x1024 .bf16) (ix2 j k)
    = ∑ r : Fin 2048, y (ix2 r j) * x (ix2 r k) := by
  pointwise
  exact Finset.sum_congr rfl fun _ _ => mul_comm _ _

theorem dw_apply (x : FVec Ideal S2048x1024 .f32) (y : FVec Ideal S2048x2816 .f32) (j : Fin 2816) (k : Fin 1024) :
    (truncf .bf16 (transpose S2816x1024 [1, 0] (transpose S1024x2816 [1, 0] (Host.dotGeneral (φ₁ := .f32) (φ₂ := .f32)
      dot_S2048x2816_S2048x1024_S2816x1024_0_0_1_1_n_n none y x) transposes_S2816x1024_S1024x2816_1_0) transposes_S1024x2816_S2816x1024_1_0)
      bitsLt_bf16_f32 : FVec Ideal S2816x1024 .bf16) (ix2 j k) = ∑ r : Fin 2048, y (ix2 r j) * x (ix2 r k) := by
  pointwise

/- The tap gradients' shifted gate, as the reference reads it back after the region. -/
theorem shift0_eq (r : Fin 2048) (j : Fin 2816) :
    (exitV m c (Proc.devRef .tc main_v5) : FVec Ideal S2048x2816 .f32) (ix2 r j) = late 2 ((args m c).a j) r := by
  rw [exit_main_v5]; exact late2_eq m c r j
theorem shift1_eq (r : Fin 2048) (j : Fin 2816) :
    (exitV m c (Proc.devRef .tc main_v13) : FVec Ideal S2048x2816 .f32) (ix2 r j) = late 1 ((args m c).a j) r := by
  rw [exit_main_v13]; exact late1_eq m c r j
theorem shift2_eq (r : Fin 2048) (j : Fin 2816) :
    (exitV m c (Proc.devRef .tc main_v20) : FVec Ideal S2048x2816 .f32) (ix2 r j) = (args m c).a j r := by
  rw [exit_main_v20]; exact late0_eq m c r j

/-- Column sums of a product of two arrays. -/
theorem sums_mul (x y : FVec Ideal S2048x2816 .f32) (f g : Fin 2048 → EReal) (j : Fin 2816) (hx : ∀ r, x (ix2 r j) = f r)
    (hy : ∀ r, y (ix2 r j) = g r) : (sums (mulf x y) : S1x2816.Idx → EReal) (ix2 0 j) = ∑ r, g r * f r := by
  rw [sums_apply]
  refine Finset.sum_congr rfl fun r _ => ?_
  pointwise
  rw [hx, hy, mul_comm]

/-- What the reference's results hold. -/
theorem run_args (ρ : Dev nD → PrngReg) (hp : ∀ c, (args m c).Finite) :
    θ_run defs (onTc (τ := τ) (main (F := Ideal))) ⟨m, fun _ => 0, ρ⟩ fun r => ∀ c : Dev nD,
      (∀ i j, (r.2.mem ((c.tc : Thread nD τ).loc main_v80) : FVec Ideal S2048x2816 .bf16) (ix2 i j) = (args m c).da j i)
      ∧ (∀ i j, (r.2.mem ((c.tc : Thread nD τ).loc main_v81) : FVec Ideal S2048x2816 .bf16) (ix2 i j) = (args m c).du j i)
      ∧ (∀ j k, (r.2.mem ((c.tc : Thread nD τ).loc main_v82) : FVec Ideal S2816x1024 .bf16) (ix2 j k) = (args m c).dwd j k)
      ∧ (∀ j k, (r.2.mem ((c.tc : Thread nD τ).loc main_v84) : FVec Ideal S2816x1024 .bf16) (ix2 j k) = (args m c).dwg j k)
      ∧ (∀ j k, (r.2.mem ((c.tc : Thread nD τ).loc main_v86) : FVec Ideal S2816x1024 .bf16) (ix2 j k) = (args m c).dwu j k)
      ∧ (∀ i j, (r.2.mem ((c.tc : Thread nD τ).loc main_v79) : FVec Ideal S8x2816 .f32) (ix2 i j) = (args m c).dc i j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run m ρ)
  obtain ⟨h80, h81, h82, h84, h86, h79, hargs⟩ := h c
  refine ⟨fun i j => (congrFun h80 _).trans (da_eq m c (hp c) i j), fun i j => (congrFun h81 _).trans (du_eq m c i j),
    fun j k => (congrFun h82 _).trans ((dwd_apply _ _ j k).trans ?_), fun j k => (congrFun h84 _).trans ((dw_apply _ _ j k).trans ?_),
    fun j k => (congrFun h86 _).trans ((dw_apply _ _ j k).trans ?_), fun i j => (congrFun h79 _).trans ((dc_apply _ _ _ _ i j).trans ?_),
    hargs⟩
  · rw [exit_main_arg1]
    exact Finset.sum_congr rfl fun r _ => congrArg (· * _) (act_eq m c r j)
  · rw [exit_main_arg0]
    exact Finset.sum_congr rfl fun r _ => congrArg (· * _) (da_eq m c (hp c) r j)
  · rw [exit_main_arg0]
    exact Finset.sum_congr rfl fun r _ => congrArg (· * _) (du_eq m c r j)
  · unfold Args.dc
    have e (x y) (f g) (hx) (hy) := sums_mul x y f g j hx hy
    congr 1
    · exact e _ _ _ _ (shift0_eq m c · j) (dac_eq m c (hp c) · j)
    congr 1
    · exact e _ _ _ _ (shift1_eq m c · j) (dac_eq m c (hp c) · j)
    congr 1
    · exact e _ _ _ _ (shift2_eq m c · j) (dac_eq m c (hp c) · j)
    congr 1
    exact (sums_apply _ j).trans (Finset.sum_congr rfl fun r _ => dac_eq m c (hp c) r j)

end Cert.Proof.Ref
-- ==== Proof.Pre.lean ====
/- THE PRECONDITION READ: `finite` says of every element of every argument that its absolute value is below infinity, so that
   every element is a real number. -/
module

public import proofs.«01_k».proof.Pre_finite
public import proofs.«01_k».proof.Proof.Gelu
public import Idealize.ShloMosaic.Lib.ReduceAll

@[expose] public section

noncomputable section

namespace Cert.Proof

open Idealize.ShloMosaic

theorem pre_facts : Cert.Pre_finite.Facts where
  bcast_S_S2048x1024 := by decide
  reducesTo_S2048x1024_S_d0_1 := by decide
  h_S_ := by decide
  bcast_S_S1024x2816 := by decide
  reducesTo_S1024x2816_S_d0_1 := by decide
  bcast_S_S3x2816 := by decide
  reducesTo_S3x2816_S_d0_1 := by decide
  bcast_S_S2816 := by decide
  reducesTo_S2816_S_d0 := by decide
  bcast_S_S2816x1024 := by decide
  reducesTo_S2816x1024_S_d0_1 := by decide

/-- A value whose absolute value compares below infinity is a real number. -/
theorem real_of_lt {t u : EReal} (e : u = ⊤) (h : Ideal.cmp .olt (max t (-t)) u = 1#1) : Real' t := by
  rw [e] at h
  have h' : max t (-t) < ⊤ := by
    by_contra hn
    simp [Ideal.cmp, hn] at h
  induction t with
  | bot => simp at h'
  | top => simp at h'
  | coe r => exact ⟨r, rfl⟩

/-- One conjunct of the precondition. -/
theorem real_of_all {s : Shape} {axes : List (Fin s.rank)} (x : FVec Ideal s .f32) (hb : Cert.Pre_finite.S_.BroadcastsInDim s ![])
    (hr : s.ReducesTo axes Cert.Pre_finite.S_) (hu : 0 < Cert.Pre_finite.S_.numel) (j : Cert.Pre_finite.S_.Idx)
    (h : Host.reduce IntOp.andi (cmpf .olt (Host.absf x) (broadcastInDim s ![] hb (constant (F := Ideal) Cert.Pre_finite.S_ .f32 0x7F800000#32)))
      (constantI Cert.Pre_finite.S_ 1 1#1) hr hu j = 1#1) (i : s.Idx) : Real' (x i) := by
  haveI : Subsingleton Cert.Pre_finite.S_.Idx := ⟨fun a b => funext fun k => k.elim0⟩
  exact real_of_lt (by simp [Ideal.ofBits, Ideal.ieee] : Ideal.ofBits .f32 0x7F800000#32 = ⊤) (Host.reduce_andi_all _ _ hr hu j h i)

/-- One conjunct, of an argument of sixteen-bit floats. -/
theorem real_of_all_half {s : Shape} {axes : List (Fin s.rank)} (x : FVec Ideal s .bf16) (hb : Cert.Pre_finite.S_.BroadcastsInDim s ![])
    (hr : s.ReducesTo axes Cert.Pre_finite.S_) (hu : 0 < Cert.Pre_finite.S_.numel) (j : Cert.Pre_finite.S_.Idx)
    (h : Host.reduce IntOp.andi (cmpf .olt (Host.absf x) (broadcastInDim s ![] hb (constant (F := Ideal) Cert.Pre_finite.S_ .bf16 0x7F80#16)))
      (constantI Cert.Pre_finite.S_ 1 1#1) hr hu j = 1#1) (i : s.Idx) : Real' (x i) := by
  haveI : Subsingleton Cert.Pre_finite.S_.Idx := ⟨fun a b => funext fun k => k.elim0⟩
  exact real_of_lt (by simp [Ideal.ofBits, Ideal.ieee] : Ideal.ofBits .bf16 0x7F80#16 = ⊤) (Host.reduce_andi_all _ _ hr hu j h i)

open Cert.Pre_finite in
/-- What the precondition says of the seven arguments. -/
theorem real_of_pre [hF : Cert.Pre_finite.Facts] (x0 x1 : FVec Ideal S2048x1024 .f32) (x2 x3 : FVec Ideal S1024x2816 .f32) (x4 : FVec Ideal S3x2816 .f32)
    (x5 : FVec Ideal S2816 .f32) (x6 : FVec Ideal S2816x1024 .f32) (h : Cert.Pre_finite.fn (F := Ideal) x0 x1 x2 x3 x4 x5 x6 = fun _ => 1#1) :
    (∀ i, Real' (x0 i)) ∧ (∀ i, Real' (x1 i)) ∧ (∀ i, Real' (x2 i)) ∧ (∀ i, Real' (x3 i)) ∧ (∀ i, Real' (x4 i)) ∧ (∀ i, Real' (x5 i))
      ∧ ∀ i, Real' (x6 i) := by
  have j : S_.Idx := fun k => k.elim0
  have h := congrFun h j
  unfold Cert.Pre_finite.fn fn_part1 at h
  dsimp only at h
  obtain ⟨⟨⟨⟨⟨⟨h0, h1⟩, h2⟩, h3⟩, h4⟩, h5⟩, h6⟩ : ((((((_ ∧ _) ∧ _) ∧ _) ∧ _) ∧ _) ∧ _) := by
    simpa only [andi, IntOp.andi_eq_one] using h
  exact ⟨real_of_all _ _ _ _ j h0, real_of_all _ _ _ _ j h1, real_of_all _ _ _ _ j h2, real_of_all _ _ _ _ j h3,
    real_of_all _ _ _ _ j h4, real_of_all _ _ _ _ j h5, real_of_all _ _ _ _ j h6⟩

end Cert.Proof
-- ==== Proof.Same.lean ====
/- Arrays compared element by element. -/
module

public import proofs.«01_k».proof.Proof.Gelu
public import Idealize.ShloMosaic.Lib.Pointwise

@[expose] public section

noncomputable section

namespace Cert.Proof

open Idealize.ShloMosaic

/-- Two arrays with the same elements are one. -/
theorem same {a b : Nat} (x y : (⟨2, ![a, b]⟩ : Shape).Idx → EReal) (f : Fin a → Fin b → EReal) (hx : ∀ i j, x (ix2 i j) = f i j)
    (hy : ∀ i j, y (ix2 i j) = f i j) : x = y := by
  funext k
  obtain ⟨i, j, rfl⟩ : ∃ i j, k = ix2 i j := ⟨k 0, k 1, eq_ix2 k⟩
  rw [hx, hy]

theorem same3 {a b c : Nat} (x y : (⟨3, ![a, b, c]⟩ : Shape).Idx → EReal) (f : Fin a → Fin b → Fin c → EReal)
    (hx : ∀ i j k, x (ix3 i j k) = f i j k) (hy : ∀ i j k, y (ix3 i j k) = f i j k) : x = y := by
  funext q
  obtain ⟨i, j, k, rfl⟩ : ∃ i j k, q = ix3 i j k := ⟨q 0, q 1, q 2, eq_ix3 q⟩
  rw [hx, hy]

theorem zero3 : (![0, 0, 0] : Fin 3 → Nat) = fun _ => 0 := by
  funext i; fin_cases i <;> rfl

/-- Two indices of an array of three axes are one when the coordinates, given as block index times block size plus offset, are. -/
theorem eq_of_emb3 {a b c : Nat} (x : (⟨3, ![a, b, c]⟩ : Shape).Idx) (i : Fin a) (j : Fin b) (k : Fin c) {I S y : Fin 3 → Nat}
    (hx : ∀ k, (x k : Nat) = I k * S k + y k) (h0 : I 0 * S 0 + y 0 = i.val) (h1 : I 1 * S 1 + y 1 = j.val)
    (h2 : I 2 * S 2 + y 2 = k.val) : x = ix3 i j k := by
  funext q
  match q with
  | ⟨0, _⟩ => exact Fin.ext ((hx 0).trans h0)
  | ⟨1, _⟩ => exact Fin.ext ((hx 1).trans h1)
  | ⟨2, _⟩ => exact Fin.ext ((hx 2).trans h2)

end Cert.Proof

end
-- ==== Proof.Norm.lean ====
/- THE NORM OF A ROW AND ITS GRADIENT, on extended reals: the gradient in the closed form that a fused backward pass uses, and
   the sum of terms that differentiating mean, variance and reciprocal root line by line gives. For a row of real numbers
   the two are one. -/
module

public import proofs.«01_k».proof.Proof.Gelu
import Mathlib.Tactic.Ring
import Mathlib.Tactic.FieldSimp
import Mathlib.Tactic.LinearCombination

@[expose] public section

noncomputable section

namespace Cert.Proof

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The width of a row, and what is added to a variance. -/
def width : EReal := ((1024 : ℝ) : EReal)
def eps : EReal := Ideal.ofBits .f32 0x3727C5AC#32

theorem ofBits_width : Ideal.ofBits .f32 0x44800000#32 = width := by
  simp [Ideal.ofBits, Ideal.ieee, width]
  rw [← EReal.coe_mul]; norm_num

theorem eps_pos : ∃ r : ℝ, 0 < r ∧ eps = (r : EReal) := by
  refine ⟨10995116 * (2 ^ 40)⁻¹, by positivity, ?_⟩
  simp [eps, Ideal.ofBits, Ideal.ieee]

variable {n : Nat}

/-- The mean of a row, its offsets from the mean, the mean of their squares, one over the root of that, the normalised row. -/
def mean (f : Fin n → EReal) : EReal := Ideal.div (∑ k, f k) width
def off (x : Fin n → EReal) (k : Fin n) : EReal := x k - mean x
def var (x : Fin n → EReal) : EReal := mean fun k => off x k * off x k
def rstd (x : Fin n → EReal) : EReal := Ideal.rsqrt (var x + eps)
def xhat (x : Fin n → EReal) (k : Fin n) : EReal := off x k * rstd x

/-- The gradient in the row, for the gradient `e` in the normalised row. -/
def normGrad (x e : Fin n → EReal) (k : Fin n) : EReal :=
  rstd x * (e k - mean e - xhat x k * mean fun j => e j * xhat x j)

theorem mean_coe (f : Fin n → ℝ) : mean (fun k => (f k : EReal)) = (((∑ k, f k) * (1 / 1024) : ℝ) : EReal) := by
  unfold mean width
  rw [← coe_sum, Ideal.div_coe (by norm_num), ← EReal.coe_mul]

/-- A row of real numbers has real offsets that sum to zero, and a positive real reciprocal root. -/
theorem real_row (x : Fin 1024 → EReal) (hx : ∀ k, Real' (x k)) :
    ∃ (o : Fin 1024 → ℝ) (v s : ℝ), (∀ k, off x k = (o k : EReal)) ∧ ∑ k, o k = 0 ∧ var x + eps = (v : EReal) ∧ v ≠ 0
      ∧ rstd x = (s : EReal) ∧ s * s * v = 1 := by
  choose X hX using hx
  obtain rfl : x = fun k => (X k : EReal) := funext hX
  obtain ⟨ε, hε, he⟩ := eps_pos
  have ho : ∀ k, off (fun k => (X k : EReal)) k = ((X k - (∑ j, X j) * (1 / 1024) : ℝ) : EReal) := fun k => by
    unfold off
    rw [mean_coe, EReal.coe_sub]
  set o : Fin 1024 → ℝ := fun k => X k - (∑ j, X j) * (1 / 1024) with hodef
  have hv : var (fun k => (X k : EReal)) + eps = (((∑ k, o k * o k) * (1 / 1024) + ε : ℝ) : EReal) := by
    unfold var
    simp only [ho]
    rw [he, EReal.coe_add]
    congr 1
    exact mean_coe fun k => o k * o k
  have hpos : 0 < (∑ k, o k * o k) * (1 / 1024) + ε := by
    have : 0 ≤ ∑ k, o k * o k := Finset.sum_nonneg fun k _ => mul_self_nonneg _
    positivity
  refine ⟨o, _, (Real.sqrt ((∑ k, o k * o k) * (1 / 1024) + ε))⁻¹, ho, ?_, hv, hpos.ne', ?_, ?_⟩
  · rw [hodef, Finset.sum_sub_distrib, Finset.sum_const, Finset.card_univ, Fintype.card_fin]
    simp only [nsmul_eq_mul]
    push_cast
    ring
  · unfold rstd
    rw [hv, Ideal.rsqrt_coe, if_neg hpos.le.not_gt, if_neg hpos.ne']
  · have h := Real.mul_self_sqrt hpos.le
    have h0 : Real.sqrt ((∑ k, o k * o k) * (1 / 1024) + ε) ≠ 0 := (Real.sqrt_pos.mpr hpos).ne'
    rw [← mul_inv, h, inv_mul_cancel₀ hpos.ne']

/-- The gradient, term by term: through the product with the reciprocal root, through the variance, and through the mean. -/
theorem normGrad_terms (x e : Fin 1024 → EReal) (hx : ∀ k, Real' (x k)) (he : ∀ k, Real' (e k)) (k : Fin 1024)
    (two mhalf : EReal) (h2 : two = ((2 : ℝ) : EReal)) (hm : mhalf = ((-2⁻¹ : ℝ) : EReal)) :
    let D := Ideal.div ((∑ j, off x j * e j) * (mhalf * Ideal.div (rstd x) (var x + eps))) width
    (e k * rstd x + D * (two * off x k))
        + Ideal.div ((∑ j, -(e j * rstd x)) + ∑ j, -(D * (two * off x j))) width
      = normGrad x e k := by
  obtain ⟨o, v, s, ho, ho0, hv, hv0, hs, hsv⟩ := real_row x hx
  choose E hE using he
  obtain rfl : e = fun k => (E k : EReal) := funext hE
  intro D
  have hvs : 1 / v = s * s := by field_simp; linarith
  have hD : D = (((∑ j, o j * E j) * (-2⁻¹ * (s * (s * s))) * (1 / 1024) : ℝ) : EReal) := by
    show Ideal.div ((∑ j, off x j * E j) * (mhalf * Ideal.div (rstd x) (var x + eps))) width = _
    simp only [ho, hs, hv, hm]
    unfold width
    rw [Ideal.div_coe hv0, Ideal.div_coe (by norm_num), hvs]
    simp only [← EReal.coe_mul, ← coe_sum]
  generalize D = D' at hD
  subst hD
  unfold normGrad xhat
  simp only [ho, hs, h2]
  unfold width
  rw [mean_coe, Ideal.div_coe (by norm_num)]
  simp only [← EReal.coe_mul, ← EReal.coe_neg, ← coe_sum, mean_coe, ← EReal.coe_add, ← EReal.coe_sub]
  congr 1
  have h1 : ∑ j, E j * (o j * s) = s * ∑ j, o j * E j := by
    rw [Finset.mul_sum]; exact Finset.sum_congr rfl fun j _ => by ring
  have h3 : ∑ j, -(E j * s) = -(s * ∑ j, E j) := by
    rw [Finset.mul_sum, ← Finset.sum_neg_distrib]; exact Finset.sum_congr rfl fun j _ => by ring
  have h4 : ∀ d : ℝ, ∑ j, -(d * (2 * o j)) = 0 := fun d => by
    rw [Finset.sum_neg_distrib, ← Finset.mul_sum, ← Finset.mul_sum, ho0]; ring
  rw [h1, h3, h4]
  ring

end Cert.Proof
-- ==== Proof.HeadPay.lean ====
/- THE DOWN PROJECTION, THE SECOND NORM AND THE LOSS: the specification, and one block of rows of it as the kernel computes it, read
   at an index. -/
module

public import proofs.«01_k».proof.Proof.Gen.Kernel2Ideal.Skeleton
public import proofs.«01_k».proof.Proof.Norm
public import Idealize.ShloMosaic.Lib.Pointwise

@[expose] public section

noncomputable section

namespace Cert.Proof

open Idealize.ShloMosaic

/-- The weight of the residual. -/
def alpha : EReal := Ideal.ofBits .f32 0x3F9837F0#32
/-- One over the row's width, and half of it: both exact. -/
def perWidth : EReal := ((1024⁻¹ : ℝ) : EReal)
def halfPer : EReal := ((2048⁻¹ : ℝ) : EReal)

/-- The arrays of the call, as functions of a row and a column. -/
structure HeadArgs where
  act : Fin 2048 → Fin 2816 → EReal
  wd : Fin 2816 → Fin 1024 → EReal
  h : Fin 2048 → Fin 1024 → EReal
  target : Fin 2048 → Fin 1024 → EReal
  g : Fin 1024 → EReal
  b : Fin 1024 → EReal

namespace HeadArgs
variable (p : HeadArgs)

/-- The residual sum, row by row; its normalized row; the output less the target; the gradient of the output. -/
def r (i : Fin 2048) (k : Fin 1024) : EReal := alpha * p.h i k + ∑ j : Fin 2816, p.act i j * p.wd j k
def diff (i : Fin 2048) (k : Fin 1024) : EReal := xhat (p.r i) k * p.g k + p.b k - p.target i k
def dy (i : Fin 2048) (k : Fin 1024) : EReal := p.diff i k * perWidth
/-- The five results: the gradient of the residual sum, the loss, the gradients of the gain and of the bias. -/
def dr (i : Fin 2048) (k : Fin 1024) : EReal := normGrad (p.r i) (fun j => p.dy i j * p.g j) k
def lossRow (i : Fin 2048) : EReal := ∑ k, p.diff i k * p.diff i k
def loss : EReal := ∑ i, p.lossRow i * halfPer
def dg (k : Fin 1024) : EReal := ∑ i, p.dy i k * xhat (p.r i) k
def db (k : Fin 1024) : EReal := ∑ i, p.dy i k

structure Finite : Prop where
  act : ∀ i j, Real' (p.act i j)
  wd : ∀ j k, Real' (p.wd j k)
  h : ∀ i k, Real' (p.h i k)
  target : ∀ i k, Real' (p.target i k)
  g : ∀ k, Real' (p.g k)
  b : ∀ k, Real' (p.b k)

end HeadArgs

namespace Head

open Cert.Kernel2Ideal Cert.Kernel2Ideal.Gen

theorem ofBits_perWidth : Ideal.ofBits .f32 0x3A800000#32 = perWidth := by
  simp [Ideal.ofBits, Ideal.ieee, perWidth]
  rw [← EReal.coe_mul]; norm_num
theorem ofBits_halfPer : Ideal.ofBits .f32 0x3A000000#32 = halfPer := by
  simp [Ideal.ofBits, Ideal.ieee, halfPer]
  rw [← EReal.coe_mul]; norm_num

variable (p : HeadArgs) (J : Fin 256 → Fin 2048)

/-- The six blocks of a grid point hold the rows `J r` of the specification's arrays. -/
structure Blocks (x0 : Vec Ideal S256x2816 .bf16) (x1 : Vec Ideal S2816x1024 .bf16) (x2 x3 : Vec Ideal S256x1024 .f32)
    (x4 x5 : Vec Ideal S1x1024 .f32) : Prop where
  act : ∀ i j, x0 (ix2 i j) = p.act (J i) j
  wd : ∀ j k, x1 (ix2 j k) = p.wd j k
  h : ∀ i k, x2 (ix2 i k) = p.h (J i) k
  target : ∀ i k, x3 (ix2 i k) = p.target (J i) k
  g : ∀ i k, x4 (ix2 i k) = p.g k
  b : ∀ i k, x5 (ix2 i k) = p.b k

variable {p J}
variable {x0 : Vec Ideal S256x2816 .bf16} {x1 : Vec Ideal S2816x1024 .bf16} {x2 x3 : Vec Ideal S256x1024 .f32}
variable {x4 x5 : Vec Ideal S1x1024 .f32}

theorem pay6_apply (h : Blocks p J x0 x1 x2 x3 x4 x5) (i : Fin 256) (k : Fin 1024) :
    k0_pay6 (F := Ideal) x2 x0 x1 (ix2 i k) = off (p.r (J i)) k := by
  pointwise [k0_pay6]
  simp only [h.act, h.wd, h.h, ofBits_width]
  rfl

theorem pay7_apply (h : Blocks p J x0 x1 x2 x3 x4 x5) (i : Fin 256) (k : Fin 1) :
    k0_pay7 (F := Ideal) x2 x0 x1 (ix2 i k) = rstd (p.r (J i)) := by
  pointwise [k0_pay7]
  simp only [pay6_apply h, ofBits_width]
  rfl

theorem pay8_apply (h : Blocks p J x0 x1 x2 x3 x4 x5) (i : Fin 256) (k : Fin 1024) :
    k0_pay8 (F := Ideal) x2 x0 x1 (ix2 i k) = xhat (p.r (J i)) k := by
  pointwise [k0_pay8]
  rw [pay6_apply h, pay7_apply h]
  rfl

theorem pay9_apply (h : Blocks p J x0 x1 x2 x3 x4 x5) (i : Fin 256) (k : Fin 1024) :
    k0_pay9 (F := Ideal) x2 x0 x1 x4 x5 x3 (ix2 i k) = p.diff (J i) k := by
  pointwise [k0_pay9]
  rw [pay8_apply h, h.g, h.b, h.target]
  rfl

theorem pay11_apply (v : FVec Ideal S256x1024 .f32) (i : Fin 256) (k : Fin 1024) :
    k0_pay11 (F := Ideal) v (ix2 i k) = v (ix2 i k) * perWidth := by
  pointwise [k0_pay11]
  rw [ofBits_perWidth]

theorem dy_apply (h : Blocks p J x0 x1 x2 x3 x4 x5) (i : Fin 256) (k : Fin 1024) :
    k0_pay11 (F := Ideal) (k0_pay9 (F := Ideal) x2 x0 x1 x4 x5 x3) (ix2 i k) = p.dy (J i) k := by
  rw [pay11_apply, pay9_apply h]; rfl

theorem pay10_apply (h : Blocks p J x0 x1 x2 x3 x4 x5) (acc : Vec Ideal S8x128 .f32) (a : Fin 8) (b : Fin 128) :
    k0_pay10 (F := Ideal) (k0_pay9 (F := Ideal) x2 x0 x1 x4 x5 x3) acc (ix2 a b)
      = acc (ix2 a b) + (∑ i, p.lossRow (J i)) * halfPer := by
  pointwise [k0_pay10]
  simp only [pay9_apply h, ofBits_halfPer]
  rfl

theorem pay12_apply (h : Blocks p J x0 x1 x2 x3 x4 x5) (acc : Vec Ideal S1x1024 .f32) (a : Fin 1) (k : Fin 1024) :
    k0_pay12 (F := Ideal) (k0_pay8 (F := Ideal) x2 x0 x1) (k0_pay9 (F := Ideal) x2 x0 x1 x4 x5 x3) acc (ix2 a k)
      = acc (ix2 a k) + ∑ i, p.dy (J i) k * xhat (p.r (J i)) k := by
  pointwise [k0_pay12]
  simp only [dy_apply h, pay8_apply h]

theorem pay13_apply (h : Blocks p J x0 x1 x2 x3 x4 x5) (acc : Vec Ideal S1x1024 .f32) (a : Fin 1) (k : Fin 1024) :
    k0_pay13 (F := Ideal) (k0_pay9 (F := Ideal) x2 x0 x1 x4 x5 x3) acc (ix2 a k) = acc (ix2 a k) + ∑ i, p.dy (J i) k := by
  pointwise [k0_pay13]
  simp only [dy_apply h]

theorem pay14_apply (h : Blocks p J x0 x1 x2 x3 x4 x5) (i : Fin 256) (k : Fin 1024) :
    k0_pay14 (F := Ideal) (k0_pay9 (F := Ideal) x2 x0 x1 x4 x5 x3) x4 (ix2 i k) = p.dy (J i) k * p.g k := by
  pointwise [k0_pay14]
  rw [dy_apply h, h.g]

theorem pay1_apply (h : Blocks p J x0 x1 x2 x3 x4 x5) (i : Fin 256) (k : Fin 1024) :
    k0_pay1 (F := Ideal) (k0_pay7 (F := Ideal) x2 x0 x1) (k0_pay8 (F := Ideal) x2 x0 x1)
      (k0_pay14 (F := Ideal) (k0_pay9 (F := Ideal) x2 x0 x1 x4 x5 x3) x4) (k0_pay15 (F := Ideal) (k0_pay9 (F := Ideal) x2 x0 x1 x4 x5 x3) x4)
      (k0_pay16 (F := Ideal) (k0_pay8 (F := Ideal) x2 x0 x1) (k0_pay9 (F := Ideal) x2 x0 x1 x4 x5 x3) x4) (ix2 i k) = p.dr (J i) k := by
  pointwise [k0_pay1, k0_pay15, k0_pay16]
  simp only [pay14_apply h, pay8_apply h, pay7_apply h, ofBits_width]
  rfl

theorem pay2_apply (h : Blocks p J x0 x1 x2 x3 x4 x5) (i : Fin 256) (k : Fin 1024) :
    k0_pay2 (F := Ideal) (k0_pay7 (F := Ideal) x2 x0 x1) (k0_pay8 (F := Ideal) x2 x0 x1)
      (k0_pay14 (F := Ideal) (k0_pay9 (F := Ideal) x2 x0 x1 x4 x5 x3) x4) (k0_pay15 (F := Ideal) (k0_pay9 (F := Ideal) x2 x0 x1 x4 x5 x3) x4)
      (k0_pay16 (F := Ideal) (k0_pay8 (F := Ideal) x2 x0 x1) (k0_pay9 (F := Ideal) x2 x0 x1 x4 x5 x3) x4) (ix2 i k) = p.dr (J i) k := by
  pointwise [k0_pay2]
  exact pay1_apply h i k

theorem zero_loss (a : Fin 8) (b : Fin 128) : k0_pay3 (F := Ideal) (ix2 a b) = 0 := by pointwise [k0_pay3]
theorem zero_dg (a : Fin 1) (b : Fin 1024) : k0_pay4 (F := Ideal) (ix2 a b) = 0 := by pointwise [k0_pay4]
theorem zero_db (a : Fin 1) (b : Fin 1024) : k0_pay5 (F := Ideal) (ix2 a b) = 0 := by pointwise [k0_pay5]

end Head

end Cert.Proof

end
-- ==== Proof.HeadBlock.lean ====
/- WHAT ONE GRID POINT OF THE DOWN PROJECTION LEAVES in its five output blocks: the pieces the run found, read at an index. -/
module

public import proofs.«01_k».proof.Proof.Gen.Kernel2Ideal.Value
public import proofs.«01_k».proof.Proof.HeadPay
public import Idealize.ShloMosaic.Lib.Pipeline.ValueKit.Acc

@[expose] public section

noncomputable section

namespace Cert.Proof.Head

open Cert.Kernel2Ideal Cert.Kernel2Ideal.Gen
open Idealize.ShloMosaic Idealize.ShloMosaic.TcCoe

variable {p : HeadArgs} {J : Fin 256 → Fin 2048} (m : (ℓ : Loc nD τ sig) → Buf (Elt Ideal) ℓ)

/-- The blocks a grid point reads. -/
def AtPoint (c : Dev nD) (t : Fin cfg0.N) (p : HeadArgs) (J : Fin 256 → Fin 2048) : Prop :=
  Blocks p J (iblk m c 0 t) (iblk m c 1 t) (iblk m c 2 t) (iblk m c 3 t) (iblk m c 4 t) (iblk m c 5 t)

theorem dr_block (c : Dev nD) (t : Fin cfg0.N) (h : AtPoint m c t p J) (i : Fin 256) (k : Fin 1024) :
    (outsAt0 (F := Ideal) m c t.val t.isLt).1 (ix2 i k) = p.dr (J i) k := by
  rw [← pay1_apply h]
  refine congrFun ?_ (ix2 i k)
  by_cases h0 : t.val % 8 = 0
  · rw [outsAt0_A m c t h0]; frame_out
  · rw [outsAt0_B m c t h0]; frame_out

theorem drb_block (c : Dev nD) (t : Fin cfg0.N) (h : AtPoint m c t p J) (i : Fin 256) (k : Fin 1024) :
    (outsAt0 (F := Ideal) m c t.val t.isLt).2.1 (ix2 i k) = p.dr (J i) k := by
  rw [← pay2_apply h]
  refine congrFun ?_ (ix2 i k)
  by_cases h0 : t.val % 8 = 0
  · rw [outsAt0_A m c t h0]; frame_out
  · rw [outsAt0_B m c t h0]; frame_out

theorem points : cfg0.N ≤ 8 := le_of_eq N_0

/-- After the last point each accumulated block holds the sum, over the points, of what each adds. -/
theorem loss_block (c : Dev nD) (J : Fin cfg0.N → Fin 256 → Fin 2048) (h : ∀ t, AtPoint m c t p (J t)) (t : Fin cfg0.N)
    (ht : t.val + 1 = cfg0.N) (a : Fin 8) (b : Fin 128) :
    (outsAt0 (F := Ideal) m c t.val t.isLt).2.2.1 (ix2 a b) = ∑ t : Fin cfg0.N, (∑ i, p.lossRow (J t i)) * halfPer := by
  rw [Pipeline.eq_sum_fin_of_reset_step_apply_last (fun n h => (outsAt0 (F := Ideal) m c n h).2.2.1) 8 (fun _ => 0)
    (fun t _ => (∑ i, p.lossRow (J t i)) * halfPer)
    (fun t h0 j => by
      obtain ⟨a, b, rfl⟩ : ∃ a b, j = ix2 a b := ⟨j 0, j 1, eq_ix2 j⟩
      rw [outsAt0_A m c t h0]; frame_out; rw [pay10_apply (h t), zero_loss])
    (fun t h0 j => by
      obtain ⟨a, b, rfl⟩ : ∃ a b, j = ix2 a b := ⟨j 0, j 1, eq_ix2 j⟩
      rw [outsAt0_B m c t h0]; frame_out; rw [pay10_apply (h t)])
    points t ht (ix2 a b), zero_add]

theorem dg_block (c : Dev nD) (J : Fin cfg0.N → Fin 256 → Fin 2048) (h : ∀ t, AtPoint m c t p (J t)) (t : Fin cfg0.N)
    (ht : t.val + 1 = cfg0.N) (a : Fin 1) (k : Fin 1024) :
    (outsAt0 (F := Ideal) m c t.val t.isLt).2.2.2.1 (ix2 a k) = ∑ t : Fin cfg0.N, ∑ i, p.dy (J t i) k * xhat (p.r (J t i)) k := by
  rw [Pipeline.eq_sum_fin_of_reset_step_apply_last (fun n h => (outsAt0 (F := Ideal) m c n h).2.2.2.1) 8 (fun _ => 0)
    (fun t j => ∑ i, p.dy (J t i) (j 1) * xhat (p.r (J t i)) (j 1))
    (fun t h0 j => by
      obtain ⟨a, b, rfl⟩ : ∃ a b, j = ix2 a b := ⟨j 0, j 1, eq_ix2 j⟩
      rw [outsAt0_A m c t h0]; frame_out; rw [pay12_apply (h t), zero_dg]; rfl)
    (fun t h0 j => by
      obtain ⟨a, b, rfl⟩ : ∃ a b, j = ix2 a b := ⟨j 0, j 1, eq_ix2 j⟩
      rw [outsAt0_B m c t h0]; frame_out; rw [pay12_apply (h t)]; rfl)
    points t ht (ix2 a k), zero_add]
  rfl

theorem db_block (c : Dev nD) (J : Fin cfg0.N → Fin 256 → Fin 2048) (h : ∀ t, AtPoint m c t p (J t)) (t : Fin cfg0.N)
    (ht : t.val + 1 = cfg0.N) (a : Fin 1) (k : Fin 1024) :
    (outsAt0 (F := Ideal) m c t.val t.isLt).2.2.2.2 (ix2 a k) = ∑ t : Fin cfg0.N, ∑ i, p.dy (J t i) k := by
  rw [Pipeline.eq_sum_fin_of_reset_step_apply_last (fun n h => (outsAt0 (F := Ideal) m c n h).2.2.2.2) 8 (fun _ => 0)
    (fun t j => ∑ i, p.dy (J t i) (j 1))
    (fun t h0 j => by
      obtain ⟨a, b, rfl⟩ : ∃ a b, j = ix2 a b := ⟨j 0, j 1, eq_ix2 j⟩
      rw [outsAt0_A m c t h0]; frame_out; rw [pay13_apply (h t), zero_db]; rfl)
    (fun t h0 j => by
      obtain ⟨a, b, rfl⟩ : ∃ a b, j = ix2 a b := ⟨j 0, j 1, eq_ix2 j⟩
      rw [outsAt0_B m c t h0]; frame_out; rw [pay13_apply (h t)]; rfl)
    points t ht (ix2 a k), zero_add]
  rfl

end Cert.Proof.Head

end
-- ==== Proof.HeadReal.lean ====
/- THE DOWN PROJECTION'S SPECIFICATION OVER REAL ARGUMENTS: every array of it is real, so the sums regroup. -/
module

public import proofs.«01_k».proof.Proof.HeadPay

@[expose] public section

noncomputable section

namespace Cert.Proof

open Idealize.ShloMosaic

theorem Real'.sub {s t : EReal} : Real' s → Real' t → Real' (s - t) := by
  rintro ⟨a, rfl⟩ ⟨b, rfl⟩; exact ⟨a - b, (EReal.coe_sub a b).symm⟩

theorem alpha_real : Real' alpha := by
  refine ⟨9975792 * (2 ^ 23)⁻¹, ?_⟩
  simp [alpha, Ideal.ofBits, Ideal.ieee]

theorem xhat_real (x : Fin 1024 → EReal) (hx : ∀ k, Real' (x k)) (k : Fin 1024) : Real' (xhat x k) := by
  obtain ⟨o, v, s, ho, -, -, -, hs, -⟩ := real_row x hx
  unfold xhat
  rw [ho, hs]
  exact .mul ⟨_, rfl⟩ ⟨_, rfl⟩

/-- A sum of real numbers, each times the same real number. -/
theorem sum_mul_real {ι : Type} (s : Finset ι) (f : ι → EReal) (hf : ∀ i, Real' (f i)) (c : EReal) (hc : Real' c) :
    (∑ i ∈ s, f i) * c = ∑ i ∈ s, f i * c := by
  choose F hF using hf
  obtain rfl : f = fun i => (F i : EReal) := funext hF
  obtain ⟨d, rfl⟩ := hc
  rw [← coe_sum, ← EReal.coe_mul, Finset.sum_mul, coe_sum]
  simp only [EReal.coe_mul]

namespace HeadArgs.Finite
variable {p : HeadArgs} (h : p.Finite)
include h

theorem r (i : Fin 2048) (k : Fin 1024) : Real' (p.r i k) :=
  (alpha_real.mul (h.h i k)).add (.sum _ _ fun j _ => (h.act i j).mul (h.wd j k))
theorem xhat (i : Fin 2048) (k : Fin 1024) : Real' (xhat (p.r i) k) := xhat_real _ (h.r i) k
theorem diff (i : Fin 2048) (k : Fin 1024) : Real' (p.diff i k) := (((h.xhat i k).mul (h.g k)).add (h.b k)).sub (h.target i k)
theorem dy (i : Fin 2048) (k : Fin 1024) : Real' (p.dy i k) := (h.diff i k).mul ⟨_, rfl⟩
theorem e (i : Fin 2048) (k : Fin 1024) : Real' (p.dy i k * p.g k) := (h.dy i k).mul (h.g k)
theorem lossRow (i : Fin 2048) : Real' (p.lossRow i) := .sum _ _ fun k _ => (h.diff i k).mul (h.diff i k)

end HeadArgs.Finite

end Cert.Proof

end
-- ==== Proof.HeadArrays.lean ====
/- WHAT THE DOWN PROJECTION'S FIVE RESULT ARRAYS HOLD after its run: the specification's arrays of the program's arguments. -/
module

public import proofs.«01_k».proof.Proof.HeadBlock
public import proofs.«01_k».proof.Proof.HeadReal
public import proofs.«01_k».proof.Proof.Arrays
public import Idealize.ShloMosaic.Lib.Pipeline.ValueKit.Geometry

@[expose] public section

noncomputable section

namespace Cert.Proof.Head

open Cert.Kernel2Ideal Cert.Kernel2Ideal.Gen
open Idealize.ShloMosaic Idealize.ShloMosaic.TcCoe Idealize.ShloMosaic.StableHlo

variable (m : (ℓ : Loc nD τ sig) → Buf (Elt Ideal) ℓ) (c : Dev nD)

/-- The program's arguments on device `c`, as arrays. -/
abbrev A0 : FVec Ideal S2048x2816 .bf16 := m ((c : Thread nD τ).loc main_arg0)
abbrev A1 : FVec Ideal S2816x1024 .f32 := m ((c : Thread nD τ).loc main_arg1)
abbrev A2 : FVec Ideal S2048x1024 .f32 := m ((c : Thread nD τ).loc main_arg2)
abbrev A3 : FVec Ideal S2048x1024 .f32 := m ((c : Thread nD τ).loc main_arg3)
abbrev A4 : FVec Ideal S1024 .f32 := m ((c : Thread nD τ).loc main_arg4)
abbrev A5 : FVec Ideal S1024 .f32 := m ((c : Thread nD τ).loc main_arg5)

/-- The same, as functions of a row and a column. -/
def kargs : HeadArgs where
  act i j := A0 m c (ix2 i j)
  wd j k := A1 m c (ix2 j k)
  h i k := A2 m c (ix2 i k)
  target i k := A3 m c (ix2 i k)
  g k := A4 m c (ix1 k)
  b k := A5 m c (ix1 k)

theorem entry_act (i : Fin 2048) (j : Fin 2816) : (V m c main_arg0 : FVec Ideal S2048x2816 .bf16) (ix2 i j) = (kargs m c).act i j := by
  have e : (V m c main_arg0 : FVec Ideal S2048x2816 .bf16) = A0 m c := by
    simp only [V, hostOps0]
    after_results_simp <;> rfl
  rw [e]; rfl

theorem entry_wd (j : Fin 2816) (k : Fin 1024) : (V m c main_v0 : FVec Ideal S2816x1024 .bf16) (ix2 j k) = (kargs m c).wd j k := by
  have e : (V m c main_v0 : FVec Ideal S2816x1024 .bf16) = truncf .bf16 (A1 m c) bitsLt_bf16_f32 := by
    simp only [V, hostOps0]
    after_results_simp <;> rfl
  rw [e]; rfl

theorem entry_h (i : Fin 2048) (k : Fin 1024) : (V m c main_arg2 : FVec Ideal S2048x1024 .f32) (ix2 i k) = (kargs m c).h i k := by
  have e : (V m c main_arg2 : FVec Ideal S2048x1024 .f32) = A2 m c := by
    simp only [V, hostOps0]
    after_results_simp <;> rfl
  rw [e]; rfl

theorem entry_target (i : Fin 2048) (k : Fin 1024) : (V m c main_arg3 : FVec Ideal S2048x1024 .f32) (ix2 i k) = (kargs m c).target i k := by
  have e : (V m c main_arg3 : FVec Ideal S2048x1024 .f32) = A3 m c := by
    simp only [V, hostOps0]
    after_results_simp <;> rfl
  rw [e]; rfl

theorem entry_g (i : Fin 1) (k : Fin 1024) : (V m c main_v1 : FVec Ideal S1x1024 .f32) (ix2 i k) = (kargs m c).g k := by
  have e : (V m c main_v1 : FVec Ideal S1x1024 .f32) = broadcastInDim S1x1024 ![1] bcast_S1024_S1x1024_1 (A4 m c) := by
    simp only [V, hostOps0]
    after_results_simp <;> rfl
  rw [e]
  pointwise
  rfl

theorem entry_b (i : Fin 1) (k : Fin 1024) : (V m c main_v2 : FVec Ideal S1x1024 .f32) (ix2 i k) = (kargs m c).b k := by
  have e : (V m c main_v2 : FVec Ideal S1x1024 .f32) = broadcastInDim S1x1024 ![1] bcast_S1024_S1x1024_1 (A5 m c) := by
    simp only [V, hostOps0]
    after_results_simp <;> rfl
  rw [e]
  pointwise
  rfl

/-- The row that line `l` of point `t`'s blocks is. -/
def row (t : Fin cfg0.N) (l : Fin 256) : Fin 2048 :=
  ⟨t.val * 256 + l.val, by have := t.isLt; have : cfg0.N = 8 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])

theorem emb0 (t : Fin cfg0.N) (i : Fin 256) (j : Fin 2816) : (win0_0.rect t).emb (ix2 i j) = ix2 (row t i) j :=
  eq_of_emb (a := 2048) (b := 2816) _ _ _ (I := ![t.val, 0]) (S := ![256, 2816]) (y := ![i.val, j.val])
    (fun k => by rw [win0_0.rect_emb_val, index0]; match k with | ⟨0, _⟩ => rfl | ⟨1, _⟩ => rfl) rfl (by simp)
theorem emb1 (t : Fin cfg0.N) (i : Fin 2816) (j : Fin 1024) : (win0_1.rect t).emb (ix2 i j) = ix2 i j :=
  eq_of_emb (a := 2816) (b := 1024) _ _ _ (I := ![0, 0]) (S := ![2816, 1024]) (y := ![i.val, j.val])
    (fun k => by rw [win0_1.rect_emb_val, index1]; match k with | ⟨0, _⟩ => rfl | ⟨1, _⟩ => rfl) (by simp) (by simp)
theorem emb2 (t : Fin cfg0.N) (i : Fin 256) (j : Fin 1024) : (win0_2.rect t).emb (ix2 i j) = ix2 (row t i) j :=
  eq_of_emb (a := 2048) (b := 1024) _ _ _ (I := ![t.val, 0]) (S := ![256, 1024]) (y := ![i.val, j.val])
    (fun k => by rw [win0_2.rect_emb_val, index2]; match k with | ⟨0, _⟩ => rfl | ⟨1, _⟩ => rfl) rfl (by simp)
theorem emb3 (t : Fin cfg0.N) (i : Fin 256) (j : Fin 1024) : (win0_3.rect t).emb (ix2 i j) = ix2 (row t i) j :=
  eq_of_emb (a := 2048) (b := 1024) _ _ _ (I := ![t.val, 0]) (S := ![256, 1024]) (y := ![i.val, j.val])
    (fun k => by rw [win0_3.rect_emb_val, index3]; match k with | ⟨0, _⟩ => rfl | ⟨1, _⟩ => rfl) rfl (by simp)
theorem emb4 (t : Fin cfg0.N) (i : Fin 1) (j : Fin 1024) : (win0_4.rect t).emb (ix2 i j) = ix2 i j :=
  eq_of_emb (a := 1) (b := 1024) _ _ _ (I := ![0, 0]) (S := ![1, 1024]) (y := ![i.val, j.val])
    (fun k => by rw [win0_4.rect_emb_val, index4]; match k with | ⟨0, _⟩ => rfl | ⟨1, _⟩ => rfl) (by simp) (by simp)
theorem emb5 (t : Fin cfg0.N) (i : Fin 1) (j : Fin 1024) : (win0_5.rect t).emb (ix2 i j) = ix2 i j :=
  eq_of_emb (a := 1) (b := 1024) _ _ _ (I := ![0, 0]) (S := ![1, 1024]) (y := ![i.val, j.val])
    (fun k => by rw [win0_5.rect_emb_val, index5]; match k with | ⟨0, _⟩ => rfl | ⟨1, _⟩ => rfl) (by simp) (by simp)
theorem emb6 (t : Fin cfg0.N) (i : Fin 256) (j : Fin 1024) : (win0_6.rect t).emb (ix2 i j) = ix2 (row t i) j :=
  eq_of_emb (a := 2048) (b := 1024) _ _ _ (I := ![t.val, 0]) (S := ![256, 1024]) (y := ![i.val, j.val])
    (fun k => by rw [win0_6.rect_emb_val, index6]; match k with | ⟨0, _⟩ => rfl | ⟨1, _⟩ => rfl) rfl (by simp)
theorem emb7 (t : Fin cfg0.N) (i : Fin 256) (j : Fin 1024) : (win0_7.rect t).emb (ix2 i j) = ix2 (row t i) j :=
  eq_of_emb (a := 2048) (b := 1024) _ _ _ (I := ![t.val, 0]) (S := ![256, 1024]) (y := ![i.val, j.val])
    (fun k => by rw [win0_7.rect_emb_val, index7]; match k with | ⟨0, _⟩ => rfl | ⟨1, _⟩ => rfl) rfl (by simp)

/-- So every point reads its own rows of the arguments' arrays. -/
theorem atPoint (t : Fin cfg0.N) : AtPoint m c t (kargs m c) (row t) where
  act i j := (congrArg (V m c main_arg0) (emb0 t i j)).trans (entry_act m c (row t i) j)
  wd j k := (congrArg (V m c main_v0) (emb1 t j k)).trans (entry_wd m c j k)
  h i k := (congrArg (V m c main_arg2) (emb2 t i k)).trans (entry_h m c (row t i) k)
  target i k := (congrArg (V m c main_arg3) (emb3 t i k)).trans (entry_target m c (row t i) k)
  g i k := (congrArg (V m c main_v1) (emb4 t i k)).trans (entry_g m c i k)
  b i k := (congrArg (V m c main_v2) (emb5 t i k)).trans (entry_b m c i k)

theorem row_surj (j : Fin 2048) : ∃ t l, row t l = j :=
  ⟨⟨j.val / 256, by have : cfg0.N = 8 := N_0; omega⟩, ⟨j.val % 256, by omega⟩,
    Fin.ext (by show j.val / 256 * 256 + j.val % 256 = j.val; omega)⟩

theorem final_dr (i : Fin 2048) (k : Fin 1024) :
    ((dats m 0 c).arrAt 6 cfg0.N : FVec Ideal S2048x1024 .f32) (ix2 i k) = (kargs m c).dr i k := by
  obtain ⟨t, l, rfl⟩ := row_surj i
  have e : ((cfg0.win 6).blk t).view.emb (ix2 l k) = _ := emb6 t l k
  have h := (dats m 0 c).arrAt_emb_eq_flushed 6 Value.disjoint6 t (flush0_6 t) (ix2 l k)
  rw [e, Value.flushed6] at h
  exact h.trans (dr_block m c t (atPoint m c t) l k)

theorem final_drb (i : Fin 2048) (k : Fin 1024) :
    ((dats m 0 c).arrAt 7 cfg0.N : FVec Ideal S2048x1024 .bf16) (ix2 i k) = (kargs m c).dr i k := by
  obtain ⟨t, l, rfl⟩ := row_surj i
  have e : ((cfg0.win 7).blk t).view.emb (ix2 l k) = _ := emb7 t l k
  have h := (dats m 0 c).arrAt_emb_eq_flushed 7 Value.disjoint7 t (flush0_7 t) (ix2 l k)
  rw [e, Value.flushed7] at h
  exact h.trans (drb_block m c t (atPoint m c t) l k)

/-- The last point. -/
abbrev last : Fin cfg0.N := ⟨7, (by decide +kernel : 7 < grid0.N)⟩

theorem last_eq : last.val + 1 = cfg0.N := (N_0 : cfg0.N = 8).symm

/-- The points' rows are all the rows. -/
theorem sum_rows (f : Fin 2048 → EReal) : ∑ t : Fin cfg0.N, ∑ l, f (row t l) = ∑ i, f i :=
  Fin.sum_mul_add_fin (S := cfg0.N) 256 f (by have : cfg0.N = 8 := N_0; omega)

theorem final_loss (h : (kargs m c).Finite) (a : Fin 8) (b : Fin 128) :
    ((dats m 0 c).arrAt 8 cfg0.N : FVec Ideal S8x128 .f32) (ix2 a b) = (kargs m c).loss := by
  refine ((dats m 0 c).arrAt_emb_eq_after_last 8 last (by decide +kernel) (ix2 a b)).trans ?_
  rw [after0_8]
  refine (loss_block m c row (atPoint m c) last last_eq a b).trans ?_
  unfold HeadArgs.loss
  rw [← sum_rows]
  exact Finset.sum_congr rfl fun t _ => sum_mul_real _ _ (fun l => h.lossRow _) _ ⟨_, rfl⟩

theorem final_dg (i : Fin 1) (k : Fin 1024) :
    ((dats m 0 c).arrAt 9 cfg0.N : FVec Ideal S1x1024 .f32) (ix2 i k) = (kargs m c).dg k := by
  refine ((dats m 0 c).arrAt_emb_eq_after_last 9 last (by decide +kernel) (ix2 i k)).trans ?_
  rw [after0_9]
  refine (dg_block m c row (atPoint m c) last last_eq i k).trans ?_
  exact sum_rows fun i => (kargs m c).dy i k * xhat ((kargs m c).r i) k

theorem final_db (i : Fin 1) (k : Fin 1024) :
    ((dats m 0 c).arrAt 10 cfg0.N : FVec Ideal S1x1024 .f32) (ix2 i k) = (kargs m c).db k := by
  refine ((dats m 0 c).arrAt_emb_eq_after_last 10 last (by decide +kernel) (ix2 i k)).trans ?_
  rw [after0_10]
  refine (db_block m c row (atPoint m c) last last_eq i k).trans ?_
  exact sum_rows fun i => (kargs m c).dy i k

end Cert.Proof.Head

end
-- ==== Proof.HeadRef.lean ====
/- WHAT THE DOWN PROJECTION'S REFERENCE COMPUTES: its composed terms named stage by stage, each read at an index, and its five results
   as the specification's arrays of its arguments. -/
module

public import proofs.«01_k».proof.Proof.Gen.Reference2Ideal.Run
public import proofs.«01_k».proof.Proof.HeadReal

@[expose] public section

noncomputable section

namespace Cert.Proof.Head.Ref

open Cert.Reference2Ideal Cert.Reference2Ideal.Gen Cert.Reference2Ideal.Value
open Idealize.ShloMosaic Idealize.ShloMosaic.TcCoe Idealize.ShloMosaic.StableHlo

theorem ofBits_two : Ideal.ofBits .f32 0x40000000#32 = ((2 : ℝ) : EReal) := by
  simp [Ideal.ofBits, Ideal.ieee]
  rw [← EReal.coe_mul]; norm_num
theorem ofBits_half' : Ideal.ofBits .f32 0x3F000000#32 = ((2⁻¹ : ℝ) : EReal) := by
  simp [Ideal.ofBits, Ideal.ieee]
  rw [← EReal.coe_mul]; norm_num
theorem ofBits_mhalf : Ideal.ofBits .f32 0xBF000000#32 = ((-2⁻¹ : ℝ) : EReal) := by
  simp [Ideal.ofBits, Ideal.ieee]
  rw [← EReal.coe_mul]; norm_num

section stages
variable (a0 : FVec Ideal S2048x2816 .bf16) (a1 : FVec Ideal S2816x1024 .f32) (a2 a3 : FVec Ideal S2048x1024 .f32) (a4 a5 : FVec Ideal S1024 .f32)

/-- The reference's stages: arrays. -/
def zero : FVec Ideal S_ .f32 := constant S_ .f32 0x00000000#32
def wide : FVec Ideal S2048x1 .f32 := broadcastInDim S2048x1 ![] bcast_S_S2048x1 (constant S_ .f32 0x44800000#32)
def two : FVec Ideal S2048x1024 .f32 := broadcastInDim S2048x1024 ![] bcast_S_S2048x1024 (constant S_ .f32 0x40000000#32)
def rT : FVec Ideal S2048x1024 .f32 :=
  addf (mulf (broadcastInDim S2048x1024 ![] bcast_S_S2048x1024 (constant S_ .f32 0x3F9837F0#32)) a2)
    (Host.dotGeneral (φ₁ := .f32) (φ₂ := .f32) dot_S2048x2816_S2816x1024_S2048x1024_1_0_0_1_n_n none (extf .f32 a0 bitsLt_bf16_f32) a1)
def rowSum (x : FVec Ideal S2048x1024 .f32) : FVec Ideal S2048 .f32 := Host.reduceAdd x zero reducesTo_S2048x1024_S2048_d1 h_S_
def offT (r : FVec Ideal S2048x1024 .f32) : FVec Ideal S2048x1024 .f32 :=
  subf r (broadcastInDim S2048x1024 ![0, 1] bcast_S2048x1_S2048x1024_0_1 (Host.divf (broadcastInDim S2048x1 ![0] bcast_S2048_S2048x1_0 (rowSum r)) wide))
def varT (o : FVec Ideal S2048x1024 .f32) : FVec Ideal S2048x1 .f32 :=
  addf (Host.divf (broadcastInDim S2048x1 ![0] bcast_S2048_S2048x1_0 (rowSum (mulf o o))) wide)
    (broadcastInDim S2048x1 ![] bcast_S_S2048x1 (constant S_ .f32 0x3727C5AC#32))
def rstdT (v : FVec Ideal S2048x1 .f32) : FVec Ideal S2048x1024 .f32 :=
  broadcastInDim S2048x1024 ![0, 1] bcast_S2048x1_S2048x1024_0_1 (Host.rsqrt v)
def lineT (a : FVec Ideal S1024 .f32) : FVec Ideal S2048x1024 .f32 :=
  broadcastInDim S2048x1024 ![0, 1] bcast_S1x1024_S2048x1024_0_1 (broadcastInDim S1x1024 ![1] bcast_S1024_S1x1024_1 a)
def diffT (o rs : FVec Ideal S2048x1024 .f32) : FVec Ideal S2048x1024 .f32 := subf (addf (mulf (mulf o rs) (lineT a4)) (lineT a5)) a3
def dyT (d : FVec Ideal S2048x1024 .f32) : FVec Ideal S2048x1024 .f32 :=
  mulf (broadcastInDim S2048x1024 ![0] bcast_S2048_S2048x1024_0 (Host.divf
    (broadcastInDim S2048 ![] bcast_S_S2048 (mulf (constant S_ .f32 0x3F000000#32) (constant S_ .f32 0x3F800000#32)))
    (broadcastInDim S2048 ![] bcast_S_S2048 (constant S_ .f32 0x44800000#32)))) (mulf two d)
def colT (x : FVec Ideal S2048 .f32) : FVec Ideal S2048x1 .f32 := shapeCast S2048x1 x shapeCasts_S2048_S2048x1
def backT (x : FVec Ideal S2048x1 .f32) : FVec Ideal S2048x1024 .f32 :=
  broadcastInDim S2048x1024 ![0] bcast_S2048_S2048x1024_0 (Host.reduceAdd (Host.divf x wide) zero reducesTo_S2048x1_S2048_d1 h_S_)
def throughVar (o e : FVec Ideal S2048x1024 .f32) (v : FVec Ideal S2048x1 .f32) : FVec Ideal S2048x1024 .f32 :=
  mulf (backT (mulf (colT (rowSum (mulf o e)))
    (mulf (broadcastInDim S2048x1 ![] bcast_S_S2048x1 (constant S_ .f32 0xBF000000#32)) (Host.divf (Host.rsqrt v) v)))) (mulf two o)
def drT (o e : FVec Ideal S2048x1024 .f32) (v : FVec Ideal S2048x1 .f32) : FVec Ideal S2048x1024 .f32 :=
  addf (addf (mulf e (rstdT v)) (throughVar o e v))
    (backT (addf (colT (rowSum (Host.negf (mulf e (rstdT v))))) (colT (rowSum (Host.negf (throughVar o e v))))))
def colSum (x : FVec Ideal S2048x1024 .f32) : FVec Ideal S1x1024 .f32 :=
  broadcastInDim S1x1024 ![1] bcast_S1024_S1x1024_1 (Host.reduceAdd (shapeCast S1x1024 (Host.reduceAdd x zero reducesTo_S2048x1024_S1024_d0 h_S_)
    shapeCasts_S1024_S1x1024) zero reducesTo_S1x1024_S1024_d0 h_S_)
def lossT (d : FVec Ideal S2048x1024 .f32) : FVec Ideal S8x128 .f32 :=
  broadcastInDim S8x128 ![] bcast_S_S8x128 (mulf (constant S_ .f32 0x3F000000#32) (Host.reduceAdd (Host.divf (rowSum (mulf d d))
    (broadcastInDim S2048 ![] bcast_S_S2048 (constant S_ .f32 0x44800000#32))) zero reducesTo_S2048_S_d0 h_S_))

/- Each at an index. -/

theorem rowSum_apply (x : FVec Ideal S2048x1024 .f32) (i : Fin 2048) : rowSum x (ix1 i) = ∑ k : Fin 1024, x (ix2 i k) := by
  pointwise [rowSum, zero]

theorem colSum_apply (x : FVec Ideal S2048x1024 .f32) (i : Fin 1) (k : Fin 1024) : colSum x (ix2 i k) = ∑ r : Fin 2048, x (ix2 r k) := by
  pointwise [colSum, zero]
  exact Fin.sum_univ_one _

theorem two_apply (i : Fin 2048) (k : Fin 1024) : two (ix2 i k) = ((2 : ℝ) : EReal) := by
  pointwise [two]
  exact ofBits_two

theorem lineT_apply (a : FVec Ideal S1024 .f32) (i : Fin 2048) (k : Fin 1024) : lineT a (ix2 i k) = a (ix1 k) := by
  pointwise [lineT]

theorem backT_apply (x : FVec Ideal S2048x1 .f32) (i : Fin 2048) (k : Fin 1024) : backT x (ix2 i k) = Ideal.div (x (ix2 i 0)) width := by
  pointwise [backT, zero, wide]
  rw [ofBits_width]
  exact Fin.sum_univ_one _

theorem colT_apply (x : FVec Ideal S2048 .f32) (i : Fin 2048) (k : Fin 1) : colT x (ix2 i k) = x (ix1 i) := by
  pointwise [colT]

theorem offT_apply (r : FVec Ideal S2048x1024 .f32) (f : Fin 2048 → Fin 1024 → EReal) (h : ∀ i k, r (ix2 i k) = f i k) (i : Fin 2048) (k : Fin 1024) :
    offT r (ix2 i k) = off (f i) k := by
  pointwise [offT, wide]
  simp only [rowSum_apply, h, ofBits_width]
  rfl

theorem varT_apply (o : FVec Ideal S2048x1024 .f32) (f : Fin 2048 → Fin 1024 → EReal) (h : ∀ i k, o (ix2 i k) = off (f i) k) (i : Fin 2048) (k : Fin 1) :
    varT o (ix2 i k) = var (f i) + eps := by
  pointwise [varT, wide]
  simp only [rowSum_apply, ofBits_width]
  pointwise
  simp only [h]
  rfl

theorem rstdT_apply (v : FVec Ideal S2048x1 .f32) (f : Fin 2048 → Fin 1024 → EReal) (h : ∀ i k, v (ix2 i k) = var (f i) + eps) (i : Fin 2048) (k : Fin 1024) :
    rstdT v (ix2 i k) = rstd (f i) := by
  pointwise [rstdT]
  rw [h]
  rfl

theorem dyT_apply (d : FVec Ideal S2048x1024 .f32) (i : Fin 2048) (k : Fin 1024) : dyT d (ix2 i k) = d (ix2 i k) * perWidth := by
  pointwise [dyT]
  rw [two_apply, ofBits_half', ofBits_width]
  unfold width perWidth
  rw [Ideal.div_coe (by norm_num), ← EReal.coe_mul, ← mul_assoc, ← EReal.coe_mul, mul_comm]
  congr 2
  norm_num

theorem throughVar_apply (o e : FVec Ideal S2048x1024 .f32) (v : FVec Ideal S2048x1 .f32) (f g : Fin 2048 → Fin 1024 → EReal)
    (ho : ∀ i k, o (ix2 i k) = off (f i) k) (he : ∀ i k, e (ix2 i k) = g i k) (hv : ∀ i k, v (ix2 i k) = var (f i) + eps) (i : Fin 2048) (k : Fin 1024) :
    throughVar o e v (ix2 i k) = Ideal.div ((∑ j, off (f i) j * g i j) * (((-2⁻¹ : ℝ) : EReal) * Ideal.div (rstd (f i)) (var (f i) + eps))) width
      * (((2 : ℝ) : EReal) * off (f i) k) := by
  pointwise [throughVar]
  rw [backT_apply, two_apply, ho]
  pointwise
  rw [colT_apply, rowSum_apply, hv, ofBits_mhalf]
  pointwise
  simp only [ho, he]
  rfl

theorem drT_apply (o e : FVec Ideal S2048x1024 .f32) (v : FVec Ideal S2048x1 .f32) (f g : Fin 2048 → Fin 1024 → EReal)
    (ho : ∀ i k, o (ix2 i k) = off (f i) k) (he : ∀ i k, e (ix2 i k) = g i k) (hv : ∀ i k, v (ix2 i k) = var (f i) + eps)
    (hf : ∀ i k, Real' (f i k)) (hg : ∀ i k, Real' (g i k)) (i : Fin 2048) (k : Fin 1024) :
    drT o e v (ix2 i k) = normGrad (f i) (g i) k := by
  rw [← normGrad_terms (f i) (g i) (hf i) (hg i) k _ _ rfl rfl]
  pointwise [drT]
  rw [backT_apply, throughVar_apply o e v f g ho he hv, rstdT_apply v f hv, he]
  pointwise
  rw [colT_apply, colT_apply, rowSum_apply, rowSum_apply]
  pointwise
  simp only [throughVar_apply o e v f g ho he hv, rstdT_apply v f hv, he]

end stages

variable (m : (ℓ : Loc nD τ sig) → Buf (Elt Ideal) ℓ) (c : Dev nD)

/-- The reference's arguments on device `c`, as arrays. -/
abbrev A0 : FVec Ideal S2048x2816 .bf16 := m ((c.tc : Thread nD τ).loc main_arg0)
abbrev A1 : FVec Ideal S2816x1024 .f32 := m ((c.tc : Thread nD τ).loc main_arg1)
abbrev A2 : FVec Ideal S2048x1024 .f32 := m ((c.tc : Thread nD τ).loc main_arg2)
abbrev A3 : FVec Ideal S2048x1024 .f32 := m ((c.tc : Thread nD τ).loc main_arg3)
abbrev A4 : FVec Ideal S1024 .f32 := m ((c.tc : Thread nD τ).loc main_arg4)
abbrev A5 : FVec Ideal S1024 .f32 := m ((c.tc : Thread nD τ).loc main_arg5)

/-- The same, as functions of a row and a column. -/
def args : HeadArgs where
  act i j := A0 m c (ix2 i j)
  wd j k := A1 m c (ix2 j k)
  h i k := A2 m c (ix2 i k)
  target i k := A3 m c (ix2 i k)
  g k := A4 m c (ix1 k)
  b k := A5 m c (ix1 k)

def rM : FVec Ideal S2048x1024 .f32 := rT (A0 m c) (A1 m c) (A2 m c)
def oM : FVec Ideal S2048x1024 .f32 := offT (rM m c)
def vM : FVec Ideal S2048x1 .f32 := varT (oM m c)
def dM : FVec Ideal S2048x1024 .f32 := diffT (A3 m c) (A4 m c) (A5 m c) (oM m c) (rstdT (vM m c))
def eM : FVec Ideal S2048x1024 .f32 := mulf (dyT (dM m c)) (lineT (A4 m c))

theorem rM_apply (i : Fin 2048) (k : Fin 1024) : rM m c (ix2 i k) = (args m c).r i k := by
  pointwise [rM, rT]
  rfl
theorem oM_apply (i : Fin 2048) (k : Fin 1024) : oM m c (ix2 i k) = off ((args m c).r i) k := offT_apply _ _ (rM_apply m c) i k
theorem vM_apply (i : Fin 2048) (k : Fin 1) : vM m c (ix2 i k) = var ((args m c).r i) + eps := varT_apply _ _ (oM_apply m c) i k
theorem dM_apply (i : Fin 2048) (k : Fin 1024) : dM m c (ix2 i k) = (args m c).diff i k := by
  pointwise [dM, diffT]
  rw [oM_apply, rstdT_apply _ _ (vM_apply m c), lineT_apply, lineT_apply]
  rfl
theorem dy_apply (i : Fin 2048) (k : Fin 1024) : dyT (dM m c) (ix2 i k) = (args m c).dy i k := by
  rw [dyT_apply, dM_apply]; rfl
theorem eM_apply (i : Fin 2048) (k : Fin 1024) : eM m c (ix2 i k) = (args m c).dy i k * (args m c).g k := by
  pointwise [eM]
  rw [dy_apply, lineT_apply]
  rfl

theorem out0 : res_main_v81 m c = drT (oM m c) (eM m c) (vM m c) := rfl
theorem out1 : res_main_v82 m c = truncf .bf16 (drT (oM m c) (eM m c) (vM m c)) bitsLt_bf16_f32 := rfl
theorem out2 : res_main_v83 m c = lossT (dM m c) := rfl
theorem out3 : res_main_v84 m c = colSum (mulf (mulf (oM m c) (rstdT (vM m c))) (dyT (dM m c))) := rfl
theorem out4 : res_main_v85 m c = colSum (dyT (dM m c)) := rfl

theorem loss_apply (h : (args m c).Finite) (a : Fin 8) (b : Fin 128) : lossT (dM m c) (ix2 a b) = (args m c).loss := by
  pointwise [lossT, zero]
  simp only [rowSum_apply]
  pointwise
  simp only [dM_apply, ofBits_width, ofBits_half']
  unfold width
  have e : ∀ x : EReal, Ideal.div x ((1024 : ℝ) : EReal) = x * ((1 / 1024 : ℝ) : EReal) := fun x => Ideal.div_coe (by norm_num) x
  simp only [e]
  unfold HeadArgs.loss
  rw [mul_comm]
  refine (sum_mul_real _ (fun i => (args m c).lossRow i * _) (fun i => (h.lossRow i).mul ⟨_, rfl⟩) _ ⟨_, rfl⟩).trans ?_
  refine Finset.sum_congr rfl fun i _ => ?_
  show (args m c).lossRow i * _ * _ = _
  rw [mul_assoc, ← EReal.coe_mul]
  unfold halfPer
  congr 2
  norm_num

/-- What the reference's results hold. -/
theorem run_args (ρ : Dev nD → PrngReg) (hp : ∀ c, (args m c).Finite) :
    θ_run defs (onTc (τ := τ) (main (F := Ideal))) ⟨m, fun _ => 0, ρ⟩ fun r => ∀ c : Dev nD,
      (∀ i k, (r.2.mem ((c.tc : Thread nD τ).loc main_v81) : FVec Ideal S2048x1024 .f32) (ix2 i k) = (args m c).dr i k)
      ∧ (∀ i k, (r.2.mem ((c.tc : Thread nD τ).loc main_v82) : FVec Ideal S2048x1024 .bf16) (ix2 i k) = (args m c).dr i k)
      ∧ (∀ i k, (r.2.mem ((c.tc : Thread nD τ).loc main_v83) : FVec Ideal S8x128 .f32) (ix2 i k) = (args m c).loss)
      ∧ (∀ i k, (r.2.mem ((c.tc : Thread nD τ).loc main_v84) : FVec Ideal S1x1024 .f32) (ix2 i k) = (args m c).dg k)
      ∧ (∀ i k, (r.2.mem ((c.tc : Thread nD τ).loc main_v85) : FVec Ideal S1x1024 .f32) (ix2 i k) = (args m c).db k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run m ρ)
  obtain ⟨h0, h1, h2, h3, h4, hk⟩ := h c
  have hdr : ∀ i k, drT (oM m c) (eM m c) (vM m c) (ix2 i k) = (args m c).dr i k := fun i k =>
    drT_apply _ _ _ _ _ (oM_apply m c) (eM_apply m c) (vM_apply m c) (hp c).r (hp c).e i k
  refine ⟨fun i k => (congrFun (h0.trans (out0 m c)) _).trans (hdr i k), fun i k => (congrFun (h1.trans (out1 m c)) _).trans (hdr i k),
    fun i k => (congrFun (h2.trans (out2 m c)) _).trans (loss_apply m c (hp c) i k),
    fun i k => (congrFun (h3.trans (out3 m c)) _).trans ((colSum_apply _ i k).trans (Finset.sum_congr rfl fun j _ => ?_)),
    fun i k => (congrFun (h4.trans (out4 m c)) _).trans ((colSum_apply _ i k).trans (Finset.sum_congr rfl fun j _ => dy_apply m c j k)), hk⟩
  pointwise
  rw [oM_apply, rstdT_apply _ _ (vM_apply m c), dy_apply, mul_comm]
  rfl

end Cert.Proof.Head.Ref

end
-- ==== Proof.HeadProof.lean ====
/- THE DOWN PROJECTION'S CLAIMS: its precondition read, and its two programs' results equal. -/
module

public import proofs.«01_k».proof.Defs
public import proofs.«01_k».proof.Proof.HeadArrays
public import proofs.«01_k».proof.Proof.HeadRef
public import proofs.«01_k».proof.Proof.Pre
public import proofs.«01_k».proof.Proof.Same
public import Idealize.ShloMosaic.Lib.Quiescent

@[expose] public section

noncomputable section

namespace Cert.Proof.Head

open Idealize.ShloMosaic Idealize.SL.Sem

theorem pre_facts : Cert.Pre_finite2.Facts where
  bcast_S_S2048x2816 := by decide
  reducesTo_S2048x2816_S_d0_1 := by decide
  h_S_ := by decide
  bcast_S_S2816x1024 := by decide
  reducesTo_S2816x1024_S_d0_1 := by decide
  bcast_S_S2048x1024 := by decide
  reducesTo_S2048x1024_S_d0_1 := by decide
  bcast_S_S1024 := by decide
  reducesTo_S1024_S_d0 := by decide

open Cert.Pre_finite2 in
/-- What the precondition says of the six arguments. -/
theorem real_of_pre [hF : Cert.Pre_finite2.Facts] (x0 : FVec Ideal S2048x2816 .bf16) (x1 : FVec Ideal S2816x1024 .f32) (x2 x3 : FVec Ideal S2048x1024 .f32)
    (x4 x5 : FVec Ideal S1024 .f32) (h : Cert.Pre_finite2.fn (F := Ideal) x0 x1 x2 x3 x4 x5 = fun _ => 1#1) :
    (∀ i, Real' (x0 i)) ∧ (∀ i, Real' (x1 i)) ∧ (∀ i, Real' (x2 i)) ∧ (∀ i, Real' (x3 i)) ∧ (∀ i, Real' (x4 i)) ∧ ∀ i, Real' (x5 i) := by
  have j : S_.Idx := fun k => k.elim0
  have h := congrFun h j
  unfold Cert.Pre_finite2.fn fn_part1 at h
  dsimp only at h
  obtain ⟨⟨⟨⟨⟨h0, h1⟩, h2⟩, h3⟩, h4⟩, h5⟩ : (((((_ ∧ _) ∧ _) ∧ _) ∧ _) ∧ _) := by
    simpa only [andi, IntOp.andi_eq_one] using h
  exact ⟨real_of_all_half _ _ _ _ j h0, real_of_all _ _ _ _ j h1, real_of_all _ _ _ _ j h2, real_of_all _ _ _ _ j h3,
    real_of_all _ _ _ _ j h4, real_of_all _ _ _ _ j h5⟩

theorem finite_kargs (m : (ℓ : Loc Cert.Kernel2Ideal.nD Cert.Kernel2Ideal.τ Cert.Kernel2Ideal.sig) → Buf (Elt Ideal) ℓ)
    (h : Pre_Kernel2Ideal_finite2 (hPre_finite2 := pre_facts) m) (c : Dev Cert.Kernel2Ideal.nD) : (kargs m c).Finite := by
  obtain ⟨h0, h1, h2, h3, h4, h5⟩ := real_of_pre (hF := pre_facts) _ _ _ _ _ _ (h c)
  exact ⟨fun i j => h0 (ix2 i j), fun j k => h1 (ix2 j k), fun i k => h2 (ix2 i k), fun i k => h3 (ix2 i k), fun k => h4 (ix1 k),
    fun k => h5 (ix1 k)⟩

/-- The reference has no semaphores, so that its run is its frame. -/
theorem frame_ref : quiescent_Reference2Ideal (hReference2Ideal := Cert.Reference2Ideal.Gen.facts) := fun m ρ _ =>
  (θ_run (Cert.Reference2Ideal.defs (F := Ideal)) _ _).mono
    (fun r h => And.intro (fun c => (h c).2.2.2.2.2) (sem_eq_zero_of_no_sems rfl r.2)) (Cert.Reference2Ideal.Value.run m ρ)

theorem algebraic : algebraic_Kernel2Ideal_Reference2Ideal_pre_finite2 (hKernel2Ideal := Cert.Kernel2Ideal.Gen.facts)
    (hReference2Ideal := Cert.Reference2Ideal.Gen.facts) (hPre_finite2 := pre_facts) := by
  intro m g m' g' hpre hargs
  have hp := finite_kargs m hpre
  have e : ∀ c, Ref.args m' c = kargs m c := by
    intro c
    obtain ⟨h0, h1, h2, h3, h4, h5⟩ := hargs c
    unfold Ref.args kargs Ref.A0 Ref.A1 Ref.A2 Ref.A3 Ref.A4 Ref.A5 A0 A1 A2 A3 A4 A5
    rw [h0, h1, h2, h3, h4, h5]
  have hp' : ∀ c, (Ref.args m' c).Finite := fun c => by rw [e c]; exact hp c
  refine ⟨_, _, _, _, _, Cert.Kernel2Ideal.Value.run_blocks m g, ?_⟩
  refine (θ_run (Cert.Reference2Ideal.defs (F := Ideal)) _ _).mono (fun r h c => ?_) (Ref.run_args m' g' hp')
  obtain ⟨h0, h1, h2, h3, h4, hk⟩ := h c
  rw [e c] at h0 h1 h2 h3 h4
  refine ⟨?_, ?_, ?_, ?_, ?_, hk⟩
  · exact same _ _ (kargs m c).dr h0 (final_dr m c)
  · exact same _ _ (kargs m c).dr h1 (final_drb m c)
  · exact same _ _ (fun _ _ => (kargs m c).loss) h2 (final_loss m c (hp c))
  · exact same _ _ (fun _ => (kargs m c).dg) h3 (final_dg m c)
  · exact same _ _ (fun _ => (kargs m c).db) h4 (final_db m c)

end Cert.Proof.Head

end
-- ==== Proof.InPool.lean ====
/- THE GRADIENT OF A TRAILING MEAN, along one channel: as a sum over the positions whose window holds a position, and as
   differentiating differences of running sums gives it. For real numbers the two are one. -/
module

public import proofs.«01_k».proof.Proof.Norm

@[expose] public section

noncomputable section

namespace Cert.Proof

open Idealize.ShloMosaic

/-- How many positions the window of width `w` ending at `t` holds, as a number. -/
def count (w t : Nat) : EReal := ((min (t + 1) w : Nat) : ℝ)

/-- The gradient at a position past the end is zero. -/
def past (q : Fin 2048 → EReal) (n : Nat) : EReal := if h : n < 2048 then q ⟨n, h⟩ else 0

/-- Each gradient over its window's count. -/
def shared (w : Nat) (f : Fin 2048 → EReal) (t : Fin 2048) : EReal := Ideal.div (f t) (count w t)

/-- The gradient in position `t` of the trailing mean minus the position itself, for the gradients `f` of its values. -/
def poolGrad (w : Nat) (f : Fin 2048 → EReal) (t : Fin 2048) : EReal :=
  shared w f t - f t + ∑ k ∈ Finset.Ico 1 w, past (shared w f) (t.val + k)

theorem window_sum (Q : Fin 2048 → ℝ) (w : Nat) (t : Fin 2048) :
    ∑ r : Fin 2048, (if t.val ≤ r.val then Q r + ∑ j : Fin 2048, (if j.val + 1 - w = r.val + 1 then -Q j else 0) else 0)
      = ∑ k ∈ Finset.range w, (if h : t.val + k < 2048 then Q ⟨t.val + k, h⟩ else 0) := by
  set F : Nat → ℝ := fun n => if h : n < 2048 then Q ⟨n, h⟩ else 0 with hF
  have hQ : ∀ j : Fin 2048, Q j = F j.val := fun j => by simp [hF]
  have e1 : ∀ r : Fin 2048, (if t.val ≤ r.val then Q r + ∑ j : Fin 2048, (if j.val + 1 - w = r.val + 1 then -Q j else 0) else 0)
      = (if t.val ≤ r.val then Q r else 0) + ∑ j : Fin 2048, (if t.val ≤ r.val ∧ j.val + 1 - w = r.val + 1 then -Q j else 0) := fun r => by
    by_cases h : t.val ≤ r.val <;> simp [h]
  have e2 : ∀ j : Fin 2048, ∑ r : Fin 2048, (if t.val ≤ r.val ∧ j.val + 1 - w = r.val + 1 then -Q j else 0)
      = if t.val + w ≤ j.val then -Q j else 0 := fun j => by
    by_cases h : t.val + w ≤ j.val
    · have hj := j.isLt
      rw [if_pos h, Finset.sum_eq_single (⟨j.val - w, by omega⟩ : Fin 2048)]
      · rw [if_pos ⟨by show t.val ≤ j.val - w; omega, by show j.val + 1 - w = j.val - w + 1; omega⟩]
      · intro r _ hr
        rw [if_neg]
        rintro ⟨-, h2⟩
        exact hr (Fin.ext (by show r.val = j.val - w; omega))
      · intro h; exact absurd (Finset.mem_univ _) h
    · rw [if_neg h]
      refine Finset.sum_eq_zero fun r _ => if_neg ?_
      rintro ⟨h1, h2⟩
      omega
  have e3 : ∀ j : Fin 2048, (if t.val ≤ j.val then Q j else 0) + (if t.val + w ≤ j.val then -Q j else 0)
      = if t.val ≤ j.val ∧ j.val < t.val + w then F j.val else 0 := fun j => by
    rw [← hQ j]
    by_cases h : t.val ≤ j.val
    · by_cases h' : t.val + w ≤ j.val
      · simp [h, h']
      · simp [h, h', not_le.mp h']
    · have : ¬ t.val + w ≤ j.val := by omega
      simp [h, this]
  simp only [e1]
  rw [Finset.sum_add_distrib, Finset.sum_comm]
  simp only [e2]
  rw [← Finset.sum_add_distrib]
  simp only [e3]
  rw [Fin.sum_univ_eq_sum_range (fun n => if t.val ≤ n ∧ n < t.val + w then F n else 0) 2048, ← Finset.sum_filter]
  have e4 : ∑ k ∈ Finset.range w, F (t.val + k) = ∑ n ∈ Finset.Ico t.val (t.val + w), F n := by
    rw [Finset.sum_Ico_eq_sum_range]; congr 2; omega
  refine Eq.trans ?_ e4.symm
  refine Finset.sum_subset (fun n hn => ?_) fun n hn hn' => ?_
  · simp only [Finset.mem_filter, Finset.mem_range, Finset.mem_Ico] at hn ⊢; exact hn.2
  · simp only [Finset.mem_filter, Finset.mem_range, Finset.mem_Ico, not_and] at hn hn'
    simp only [hF]
    rw [dif_neg fun h => hn' h hn.1 hn.2]

theorem count_real (w t : Nat) (hw : 0 < w) : ∃ r : ℝ, r ≠ 0 ∧ count w t = (r : EReal) := by
  have h : 0 < min (t + 1) w := by omega
  exact ⟨((min (t + 1) w : Nat) : ℝ), by exact_mod_cast h.ne', rfl⟩

/-- The gradient of the differences of running sums, term by term. -/
theorem poolGrad_terms (w : Nat) (hw : 0 < w) (f : Fin 2048 → EReal) (hf : ∀ t, Real' (f t)) (t : Fin 2048) :
    (∑ r : Fin 2048, (if t.val ≤ r.val then shared w f r + ∑ j : Fin 2048, (if j.val + 1 - w = r.val + 1 then -shared w f j else 0) else 0)) - f t
      = poolGrad w f t := by
  have hs : ∀ t, Real' (shared w f t) := fun t => by
    obtain ⟨a, ha⟩ := hf t
    obtain ⟨r, hr, hc⟩ := count_real w t hw
    exact ⟨a * (1 / r), by unfold shared; rw [ha, hc, Ideal.div_coe hr, ← EReal.coe_mul]⟩
  choose Q hQ using hs
  obtain ⟨a, ha⟩ := hf t
  have hp : ∀ n, past (shared w f) n = ((if h : n < 2048 then Q ⟨n, h⟩ else 0 : ℝ) : EReal) := fun n => by
    unfold past
    by_cases h : n < 2048
    · rw [dif_pos h, dif_pos h, hQ]
    · rw [dif_neg h, dif_neg h]; rfl
  have hl : ∑ r : Fin 2048, (if t.val ≤ r.val then shared w f r + ∑ j : Fin 2048, (if j.val + 1 - w = r.val + 1 then -shared w f j else 0) else 0)
      = ((∑ r : Fin 2048, (if t.val ≤ r.val then Q r + ∑ j : Fin 2048, (if j.val + 1 - w = r.val + 1 then -Q j else 0) else 0) : ℝ) : EReal) := by
    rw [coe_sum]
    refine Finset.sum_congr rfl fun r _ => ?_
    by_cases h : t.val ≤ r.val
    · rw [if_pos h, if_pos h, EReal.coe_add, coe_sum, hQ]
      refine congrArg _ (Finset.sum_congr rfl fun j _ => ?_)
      by_cases h' : j.val + 1 - w = r.val + 1
      · rw [if_pos h', if_pos h', hQ, EReal.coe_neg]
      · rw [if_neg h', if_neg h']; rfl
    · rw [if_neg h, if_neg h]; rfl
  rw [hl, window_sum, ha]
  unfold poolGrad
  simp only [hp]
  rw [hQ, ha, ← coe_sum, ← EReal.coe_sub, ← EReal.coe_sub, ← EReal.coe_add]
  congr 1
  obtain ⟨n, rfl⟩ : ∃ n, w = n + 1 := ⟨w - 1, by omega⟩
  rw [Finset.sum_range_succ', Finset.sum_Ico_eq_sum_range]
  simp only [Nat.add_zero, Fin.isLt, dif_pos, Nat.add_sub_cancel]
  have : ∀ k, t.val + (1 + k) = t.val + (k + 1) := fun k => by omega
  simp only [this]
  ring

end Cert.Proof

end
-- ==== Proof.Pieces.lean ====
/- BLOCKS STORED IN PIECES: what a block that was stored by columns holds, read at a column of one of the pieces. -/
module

public import proofs.«01_k».proof.Proof.Block
public import proofs.«01_k».proof.Proof.Same
public import Idealize.ShloMosaic.Lib.Pipeline.ValueKit.Acc

@[expose] public section

namespace Cert.Proof

open Idealize.ShloMosaic Idealize.ShloMosaic.TcCoe

variable {Val : EltTy → Type} [∀ e, Nonempty (Val e)] {A B a b : Nat} {e : EltTy}

/-- Where an index of a piece lies in the block. -/
theorem unit_emb {u o : Nat} (inb : ∀ q, (![u, o] : Fin 2 → Nat) q + (![a, b] : Fin 2 → Nat) q ≤ (⟨2, ![A, B]⟩ : Shape).size q)
    (i : Fin a) (k : Fin b) (y : Fin A) (z : Fin B) (hy : y.val = u + i.val) (hz : z.val = o + k.val) :
    (Rect.unit (s := ⟨2, ![A, B]⟩) ![u, o] ![a, b] inb).emb (ix2 i k) = (ix2 y z : (⟨2, ![A, B]⟩ : Shape).Idx) := by
  funext q
  match q with
  | ⟨0, _⟩ => exact Fin.ext (show u + 1 * i.val = y.val by omega)
  | ⟨1, _⟩ => exact Fin.ext (show o + 1 * k.val = z.val by omega)

/-- A load of a piece reads the block there. -/
theorem ld_piece {u o : Nat} (inb : ∀ q, (![u, o] : Fin 2 → Nat) q + (![a, b] : Fin 2 → Nat) q ≤ (⟨2, ![A, B]⟩ : Shape).size q)
    (x : (⟨2, ![A, B]⟩ : Shape).Idx → Val e) (i : Fin a) (k : Fin b) (y : Fin A) (z : Fin B) (hy : y.val = u + i.val) (hz : z.val = o + k.val) :
    View.ld x (Rect.unit (s := ⟨2, ![A, B]⟩) ![u, o] ![a, b] inb) (ix2 i k) = x (ix2 y z) :=
  congrArg x (unit_emb inb i k y z hy hz)

/-- At an index of the last piece stored, the block holds that piece; elsewhere it holds the earlier ones. -/
theorem canon_hit {u o : Nat} (inb : ∀ q, (![u, o] : Fin 2 → Nat) q + (![a, b] : Fin 2 → Nat) q ≤ (⟨2, ![A, B]⟩ : Shape).size q)
    (w : (⟨2, ![a, b]⟩ : Shape).Idx → Val e) (L : List (View.Piece Val ⟨2, ![A, B]⟩ e)) (i : Fin a) (k : Fin b) (y : Fin A) (z : Fin B)
    (hy : y.val = u + i.val) (hz : z.val = o + k.val) :
    View.canon ((⟨Rect.unit (s := ⟨2, ![A, B]⟩) ![u, o] ![a, b] inb, w⟩ : View.Piece Val ⟨2, ![A, B]⟩ e) :: L) (ix2 y z) = w (ix2 i k) := by
  rw [← unit_emb inb i k y z hy hz]
  exact View.canon_cons_emb (Rect.unit (s := ⟨2, ![A, B]⟩) ![u, o] ![a, b] inb) w L (ix2 i k)
theorem canon_miss {u o : Nat} (inb : ∀ q, (![u, o] : Fin 2 → Nat) q + (![a, b] : Fin 2 → Nat) q ≤ (⟨2, ![A, B]⟩ : Shape).size q)
    (w : (⟨2, ![a, b]⟩ : Shape).Idx → Val e) (L : List (View.Piece Val ⟨2, ![A, B]⟩ e)) (y : Fin A) (z : Fin B)
    (hz : z.val < o ∨ o + b ≤ z.val) :
    View.canon ((⟨Rect.unit (s := ⟨2, ![A, B]⟩) ![u, o] ![a, b] inb, w⟩ : View.Piece Val ⟨2, ![A, B]⟩ e) :: L) (ix2 y z) = View.canon L (ix2 y z) := by
  refine View.canon_cons_of_not_mem _ _ fun hm => ?_
  have h := (Rect.mem_set_unit (s := ⟨2, ![A, B]⟩) (off := ![u, o]) (size := ![a, b]) (inb := inb)).1 hm 1
  have h0 : o ≤ z.val := h.1
  have h1 : z.val < o + b := h.2
  omega

end Cert.Proof
-- ==== Proof.In.lean ====
/- THE INPUT PROJECTION'S BACKWARD PASS: its arguments and results as functions of a row and a column, and what the kernel's
   blocks hold. -/
module

public import proofs.«01_k».proof.Defs
public import proofs.«01_k».proof.Proof.InPool
public import proofs.«01_k».proof.Proof.Gen.Kernel3Ideal.Value
public import proofs.«01_k».proof.Proof.Pieces
public import Idealize.ShloMosaic.Lib.Pointwise
public import Idealize.ShloMosaic.Lib.KernelVsHost
public import Idealize.ShloMosaic.Lib.WordArith

@[expose] public section

set_option maxRecDepth 16384

noncomputable section

namespace Cert.Proof.InX

open Idealize.ShloMosaic Idealize.ShloMosaic.TcCoe Idealize.ShloMosaic.StableHlo Idealize.SL.Sem

/-- The arguments: the gradients of the projection's sections, of the pooled values and of the residual, and the weight. -/
structure InArgs where
  dq : Fin 2048 → Fin 512 → EReal
  dk : Fin 2048 → Fin 512 → EReal
  dv : Fin 2048 → Fin 512 → EReal
  dp : Fin 2048 → Fin 512 → EReal
  dzg : Fin 2048 → Fin 2048 → EReal
  dr : Fin 2048 → Fin 1024 → EReal
  w : Fin 1024 → Fin 4096 → EReal

/-- The window a pooled column's mean is over: two positions in the first group of columns, twice as many in each next. -/
def width (z : Fin 512) : Nat := 2 ^ (z.val / 128 + 1)

/-- Column `k` of section `n`; column `j` of group `g`. -/
def sec (n : Fin 8) (k : Fin 512) : Fin 4096 := ⟨512 * n.val + k.val, by omega⟩
def pcol (g : Fin 4) (j : Fin 128) : Fin 512 := ⟨128 * g.val + j.val, by omega⟩

namespace InArgs
variable (p : InArgs)

/-- The gradient of the fourth section, through the trailing means. -/
def pool (r : Fin 2048) (z : Fin 512) : EReal := poolGrad (width z) (fun r => p.dp r z) r

/-- The gradient of the projection. -/
def dz (r : Fin 2048) (j : Fin 4096) : EReal :=
  if h : j.val < 512 then p.dq r ⟨j.val, h⟩
  else if h : j.val < 1024 then p.dk r ⟨j.val - 512, by omega⟩
  else if h : j.val < 1536 then p.dv r ⟨j.val - 1024, by omega⟩
  else if h : j.val < 2048 then p.pool r ⟨j.val - 1536, by omega⟩
  else p.dzg r ⟨j.val - 2048, by omega⟩

/-- The gradient of the projection's input. -/
def dx (r : Fin 2048) (k : Fin 1024) : EReal := (FloatOps.ofBits .f32 0x3F9837F0#32 : Ideal .f32) * p.dr r k + ∑ j, p.dz r j * p.w k j

end InArgs

/-- A sum over the projection's columns, section by section. -/
theorem sum_sections (f : Fin 4096 → EReal) : ∑ j, f j = ∑ k, f (sec 0 k) + ∑ k, f (sec 1 k) + ∑ k, f (sec 2 k) + ∑ k, f (sec 3 k)
    + ∑ k, f (sec 4 k) + ∑ k, f (sec 5 k) + ∑ k, f (sec 6 k) + ∑ k, f (sec 7 k) := by
  rw [← (finProdFinEquiv (m := 8) (n := 512)).sum_comp f, Fintype.sum_prod_type, Fin.sum_univ_eight]
  have e : ∀ n : Fin 8, ∑ k : Fin 512, f (finProdFinEquiv (n, k)) = ∑ k, f (sec n k) := fun n =>
    Finset.sum_congr rfl fun k _ => congrArg f (Fin.ext (by show k.val + 512 * n.val = 512 * n.val + k.val; omega))
  simp only [e]

theorem past_val (q : Fin 2048 → EReal) (t : Fin 2048) : past q t.val = q t := by
  unfold past; rw [dif_pos t.isLt]

/-- The word that counts a window's positions, as a number. -/
theorem count_word (b : BitVec 32) (n w : Nat) (hb : b.toNat = n + 1) (hn : n < 2 ^ 20) (hw : w < 2 ^ 20) :
    (FloatOps.sitofp .f32 (IntOp.minsi b (BitVec.ofNat 32 w)) : Ideal .f32) = count w n := by
  have hwn : (BitVec.ofNat 32 w).toNat = w := by rw [BitVec.toNat_ofNat]; omega
  have e := WordArith.toNat_minsi_of_lt b (BitVec.ofNat 32 w) (by omega) (by omega)
  rw [hb, hwn] at e
  have e2 : (IntOp.minsi b (BitVec.ofNat 32 w)).toInt = ((min (n + 1) w : Nat) : Int) := by
    rw [BitVec.toInt_eq_toNat_of_lt (by omega), e]
  show (((IntOp.minsi b (BitVec.ofNat 32 w)).toInt : ℝ) : EReal) = ((min (n + 1) w : Nat) : ℝ)
  rw [e2]
  norm_cast

section kernel
open Cert.Kernel3Ideal Cert.Kernel3Ideal.Gen

/-- The row that line `l` of point `t`'s blocks is. -/
def row (t : Fin cfg0.N) (l : Fin 256) : Fin 2048 := ⟨t.val * 256 + l.val, by have := t.isLt; have : cfg0.N = 8 := N_0; omega⟩

theorem coord : ∀ t : Fin cfg0.N, (grid0.coords t 0).val = t.val := (by decide +kernel : ∀ t : Fin grid0.N, (grid0.coords t 0).val = t.val)

variable (m : (ℓ : Loc nD τ sig) → Buf (Elt Ideal) ℓ) (c : Dev nD) (t : Fin cfg0.N) (p : InArgs)

/-- What point `t`'s blocks hold, of the arguments. -/
structure AtPoint : Prop where
  q : ∀ i j, iblk m c 0 t (ix2 i j) = p.dq (row t i) j
  k : ∀ i j, iblk m c 1 t (ix2 i j) = p.dk (row t i) j
  v : ∀ i j, iblk m c 2 t (ix2 i j) = p.dv (row t i) j
  u : ∀ i j, iblk m c 3 t (ix2 i j) = p.dp (row t i) j
  next : ∀ (h : t.val < 7) (i : Fin 16) (j : Fin 512), iblk m c 4 t (ix2 i j) = p.dp ⟨t.val * 256 + (256 + i.val), by omega⟩ j
  g : ∀ i j, iblk m c 5 t (ix2 i j) = p.dzg (row t i) j
  r : ∀ i j, iblk m c 6 t (ix2 i j) = p.dr (row t i) j
  w : ∀ s k j, iblk m c 7 t (ix3 s k j) = p.w k (sec s j)

variable {m c t p}

/-- A pooled gradient over its count, in the point's own rows and in the rows that follow them. -/
theorem own_piece (h : AtPoint m c t p) (w : Nat) (hw : w < 2 ^ 20) (i : Fin 256) (z : Fin 512) (b : BitVec 32) (hb : b.toNat = t.val * 256 + i.val + 1) :
    Ideal.div (iblk m c 3 t (ix2 i z)) (FloatOps.sitofp .f32 (IntOp.minsi b (BitVec.ofNat 32 w)) : Ideal .f32)
      = past (shared w fun r => p.dp r z) (t.val * 256 + i.val) := by
  have ht := t.isLt
  have hN : cfg0.N = 8 := N_0
  rw [count_word b (t.val * 256 + i.val) w hb (by omega) hw, h.u]
  exact (past_val (shared w fun r => p.dp r z) (row t i)).symm

theorem next_piece (h : AtPoint m c t p) (w : Nat) (hw : w < 2 ^ 20) (hw0 : 0 < w) (i : Fin 16) (z : Fin 512) (b : BitVec 32)
    (hb : b.toNat = t.val * 256 + (256 + i.val) + 1) :
    Ideal.div (Scalar.select (Scalar.cmpi .slt (BitVec.ofNat 32 (grid0.coords t 0).val) 7#32) (iblk m c 4 t (ix2 i z)) (0 : EReal))
        (FloatOps.sitofp .f32 (IntOp.minsi b (BitVec.ofNat 32 w)) : Ideal .f32)
      = past (shared w fun r => p.dp r z) (t.val * 256 + (256 + i.val)) := by
  have ht := t.isLt
  have hN : cfg0.N = 8 := N_0
  rw [count_word b (t.val * 256 + (256 + i.val)) w hb (by omega) hw, coord]
  by_cases h7 : t.val < 7
  · have e : Scalar.cmpi .slt (BitVec.ofNat 32 t.val) 7#32 = 1#1 := by
      have : ∀ n : Fin 7, Scalar.cmpi .slt (BitVec.ofNat 32 n.val) 7#32 = 1#1 := by decide
      exact this ⟨t.val, h7⟩
    rw [e, h.next h7]
    unfold past
    rw [dif_pos (by omega)]
    rfl
  · have e : Scalar.cmpi .slt (BitVec.ofNat 32 t.val) 7#32 = 0#1 := by
      rw [show t.val = 7 by omega]; decide
    rw [e]
    unfold past
    rw [dif_neg (by omega)]
    obtain ⟨r, hr, hc⟩ := count_real w (t.val * 256 + (256 + i.val)) hw0
    rw [hc]
    show Ideal.div ((0 : ℝ) : EReal) (r : EReal) = 0
    rw [Ideal.div_coe hr, ← EReal.coe_mul, zero_mul]
    rfl

theorem own_word (i : Fin 256) : (IntOp.addi (IntOp.addi (Scalar.muli (BitVec.ofNat 32 (grid0.coords t 0).val) 256#32) (BitVec.ofNat 32 i.val)) 1#32).toNat
    = t.val * 256 + i.val + 1 := by
  have ht := t.isLt
  have hN : cfg0.N = 8 := N_0
  rw [coord]
  simp only [IntOp.addi, Scalar.muli, IntOp.muli, BitVec.toNat_add, BitVec.toNat_mul, BitVec.toNat_ofNat]
  omega
theorem next_word (i : Fin 16) : (IntOp.addi (IntOp.addi (Scalar.muli (Scalar.addi (BitVec.ofNat 32 (grid0.coords t 0).val) 1#32) 256#32) (BitVec.ofNat 32 i.val)) 1#32).toNat
    = t.val * 256 + (256 + i.val) + 1 := by
  have ht := t.isLt
  have hN : cfg0.N = 8 := N_0
  rw [coord]
  simp only [IntOp.addi, Scalar.addi, Scalar.muli, IntOp.muli, BitVec.toNat_add, BitVec.toNat_mul, BitVec.toNat_ofNat]
  omega

theorem own0_read (x : Vec Ideal S256x512 .f32) (t : Fin cfg0.N) (i : Fin 256) (j : Fin 128) :
    k0_pay3 (grid0.coords t) x (ix2 i j)
      = Ideal.div (x (ix2 i (pcol 0 j))) (FloatOps.sitofp .f32 (IntOp.minsi (IntOp.addi (IntOp.addi (Scalar.muli (BitVec.ofNat 32 (grid0.coords t 0).val) 256#32) (BitVec.ofNat 32 i.val)) 1#32) 2#32) : Ideal .f32) := by
  have e : ∀ h, (⟨j.val, h⟩ : Fin 512) = pcol 0 j := fun _ => Fin.ext (by simp [pcol])
  pointwise [k0_pay3]
  simp only [e]
theorem own0 (h : AtPoint m c t p) (i : Fin 256) (j : Fin 128) :
    (k0_pay3 (grid0.coords t) (iblk m c 3 t) : FVec Ideal S256x128 .f32) (ix2 i j) = past (shared 2 fun r => p.dp r (pcol 0 j)) (t.val * 256 + i.val) :=
  (own0_read (iblk m c 3 t) t i j).trans (own_piece h 2 (by omega) i (pcol 0 j) _ (own_word i))

theorem next0_read (x : Vec Ideal S16x512 .f32) (t : Fin cfg0.N) (i : Fin 16) (j : Fin 128) :
    k0_pay4 (grid0.coords t) x (ix2 i j)
      = Ideal.div (Scalar.select (Scalar.cmpi .slt (BitVec.ofNat 32 (grid0.coords t 0).val) 7#32) (x (ix2 i (pcol 0 j))) (0 : EReal)) (FloatOps.sitofp .f32 (IntOp.minsi (IntOp.addi (IntOp.addi (Scalar.muli (Scalar.addi (BitVec.ofNat 32 (grid0.coords t 0).val) 1#32) 256#32) (BitVec.ofNat 32 i.val)) 1#32) 2#32) : Ideal .f32) := by
  have e : ∀ h, (⟨j.val, h⟩ : Fin 512) = pcol 0 j := fun _ => Fin.ext (by simp [pcol])
  pointwise [k0_pay4, k0_pay2]
  simp only [e]
theorem next0 (h : AtPoint m c t p) (i : Fin 16) (j : Fin 128) :
    (k0_pay4 (grid0.coords t) (iblk m c 4 t) : FVec Ideal S16x128 .f32) (ix2 i j) = past (shared 2 fun r => p.dp r (pcol 0 j)) (t.val * 256 + (256 + i.val)) :=
  (next0_read (iblk m c 4 t) t i j).trans (next_piece h 2 (by omega) (by omega) i (pcol 0 j) _ (next_word i))

theorem own1_read (x : Vec Ideal S256x512 .f32) (t : Fin cfg0.N) (i : Fin 256) (j : Fin 128) :
    k0_pay6 (k0_pay5 x) (Scalar.muli (BitVec.ofNat 32 (grid0.coords t 0).val) 256#32) (iota Kind.tc S256x1 32 [0] iota_S256x1_d0_w32) (ix2 i j)
      = Ideal.div (x (ix2 i (pcol 1 j))) (FloatOps.sitofp .f32 (IntOp.minsi (IntOp.addi (IntOp.addi (Scalar.muli (BitVec.ofNat 32 (grid0.coords t 0).val) 256#32) (BitVec.ofNat 32 i.val)) 1#32) 4#32) : Ideal .f32) := by
  have e : ∀ h, (⟨128 + j.val, h⟩ : Fin 512) = pcol 1 j := fun _ => Fin.ext (by simp [pcol])
  pointwise [k0_pay6, k0_pay5]
  simp only [e]
theorem own1 (h : AtPoint m c t p) (i : Fin 256) (j : Fin 128) :
    (k0_pay6 (k0_pay5 (iblk m c 3 t)) (Scalar.muli (BitVec.ofNat 32 (grid0.coords t 0).val) 256#32) (iota Kind.tc S256x1 32 [0] iota_S256x1_d0_w32) : FVec Ideal S256x128 .f32) (ix2 i j) = past (shared 4 fun r => p.dp r (pcol 1 j)) (t.val * 256 + i.val) :=
  (own1_read (iblk m c 3 t) t i j).trans (own_piece h 4 (by omega) i (pcol 1 j) _ (own_word i))

theorem next1_read (x : Vec Ideal S16x512 .f32) (t : Fin cfg0.N) (i : Fin 16) (j : Fin 128) :
    k0_pay7 (BitVec.ofNat 32 (grid0.coords t 0).val) (k0_pay2 (grid0.coords t) x) (ix2 i j)
      = Ideal.div (Scalar.select (Scalar.cmpi .slt (BitVec.ofNat 32 (grid0.coords t 0).val) 7#32) (x (ix2 i (pcol 1 j))) (0 : EReal)) (FloatOps.sitofp .f32 (IntOp.minsi (IntOp.addi (IntOp.addi (Scalar.muli (Scalar.addi (BitVec.ofNat 32 (grid0.coords t 0).val) 1#32) 256#32) (BitVec.ofNat 32 i.val)) 1#32) 4#32) : Ideal .f32) := by
  have e : ∀ h, (⟨128 + j.val, h⟩ : Fin 512) = pcol 1 j := fun _ => Fin.ext (by simp [pcol])
  pointwise [k0_pay7, k0_pay2]
  simp only [e]
theorem next1 (h : AtPoint m c t p) (i : Fin 16) (j : Fin 128) :
    (k0_pay7 (BitVec.ofNat 32 (grid0.coords t 0).val) (k0_pay2 (grid0.coords t) (iblk m c 4 t)) : FVec Ideal S16x128 .f32) (ix2 i j) = past (shared 4 fun r => p.dp r (pcol 1 j)) (t.val * 256 + (256 + i.val)) :=
  (next1_read (iblk m c 4 t) t i j).trans (next_piece h 4 (by omega) (by omega) i (pcol 1 j) _ (next_word i))

theorem own2_read (x : Vec Ideal S256x512 .f32) (t : Fin cfg0.N) (i : Fin 256) (j : Fin 128) :
    k0_pay8 (BitVec.ofNat 32 (grid0.coords t 0).val) x (ix2 i j)
      = Ideal.div (x (ix2 i (pcol 2 j))) (FloatOps.sitofp .f32 (IntOp.minsi (IntOp.addi (IntOp.addi (Scalar.muli (BitVec.ofNat 32 (grid0.coords t 0).val) 256#32) (BitVec.ofNat 32 i.val)) 1#32) 8#32) : Ideal .f32) := by
  have e : ∀ h, (⟨256 + j.val, h⟩ : Fin 512) = pcol 2 j := fun _ => Fin.ext (by simp [pcol])
  pointwise [k0_pay8]
  simp only [e]
theorem own2 (h : AtPoint m c t p) (i : Fin 256) (j : Fin 128) :
    (k0_pay8 (BitVec.ofNat 32 (grid0.coords t 0).val) (iblk m c 3 t) : FVec Ideal S256x128 .f32) (ix2 i j) = past (shared 8 fun r => p.dp r (pcol 2 j)) (t.val * 256 + i.val) :=
  (own2_read (iblk m c 3 t) t i j).trans (own_piece h 8 (by omega) i (pcol 2 j) _ (own_word i))

theorem next2_read (x : Vec Ideal S16x512 .f32) (t : Fin cfg0.N) (i : Fin 16) (j : Fin 128) :
    k0_pay9 (BitVec.ofNat 32 (grid0.coords t 0).val) (k0_pay2 (grid0.coords t) x) (ix2 i j)
      = Ideal.div (Scalar.select (Scalar.cmpi .slt (BitVec.ofNat 32 (grid0.coords t 0).val) 7#32) (x (ix2 i (pcol 2 j))) (0 : EReal)) (FloatOps.sitofp .f32 (IntOp.minsi (IntOp.addi (IntOp.addi (Scalar.muli (Scalar.addi (BitVec.ofNat 32 (grid0.coords t 0).val) 1#32) 256#32) (BitVec.ofNat 32 i.val)) 1#32) 8#32) : Ideal .f32) := by
  have e : ∀ h, (⟨256 + j.val, h⟩ : Fin 512) = pcol 2 j := fun _ => Fin.ext (by simp [pcol])
  pointwise [k0_pay9, k0_pay2]
  simp only [e]
theorem next2 (h : AtPoint m c t p) (i : Fin 16) (j : Fin 128) :
    (k0_pay9 (BitVec.ofNat 32 (grid0.coords t 0).val) (k0_pay2 (grid0.coords t) (iblk m c 4 t)) : FVec Ideal S16x128 .f32) (ix2 i j) = past (shared 8 fun r => p.dp r (pcol 2 j)) (t.val * 256 + (256 + i.val)) :=
  (next2_read (iblk m c 4 t) t i j).trans (next_piece h 8 (by omega) (by omega) i (pcol 2 j) _ (next_word i))

theorem own3_read (x : Vec Ideal S256x512 .f32) (t : Fin cfg0.N) (i : Fin 256) (j : Fin 128) :
    k0_pay10 (BitVec.ofNat 32 (grid0.coords t 0).val) x (ix2 i j)
      = Ideal.div (x (ix2 i (pcol 3 j))) (FloatOps.sitofp .f32 (IntOp.minsi (IntOp.addi (IntOp.addi (Scalar.muli (BitVec.ofNat 32 (grid0.coords t 0).val) 256#32) (BitVec.ofNat 32 i.val)) 1#32) 16#32) : Ideal .f32) := by
  have e : ∀ h, (⟨384 + j.val, h⟩ : Fin 512) = pcol 3 j := fun _ => Fin.ext (by simp [pcol])
  pointwise [k0_pay10]
  simp only [e]
theorem own3 (h : AtPoint m c t p) (i : Fin 256) (j : Fin 128) :
    (k0_pay10 (BitVec.ofNat 32 (grid0.coords t 0).val) (iblk m c 3 t) : FVec Ideal S256x128 .f32) (ix2 i j) = past (shared 16 fun r => p.dp r (pcol 3 j)) (t.val * 256 + i.val) :=
  (own3_read (iblk m c 3 t) t i j).trans (own_piece h 16 (by omega) i (pcol 3 j) _ (own_word i))

theorem next3_read (x : Vec Ideal S16x512 .f32) (t : Fin cfg0.N) (i : Fin 16) (j : Fin 128) :
    k0_pay13 (k0_pay11 (k0_pay2 (grid0.coords t) x)) (k0_pay12 (BitVec.ofNat 32 (grid0.coords t 0).val)) (ix2 i j)
      = Ideal.div (Scalar.select (Scalar.cmpi .slt (BitVec.ofNat 32 (grid0.coords t 0).val) 7#32) (x (ix2 i (pcol 3 j))) (0 : EReal)) (FloatOps.sitofp .f32 (IntOp.minsi (IntOp.addi (IntOp.addi (Scalar.muli (Scalar.addi (BitVec.ofNat 32 (grid0.coords t 0).val) 1#32) 256#32) (BitVec.ofNat 32 i.val)) 1#32) 16#32) : Ideal .f32) := by
  have e : ∀ h, (⟨384 + j.val, h⟩ : Fin 512) = pcol 3 j := fun _ => Fin.ext (by simp [pcol])
  pointwise [k0_pay13, k0_pay11, k0_pay12, k0_pay2]
  simp only [e]
theorem next3 (h : AtPoint m c t p) (i : Fin 16) (j : Fin 128) :
    (k0_pay13 (k0_pay11 (k0_pay2 (grid0.coords t) (iblk m c 4 t))) (k0_pay12 (BitVec.ofNat 32 (grid0.coords t 0).val)) : FVec Ideal S16x128 .f32) (ix2 i j) = past (shared 16 fun r => p.dp r (pcol 3 j)) (t.val * 256 + (256 + i.val)) :=
  (next3_read (iblk m c 4 t) t i j).trans (next_piece h 16 (by omega) (by omega) i (pcol 3 j) _ (next_word i))

/-- Where the block does not meet the last piece stored, it holds the earlier ones. -/
theorem canon_skip {u o a b A B : Nat} {e : EltTy} (inb : ∀ q, (![u, o] : Fin 2 → Nat) q + (![a, b] : Fin 2 → Nat) q ≤ (⟨2, ![A, B]⟩ : Shape).size q)
    (x : (⟨2, ![a, b]⟩ : Shape).Idx → Elt Ideal e) (L : List (View.Piece (Elt Ideal) ⟨2, ![A, B]⟩ e)) (y : Fin A) (z : Fin B)
    (hz : (y.val < u ∨ u + a ≤ y.val) ∨ (z.val < o ∨ o + b ≤ z.val)) :
    View.canon ((⟨Rect.unit (s := ⟨2, ![A, B]⟩) ![u, o] ![a, b] inb, x⟩ : View.Piece (Elt Ideal) ⟨2, ![A, B]⟩ e) :: L) (ix2 y z) = View.canon L (ix2 y z) := by
  refine View.canon_cons_of_not_mem _ _ fun hm => ?_
  have hr := (Rect.mem_set_unit (s := ⟨2, ![A, B]⟩) (off := ![u, o]) (size := ![a, b]) (inb := inb)).1 hm
  have h0 : u ≤ y.val := (hr 0).1
  have h1 : y.val < u + a := (hr 0).2
  have h2 : o ≤ z.val := (hr 1).1
  have h3 : z.val < o + b := (hr 1).2
  omega

variable (m c t) in
/-- The pieces stored of the gradients over their counts. -/
abbrev SL : List (View.Piece (Elt Ideal) S272x512 .f32) :=
   [⟨Rect.unit ![256, 384] ![16, 128] inb_S272x512_S16x128_256_384, k0_pay13 (k0_pay11 (k0_pay2 (grid0.coords t) (iblk m c 4 t))) (k0_pay12 (BitVec.ofNat 32 (grid0.coords t 0).val))⟩,
    ⟨Rect.unit ![0, 384] ![256, 128] inb_S272x512_S256x128_0_384, k0_pay10 (BitVec.ofNat 32 (grid0.coords t 0).val) (iblk m c 3 t)⟩,
    ⟨Rect.unit ![256, 256] ![16, 128] inb_S272x512_S16x128_256_256, k0_pay9 (BitVec.ofNat 32 (grid0.coords t 0).val) (k0_pay2 (grid0.coords t) (iblk m c 4 t))⟩,
    ⟨Rect.unit ![0, 256] ![256, 128] inb_S272x512_S256x128_0_256, k0_pay8 (BitVec.ofNat 32 (grid0.coords t 0).val) (iblk m c 3 t)⟩,
    ⟨Rect.unit ![256, 128] ![16, 128] inb_S272x512_S16x128_256_128, k0_pay7 (BitVec.ofNat 32 (grid0.coords t 0).val) (k0_pay2 (grid0.coords t) (iblk m c 4 t))⟩,
    ⟨Rect.unit ![0, 128] ![256, 128] inb_S272x512_S256x128_0_128, k0_pay6 (k0_pay5 (iblk m c 3 t)) (Scalar.muli (BitVec.ofNat 32 (grid0.coords t 0).val) 256#32) (iota Kind.tc S256x1 32 [0] iota_S256x1_d0_w32)⟩,
    ⟨Rect.unit ![256, 0] ![16, 128] inb_S272x512_S16x128_256_0, k0_pay4 (grid0.coords t) (iblk m c 4 t)⟩,
    ⟨Rect.unit ![0, 0] ![256, 128] inb_S272x512_S256x128_0_0, k0_pay3 (grid0.coords t) (iblk m c 3 t)⟩]

/-- The gradients over their counts, from the point's first row on. -/
theorem scratch (h : AtPoint m c t p) (y : Fin 272) (z : Fin 512) :
    View.canon (SL m c t) (ix2 y z) = past (shared (width z) fun r => p.dp r z) (t.val * 256 + y.val) := by
  have hy := y.isLt
  have hz := z.isLt
  obtain ⟨g, j, rfl⟩ : ∃ g j, z = pcol g j := ⟨⟨z.val / 128, by omega⟩, ⟨z.val % 128, by omega⟩, Fin.ext (by show z.val = 128 * (z.val / 128) + z.val % 128; omega)⟩
  have hj := j.isLt
  have hg := g.isLt
  have hp : (pcol g j).val = 128 * g.val + j.val := rfl
  have hwd : width (pcol g j) = 2 ^ (g.val + 1) := by unfold width; rw [hp, show (128 * g.val + j.val) / 128 = g.val by omega]
  rw [hwd]
  unfold SL
  obtain ⟨g, hg⟩ := g
  obtain rfl | rfl | rfl | rfl : g = 0 ∨ g = 1 ∨ g = 2 ∨ g = 3 := by omega
  · have hp : (pcol 0 j).val = 0 + j.val := by simp [pcol]
    by_cases hy : y.val < 256
    · refine (canon_skip _ _ _ y (pcol 0 j) (by rw [hp]; omega)).trans ?_
      refine (canon_skip _ _ _ y (pcol 0 j) (by rw [hp]; omega)).trans ?_
      refine (canon_skip _ _ _ y (pcol 0 j) (by rw [hp]; omega)).trans ?_
      refine (canon_skip _ _ _ y (pcol 0 j) (by rw [hp]; omega)).trans ?_
      refine (canon_skip _ _ _ y (pcol 0 j) (by rw [hp]; omega)).trans ?_
      refine (canon_skip _ _ _ y (pcol 0 j) (by rw [hp]; omega)).trans ?_
      refine (canon_skip _ _ _ y (pcol 0 j) (by rw [hp]; omega)).trans ?_
      refine (canon_hit _ _ _ (⟨y.val, hy⟩ : Fin 256) j y (pcol 0 j) (by simp) (by rw [hp])).trans ?_
      exact own0 h ⟨y.val, hy⟩ j
    · refine (canon_skip _ _ _ y (pcol 0 j) (by rw [hp]; omega)).trans ?_
      refine (canon_skip _ _ _ y (pcol 0 j) (by rw [hp]; omega)).trans ?_
      refine (canon_skip _ _ _ y (pcol 0 j) (by rw [hp]; omega)).trans ?_
      refine (canon_skip _ _ _ y (pcol 0 j) (by rw [hp]; omega)).trans ?_
      refine (canon_skip _ _ _ y (pcol 0 j) (by rw [hp]; omega)).trans ?_
      refine (canon_skip _ _ _ y (pcol 0 j) (by rw [hp]; omega)).trans ?_
      refine (canon_hit _ _ _ (⟨y.val - 256, by omega⟩ : Fin 16) j y (pcol 0 j) (by simp; omega) (by rw [hp])).trans ?_
      refine (next0 h ⟨y.val - 256, by omega⟩ j).trans ?_
      exact congrArg (past _) (by show t.val * 256 + (256 + (y.val - 256)) = t.val * 256 + y.val; omega)
  · have hp : (pcol 1 j).val = 128 + j.val := by simp [pcol]
    by_cases hy : y.val < 256
    · refine (canon_skip _ _ _ y (pcol 1 j) (by rw [hp]; omega)).trans ?_
      refine (canon_skip _ _ _ y (pcol 1 j) (by rw [hp]; omega)).trans ?_
      refine (canon_skip _ _ _ y (pcol 1 j) (by rw [hp]; omega)).trans ?_
      refine (canon_skip _ _ _ y (pcol 1 j) (by rw [hp]; omega)).trans ?_
      refine (canon_skip _ _ _ y (pcol 1 j) (by rw [hp]; omega)).trans ?_
      refine (canon_hit _ _ _ (⟨y.val, hy⟩ : Fin 256) j y (pcol 1 j) (by simp) (by rw [hp])).trans ?_
      exact own1 h ⟨y.val, hy⟩ j
    · refine (canon_skip _ _ _ y (pcol 1 j) (by rw [hp]; omega)).trans ?_
      refine (canon_skip _ _ _ y (pcol 1 j) (by rw [hp]; omega)).trans ?_
      refine (canon_skip _ _ _ y (pcol 1 j) (by rw [hp]; omega)).trans ?_
      refine (canon_skip _ _ _ y (pcol 1 j) (by rw [hp]; omega)).trans ?_
      refine (canon_hit _ _ _ (⟨y.val - 256, by omega⟩ : Fin 16) j y (pcol 1 j) (by simp; omega) (by rw [hp])).trans ?_
      refine (next1 h ⟨y.val - 256, by omega⟩ j).trans ?_
      exact congrArg (past _) (by show t.val * 256 + (256 + (y.val - 256)) = t.val * 256 + y.val; omega)
  · have hp : (pcol 2 j).val = 256 + j.val := by simp [pcol]
    by_cases hy : y.val < 256
    · refine (canon_skip _ _ _ y (pcol 2 j) (by rw [hp]; omega)).trans ?_
      refine (canon_skip _ _ _ y (pcol 2 j) (by rw [hp]; omega)).trans ?_
      refine (canon_skip _ _ _ y (pcol 2 j) (by rw [hp]; omega)).trans ?_
      refine (canon_hit _ _ _ (⟨y.val, hy⟩ : Fin 256) j y (pcol 2 j) (by simp) (by rw [hp])).trans ?_
      exact own2 h ⟨y.val, hy⟩ j
    · refine (canon_skip _ _ _ y (pcol 2 j) (by rw [hp]; omega)).trans ?_
      refine (canon_skip _ _ _ y (pcol 2 j) (by rw [hp]; omega)).trans ?_
      refine (canon_hit _ _ _ (⟨y.val - 256, by omega⟩ : Fin 16) j y (pcol 2 j) (by simp; omega) (by rw [hp])).trans ?_
      refine (next2 h ⟨y.val - 256, by omega⟩ j).trans ?_
      exact congrArg (past _) (by show t.val * 256 + (256 + (y.val - 256)) = t.val * 256 + y.val; omega)
  · have hp : (pcol 3 j).val = 384 + j.val := by simp [pcol]
    by_cases hy : y.val < 256
    · refine (canon_skip _ _ _ y (pcol 3 j) (by rw [hp]; omega)).trans ?_
      refine (canon_hit _ _ _ (⟨y.val, hy⟩ : Fin 256) j y (pcol 3 j) (by simp) (by rw [hp])).trans ?_
      exact own3 h ⟨y.val, hy⟩ j
    · refine (canon_hit _ _ _ (⟨y.val - 256, by omega⟩ : Fin 16) j y (pcol 3 j) (by simp; omega) (by rw [hp])).trans ?_
      refine (next3 h ⟨y.val - 256, by omega⟩ j).trans ?_
      exact congrArg (past _) (by show t.val * 256 + (256 + (y.val - 256)) = t.val * 256 + y.val; omega)

/-- A load of the stored gradients, `u` rows on. -/
abbrev rd (L : List (View.Piece (Elt Ideal) S272x512 .f32)) (u o : Nat)
    (inb : ∀ q, (![u, o] : Fin 2 → Nat) q + (![256, 128] : Fin 2 → Nat) q ≤ S272x512.size q) : Vec Ideal S256x128 .f32 :=
  View.readCov (View.whole cc0_scratch0) L (Rect.unit (s := S272x512) ![u, o] ![256, 128] inb).toLoadRect

theorem read_at {L : List (View.Piece (Elt Ideal) S272x512 .f32)}
    (hL : ∀ y z, View.canon L (ix2 y z) = past (shared (width z) fun r => p.dp r z) (t.val * 256 + y.val)) (u o : Nat)
    (inb : ∀ q, (![u, o] : Fin 2 → Nat) q + (![256, 128] : Fin 2 → Nat) q ≤ S272x512.size q) (i : Fin 256) (j : Fin 128) (z : Fin 512)
    (hz : z.val = o + j.val) :
    rd L u o inb (ix2 i j)
      = past (shared (width z) fun r => p.dp r z) ((row t i).val + u) := by
  have hu : u + 256 ≤ 272 := inb 0
  unfold rd
  rw [View.readCov_eq_canon']
  refine (congrArg (View.canon L) (unit_emb inb i j ⟨u + i.val, by omega⟩ z rfl hz)).trans ((hL _ z).trans ?_)
  exact congrArg (past _) (by show t.val * 256 + (u + i.val) = t.val * 256 + i.val + u; omega)

theorem pool0_read (x : Vec Ideal S256x512 .f32) (y0 y1 : Vec Ideal S256x128 .f32) (i : Fin 256) (j : Fin 128) :
    k0_pay14 x y0 y1 (ix2 i j) = y0 (ix2 i j) - x (ix2 i (pcol 0 j)) + y1 (ix2 i j) := by
  have e : ∀ h, (⟨j.val, h⟩ : Fin 512) = pcol 0 j := fun _ => Fin.ext (by simp [pcol])
  pointwise [k0_pay14]
  simp only [e]

theorem pool1_read (x : Vec Ideal S256x512 .f32) (y0 y1 y2 y3 : Vec Ideal S256x128 .f32) (i : Fin 256) (j : Fin 128) :
    k0_pay15 x y0 y1 y2 y3 (ix2 i j) = y0 (ix2 i j) - x (ix2 i (pcol 1 j)) + y1 (ix2 i j) + y2 (ix2 i j) + y3 (ix2 i j) := by
  have e : ∀ h, (⟨128 + j.val, h⟩ : Fin 512) = pcol 1 j := fun _ => Fin.ext (by simp [pcol])
  pointwise [k0_pay15]
  simp only [e]

theorem pool2_read (x : Vec Ideal S256x512 .f32) (y0 y1 y2 y3 y4 y5 y6 y7 : Vec Ideal S256x128 .f32) (i : Fin 256) (j : Fin 128) :
    k0_pay17 (k0_pay16 x y0 y1 y2) y3 y4 y5 y6 y7 (ix2 i j) = y0 (ix2 i j) - x (ix2 i (pcol 2 j)) + y1 (ix2 i j) + y2 (ix2 i j) + y3 (ix2 i j) + y4 (ix2 i j) + y5 (ix2 i j) + y6 (ix2 i j) + y7 (ix2 i j) := by
  have e : ∀ h, (⟨256 + j.val, h⟩ : Fin 512) = pcol 2 j := fun _ => Fin.ext (by simp [pcol])
  pointwise [k0_pay17, k0_pay16]
  simp only [e]

theorem pool3_read (x : Vec Ideal S256x512 .f32) (y0 y1 y2 y3 y4 y5 y6 y7 y8 y9 y10 y11 y12 y13 y14 y15 : Vec Ideal S256x128 .f32) (i : Fin 256) (j : Fin 128) :
    k0_pay19 (k0_pay18 x y0 y1 y2 y3 y4 y5 y6 y7 y8) y9 y10 y11 y12 y13 y14 y15 (ix2 i j) = y0 (ix2 i j) - x (ix2 i (pcol 3 j)) + y1 (ix2 i j) + y2 (ix2 i j) + y3 (ix2 i j) + y4 (ix2 i j) + y5 (ix2 i j) + y6 (ix2 i j) + y7 (ix2 i j) + y8 (ix2 i j) + y9 (ix2 i j) + y10 (ix2 i j) + y11 (ix2 i j) + y12 (ix2 i j) + y13 (ix2 i j) + y14 (ix2 i j) + y15 (ix2 i j) := by
  have e : ∀ h, (⟨384 + j.val, h⟩ : Fin 512) = pcol 3 j := fun _ => Fin.ext (by simp [pcol])
  pointwise [k0_pay19, k0_pay18]
  simp only [e]

theorem pool0 (h : AtPoint m c t p) {L : List (View.Piece (Elt Ideal) S272x512 .f32)}
    (hL : ∀ y z, View.canon L (ix2 y z) = past (shared (width z) fun r => p.dp r z) (t.val * 256 + y.val)) (i : Fin 256) (j : Fin 128) :
    (k0_pay14 (iblk m c 3 t) (rd L 0 0 inb_S272x512_S256x128_0_0) (rd L 1 0 inb_S272x512_S256x128_1_0) : FVec Ideal S256x128 .bf16) (ix2 i j)
      = p.pool (row t i) (pcol 0 j) := by
  have hp : (pcol 0 j).val = 0 + j.val := by simp [pcol]
  have hwd : width (pcol 0 j) = 2 := by unfold width; rw [hp, show (0 + j.val) / 128 = 0 by omega]; rfl
  rw [pool0_read, h.u,
    read_at hL 0 0 _ i j (pcol 0 j) hp,
    read_at hL 1 0 _ i j (pcol 0 j) hp]
  unfold InArgs.pool poolGrad
  rw [hwd, Nat.add_zero, past_val, Finset.sum_Ico_eq_sum_range]
  simp only [Finset.sum_range_succ, Finset.sum_range_zero, zero_add, add_assoc, Nat.reduceSub, Nat.reduceAdd, Nat.add_zero]

theorem pool1 (h : AtPoint m c t p) {L : List (View.Piece (Elt Ideal) S272x512 .f32)}
    (hL : ∀ y z, View.canon L (ix2 y z) = past (shared (width z) fun r => p.dp r z) (t.val * 256 + y.val)) (i : Fin 256) (j : Fin 128) :
    (k0_pay15 (iblk m c 3 t) (rd L 0 128 inb_S272x512_S256x128_0_128) (rd L 1 128 inb_S272x512_S256x128_1_128) (rd L 2 128 inb_S272x512_S256x128_2_128) (rd L 3 128 inb_S272x512_S256x128_3_128) : FVec Ideal S256x128 .bf16) (ix2 i j)
      = p.pool (row t i) (pcol 1 j) := by
  have hp : (pcol 1 j).val = 128 + j.val := by simp [pcol]
  have hwd : width (pcol 1 j) = 4 := by unfold width; rw [hp, show (128 + j.val) / 128 = 1 by omega]; rfl
  rw [pool1_read, h.u,
    read_at hL 0 128 _ i j (pcol 1 j) hp,
    read_at hL 1 128 _ i j (pcol 1 j) hp,
    read_at hL 2 128 _ i j (pcol 1 j) hp,
    read_at hL 3 128 _ i j (pcol 1 j) hp]
  unfold InArgs.pool poolGrad
  rw [hwd, Nat.add_zero, past_val, Finset.sum_Ico_eq_sum_range]
  simp only [Finset.sum_range_succ, Finset.sum_range_zero, zero_add, add_assoc, Nat.reduceSub, Nat.reduceAdd, Nat.add_zero]

theorem pool2 (h : AtPoint m c t p) {L : List (View.Piece (Elt Ideal) S272x512 .f32)}
    (hL : ∀ y z, View.canon L (ix2 y z) = past (shared (width z) fun r => p.dp r z) (t.val * 256 + y.val)) (i : Fin 256) (j : Fin 128) :
    (k0_pay17 (k0_pay16 (iblk m c 3 t) (rd L 0 256 inb_S272x512_S256x128_0_256) (rd L 1 256 inb_S272x512_S256x128_1_256) (rd L 2 256 inb_S272x512_S256x128_2_256)) (rd L 3 256 inb_S272x512_S256x128_3_256) (rd L 4 256 inb_S272x512_S256x128_4_256) (rd L 5 256 inb_S272x512_S256x128_5_256) (rd L 6 256 inb_S272x512_S256x128_6_256) (rd L 7 256 inb_S272x512_S256x128_7_256) : FVec Ideal S256x128 .bf16) (ix2 i j)
      = p.pool (row t i) (pcol 2 j) := by
  have hp : (pcol 2 j).val = 256 + j.val := by simp [pcol]
  have hwd : width (pcol 2 j) = 8 := by unfold width; rw [hp, show (256 + j.val) / 128 = 2 by omega]; rfl
  rw [pool2_read, h.u,
    read_at hL 0 256 _ i j (pcol 2 j) hp,
    read_at hL 1 256 _ i j (pcol 2 j) hp,
    read_at hL 2 256 _ i j (pcol 2 j) hp,
    read_at hL 3 256 _ i j (pcol 2 j) hp,
    read_at hL 4 256 _ i j (pcol 2 j) hp,
    read_at hL 5 256 _ i j (pcol 2 j) hp,
    read_at hL 6 256 _ i j (pcol 2 j) hp,
    read_at hL 7 256 _ i j (pcol 2 j) hp]
  unfold InArgs.pool poolGrad
  rw [hwd, Nat.add_zero, past_val, Finset.sum_Ico_eq_sum_range]
  simp only [Finset.sum_range_succ, Finset.sum_range_zero, zero_add, add_assoc, Nat.reduceSub, Nat.reduceAdd, Nat.add_zero]

theorem pool3 (h : AtPoint m c t p) {L : List (View.Piece (Elt Ideal) S272x512 .f32)}
    (hL : ∀ y z, View.canon L (ix2 y z) = past (shared (width z) fun r => p.dp r z) (t.val * 256 + y.val)) (i : Fin 256) (j : Fin 128) :
    (k0_pay19 (k0_pay18 (iblk m c 3 t) (rd L 0 384 inb_S272x512_S256x128_0_384) (rd L 1 384 inb_S272x512_S256x128_1_384) (rd L 2 384 inb_S272x512_S256x128_2_384) (rd L 3 384 inb_S272x512_S256x128_3_384) (rd L 4 384 inb_S272x512_S256x128_4_384) (rd L 5 384 inb_S272x512_S256x128_5_384) (rd L 6 384 inb_S272x512_S256x128_6_384) (rd L 7 384 inb_S272x512_S256x128_7_384) (rd L 8 384 inb_S272x512_S256x128_8_384)) (rd L 9 384 inb_S272x512_S256x128_9_384) (rd L 10 384 inb_S272x512_S256x128_10_384) (rd L 11 384 inb_S272x512_S256x128_11_384) (rd L 12 384 inb_S272x512_S256x128_12_384) (rd L 13 384 inb_S272x512_S256x128_13_384) (rd L 14 384 inb_S272x512_S256x128_14_384) (rd L 15 384 inb_S272x512_S256x128_15_384) : FVec Ideal S256x128 .bf16) (ix2 i j)
      = p.pool (row t i) (pcol 3 j) := by
  have hp : (pcol 3 j).val = 384 + j.val := by simp [pcol]
  have hwd : width (pcol 3 j) = 16 := by unfold width; rw [hp, show (384 + j.val) / 128 = 3 by omega]; rfl
  rw [pool3_read, h.u,
    read_at hL 0 384 _ i j (pcol 3 j) hp,
    read_at hL 1 384 _ i j (pcol 3 j) hp,
    read_at hL 2 384 _ i j (pcol 3 j) hp,
    read_at hL 3 384 _ i j (pcol 3 j) hp,
    read_at hL 4 384 _ i j (pcol 3 j) hp,
    read_at hL 5 384 _ i j (pcol 3 j) hp,
    read_at hL 6 384 _ i j (pcol 3 j) hp,
    read_at hL 7 384 _ i j (pcol 3 j) hp,
    read_at hL 8 384 _ i j (pcol 3 j) hp,
    read_at hL 9 384 _ i j (pcol 3 j) hp,
    read_at hL 10 384 _ i j (pcol 3 j) hp,
    read_at hL 11 384 _ i j (pcol 3 j) hp,
    read_at hL 12 384 _ i j (pcol 3 j) hp,
    read_at hL 13 384 _ i j (pcol 3 j) hp,
    read_at hL 14 384 _ i j (pcol 3 j) hp,
    read_at hL 15 384 _ i j (pcol 3 j) hp]
  unfold InArgs.pool poolGrad
  rw [hwd, Nat.add_zero, past_val, Finset.sum_Ico_eq_sum_range]
  simp only [Finset.sum_range_succ, Finset.sum_range_zero, zero_add, add_assoc, Nat.reduceSub, Nat.reduceAdd, Nat.add_zero]

variable (m c t) in
/-- The pieces stored of the projection's gradient. -/
abbrev DL (L : List (View.Piece (Elt Ideal) S272x512 .f32)) : List (View.Piece (Elt Ideal) S256x4096 .bf16) :=
   [⟨Rect.unit ![0, 2048] ![256, 2048] inb_S256x4096_S256x2048_0_2048, iblk m c 5 t⟩,
    ⟨Rect.unit ![0, 1024] ![256, 512] inb_S256x4096_S256x512_0_1024, iblk m c 2 t⟩,
    ⟨Rect.unit ![0, 512] ![256, 512] inb_S256x4096_S256x512_0_512, iblk m c 1 t⟩,
    ⟨Rect.unit ![0, 0] ![256, 512] inb_S256x4096_S256x512_0_0, iblk m c 0 t⟩,
    ⟨Rect.unit ![0, 1920] ![256, 128] inb_S256x4096_S256x128_0_1920, k0_pay19 (k0_pay18 (iblk m c 3 t) (rd L 0 384 inb_S272x512_S256x128_0_384) (rd L 1 384 inb_S272x512_S256x128_1_384) (rd L 2 384 inb_S272x512_S256x128_2_384) (rd L 3 384 inb_S272x512_S256x128_3_384) (rd L 4 384 inb_S272x512_S256x128_4_384) (rd L 5 384 inb_S272x512_S256x128_5_384) (rd L 6 384 inb_S272x512_S256x128_6_384) (rd L 7 384 inb_S272x512_S256x128_7_384) (rd L 8 384 inb_S272x512_S256x128_8_384)) (rd L 9 384 inb_S272x512_S256x128_9_384) (rd L 10 384 inb_S272x512_S256x128_10_384) (rd L 11 384 inb_S272x512_S256x128_11_384) (rd L 12 384 inb_S272x512_S256x128_12_384) (rd L 13 384 inb_S272x512_S256x128_13_384) (rd L 14 384 inb_S272x512_S256x128_14_384) (rd L 15 384 inb_S272x512_S256x128_15_384)⟩,
    ⟨Rect.unit ![0, 1792] ![256, 128] inb_S256x4096_S256x128_0_1792, k0_pay17 (k0_pay16 (iblk m c 3 t) (rd L 0 256 inb_S272x512_S256x128_0_256) (rd L 1 256 inb_S272x512_S256x128_1_256) (rd L 2 256 inb_S272x512_S256x128_2_256)) (rd L 3 256 inb_S272x512_S256x128_3_256) (rd L 4 256 inb_S272x512_S256x128_4_256) (rd L 5 256 inb_S272x512_S256x128_5_256) (rd L 6 256 inb_S272x512_S256x128_6_256) (rd L 7 256 inb_S272x512_S256x128_7_256)⟩,
    ⟨Rect.unit ![0, 1664] ![256, 128] inb_S256x4096_S256x128_0_1664, k0_pay15 (iblk m c 3 t) (rd L 0 128 inb_S272x512_S256x128_0_128) (rd L 1 128 inb_S272x512_S256x128_1_128) (rd L 2 128 inb_S272x512_S256x128_2_128) (rd L 3 128 inb_S272x512_S256x128_3_128)⟩,
    ⟨Rect.unit ![0, 1536] ![256, 128] inb_S256x4096_S256x128_0_1536, k0_pay14 (iblk m c 3 t) (rd L 0 0 inb_S272x512_S256x128_0_0) (rd L 1 0 inb_S272x512_S256x128_1_0)⟩]

theorem stored (h : AtPoint m c t p) {L : List (View.Piece (Elt Ideal) S272x512 .f32)}
    (hL : ∀ y z, View.canon L (ix2 y z) = past (shared (width z) fun r => p.dp r z) (t.val * 256 + y.val)) (i : Fin 256) (j : Fin 4096) :
    View.canon (DL m c t L) (ix2 i j) = p.dz (row t i) j := by
  have hj := j.isLt
  unfold InArgs.dz
  by_cases h0 : j.val < 512
  · rw [dif_pos h0]
    refine (canon_skip _ _ _ i j (.inr (by omega))).trans ?_
    refine (canon_skip _ _ _ i j (.inr (by omega))).trans ?_
    refine (canon_skip _ _ _ i j (.inr (by omega))).trans ?_
    refine (canon_hit _ _ _ i (⟨j.val, h0⟩ : Fin 512) i j (by simp) (by simp)).trans ?_
    exact h.q i _
  rw [dif_neg h0]
  by_cases h1 : j.val < 1024
  · rw [dif_pos h1]
    refine (canon_skip _ _ _ i j (.inr (by omega))).trans ?_
    refine (canon_skip _ _ _ i j (.inr (by omega))).trans ?_
    refine (canon_hit _ _ _ i (⟨j.val - 512, by omega⟩ : Fin 512) i j (by simp) (by simp; omega)).trans ?_
    exact h.k i _
  rw [dif_neg h1]
  by_cases h2 : j.val < 1536
  · rw [dif_pos h2]
    refine (canon_skip _ _ _ i j (.inr (by omega))).trans ?_
    refine (canon_hit _ _ _ i (⟨j.val - 1024, by omega⟩ : Fin 512) i j (by simp) (by simp; omega)).trans ?_
    exact h.v i _
  rw [dif_neg h2]
  by_cases h3 : j.val < 2048
  · rw [dif_pos h3]
    refine (canon_skip _ _ _ i j (.inr (by omega))).trans ?_
    refine (canon_skip _ _ _ i j (.inr (by omega))).trans ?_
    refine (canon_skip _ _ _ i j (.inr (by omega))).trans ?_
    refine (canon_skip _ _ _ i j (.inr (by omega))).trans ?_
    have ej : ∀ g : Fin 4, ∀ (hl : 1536 + 128 * g.val ≤ j.val) (hr : j.val < 1664 + 128 * g.val),
        p.pool (row t i) (pcol g ⟨j.val - (1536 + 128 * g.val), by omega⟩) = p.pool (row t i) ⟨j.val - 1536, by omega⟩ := fun g hl hr =>
      congrArg (p.pool (row t i)) (Fin.ext (by show 128 * g.val + (j.val - (1536 + 128 * g.val)) = j.val - 1536; omega))
    by_cases g3 : 1920 ≤ j.val
    · refine (canon_hit _ _ _ i (⟨j.val - (1536 + 128 * 3), by omega⟩ : Fin 128) i j (by simp) (by simp; omega)).trans ?_
      exact (pool3 h hL i _).trans (ej 3 (by simp; omega) (by simp; omega))
    refine (canon_skip _ _ _ i j (.inr (by omega))).trans ?_
    by_cases g2 : 1792 ≤ j.val
    · refine (canon_hit _ _ _ i (⟨j.val - (1536 + 128 * 2), by omega⟩ : Fin 128) i j (by simp) (by simp; omega)).trans ?_
      exact (pool2 h hL i _).trans (ej 2 (by simp; omega) (by simp; omega))
    refine (canon_skip _ _ _ i j (.inr (by omega))).trans ?_
    by_cases g1 : 1664 ≤ j.val
    · refine (canon_hit _ _ _ i (⟨j.val - (1536 + 128 * 1), by omega⟩ : Fin 128) i j (by simp) (by simp; omega)).trans ?_
      exact (pool1 h hL i _).trans (ej 1 (by simp; omega) (by simp; omega))
    refine (canon_skip _ _ _ i j (.inr (by omega))).trans ?_
    refine (canon_hit _ _ _ i (⟨j.val - (1536 + 128 * 0), by omega⟩ : Fin 128) i j (by simp) (by simp; omega)).trans ?_
    exact (pool0 h hL i _).trans (ej 0 (by simp; omega) (by simp; omega))
  rw [dif_neg h3]
  refine (canon_hit _ _ _ i (⟨j.val - 2048, by omega⟩ : Fin 2048) i j (by simp) (by simp; omega)).trans ?_
  exact h.g i _

theorem dz_block (h : AtPoint m c t p) (i : Fin 256) (j : Fin 4096) : (outsAt0 m c t).2 (ix2 i j) = p.dz (row t i) j := by
  have hL := scratch h
  unfold outsAt0
  frame_out
  unfold SL at hL
  generalize ([⟨Rect.unit ![256, 384] ![16, 128] inb_S272x512_S16x128_256_384, k0_pay13 (k0_pay11 (k0_pay2 (grid0.coords t) (iblk m c 4 t))) (k0_pay12 (BitVec.ofNat 32 (grid0.coords t 0).val))⟩,
    ⟨Rect.unit ![0, 384] ![256, 128] inb_S272x512_S256x128_0_384, k0_pay10 (BitVec.ofNat 32 (grid0.coords t 0).val) (iblk m c 3 t)⟩,
    ⟨Rect.unit ![256, 256] ![16, 128] inb_S272x512_S16x128_256_256, k0_pay9 (BitVec.ofNat 32 (grid0.coords t 0).val) (k0_pay2 (grid0.coords t) (iblk m c 4 t))⟩,
    ⟨Rect.unit ![0, 256] ![256, 128] inb_S272x512_S256x128_0_256, k0_pay8 (BitVec.ofNat 32 (grid0.coords t 0).val) (iblk m c 3 t)⟩,
    ⟨Rect.unit ![256, 128] ![16, 128] inb_S272x512_S16x128_256_128, k0_pay7 (BitVec.ofNat 32 (grid0.coords t 0).val) (k0_pay2 (grid0.coords t) (iblk m c 4 t))⟩,
    ⟨Rect.unit ![0, 128] ![256, 128] inb_S272x512_S256x128_0_128, k0_pay6 (k0_pay5 (iblk m c 3 t)) (Scalar.muli (BitVec.ofNat 32 (grid0.coords t 0).val) 256#32) (iota Kind.tc S256x1 32 [0] iota_S256x1_d0_w32)⟩,
    ⟨Rect.unit ![256, 0] ![16, 128] inb_S272x512_S16x128_256_0, k0_pay4 (grid0.coords t) (iblk m c 4 t)⟩,
    ⟨Rect.unit ![0, 0] ![256, 128] inb_S272x512_S256x128_0_0, k0_pay3 (grid0.coords t) (iblk m c 3 t)⟩] : List (View.Piece (Elt Ideal) S272x512 .f32)) = L at hL ⊢
  exact stored h hL i j

theorem dx_read (x : Vec Ideal S256x1024 .f32) (z0 z1 z2 z3 z4 z5 z6 z7 : Vec Ideal S256x512 .bf16) (w0 w1 w2 w3 w4 w5 w6 w7 : Vec Ideal S1x1024x512 .bf16) (i : Fin 256) (k : Fin 1024) :
    k0_pay1 (k0_pay20 x z0 w0 z1 w1 z2 w2 z3 w3) (k0_pay21 z4) w4 z5 w5 z6 w6 z7 w7 (ix2 i k)
      = (FloatOps.ofBits .f32 0x3F9837F0#32 : Ideal .f32) * x (ix2 i k) + ∑ l, z0 (ix2 i l) * w0 (ix3 0 k l) + ∑ l, z1 (ix2 i l) * w1 (ix3 0 k l)
        + ∑ l, z2 (ix2 i l) * w2 (ix3 0 k l) + ∑ l, z3 (ix2 i l) * w3 (ix3 0 k l) + ∑ l, z4 (ix2 i l) * w4 (ix3 0 k l)
        + ∑ l, z5 (ix2 i l) * w5 (ix3 0 k l) + ∑ l, z6 (ix2 i l) * w6 (ix3 0 k l) + ∑ l, z7 (ix2 i l) * w7 (ix3 0 k l) := by
  pointwise [k0_pay1, k0_pay20, k0_pay21]

/-- A section of the stored gradient, and of the weight, as the products read them. -/
theorem section_at {D : List (View.Piece (Elt Ideal) S256x4096 .bf16)} (hD : ∀ i j, View.canon D (ix2 i j) = p.dz (row t i) j)
    {κ : Kind} {sp : Space} {v : View sig κ sp S256x4096 .bf16} (n : Fin 8) (o : Nat) (ho : o = 512 * n.val)
    (inb : ∀ q, (![0, o] : Fin 2 → Nat) q + (![256, 512] : Fin 2 → Nat) q ≤ S256x4096.size q) (i : Fin 256) (k : Fin 512) :
    v.readCov D (Rect.unit (s := S256x4096) ![0, o] ![256, 512] inb).toLoadRect (ix2 i k) = p.dz (row t i) (sec n k) := by
  subst ho
  rw [View.readCov_eq_canon']
  exact (congrArg (View.canon D) (unit_emb inb i k i (sec n k) (by simp) rfl)).trans (hD i _)

theorem weight_at (h : AtPoint m c t p) (n : Fin 8) (o : Nat) (ho : o = n.val)
    (inb : ∀ q, (![o, 0, 0] : Fin 3 → Nat) q + (![1, 1024, 512] : Fin 3 → Nat) q ≤ S8x1024x512.size q) (k : Fin 1024) (l : Fin 512) :
    View.ld (iblk m c 7 t) (Rect.unit ![o, 0, 0] ![1, 1024, 512] inb) (ix3 0 k l) = p.w k (sec n l) := by
  subst ho
  rw [← h.w]
  refine congrArg (iblk m c 7 t) (funext fun q => Fin.ext ?_)
  match q with
  | ⟨0, _⟩ => exact (by simp : n.val + 1 * 0 = n.val)
  | ⟨1, _⟩ => exact (by omega : 0 + 1 * k.val = k.val)
  | ⟨2, _⟩ => exact (by omega : 0 + 1 * l.val = l.val)

theorem dx_block (h : AtPoint m c t p) (i : Fin 256) (k : Fin 1024) : (outsAt0 m c t).1 (ix2 i k) = p.dx (row t i) k := by
  have hL := scratch h
  unfold outsAt0
  frame_out
  unfold SL at hL
  generalize ([⟨Rect.unit ![256, 384] ![16, 128] inb_S272x512_S16x128_256_384, k0_pay13 (k0_pay11 (k0_pay2 (grid0.coords t) (iblk m c 4 t))) (k0_pay12 (BitVec.ofNat 32 (grid0.coords t 0).val))⟩,
    ⟨Rect.unit ![0, 384] ![256, 128] inb_S272x512_S256x128_0_384, k0_pay10 (BitVec.ofNat 32 (grid0.coords t 0).val) (iblk m c 3 t)⟩,
    ⟨Rect.unit ![256, 256] ![16, 128] inb_S272x512_S16x128_256_256, k0_pay9 (BitVec.ofNat 32 (grid0.coords t 0).val) (k0_pay2 (grid0.coords t) (iblk m c 4 t))⟩,
    ⟨Rect.unit ![0, 256] ![256, 128] inb_S272x512_S256x128_0_256, k0_pay8 (BitVec.ofNat 32 (grid0.coords t 0).val) (iblk m c 3 t)⟩,
    ⟨Rect.unit ![256, 128] ![16, 128] inb_S272x512_S16x128_256_128, k0_pay7 (BitVec.ofNat 32 (grid0.coords t 0).val) (k0_pay2 (grid0.coords t) (iblk m c 4 t))⟩,
    ⟨Rect.unit ![0, 128] ![256, 128] inb_S272x512_S256x128_0_128, k0_pay6 (k0_pay5 (iblk m c 3 t)) (Scalar.muli (BitVec.ofNat 32 (grid0.coords t 0).val) 256#32) (iota Kind.tc S256x1 32 [0] iota_S256x1_d0_w32)⟩,
    ⟨Rect.unit ![256, 0] ![16, 128] inb_S272x512_S16x128_256_0, k0_pay4 (grid0.coords t) (iblk m c 4 t)⟩,
    ⟨Rect.unit ![0, 0] ![256, 128] inb_S272x512_S256x128_0_0, k0_pay3 (grid0.coords t) (iblk m c 3 t)⟩] : List (View.Piece (Elt Ideal) S272x512 .f32)) = L at hL ⊢
  have hD := stored h hL
  unfold InArgs.dx
  rw [sum_sections]
  simp only [← add_assoc]
  refine (dx_read _ _ _ _ _ _ _ _ _ _ _ _ _ _ _ _ _ i k).trans ?_
  rw [h.r]
  refine congrArg₂ (· + ·) ?_ (Finset.sum_congr rfl fun l _ => congrArg₂ (· * ·) (section_at hD 7 3584 rfl _ i l) (weight_at h 7 7 rfl _ k l))
  refine congrArg₂ (· + ·) ?_ (Finset.sum_congr rfl fun l _ => congrArg₂ (· * ·) (section_at hD 6 3072 rfl _ i l) (weight_at h 6 6 rfl _ k l))
  refine congrArg₂ (· + ·) ?_ (Finset.sum_congr rfl fun l _ => congrArg₂ (· * ·) (section_at hD 5 2560 rfl _ i l) (weight_at h 5 5 rfl _ k l))
  refine congrArg₂ (· + ·) ?_ (Finset.sum_congr rfl fun l _ => congrArg₂ (· * ·) (section_at hD 4 2048 rfl _ i l) (weight_at h 4 4 rfl _ k l))
  refine congrArg₂ (· + ·) ?_ (Finset.sum_congr rfl fun l _ => congrArg₂ (· * ·) (section_at hD 3 1536 rfl _ i l) (weight_at h 3 3 rfl _ k l))
  refine congrArg₂ (· + ·) ?_ (Finset.sum_congr rfl fun l _ => congrArg₂ (· * ·) (section_at hD 2 1024 rfl _ i l) (weight_at h 2 2 rfl _ k l))
  refine congrArg₂ (· + ·) ?_ (Finset.sum_congr rfl fun l _ => congrArg₂ (· * ·) (section_at hD 1 512 rfl _ i l) (weight_at h 1 1 rfl _ k l))
  refine congrArg₂ (· + ·) ?_ (Finset.sum_congr rfl fun l _ => congrArg₂ (· * ·) (section_at hD 0 0 rfl _ i l) (weight_at h 0 0 rfl _ k l))
  rfl

end kernel

end Cert.Proof.InX

end
-- ==== Proof.InOps.lean ====
/- TWO HOST OPS READ AT AN ENTRY: the running sum from the bottom up, and the addition of rows at the rows their indices name. -/
module

public import proofs.«01_k».proof.Proof.InPool
public import Idealize.ShloMosaic.Lib.Routing.OpsOne

@[expose] public section

noncomputable section

namespace Cert.Proof

open Idealize.ShloMosaic Idealize.ShloMosaic.StableHlo Idealize.ShloMosaic.Routing Idealize.ShloMosaic.ValueIdx

theorem foldl_plus {ι : Type} (L : List ι) (s : EReal → ι → EReal) (g : ι → EReal) (h : ∀ r n, s r n = r + g n) (r : EReal) :
    L.foldl s r = r + (L.map g).sum := by
  induction L generalizing r with
  | nil => simp
  | cons a L ih => rw [List.foldl_cons, ih, h, List.map_cons, List.sum_cons, add_assoc]

/-- Entry `n` of a column, zero past its end. -/
def entryOr {R : Nat} (x : Fin R → EReal) (n : Nat) : EReal := if h : n < R then x ⟨n, h⟩ else 0

theorem sum_shift {R : Nat} (x : Fin R → EReal) (j : Fin R) :
    ∑ n ∈ Finset.range R, entryOr x (j.val + n) = ∑ i : Fin R, (if j.val ≤ i.val then x i else 0) := by
  have e : ∀ i : Fin R, (if j.val ≤ i.val then x i else 0) = (fun n : Nat => if j.val ≤ n then entryOr x n else 0) i.val := fun i => by
    simp [entryOr]
  rw [Finset.sum_congr rfl fun i _ => e i, Fin.sum_univ_eq_sum_range (fun n : Nat => if j.val ≤ n then entryOr x n else 0) R, ← Finset.sum_filter]
  have e2 : ∑ n ∈ Finset.range R, entryOr x (j.val + n) = ∑ n ∈ Finset.Ico j.val (j.val + R), entryOr x n := by
    rw [Finset.sum_Ico_eq_sum_range, Nat.add_sub_cancel_left]
  rw [e2]
  symm
  refine Finset.sum_subset (fun n hn => ?_) fun n hn hn' => ?_
  · rw [Finset.mem_filter, Finset.mem_range] at hn
    rw [Finset.mem_Ico]; omega
  · rw [Finset.mem_filter, Finset.mem_range] at hn'
    rw [Finset.mem_Ico] at hn
    unfold entryOr
    rw [dif_neg (by omega)]

/-- The running sum over rows from the bottom up: entry `(j, c)` is the sum of column `c` from row `j` on. -/
theorem revsum {R Rm1 C : Nat} (hR : Rm1 + 1 = R) (x : FVec Ideal (shape2 R C) .f32) (init : FVec Ideal shape0 .f32) (hinit : init ix0 = 0)
    (h : (shape2 R C).ReduceWindows (![R, 1] : Fin 2 → Nat) ![1, 1] ![0, 0] ![Rm1, 0] (shape2 R C)) (hu : 0 < shape0.numel) (j : Fin R) (c : Fin C) :
    Host.reduceWindowAdd ![R, 1] ![1, 1] ![0, 0] ![Rm1, 0] x init h hu (ix2 j c)
      = ∑ i : Fin R, (if j.val ≤ i.val then x (ix2 i c) else 0) := by
  subst hR
  have hv : init (Shape.Idx.first hu) = (0 : EReal) := (congrArg init (eq_ix0 _)).trans hinit
  have hj := j.isLt
  have hc := c.isLt
  show Ideal.hostReduceWindowAdd _ _ _ _ h x (init (Shape.Idx.first hu)) (ix2 j c) = _
  rw [hv]
  unfold Ideal.hostReduceWindowAdd Host.reduceWindow
  refine (foldl_plus _ _ (fun n => entryOr (fun i => x (ix2 i c)) (j.val + n.val)) (fun r n => ?_) _).trans ?_
  · have hw0 : ((shape2 (Rm1 + 1) 1).rowMajor.symm n 0).val = n.val := by rw [symm_col]; rfl
    have hw1 : ((shape2 (Rm1 + 1) 1).rowMajor.symm n 1).val = 0 := by rw [symm_col]; rfl
    have hn : n.val < Rm1 + 1 := (n.cast (numel_col _)).isLt
    refine congrArg (fun z => r + z) ?_
    dsimp only
    unfold entryOr
    split
    · next hin =>
      have h0 := hin 0
      change 0 ≤ j.val * 1 + ((shape2 (Rm1 + 1) 1).rowMajor.symm n 0).val
        ∧ j.val * 1 + ((shape2 (Rm1 + 1) 1).rowMajor.symm n 0).val - 0 < Rm1 + 1 at h0
      rw [hw0] at h0
      rw [dif_pos (by omega)]
      refine congrArg x (funext fun a => Fin.ext ?_)
      match a with
      | ⟨0, _⟩ =>
        show j.val * 1 + ((shape2 (Rm1 + 1) 1).rowMajor.symm n 0).val - 0 = j.val + n.val
        rw [hw0, Nat.mul_one]; rfl
      | ⟨1, _⟩ =>
        show c.val * 1 + ((shape2 (Rm1 + 1) 1).rowMajor.symm n 1).val - 0 = c.val
        rw [hw1]
        omega
    · next hin =>
      rw [dif_neg fun hle => hin fun a => by
        match a with
        | ⟨0, _⟩ =>
          show 0 ≤ j.val * 1 + ((shape2 (Rm1 + 1) 1).rowMajor.symm n 0).val
            ∧ j.val * 1 + ((shape2 (Rm1 + 1) 1).rowMajor.symm n 0).val - 0 < Rm1 + 1
          rw [hw0]
          omega
        | ⟨1, _⟩ =>
          show 0 ≤ c.val * 1 + ((shape2 (Rm1 + 1) 1).rowMajor.symm n 1).val ∧ c.val * 1 + ((shape2 (Rm1 + 1) 1).rowMajor.symm n 1).val - 0 < C
          rw [hw1]
          omega]
  · rw [zero_add, ← sum_shift (fun i => x (ix2 i c)) j, ← Fin.sum_univ_def,
      Fin.sum_univ_eq_sum_range (fun n => entryOr (fun i => x (ix2 i c)) (j.val + n))]
    exact congrArg (fun M => ∑ n ∈ Finset.range M, entryOr (fun i => x (ix2 i c)) (j.val + n)) (numel_col (Rm1 + 1))

/-- Row `a` of the rows added lands at the row its index names, column for column. -/
theorem rows_land {R C A : Nat} (d : ScatterDims (shape2 R C) (shape2 A 1) (shape2 A C)) (hiw : d.insertedWindowDims = [0])
    (huw : d.updateWindowDims = [1])
    (hsd : d.scatterDimsToOperandDims = [0]) (hivd : d.indexVectorDim = 1) (idx : IVec (shape2 A 1) 32)
    (a : Fin A) (b : Fin C) (r : Fin R) (c : Fin C) :
    d.resultIdx? (ix2 a b) idx = some (ix2 r c) ↔ (idx (ix2 a (0 : Fin 1))).toInt = (r.val : Int) ∧ b = c := by
  have hm : (0 : Fin 2) ∈ d.scatterDimsToOperandDims := by rw [hsd]; exact List.mem_singleton.2 rfl
  have hm1 : ¬ (1 : Fin 2) ∈ d.scatterDimsToOperandDims := by rw [hsd]; simp
  have hsk : d.sKept = [1] := by
    show (shape2 R C).kept d.insertedWindowDims = _
    rw [hiw]; rfl
  have e : ∀ (l : List (Fin 2)) (n : ℕ) (h : n < l.length) (q : Fin 2), l = [q] → l[n]'h = q := by
    intro l n h q hl
    subst hl
    have : n = 0 := by simpa using h
    subst this
    rfl
  have hw0 : d.window (ix2 a b) 0 = 0 := by
    unfold ScatterDims.window
    rw [dif_neg (by rw [hsk]; simp)]
  have hw1 : d.window (ix2 a b) 1 = b.val := by
    unfold ScatterDims.window
    rw [dif_pos (by rw [hsk]; simp), e _ _ _ 1 huw]
  have hs1 : d.start (ix2 a b) idx 1 = 0 := by
    unfold ScatterDims.start
    rw [dif_neg hm1]
  have hs0 : d.start (ix2 a b) idx 0 = (idx (ix2 a (0 : Fin 1))).toInt := by
    unfold ScatterDims.start
    rw [dif_pos hm]
    have hsi : d.siIdx (ix2 a b) ⟨d.scatterDimsToOperandDims.idxOf 0, List.idxOf_lt_length_iff.2 hm⟩ = ix2 a (0 : Fin 1) := by
      have hu : d.uScatter = [0] := by
        show (shape2 A C).kept d.updateWindowDims = _
        rw [huw]
        rfl
      funext b'
      apply Fin.ext
      match b' with
      | ⟨0, _⟩ =>
        unfold ScatterDims.siIdx
        rw [dif_neg (by rw [hivd]; exact Nat.zero_ne_one)]
        unfold ScatterDims.siCoord
        simp only [Fin.val_cast]
        rw [e _ _ _ 0 hu]
      | ⟨1, _⟩ =>
        unfold ScatterDims.siIdx
        rw [dif_pos (by rw [hivd])]
        show List.idxOf (0 : Fin 2) d.scatterDimsToOperandDims = 0
        rw [hsd]; simp
    rw [hsi]
  rw [resultIdx?_ix2, hw0, hw1, hs0, hs1, Fin.ext_iff]
  have := r.isLt
  have := c.isLt
  constructor <;> intro h <;> omega
-- ==== Proof.InRef.lean ====
/- THE INPUT PROJECTION'S BACKWARD PASS IN THE REFERENCE: the differences of running sums, differentiated, and the sections' sum. -/
module

public import proofs.«01_k».proof.Defs
public import proofs.«01_k».proof.Proof.In
public import proofs.«01_k».proof.Proof.InOps
public import proofs.«01_k».proof.Proof.Gen.Reference3Ideal.Run

@[expose] public section

noncomputable section

namespace Cert.Proof.InX.Ref

open Idealize.ShloMosaic Idealize.ShloMosaic.TcCoe Idealize.ShloMosaic.StableHlo Idealize.SL.Sem
open Cert.Reference3Ideal Cert.Reference3Ideal.Gen

/-- Where the window of width `w` that ends at each position starts; the same as rows; how many positions the window holds. -/
def start (w : BitVec 32) : IVec S2048 32 :=
  maxsi (subi (addi (iotaInDim S2048 32 0) (broadcastInDim S2048 ![] bcast_S_S2048 (constantI S_ 32 1#32))) (broadcastInDim S2048 ![] bcast_S_S2048 (constantI S_ 32 w))) (broadcastInDim S2048 ![] bcast_S_S2048 (constantI S_ 32 0#32))
def rows (w : BitVec 32) : IVec S2048x1 32 :=
  broadcastInDim S2048x1 ![0] bcast_S2048_S2048x1_0 (select (cmpi .slt (start w) (broadcastInDim S2048 ![] bcast_S_S2048 (constantI S_ 32 0#32))) (addi (start w) (broadcastInDim S2048 ![] bcast_S_S2048 (constantI S_ 32 2049#32))) (start w))
def counts (w : BitVec 32) : FVec Ideal S2048x1 .f32 :=
  broadcastInDim S2048x1 ![0] bcast_S2048_S2048x1_0 (sitofp .f32 (subi (addi (iotaInDim S2048 32 0) (broadcastInDim S2048 ![] bcast_S_S2048 (constantI S_ 32 1#32))) (start w)))

/-- Gradients over their windows' counts; these, negated, added at the rows where the windows start. -/
def quot (w : BitVec 32) (P : FVec Ideal S2048x128 .f32) : FVec Ideal S2048x128 .f32 :=
  Host.divf P (broadcastInDim S2048x128 ![0, 1] bcast_S2048x1_S2048x128_0_1 (counts w))
def back (w : BitVec 32) (Q : FVec Ideal S2048x128 .f32) : FVec Ideal S2049x128 .f32 :=
  Host.scatterAdd scatter_S2049x128_S2048x1_S2048x128_1_0_0_1 (broadcastInDim S2049x128 ![] bcast_S_S2049x128 (constant S_ .f32 0x00000000#32)) (rows w) (Host.negf Q)

/-- What is wanted of a width: the words of the start and of the count. -/
structure Words (w : Nat) : Prop where
  start : ∀ j : Fin 2048, (Scalar.select
      (IntOp.cmpi CmpIPredicate.slt (IntOp.maxsi (IntOp.subi (IntOp.addi (BitVec.ofNat 32 j.val) 1#32) (BitVec.ofNat 32 w)) 0#32) 0#32)
      (IntOp.addi (IntOp.maxsi (IntOp.subi (IntOp.addi (BitVec.ofNat 32 j.val) 1#32) (BitVec.ofNat 32 w)) 0#32) 2049#32)
      (IntOp.maxsi (IntOp.subi (IntOp.addi (BitVec.ofNat 32 j.val) 1#32) (BitVec.ofNat 32 w)) 0#32)).toInt = ((j.val + 1 - w : Nat) : Int)
  count : ∀ j : Fin 2048, (IntOp.subi (IntOp.addi (BitVec.ofNat 32 j.val) 1#32)
      (IntOp.maxsi (IntOp.subi (IntOp.addi (BitVec.ofNat 32 j.val) 1#32) (BitVec.ofNat 32 w)) 0#32)).toInt = ((min (j.val + 1) w : Nat) : Int)

theorem words2 : Words 2 := ⟨by decide +kernel, by decide +kernel⟩
theorem words4 : Words 4 := ⟨by decide +kernel, by decide +kernel⟩
theorem words8 : Words 8 := ⟨by decide +kernel, by decide +kernel⟩
theorem words16 : Words 16 := ⟨by decide +kernel, by decide +kernel⟩

theorem rows_apply {w : Nat} (hw : Words w) (j : Fin 2048) (k : Fin 1) : (rows (BitVec.ofNat 32 w) (ix2 j k)).toInt = ((j.val + 1 - w : Nat) : Int) := by
  rw [← hw.start j]
  pointwise [rows, start]

theorem quot_apply {w : Nat} (hw : Words w) (P : FVec Ideal S2048x128 .f32) (j : Fin 2048) (k : Fin 128) :
    quot (BitVec.ofNat 32 w) P (ix2 j k) = shared w (fun r => P (ix2 r k)) j := by
  have e : quot (BitVec.ofNat 32 w) P (ix2 j k) = Ideal.div (P (ix2 j k)) (FloatOps.sitofp .f32 (IntOp.subi (IntOp.addi (BitVec.ofNat 32 j.val) 1#32)
      (IntOp.maxsi (IntOp.subi (IntOp.addi (BitVec.ofNat 32 j.val) 1#32) (BitVec.ofNat 32 w)) 0#32)) : Ideal .f32) := by
    pointwise [quot, counts, start]
  rw [e]
  refine congrArg (Ideal.div _) ?_
  show (((_ : BitVec 32).toInt : ℝ) : EReal) = ((min (j.val + 1) w : Nat) : ℝ)
  rw [hw.count j]
  norm_cast

theorem back_apply {w : Nat} (hw : Words w) (Q : FVec Ideal S2048x128 .f32) (r : Fin 2049) (k : Fin 128) :
    back (BitVec.ofNat 32 w) Q (ix2 r k) = ∑ j : Fin 2048, (if j.val + 1 - w = r.val then -Q (ix2 j k) else 0) := by
  have hR := fun j => rows_apply hw j 0
  unfold back
  generalize rows (BitVec.ofNat 32 w) = R at hR ⊢
  have hz : (broadcastInDim S2049x128 ![] bcast_S_S2049x128 (constant (F := Ideal) S_ .f32 0x00000000#32) : FVec Ideal S2049x128 .f32) (ix2 r k) = (0 : EReal) := by
    pointwise
  have hn : ∀ (j : Fin 2048) (b : Fin 128), (Host.negf Q : FVec Ideal S2048x128 .f32) (ValueIdx.ix2 j b) = -Q (ix2 j b) := fun j b => by
    show (Host.negf Q : FVec Ideal S2048x128 .f32) (ix2 j b) = _
    pointwise
  generalize (broadcastInDim S2049x128 ![] bcast_S_S2049x128 (constant (F := Ideal) S_ .f32 0x00000000#32) : FVec Ideal S2049x128 .f32) = Z at hz ⊢
  generalize (Host.negf Q : FVec Ideal S2048x128 .f32) = N at hn ⊢
  show Z (ix2 r k) + ∑ j ∈ Finset.univ.filter (fun j => scatter_S2049x128_S2048x1_S2048x128_1_0_0_1.resultIdx? j R = some (ix2 r k)), N j = _
  rw [hz, zero_add, Finset.sum_filter, ValueIdx.sum_idx2]
  refine Finset.sum_congr rfl fun j _ => ?_
  have hl : ∀ b : Fin 128, scatter_S2049x128_S2048x1_S2048x128_1_0_0_1.resultIdx? (ValueIdx.ix2 j b) R = some (ix2 r k) ↔ (j.val + 1 - w = r.val ∧ b = k) := fun b => by
    refine (rows_land (R := 2049) (C := 128) (A := 2048) scatter_S2049x128_S2048x1_S2048x128_1_0_0_1 rfl rfl rfl rfl R j b r k).trans ?_
    rw [show (R (ValueIdx.ix2 j 0)).toInt = _ from hR j]
    exact and_congr (by norm_cast) Iff.rfl
  simp only [hl, hn]
  by_cases h : j.val + 1 - w = r.val
  · simp [h]
  · simp [h]

/-- The gradient of the running sums: in each group of columns, the negated rows where windows start and the rows where they end. -/
def terms (S3 S2 S1 S0 : FVec Ideal S2049x128 .f32) (Q3 Q2 Q1 Q0 : FVec Ideal S2048x128 .f32) : FVec Ideal S2049x512 .f32 :=
  addf (F := Ideal) (φ := .f32) (s := S2049x512) (addf (addf (addf (addf (addf (addf (pad S2049x512 ![0, 384] ![0, 0] ![0, 0] S3 (constant S_ .f32 0x00000000#32) pads_S2049x128_S2049x512_000_38400 h_S_) (pad S2049x512 ![1, 384] ![0, 0] ![0, 0] Q3 (constant S_ .f32 0x00000000#32) pads_S2048x128_S2049x512_100_38400 h_S_)) (pad S2049x512 ![0, 256] ![0, 128] ![0, 0] S2 (constant S_ .f32 0x00000000#32) pads_S2049x128_S2049x512_000_2561280 h_S_)) (pad S2049x512 ![1, 256] ![0, 128] ![0, 0] Q2 (constant S_ .f32 0x00000000#32) pads_S2048x128_S2049x512_100_2561280 h_S_)) (pad S2049x512 ![0, 128] ![0, 256] ![0, 0] S1 (constant S_ .f32 0x00000000#32) pads_S2049x128_S2049x512_000_1282560 h_S_)) (pad S2049x512 ![1, 128] ![0, 256] ![0, 0] Q1 (constant S_ .f32 0x00000000#32) pads_S2048x128_S2049x512_100_1282560 h_S_)) (pad S2049x512 ![0, 0] ![0, 384] ![0, 0] S0 (constant S_ .f32 0x00000000#32) pads_S2049x128_S2049x512_000_03840 h_S_)) (pad S2049x512 ![1, 0] ![0, 384] ![0, 0] Q0 (constant S_ .f32 0x00000000#32) pads_S2048x128_S2049x512_100_03840 h_S_)

/-- One of four, by the group. -/
def pick {α : Type} (a3 a2 a1 a0 : α) (g : Fin 4) : α := if g = 3 then a3 else if g = 2 then a2 else if g = 1 then a1 else a0

set_option maxHeartbeats 1000000 in
theorem terms_apply (S3 S2 S1 S0 : FVec Ideal S2049x128 .f32) (Q3 Q2 Q1 Q0 : FVec Ideal S2048x128 .f32) (r : Fin 2048) (g : Fin 4) (j : Fin 128) :
    (extractStridedSlice S2048x512 ![1, 0] (terms S3 S2 S1 S0 Q3 Q2 Q1 Q0) slices_S2049x512_S2048x512_1_0 : FVec Ideal S2048x512 .f32) (ix2 r (pcol g j))
      = pick S3 S2 S1 S0 g (ix2 ⟨1 + r.val, by omega⟩ j) + pick Q3 Q2 Q1 Q0 g (ix2 r j) := by
  have hj := j.isLt
  have hr := r.isLt
  have hlt : 1 + r.val < 2049 := by omega
  obtain ⟨z, hz, hv⟩ : ∃ z : Fin 512, pcol g j = z ∧ z.val = 128 * g.val + j.val := ⟨_, rfl, rfl⟩
  rw [hz]
  pointwise [terms]
  simp only [hlt, true_and]
  obtain ⟨g, hg⟩ := g
  obtain rfl | rfl | rfl | rfl : g = 0 ∨ g = 1 ∨ g = 2 ∨ g = 3 := by omega
  · replace hv : z.val = 0 + j.val := hv
    have h3 : ¬(384 ≤ z.val ∧ z.val - 384 < 128) := by omega
    have h2 : ¬(256 ≤ z.val ∧ z.val - 256 < 128) := by omega
    have h1 : ¬(128 ≤ z.val ∧ z.val - 128 < 128) := by omega
    have h0 : (z.val < 128) := by omega
    rw [dif_neg h3, dif_neg h3, dif_neg h2, dif_neg h2, dif_neg h1, dif_neg h1, dif_pos h0, dif_pos h0]
    have e : (⟨z.val, h0⟩ : Fin 128) = j := Fin.ext (by show z.val = j.val; omega)
    simp [e, pick]
  · replace hv : z.val = 128 + j.val := hv
    have h3 : ¬(384 ≤ z.val ∧ z.val - 384 < 128) := by omega
    have h2 : ¬(256 ≤ z.val ∧ z.val - 256 < 128) := by omega
    have h1 : (128 ≤ z.val ∧ z.val - 128 < 128) := by omega
    have h0 : ¬(z.val < 128) := by omega
    rw [dif_neg h3, dif_neg h3, dif_neg h2, dif_neg h2, dif_pos h1, dif_pos h1, dif_neg h0, dif_neg h0]
    have e : (⟨z.val - 128, h1.2⟩ : Fin 128) = j := Fin.ext (by show z.val - 128 = j.val; omega)
    simp [e, pick]
  · replace hv : z.val = 256 + j.val := hv
    have h3 : ¬(384 ≤ z.val ∧ z.val - 384 < 128) := by omega
    have h2 : (256 ≤ z.val ∧ z.val - 256 < 128) := by omega
    have h1 : ¬(128 ≤ z.val ∧ z.val - 128 < 128) := by omega
    have h0 : ¬(z.val < 128) := by omega
    rw [dif_neg h3, dif_neg h3, dif_pos h2, dif_pos h2, dif_neg h1, dif_neg h1, dif_neg h0, dif_neg h0]
    have e : (⟨z.val - 256, h2.2⟩ : Fin 128) = j := Fin.ext (by show z.val - 256 = j.val; omega)
    simp [e, pick]
  · replace hv : z.val = 384 + j.val := hv
    have h3 : (384 ≤ z.val ∧ z.val - 384 < 128) := by omega
    have h2 : ¬(256 ≤ z.val ∧ z.val - 256 < 128) := by omega
    have h1 : ¬(128 ≤ z.val ∧ z.val - 128 < 128) := by omega
    have h0 : ¬(z.val < 128) := by omega
    rw [dif_neg h2, dif_neg h2, dif_neg h1, dif_neg h1, dif_neg h0, dif_neg h0, dif_pos h3, dif_pos h3]
    have e : (⟨z.val - 384, h3.2⟩ : Fin 128) = j := Fin.ext (by show z.val - 384 = j.val; omega)
    simp [e, pick]

/-- The negated gradients, group by group. -/
def negs (P3 P2 P1 P0 : FVec Ideal S2048x128 .f32) : FVec Ideal S2048x512 .f32 :=
  addf (F := Ideal) (φ := .f32) (s := S2048x512) (addf (addf (pad S2048x512 ![0, 384] ![0, 0] ![0, 0] (Host.negf P3) (constant S_ .f32 0x00000000#32) pads_S2048x128_S2048x512_000_38400 h_S_) (pad S2048x512 ![0, 256] ![0, 128] ![0, 0] (Host.negf P2) (constant S_ .f32 0x00000000#32) pads_S2048x128_S2048x512_000_2561280 h_S_)) (pad S2048x512 ![0, 128] ![0, 256] ![0, 0] (Host.negf P1) (constant S_ .f32 0x00000000#32) pads_S2048x128_S2048x512_000_1282560 h_S_)) (pad S2048x512 ![0, 0] ![0, 384] ![0, 0] (Host.negf P0) (constant S_ .f32 0x00000000#32) pads_S2048x128_S2048x512_000_03840 h_S_)

theorem negs_apply (P3 P2 P1 P0 : FVec Ideal S2048x128 .f32) (r : Fin 2048) (g : Fin 4) (j : Fin 128) :
    negs P3 P2 P1 P0 (ix2 r (pcol g j)) = -pick P3 P2 P1 P0 g (ix2 r j) := by
  have hj := j.isLt
  obtain ⟨z, hz, hv⟩ : ∃ z : Fin 512, pcol g j = z ∧ z.val = 128 * g.val + j.val := ⟨_, rfl, rfl⟩
  rw [hz]
  pointwise [negs]
  obtain ⟨g, hg⟩ := g
  obtain rfl | rfl | rfl | rfl : g = 0 ∨ g = 1 ∨ g = 2 ∨ g = 3 := by omega
  · replace hv : z.val = 0 + j.val := hv
    have h3 : ¬(384 ≤ z.val ∧ z.val - 384 < 128) := by omega
    have h2 : ¬(256 ≤ z.val ∧ z.val - 256 < 128) := by omega
    have h1 : ¬(128 ≤ z.val ∧ z.val - 128 < 128) := by omega
    have h0 : (z.val < 128) := by omega
    rw [dif_neg h3, dif_neg h2, dif_neg h1, dif_pos h0]
    have e : (⟨z.val, h0⟩ : Fin 128) = j := Fin.ext (by show z.val = j.val; omega)
    simp [e, pick]
  · replace hv : z.val = 128 + j.val := hv
    have h3 : ¬(384 ≤ z.val ∧ z.val - 384 < 128) := by omega
    have h2 : ¬(256 ≤ z.val ∧ z.val - 256 < 128) := by omega
    have h1 : (128 ≤ z.val ∧ z.val - 128 < 128) := by omega
    have h0 : ¬(z.val < 128) := by omega
    rw [dif_neg h3, dif_neg h2, dif_pos h1, dif_neg h0]
    have e : (⟨z.val - 128, h1.2⟩ : Fin 128) = j := Fin.ext (by show z.val - 128 = j.val; omega)
    simp [e, pick]
  · replace hv : z.val = 256 + j.val := hv
    have h3 : ¬(384 ≤ z.val ∧ z.val - 384 < 128) := by omega
    have h2 : (256 ≤ z.val ∧ z.val - 256 < 128) := by omega
    have h1 : ¬(128 ≤ z.val ∧ z.val - 128 < 128) := by omega
    have h0 : ¬(z.val < 128) := by omega
    rw [dif_neg h3, dif_pos h2, dif_neg h1, dif_neg h0]
    have e : (⟨z.val - 256, h2.2⟩ : Fin 128) = j := Fin.ext (by show z.val - 256 = j.val; omega)
    simp [e, pick]
  · replace hv : z.val = 384 + j.val := hv
    have h3 : (384 ≤ z.val ∧ z.val - 384 < 128) := by omega
    have h2 : ¬(256 ≤ z.val ∧ z.val - 256 < 128) := by omega
    have h1 : ¬(128 ≤ z.val ∧ z.val - 128 < 128) := by omega
    have h0 : ¬(z.val < 128) := by omega
    rw [dif_neg h2, dif_neg h1, dif_neg h0, dif_pos h3]
    have e : (⟨z.val - 384, h3.2⟩ : Fin 128) = j := Fin.ext (by show z.val - 384 = j.val; omega)
    simp [e, pick]

section stages
variable (p : FVec Ideal S2048x512 .f32)

/-- The groups of the pooled values' gradient. -/
abbrev P0 : FVec Ideal S2048x128 .f32 := extractStridedSlice S2048x128 ![0, 0] p slices_S2048x512_S2048x128_0_0
abbrev P1 : FVec Ideal S2048x128 .f32 := extractStridedSlice S2048x128 ![0, 128] p slices_S2048x512_S2048x128_0_128
abbrev P2 : FVec Ideal S2048x128 .f32 := extractStridedSlice S2048x128 ![0, 256] p slices_S2048x512_S2048x128_0_256
abbrev P3 : FVec Ideal S2048x128 .f32 := extractStridedSlice S2048x128 ![0, 384] p slices_S2048x512_S2048x128_0_384

theorem part_apply (r : Fin 2048) (g : Fin 4) (j : Fin 128) : pick (P3 p) (P2 p) (P1 p) (P0 p) g (ix2 r j) = p (ix2 r (pcol g j)) := by
  obtain ⟨g, hg⟩ := g
  obtain rfl | rfl | rfl | rfl : g = 0 ∨ g = 1 ∨ g = 2 ∨ g = 3 := by omega
  · show P0 p (ix2 r j) = _
    pointwise
    exact congrArg (fun z => p (ix2 r z)) (Fin.ext (by simp [pcol]))
  · show P1 p (ix2 r j) = _
    pointwise
    rfl
  · show P2 p (ix2 r j) = _
    pointwise
    rfl
  · show P3 p (ix2 r j) = _
    pointwise
    rfl

/-- The fourth section's gradient. -/
def pooled : FVec Ideal S2048x512 .f32 :=
  addf (negs (P3 p) (P2 p) (P1 p) (P0 p)) (Host.reduceWindowAdd ![2048, 1] ![1, 1] ![0, 0] ![2047, 0]
    (extractStridedSlice S2048x512 ![1, 0] (terms (back 16#32 (quot 16#32 (P3 p))) (back 8#32 (quot 8#32 (P2 p))) (back 4#32 (quot 4#32 (P1 p))) (back 2#32 (quot 2#32 (P0 p)))
      (quot 16#32 (P3 p)) (quot 8#32 (P2 p)) (quot 4#32 (P1 p)) (quot 2#32 (P0 p))) slices_S2049x512_S2048x512_1_0)
    (broadcastInDim S_ ![] bcast_S_S_ (constant S_ .f32 0x00000000#32)) reduceWindows_S2048x512_S2048x512_w2048s1p0_2047_w1s1p0_0 h_S_)

theorem group_apply {w : Nat} (hw : Words w) (P : FVec Ideal S2048x128 .f32) (r : Fin 2048) (j : Fin 128) :
    back (BitVec.ofNat 32 w) (quot (BitVec.ofNat 32 w) P) (ix2 ⟨1 + r.val, by omega⟩ j) + quot (BitVec.ofNat 32 w) P (ix2 r j)
      = shared w (fun r => P (ix2 r j)) r + ∑ i : Fin 2048, (if i.val + 1 - w = r.val + 1 then -shared w (fun r => P (ix2 r j)) i else 0) := by
  rw [back_apply hw, quot_apply hw, add_comm]
  refine congrArg _ (Finset.sum_congr rfl fun i _ => ?_)
  rw [quot_apply hw]
  show (if i.val + 1 - w = 1 + r.val then _ else _) = _
  rw [Nat.add_comm 1 r.val]

theorem pooled_apply (hp : ∀ r z, Real' (p (ix2 r z))) (r : Fin 2048) (z : Fin 512) :
    pooled p (ix2 r z) = poolGrad (width z) (fun r => p (ix2 r z)) r := by
  obtain ⟨g, j, rfl⟩ : ∃ g j, z = pcol g j := ⟨⟨z.val / 128, by omega⟩, ⟨z.val % 128, by omega⟩, Fin.ext (by show z.val = 128 * (z.val / 128) + z.val % 128; omega)⟩
  have hj := j.isLt
  have hwd : width (pcol g j) = 2 ^ (g.val + 1) := by
    unfold width
    rw [show (pcol g j).val / 128 = g.val by show (128 * g.val + j.val) / 128 = g.val; omega]
  have hw0 : 0 < width (pcol g j) := by rw [hwd]; exact Nat.pos_of_ne_zero (by simp)
  rw [← poolGrad_terms (width (pcol g j)) hw0 _ (fun t => hp t _) r]
  have hi : (broadcastInDim S_ ![] bcast_S_S_ (constant (F := Ideal) S_ .f32 0x00000000#32) : FVec Ideal S_ .f32) ValueIdx.ix0 = (0 : EReal) := by
    pointwise
  have ht : ∀ i : Fin 2048, (extractStridedSlice S2048x512 ![1, 0] (terms (back 16#32 (quot 16#32 (P3 p))) (back 8#32 (quot 8#32 (P2 p))) (back 4#32 (quot 4#32 (P1 p))) (back 2#32 (quot 2#32 (P0 p)))
      (quot 16#32 (P3 p)) (quot 8#32 (P2 p)) (quot 4#32 (P1 p)) (quot 2#32 (P0 p))) slices_S2049x512_S2048x512_1_0 : FVec Ideal S2048x512 .f32) (ix2 i (pcol g j))
      = shared (width (pcol g j)) (fun r => p (ix2 r (pcol g j))) i
        + ∑ n : Fin 2048, (if n.val + 1 - width (pcol g j) = i.val + 1 then -shared (width (pcol g j)) (fun r => p (ix2 r (pcol g j))) n else 0) := fun i => by
    have hf : (fun r => p (ix2 r (pcol g j))) = fun r => pick (P3 p) (P2 p) (P1 p) (P0 p) g (ix2 r j) := funext fun r => (part_apply p r g j).symm
    rw [terms_apply, hf, hwd]
    obtain ⟨g, hg⟩ := g
    obtain rfl | rfl | rfl | rfl : g = 0 ∨ g = 1 ∨ g = 2 ∨ g = 3 := by omega
    · exact group_apply words2 (P0 p) i j
    · exact group_apply words4 (P1 p) i j
    · exact group_apply words8 (P2 p) i j
    · exact group_apply words16 (P3 p) i j
  unfold pooled
  generalize (extractStridedSlice S2048x512 ![1, 0] (terms (back 16#32 (quot 16#32 (P3 p))) (back 8#32 (quot 8#32 (P2 p))) (back 4#32 (quot 4#32 (P1 p))) (back 2#32 (quot 2#32 (P0 p)))
    (quot 16#32 (P3 p)) (quot 8#32 (P2 p)) (quot 4#32 (P1 p)) (quot 2#32 (P0 p))) slices_S2049x512_S2048x512_1_0 : FVec Ideal S2048x512 .f32) = T at ht ⊢
  refine (congrArg₂ (· + ·) ((negs_apply _ _ _ _ r g j).trans (congrArg Neg.neg (part_apply p r g j)))
    (revsum (R := 2048) (Rm1 := 2047) (C := 512) rfl T _ hi reduceWindows_S2048x512_S2048x512_w2048s1p0_2047_w1s1p0_0 h_S_ r (pcol g j))).trans ?_
  rw [show (∑ i : Fin 2048, (if r.val ≤ i.val then T (ValueIdx.ix2 i (pcol g j)) else 0)) = _ from Finset.sum_congr rfl fun i _ => by rw [show T (ValueIdx.ix2 i (pcol g j)) = _ from ht i]]
  rw [sub_eq_add_neg, add_comm]

variable (q k v : FVec Ideal S2048x512 .bf16) (g : FVec Ideal S2048x2048 .bf16) (d : FVec Ideal S2048x1024 .f32) (w : FVec Ideal S1024x4096 .f32)

/-- The sections together, and the projection's gradient for its input. -/
def sections (U : FVec Ideal S2048x512 .f32) : FVec Ideal S2048x4096 .f32 :=
  addf (F := Ideal) (φ := .f32) (s := S2048x4096) (addf (addf (addf (pad S2048x4096 ![0, 2048] ![0, 0] ![0, 0] (extf .f32 g bitsLt_bf16_f32) (constant S_ .f32 0x00000000#32) pads_S2048x2048_S2048x4096_000_204800 h_S_) (pad S2048x4096 ![0, 1536] ![0, 2048] ![0, 0] U (constant S_ .f32 0x00000000#32) pads_S2048x512_S2048x4096_000_153620480 h_S_)) (pad S2048x4096 ![0, 1024] ![0, 2560] ![0, 0] (extf .f32 v bitsLt_bf16_f32) (constant S_ .f32 0x00000000#32) pads_S2048x512_S2048x4096_000_102425600 h_S_)) (pad S2048x4096 ![0, 512] ![0, 3072] ![0, 0] (extf .f32 k bitsLt_bf16_f32) (constant S_ .f32 0x00000000#32) pads_S2048x512_S2048x4096_000_51230720 h_S_)) (pad S2048x4096 ![0, 0] ![0, 3584] ![0, 0] (extf .f32 q bitsLt_bf16_f32) (constant S_ .f32 0x00000000#32) pads_S2048x512_S2048x4096_000_035840 h_S_)
def input (Z : FVec Ideal S2048x4096 .f32) : FVec Ideal S2048x1024 .f32 :=
  addf (mulf (broadcastInDim S2048x1024 ![] bcast_S_S2048x1024 (constant S_ .f32 0x3F9837F0#32)) d)
    (Host.dotGeneral (φ₁ := .f32) (φ₂ := .f32) dot_S2048x4096_S1024x4096_S2048x1024_1_1_0_0_n_n none Z w)

/-- The arguments, of their arrays. -/
def inArgs : InArgs where
  dq r j := q (ix2 r j)
  dk r j := k (ix2 r j)
  dv r j := v (ix2 r j)
  dp r j := p (ix2 r j)
  dzg r j := g (ix2 r j)
  dr r j := d (ix2 r j)
  w k j := w (ix2 k j)

theorem sections_apply (hp : ∀ r z, Real' (p (ix2 r z))) (r : Fin 2048) (j : Fin 4096) :
    sections q k v g (pooled p) (ix2 r j) = (inArgs p q k v g d w).dz r j := by
  have hu := pooled_apply p hp r
  generalize pooled p = U at hu ⊢
  have hj := j.isLt
  unfold InArgs.dz
  pointwise [sections]
  by_cases h0 : j.val < 512
  · rw [dif_neg (by omega), dif_neg (by omega), dif_neg (by omega), dif_neg (by omega), dif_pos (by omega), dif_pos h0]
    simp [inArgs]
  by_cases h1 : j.val < 1024
  · rw [dif_neg (by omega), dif_neg (by omega), dif_neg (by omega), dif_pos (by omega), dif_neg (by omega), dif_neg h0, dif_pos h1]
    simp [inArgs]
  by_cases h2 : j.val < 1536
  · rw [dif_neg (by omega), dif_neg (by omega), dif_pos (by omega), dif_neg (by omega), dif_neg (by omega), dif_neg h0, dif_neg h1, dif_pos h2]
    simp [inArgs]
  by_cases h3 : j.val < 2048
  · rw [dif_neg (by omega), dif_pos (by omega), dif_neg (by omega), dif_neg (by omega), dif_neg (by omega), dif_neg h0, dif_neg h1, dif_neg h2, dif_pos h3, hu]
    simp [inArgs, InArgs.pool]
  · rw [dif_pos (by omega), dif_neg (by omega), dif_neg (by omega), dif_neg (by omega), dif_neg (by omega), dif_neg h0, dif_neg h1, dif_neg h2, dif_neg h3]
    simp [inArgs]

theorem input_apply (hp : ∀ r z, Real' (p (ix2 r z))) (r : Fin 2048) (c : Fin 1024) :
    input d w (sections q k v g (pooled p)) (ix2 r c) = (inArgs p q k v g d w).dx r c := by
  have hs := sections_apply p q k v g d w hp r
  generalize sections q k v g (pooled p) = Z at hs ⊢
  unfold InArgs.dx
  simp only [← hs]
  pointwise [input]
  rfl

end stages

end Cert.Proof.InX.Ref

end
-- ==== Proof.InX.lean ====
/- THE INPUT PROJECTION'S BACKWARD PASS: what its result arrays hold, what its reference computes, and their claim. -/
module

public import proofs.«01_k».proof.Defs
public import proofs.«01_k».proof.Proof.In
public import proofs.«01_k».proof.Proof.InRef
public import proofs.«01_k».proof.Proof.Pre
public import proofs.«01_k».proof.Proof.Gen.Reference3Ideal.Run
public import proofs.«01_k».proof.Proof.Arrays
public import proofs.«01_k».proof.Proof.Same
public import Idealize.ShloMosaic.Lib.Pointwise
public import Idealize.ShloMosaic.Lib.Quiescent
public import Idealize.ShloMosaic.Lib.Pipeline.ValueKit.Geometry

@[expose] public section

noncomputable section

namespace Cert.Proof.InX

open Idealize.ShloMosaic Idealize.ShloMosaic.TcCoe Idealize.ShloMosaic.StableHlo Idealize.SL.Sem

section kernel
open Cert.Kernel3Ideal Cert.Kernel3Ideal.Gen

variable (m : (ℓ : Loc nD τ sig) → Buf (Elt Ideal) ℓ) (c : Dev nD)

/-- The program's arguments on device `c`, as arrays. -/
abbrev A0 : FVec Ideal S2048x512 .bf16 := m ((c : Thread nD τ).loc main_arg0)
abbrev A1 : FVec Ideal S2048x512 .bf16 := m ((c : Thread nD τ).loc main_arg1)
abbrev A2 : FVec Ideal S2048x512 .bf16 := m ((c : Thread nD τ).loc main_arg2)
abbrev A3 : FVec Ideal S2048x512 .f32 := m ((c : Thread nD τ).loc main_arg3)
abbrev A4 : FVec Ideal S2048x2048 .bf16 := m ((c : Thread nD τ).loc main_arg4)
abbrev A5 : FVec Ideal S2048x1024 .f32 := m ((c : Thread nD τ).loc main_arg5)
abbrev A6 : FVec Ideal S1024x4096 .f32 := m ((c : Thread nD τ).loc main_arg6)

abbrev kargs : InArgs := Ref.inArgs (A3 m c) (A0 m c) (A1 m c) (A2 m c) (A4 m c) (A5 m c) (A6 m c)

theorem entry_q (i : Fin 2048) (k : Fin 512) : (V m c main_arg0 : FVec Ideal S2048x512 .bf16) (ix2 i k) = (kargs m c).dq i k := by
  have e : (V m c main_arg0 : FVec Ideal S2048x512 .bf16) = A0 m c := by
    simp only [V, hostOps0]
    after_results_simp <;> rfl
  rw [e]; rfl
theorem entry_k (i : Fin 2048) (k : Fin 512) : (V m c main_arg1 : FVec Ideal S2048x512 .bf16) (ix2 i k) = (kargs m c).dk i k := by
  have e : (V m c main_arg1 : FVec Ideal S2048x512 .bf16) = A1 m c := by
    simp only [V, hostOps0]
    after_results_simp <;> rfl
  rw [e]; rfl
theorem entry_v (i : Fin 2048) (k : Fin 512) : (V m c main_arg2 : FVec Ideal S2048x512 .bf16) (ix2 i k) = (kargs m c).dv i k := by
  have e : (V m c main_arg2 : FVec Ideal S2048x512 .bf16) = A2 m c := by
    simp only [V, hostOps0]
    after_results_simp <;> rfl
  rw [e]; rfl
theorem entry_u (i : Fin 2048) (k : Fin 512) : (V m c main_arg3 : FVec Ideal S2048x512 .f32) (ix2 i k) = (kargs m c).dp i k := by
  have e : (V m c main_arg3 : FVec Ideal S2048x512 .f32) = A3 m c := by
    simp only [V, hostOps0]
    after_results_simp <;> rfl
  rw [e]; rfl
theorem entry_g (i : Fin 2048) (k : Fin 2048) : (V m c main_arg4 : FVec Ideal S2048x2048 .bf16) (ix2 i k) = (kargs m c).dzg i k := by
  have e : (V m c main_arg4 : FVec Ideal S2048x2048 .bf16) = A4 m c := by
    simp only [V, hostOps0]
    after_results_simp <;> rfl
  rw [e]; rfl
theorem entry_r (i : Fin 2048) (k : Fin 1024) : (V m c main_arg5 : FVec Ideal S2048x1024 .f32) (ix2 i k) = (kargs m c).dr i k := by
  have e : (V m c main_arg5 : FVec Ideal S2048x1024 .f32) = A5 m c := by
    simp only [V, hostOps0]
    after_results_simp <;> rfl
  rw [e]; rfl

theorem entry_w (s : Fin 8) (k : Fin 1024) (j : Fin 512) : (V m c main_v2 : FVec Ideal S8x1024x512 .bf16) (ix3 s k j) = (kargs m c).w k (sec s j) := by
  have e : (V m c main_v2 : FVec Ideal S8x1024x512 .bf16)
      = truncf .bf16 (transpose S8x1024x512 [1, 0, 2] (shapeCast S1024x8x512 (A6 m c) shapeCasts_S1024x4096_S1024x8x512) transposes_S1024x8x512_S8x1024x512_1_0_2) bitsLt_bf16_f32 := by
    simp only [V, hostOps0]
    after_results_simp <;> rfl
  rw [e]
  pointwise
  refine congrArg (A6 m c) (congrArg (ix2 k) (Fin.ext ?_))
  show s.val * 512 + j.val = 512 * s.val + j.val
  omega

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![min ((t.val + 1) * 16) 127, 0] := (by decide +kernel : ∀ t : Fin grid0.N, win0_4.index t = ![min ((t.val + 1) * 16) 127, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![0, 0, 0] := (by decide +kernel : ∀ t : Fin grid0.N, win0_7.index t = ![0, 0, 0])
theorem index8 : ∀ t : Fin cfg0.N, win0_8.index t = ![t.val, 0] := (by decide +kernel : ∀ t : Fin grid0.N, win0_8.index t = ![t.val, 0])
theorem index9 : ∀ t : Fin cfg0.N, win0_9.index t = ![t.val, 0] := (by decide +kernel : ∀ t : Fin grid0.N, win0_9.index t = ![t.val, 0])

theorem emb0 (t : Fin cfg0.N) (i : Fin 256) (j : Fin 512) : (win0_0.rect t).emb (ix2 i j) = ix2 (row t i) j :=
  eq_of_emb (a := 2048) (b := 512) _ _ _ (I := ![t.val, 0]) (S := ![256, 512]) (y := ![i.val, j.val])
    (fun k => by rw [win0_0.rect_emb_val, index0]; match k with | ⟨0, _⟩ => rfl | ⟨1, _⟩ => rfl) rfl (by simp)
theorem emb1 (t : Fin cfg0.N) (i : Fin 256) (j : Fin 512) : (win0_1.rect t).emb (ix2 i j) = ix2 (row t i) j :=
  eq_of_emb (a := 2048) (b := 512) _ _ _ (I := ![t.val, 0]) (S := ![256, 512]) (y := ![i.val, j.val])
    (fun k => by rw [win0_1.rect_emb_val, index1]; match k with | ⟨0, _⟩ => rfl | ⟨1, _⟩ => rfl) rfl (by simp)
theorem emb2 (t : Fin cfg0.N) (i : Fin 256) (j : Fin 512) : (win0_2.rect t).emb (ix2 i j) = ix2 (row t i) j :=
  eq_of_emb (a := 2048) (b := 512) _ _ _ (I := ![t.val, 0]) (S := ![256, 512]) (y := ![i.val, j.val])
    (fun k => by rw [win0_2.rect_emb_val, index2]; match k with | ⟨0, _⟩ => rfl | ⟨1, _⟩ => rfl) rfl (by simp)
theorem emb3 (t : Fin cfg0.N) (i : Fin 256) (j : Fin 512) : (win0_3.rect t).emb (ix2 i j) = ix2 (row t i) j :=
  eq_of_emb (a := 2048) (b := 512) _ _ _ (I := ![t.val, 0]) (S := ![256, 512]) (y := ![i.val, j.val])
    (fun k => by rw [win0_3.rect_emb_val, index3]; match k with | ⟨0, _⟩ => rfl | ⟨1, _⟩ => rfl) rfl (by simp)
theorem emb5 (t : Fin cfg0.N) (i : Fin 256) (j : Fin 2048) : (win0_5.rect t).emb (ix2 i j) = ix2 (row t i) j :=
  eq_of_emb (a := 2048) (b := 2048) _ _ _ (I := ![t.val, 0]) (S := ![256, 2048]) (y := ![i.val, j.val])
    (fun k => by rw [win0_5.rect_emb_val, index5]; match k with | ⟨0, _⟩ => rfl | ⟨1, _⟩ => rfl) rfl (by simp)
theorem emb6 (t : Fin cfg0.N) (i : Fin 256) (j : Fin 1024) : (win0_6.rect t).emb (ix2 i j) = ix2 (row t i) j :=
  eq_of_emb (a := 2048) (b := 1024) _ _ _ (I := ![t.val, 0]) (S := ![256, 1024]) (y := ![i.val, j.val])
    (fun k => by rw [win0_6.rect_emb_val, index6]; match k with | ⟨0, _⟩ => rfl | ⟨1, _⟩ => rfl) rfl (by simp)
theorem emb8 (t : Fin cfg0.N) (i : Fin 256) (j : Fin 1024) : (win0_8.rect t).emb (ix2 i j) = ix2 (row t i) j :=
  eq_of_emb (a := 2048) (b := 1024) _ _ _ (I := ![t.val, 0]) (S := ![256, 1024]) (y := ![i.val, j.val])
    (fun k => by rw [win0_8.rect_emb_val, index8]; match k with | ⟨0, _⟩ => rfl | ⟨1, _⟩ => rfl) rfl (by simp)
theorem emb9 (t : Fin cfg0.N) (i : Fin 256) (j : Fin 4096) : (win0_9.rect t).emb (ix2 i j) = ix2 (row t i) j :=
  eq_of_emb (a := 2048) (b := 4096) _ _ _ (I := ![t.val, 0]) (S := ![256, 4096]) (y := ![i.val, j.val])
    (fun k => by rw [win0_9.rect_emb_val, index9]; match k with | ⟨0, _⟩ => rfl | ⟨1, _⟩ => rfl) rfl (by simp)
/-- The sixteen rows that follow a point's own, at a point that is not the last. -/
theorem emb4 (t : Fin cfg0.N) (h : t.val < 7) (i : Fin 16) (j : Fin 512) : (win0_4.rect t).emb (ix2 i j) = ix2 ⟨t.val * 256 + (256 + i.val), by omega⟩ j :=
  eq_of_emb (a := 2048) (b := 512) _ _ _ (I := ![min ((t.val + 1) * 16) 127, 0]) (S := ![16, 512]) (y := ![i.val, j.val])
    (fun k => by rw [win0_4.rect_emb_val, index4]; match k with | ⟨0, _⟩ => rfl | ⟨1, _⟩ => rfl)
    (by show min ((t.val + 1) * 16) 127 * 16 + i.val = t.val * 256 + (256 + i.val); omega) (by simp)
theorem emb7 (t : Fin cfg0.N) (i : Fin 8) (j : Fin 1024) (k : Fin 512) : (win0_7.rect t).emb (ix3 i j k) = ix3 i j k :=
  eq_of_emb3 (a := 8) (b := 1024) (c := 512) _ _ _ _ (I := ![0, 0, 0]) (S := ![8, 1024, 512]) (y := ![i.val, j.val, k.val])
    (fun q => by rw [win0_7.rect_emb_val, index7]; match q with | ⟨0, _⟩ => rfl | ⟨1, _⟩ => rfl | ⟨2, _⟩ => rfl) (by simp) (by simp) (by simp)

/- So every point reads its own rows of the arguments' arrays. -/
theorem atPoint (t : Fin cfg0.N) : AtPoint m c t (kargs m c) where
  q i j := (congrArg (V m c main_arg0) (emb0 t i j)).trans (entry_q m c (row t i) j)
  k i j := (congrArg (V m c main_arg1) (emb1 t i j)).trans (entry_k m c (row t i) j)
  v i j := (congrArg (V m c main_arg2) (emb2 t i j)).trans (entry_v m c (row t i) j)
  u i j := (congrArg (V m c main_arg3) (emb3 t i j)).trans (entry_u m c (row t i) j)
  next h i j := (congrArg (V m c main_arg3) (emb4 t h i j)).trans (entry_u m c _ j)
  g i j := (congrArg (V m c main_arg4) (emb5 t i j)).trans (entry_g m c (row t i) j)
  r i j := (congrArg (V m c main_arg5) (emb6 t i j)).trans (entry_r m c (row t i) j)
  w s k j := (congrArg (V m c main_v2) (emb7 t s k j)).trans (entry_w m c s k j)

theorem row_surj (j : Fin 2048) : ∃ t l, row t l = j :=
  ⟨⟨j.val / 256, by have : cfg0.N = 8 := N_0; omega⟩, ⟨j.val % 256, by omega⟩,
    Fin.ext (by show j.val / 256 * 256 + j.val % 256 = j.val; omega)⟩

theorem final_dx (r : Fin 2048) (k : Fin 1024) : ((dats m 0 c).arrAt 8 cfg0.N : FVec Ideal S2048x1024 .f32) (ix2 r k) = (kargs m c).dx r k := by
  obtain ⟨t, l, rfl⟩ := row_surj r
  have e : ((cfg0.win 8).blk t).view.emb (ix2 l k) = _ := emb8 t l k
  have h := (dats m 0 c).arrAt_emb_eq_flushed 8 Value.disjoint8 t (flush0_8 t) (ix2 l k)
  rw [e, Value.flushed8] at h
  have hb := dx_block (atPoint m c t) l k
  generalize (outsAt0 (F := Ideal) m c t).1 = o at h hb
  exact h.trans hb

theorem final_dz (r : Fin 2048) (j : Fin 4096) : ((dats m 0 c).arrAt 9 cfg0.N : FVec Ideal S2048x4096 .bf16) (ix2 r j) = (kargs m c).dz r j := by
  obtain ⟨t, l, rfl⟩ := row_surj r
  have e : ((cfg0.win 9).blk t).view.emb (ix2 l j) = _ := emb9 t l j
  have h := (dats m 0 c).arrAt_emb_eq_flushed 9 Value.disjoint9 t (flush0_9 t) (ix2 l j)
  rw [e, Value.flushed9] at h
  have hb := dz_block (atPoint m c t) l j
  generalize (outsAt0 (F := Ideal) m c t).2 = o at h hb
  exact h.trans hb

end kernel

theorem frame_ref : quiescent_Reference3Ideal (hReference3Ideal := Cert.Reference3Ideal.Gen.facts) := fun m ρ _ =>
  (θ_run (Cert.Reference3Ideal.defs (F := Ideal)) _ _).mono
    (fun r h => And.intro (fun c => (h c).2.2) (sem_eq_zero_of_no_sems rfl r.2)) (Cert.Reference3Ideal.Value.run m ρ)

section
open Cert.Reference3Ideal Cert.Reference3Ideal.Gen Cert.Reference3Ideal.Value
variable (V0 : Valuation τ sig (Elt Ideal))

/-- The reference's arguments. -/
abbrev B0 : FVec Ideal S2048x512 .bf16 := V0 (Proc.devRef .tc main_arg0)
abbrev B1 : FVec Ideal S2048x512 .bf16 := V0 (Proc.devRef .tc main_arg1)
abbrev B2 : FVec Ideal S2048x512 .bf16 := V0 (Proc.devRef .tc main_arg2)
abbrev B3 : FVec Ideal S2048x512 .f32 := V0 (Proc.devRef .tc main_arg3)
abbrev B4 : FVec Ideal S2048x2048 .bf16 := V0 (Proc.devRef .tc main_arg4)

theorem out_q0 : res_main_v159 V0 = Ref.quot 2#32 (Ref.P0 (B3 V0)) := by
  unfold res_main_v159 res_main_v117 res_main_v30 res_main_v15 res_main_v9
  rfl
theorem out_q1 : res_main_v147 V0 = Ref.quot 4#32 (Ref.P1 (B3 V0)) := by
  unfold res_main_v147 res_main_v118 res_main_v55 res_main_v40 res_main_v9
  rfl
theorem out_q2 : res_main_v135 V0 = Ref.quot 8#32 (Ref.P2 (B3 V0)) := by
  unfold res_main_v135 res_main_v119 res_main_v80 res_main_v65 res_main_v9
  rfl
theorem out_q3 : res_main_v124 V0 = Ref.quot 16#32 (Ref.P3 (B3 V0)) := by
  unfold res_main_v124 res_main_v120 res_main_v105 res_main_v90 res_main_v9
  rfl
theorem out_r0 : res_main_v27 V0 = Ref.rows 2#32 := by
  unfold res_main_v27 res_main_v15 res_main_v9
  rfl
theorem out_r1 : res_main_v52 V0 = Ref.rows 4#32 := by
  unfold res_main_v52 res_main_v40 res_main_v9
  rfl
theorem out_r2 : res_main_v77 V0 = Ref.rows 8#32 := by
  unfold res_main_v77 res_main_v65 res_main_v9
  rfl
theorem out_r3 : res_main_v102 V0 = Ref.rows 16#32 := by
  unfold res_main_v102 res_main_v90 res_main_v9
  rfl

theorem out_terms : res_main_v166 V0 = Ref.terms (Ref.back 16#32 (Ref.quot 16#32 (Ref.P3 (B3 V0)))) (Ref.back 8#32 (Ref.quot 8#32 (Ref.P2 (B3 V0))))
    (Ref.back 4#32 (Ref.quot 4#32 (Ref.P1 (B3 V0)))) (Ref.back 2#32 (Ref.quot 2#32 (Ref.P0 (B3 V0))))
    (Ref.quot 16#32 (Ref.P3 (B3 V0))) (Ref.quot 8#32 (Ref.P2 (B3 V0))) (Ref.quot 4#32 (Ref.P1 (B3 V0))) (Ref.quot 2#32 (Ref.P0 (B3 V0))) := by
  unfold res_main_v166
  rw [out_q0, out_q1, out_q2, out_q3, out_r0, out_r1, out_r2, out_r3]
  rfl

theorem out_dz : res_main_v178 V0 = Ref.sections (B0 V0) (B1 V0) (B2 V0) (B4 V0) (Ref.pooled (B3 V0)) := by
  unfold res_main_v178
  rw [out_terms]
  unfold res_main_v117 res_main_v118 res_main_v119 res_main_v120
  rfl
end

theorem pre_facts : Cert.Pre_finite3.Facts where
  bcast_S_S2048x512 := by decide
  reducesTo_S2048x512_S_d0_1 := by decide
  h_S_ := by decide

open Cert.Pre_finite3 in
/-- What the precondition says of the pooled values' gradient. -/
theorem real_of_pre [hF : Cert.Pre_finite3.Facts] (x0 x1 x2 : FVec Ideal S2048x512 .bf16) (x3 : FVec Ideal S2048x512 .f32) (x4 : FVec Ideal S2048x2048 .bf16)
    (x5 : FVec Ideal S2048x1024 .f32) (x6 : FVec Ideal S1024x4096 .f32) (h : Cert.Pre_finite3.fn (F := Ideal) x0 x1 x2 x3 x4 x5 x6 = fun _ => 1#1) :
    ∀ i, Real' (x3 i) := by
  have j : S_.Idx := fun k => k.elim0
  have h := congrFun h j
  unfold Cert.Pre_finite3.fn at h
  dsimp only at h
  exact real_of_all _ _ _ _ j h

theorem algebraic : algebraic_Kernel3Ideal_Reference3Ideal_pre_finite3 (hKernel3Ideal := Cert.Kernel3Ideal.Gen.facts)
    (hReference3Ideal := Cert.Reference3Ideal.Gen.facts) (hPre_finite3 := pre_facts) := by
  intro m g m' g' hpre hargs
  have hp : ∀ c r z, Real' (A3 m c (ix2 r z)) := fun c r z => real_of_pre (hF := pre_facts) _ _ _ _ _ _ _ (hpre c) (ix2 r z)
  refine ⟨_, _, Cert.Kernel3Ideal.Value.run_blocks m g, ?_⟩
  refine (θ_run (Cert.Reference3Ideal.defs (F := Ideal)) _ _).mono (fun r h c => ?_) (Cert.Reference3Ideal.Value.run m' g')
  obtain ⟨h0, h1, hk⟩ := h c
  obtain ⟨e0, e1, e2, e3, e4, e5, e6⟩ := hargs c
  have hz : Cert.Reference3Ideal.Value.res_main_v178 (launchContents m' c) = Ref.sections (A0 m c) (A1 m c) (A2 m c) (A4 m c) (Ref.pooled (A3 m c)) :=
    (out_dz _).trans (by rw [show B0 (launchContents m' c) = A0 m c from e0, show B1 (launchContents m' c) = A1 m c from e1,
      show B2 (launchContents m' c) = A2 m c from e2, show B3 (launchContents m' c) = A3 m c from e3, show B4 (launchContents m' c) = A4 m c from e4])
  rw [hz] at h0 h1
  refine ⟨h0.trans ?_, h1.trans ?_, hk⟩
  · rw [show (launchContents m' c) (Proc.devRef .tc Cert.Reference3Ideal.main_arg5) = A5 m c from e5,
      show (launchContents m' c) (Proc.devRef .tc Cert.Reference3Ideal.main_arg6) = A6 m c from e6]
    exact same _ _ (kargs m c).dx (fun r k => Ref.input_apply (A3 m c) (A0 m c) (A1 m c) (A2 m c) (A4 m c) (A5 m c) (A6 m c) (hp c) r k) (final_dx m c)
  · exact same _ _ (kargs m c).dz (fun r j => Ref.sections_apply (A3 m c) (A0 m c) (A1 m c) (A2 m c) (A4 m c) (A5 m c) (A6 m c) (hp c) r j) (final_dz m c)

end Cert.Proof.InX

end
-- ==== Proof.Mix.lean ====
/- THE BACKWARD PASS THROUGH THE MERGE OF THE TWO BRANCHES: the specification, and one block of rows of it as the kernel computes it. -/
module

public import proofs.«01_k».proof.Proof.Gen.Kernel6Ideal.Value
public import proofs.«01_k».proof.Proof.Arrays
public import proofs.«01_k».proof.Proof.Pieces
public import Idealize.ShloMosaic.Lib.Pointwise
public import Idealize.ShloMosaic.Lib.Pipeline.ValueKit.Acc

@[expose] public section

noncomputable section

namespace Cert.Proof

open Idealize.ShloMosaic Idealize.ShloMosaic.TcCoe

/-- The arrays of the call, as functions of a row and a column. -/
structure MixArgs where
  dr : Fin 2048 → Fin 1024 → EReal
  ya : Fin 2048 → Fin 1024 → EReal
  yp : Fin 2048 → Fin 1024 → EReal
  g : Fin 2048 → Fin 2048 → EReal
  mixed : Fin 2048 → Fin 512 → EReal
  wout : Fin 1024 → Fin 1024 → EReal
  wba : Fin 512 → Fin 1024 → EReal
  wbp : Fin 512 → Fin 1024 → EReal
  wp : Fin 4 → Fin 128 → Fin 128 → EReal
  ps : Fin 512 → EReal

namespace MixArgs
variable (p : MixArgs)

/-- The columns of the gates: the attention branch's, then the pooled branch's. -/
def lo (k : Fin 1024) : Fin 2048 := ⟨k.val, by omega⟩
def hi (k : Fin 1024) : Fin 2048 := ⟨1024 + k.val, by omega⟩
theorem lo_or_hi (j : Fin 2048) : ∃ k, j = lo k ∨ j = hi k := by
  by_cases h : j.val < 1024
  · exact ⟨⟨j.val, h⟩, .inl rfl⟩
  · exact ⟨⟨j.val - 1024, by omega⟩, .inr (Fin.ext (by show j.val = 1024 + (j.val - 1024); omega))⟩

/-- The gradients of the merged array, of the gates before the sigmoid, and of the two branches. -/
def dm (r : Fin 2048) (k : Fin 1024) : EReal := ∑ i : Fin 1024, p.dr r i * p.wout k i
def dga (r : Fin 2048) (k : Fin 1024) : EReal := p.dm r k * p.ya r k * p.g r (lo k) * (1 - p.g r (lo k))
def dgp (r : Fin 2048) (k : Fin 1024) : EReal := p.dm r k * p.yp r k * p.g r (hi k) * (1 - p.g r (hi k))
def dz (r : Fin 2048) (j : Fin 2048) : EReal :=
  if h : j.val < 1024 then p.dga r ⟨j.val, h⟩ else p.dgp r ⟨j.val - 1024, by omega⟩
def dya (r : Fin 2048) (k : Fin 1024) : EReal := p.dm r k * p.g r (lo k)
def dyp (r : Fin 2048) (k : Fin 1024) : EReal := p.dm r k * p.g r (hi k)
def do' (r : Fin 2048) (j : Fin 512) : EReal := ∑ k : Fin 1024, p.dya r k * p.wba j k
def dpre (r : Fin 2048) (j : Fin 512) : EReal := ∑ k : Fin 1024, p.dyp r k * p.wbp j k
def dmixed (r : Fin 2048) (j : Fin 512) : EReal := p.dpre r j * p.ps j
/-- Column `c` of group `q`. -/
def at' (q : Fin 4) (c : Fin 128) : Fin 512 := ⟨128 * q.val + c.val, by omega⟩
def dpooled (r : Fin 2048) (j : Fin 512) : EReal :=
  ∑ d : Fin 128, p.dmixed r (at' ⟨j.val / 128, by omega⟩ d) * p.wp ⟨j.val / 128, by omega⟩ ⟨j.val % 128, by omega⟩ d
def db (j : Fin 2048) : EReal := ∑ r, p.dz r j
def dps (j : Fin 512) : EReal := ∑ r, p.dpre r j * p.mixed r j

theorem dz_lo (r : Fin 2048) (k : Fin 1024) : p.dz r (lo k) = p.dga r k := by
  unfold dz
  rw [dif_pos (show (lo k).val < 1024 from k.isLt)]
  rfl
theorem dz_hi (r : Fin 2048) (k : Fin 1024) : p.dz r (hi k) = p.dgp r k := by
  unfold dz
  rw [dif_neg (show ¬ (hi k).val < 1024 by show ¬ 1024 + k.val < 1024; omega)]
  congr 1
  exact Fin.ext (by show 1024 + k.val - 1024 = k.val; omega)
theorem dpooled_at (r : Fin 2048) (q : Fin 4) (c : Fin 128) : p.dpooled r (at' q c) = ∑ d : Fin 128, p.dmixed r (at' q d) * p.wp q c d := by
  have e : (⟨(at' q c).val / 128, by omega⟩ : Fin 4) = q := Fin.ext (by show (128 * q.val + c.val) / 128 = q.val; omega)
  have e' : (⟨(at' q c).val % 128, by omega⟩ : Fin 128) = c := Fin.ext (by show (128 * q.val + c.val) % 128 = c.val; omega)
  unfold dpooled
  rw [e, e']
theorem at_surj (j : Fin 512) : ∃ q c, j = at' q c :=
  ⟨⟨j.val / 128, by omega⟩, ⟨j.val % 128, by omega⟩, Fin.ext (by show j.val = 128 * (j.val / 128) + j.val % 128; omega)⟩

end MixArgs

namespace Mix

open Cert.Kernel6Ideal Cert.Kernel6Ideal.Gen MixArgs

variable {p : MixArgs} {J : Fin 256 → Fin 2048}

/-- The blocks of a grid point hold the rows `J r` of the specification's arrays. -/
structure Blocks (p : MixArgs) (J : Fin 256 → Fin 2048) (x0 x1 x2 : Vec Ideal S256x1024 .bf16) (x3 : Vec Ideal S256x2048 .f32) (x4 : Vec Ideal S256x512 .f32)
    (x5 : Vec Ideal S1024x1024 .bf16) (x6 x7 : Vec Ideal S512x1024 .bf16) (x8 : Vec Ideal S4x128x128 .f32) (x9 : Vec Ideal S1x512 .f32) : Prop where
  dr : ∀ i k, x0 (ix2 i k) = p.dr (J i) k
  ya : ∀ i k, x1 (ix2 i k) = p.ya (J i) k
  yp : ∀ i k, x2 (ix2 i k) = p.yp (J i) k
  g : ∀ i j, x3 (ix2 i j) = p.g (J i) j
  mixed : ∀ i j, x4 (ix2 i j) = p.mixed (J i) j
  wout : ∀ k i, x5 (ix2 k i) = p.wout k i
  wba : ∀ j k, x6 (ix2 j k) = p.wba j k
  wbp : ∀ j k, x7 (ix2 j k) = p.wbp j k
  wp : ∀ q c d, x8 (ix3 q c d) = p.wp q c d
  ps : ∀ i j, x9 (ix2 i j) = p.ps j

section pay
variable {x0 x1 x2 : Vec Ideal S256x1024 .bf16} {x3 : Vec Ideal S256x2048 .f32} {x4 : Vec Ideal S256x512 .f32}
    {x5 : Vec Ideal S1024x1024 .bf16} {x6 x7 : Vec Ideal S512x1024 .bf16} {x8 : Vec Ideal S4x128x128 .f32} {x9 : Vec Ideal S1x512 .f32}
    (h : Blocks p J x0 x1 x2 x3 x4 x5 x6 x7 x8 x9)
include h

/-- The two halves of the gates' block. -/
abbrev loPart (x3 : Vec Ideal S256x2048 .f32) : Vec Ideal S256x1024 .f32 := View.ld x3 (Rect.unit ![0, 0] ![256, 1024] inb_S256x2048_S256x1024_0_0)
abbrev hiPart (x3 : Vec Ideal S256x2048 .f32) : Vec Ideal S256x1024 .f32 := View.ld x3 (Rect.unit ![0, 1024] ![256, 1024] inb_S256x2048_S256x1024_0_1024)

theorem lo_apply (i : Fin 256) (k : Fin 1024) : loPart x3 (ix2 i k) = p.g (J i) (lo k) :=
  (ld_piece _ x3 i k i (lo k) (by omega) (by simp [lo])).trans (h.g i (lo k))
theorem hi_apply (i : Fin 256) (k : Fin 1024) : hiPart x3 (ix2 i k) = p.g (J i) (hi k) :=
  (ld_piece _ x3 i k i (hi k) (by omega) (by simp [hi])).trans (h.g i (hi k))

theorem pay4_apply (i : Fin 256) (k : Fin 1024) : k0_pay4 (F := Ideal) x0 x5 (ix2 i k) = p.dm (J i) k := by
  pointwise [k0_pay4]
  simp only [h.dr, h.wout]
  rfl

theorem pay7_apply (i : Fin 256) (k : Fin 1024) : k0_pay7 (F := Ideal) x0 x5 (loPart x3) x1 (ix2 i k) = p.dga (J i) k := by
  pointwise [k0_pay7, k0_pay5]
  rw [pay4_apply h, h.ya, lo_apply h]
  first | rfl | (rw [ofBits_one]; rfl)
theorem pay8_apply (i : Fin 256) (k : Fin 1024) : k0_pay8 (F := Ideal) x0 x5 (hiPart x3) x2 (ix2 i k) = p.dgp (J i) k := by
  pointwise [k0_pay8, k0_pay6]
  rw [pay4_apply h, h.yp, hi_apply h]
  first | rfl | (rw [ofBits_one]; rfl)
theorem pay9_apply (i : Fin 256) (k : Fin 1024) : k0_pay9 (F := Ideal) x0 x5 (loPart x3) x1 (ix2 i k) = p.dga (J i) k := pay7_apply h i k
theorem pay10_apply (i : Fin 256) (k : Fin 1024) : k0_pay10 (F := Ideal) x0 x5 (hiPart x3) x2 (ix2 i k) = p.dgp (J i) k := pay8_apply h i k
theorem pay11_apply (v : Vec Ideal S1x1024 .f32) (i : Fin 1) (k : Fin 1024) :
    k0_pay11 (F := Ideal) (k0_pay7 x0 x5 (loPart x3) x1) v (ix2 i k) = v (ix2 i k) + ∑ r, p.dga (J r) k := by
  pointwise [k0_pay11]
  simp only [pay7_apply h]
theorem pay12_apply (v : Vec Ideal S1x1024 .f32) (i : Fin 1) (k : Fin 1024) :
    k0_pay12 (F := Ideal) (k0_pay8 x0 x5 (hiPart x3) x2) v (ix2 i k) = v (ix2 i k) + ∑ r, p.dgp (J r) k := by
  pointwise [k0_pay12]
  simp only [pay8_apply h]
theorem pay13_apply (i : Fin 256) (k : Fin 1024) : k0_pay13 (F := Ideal) (k0_pay4 x0 x5) (k0_pay5 (loPart x3)) (ix2 i k) = p.dya (J i) k := by
  pointwise [k0_pay13, k0_pay5]
  rw [pay4_apply h, lo_apply h]
  rfl
theorem pay14_apply (i : Fin 256) (k : Fin 1024) : k0_pay14 (F := Ideal) (k0_pay4 x0 x5) (k0_pay6 (hiPart x3)) (ix2 i k) = p.dyp (J i) k := by
  pointwise [k0_pay14, k0_pay6]
  rw [pay4_apply h, hi_apply h]
  rfl
theorem pay15_apply (i : Fin 256) (j : Fin 512) : k0_pay15 (F := Ideal) (k0_pay4 x0 x5) (k0_pay5 (loPart x3)) x6 (ix2 i j) = p.do' (J i) j := by
  pointwise [k0_pay15]
  simp only [pay13_apply h, h.wba]
  rfl
theorem pay16_apply (i : Fin 256) (j : Fin 512) : k0_pay16 (F := Ideal) (k0_pay4 x0 x5) (k0_pay6 (hiPart x3)) x7 (ix2 i j) = p.dpre (J i) j := by
  pointwise [k0_pay16]
  simp only [pay14_apply h, h.wbp]
  rfl
theorem pay19_apply (v : Vec Ideal S1x512 .f32) (i : Fin 1) (j : Fin 512) :
    k0_pay19 (F := Ideal) (k0_pay17 v) (k0_pay18 (k0_pay4 x0 x5) (k0_pay6 (hiPart x3)) x7 x4) (ix2 i j) = v (ix2 i j) + ∑ r, p.dpre (J r) j * p.mixed (J r) j := by
  pointwise [k0_pay19, k0_pay17, k0_pay18]
  simp only [pay16_apply h, h.mixed]
theorem pay20_apply (i : Fin 256) (j : Fin 512) : k0_pay20 (F := Ideal) (k0_pay16 (k0_pay4 x0 x5) (k0_pay6 (hiPart x3)) x7) x9 (ix2 i j) = p.dmixed (J i) j := by
  pointwise [k0_pay20]
  rw [pay16_apply h, h.ps]
  rfl

end pay

theorem pay2_apply (i : Fin 1) (k : Fin 2048) : k0_pay2 (F := Ideal) (ix2 i k) = 0 := by
  pointwise [k0_pay2]
theorem pay3_apply (i : Fin 1) (k : Fin 512) : k0_pay3 (F := Ideal) (ix2 i k) = 0 := by
  pointwise [k0_pay3]

end Mix

end Cert.Proof

end
-- ==== Proof.MixBlock.lean ====
/- THE BACKWARD PASS THROUGH THE MERGE OF THE TWO BRANCHES: what each point of the kernel's grid leaves in its result blocks. -/
module

public import proofs.«01_k».proof.Proof.Mix

@[expose] public section

noncomputable section

namespace Cert.Proof

open Idealize.ShloMosaic Idealize.ShloMosaic.TcCoe

namespace Mix

open Cert.Kernel6Ideal Cert.Kernel6Ideal.Gen MixArgs

variable {p : MixArgs} {J : Fin 256 → Fin 2048}

section pay
variable {x0 x1 x2 : Vec Ideal S256x1024 .bf16} {x3 : Vec Ideal S256x2048 .f32} {x4 : Vec Ideal S256x512 .f32}
    {x5 : Vec Ideal S1024x1024 .bf16} {x6 x7 : Vec Ideal S512x1024 .bf16} {x8 : Vec Ideal S4x128x128 .f32} {x9 : Vec Ideal S1x512 .f32}
    (h : Blocks p J x0 x1 x2 x3 x4 x5 x6 x7 x8 x9)
include h

/-- A group's matrix, loaded from the stack of four. -/
theorem wp_ld (q : Fin 4) (n : Nat) (hn : n = q.val) (inb : ∀ a, (![n, 0, 0] : Fin 3 → Nat) a + (![1, 128, 128] : Fin 3 → Nat) a ≤ S4x128x128.size a) (c d : Fin 128) :
    View.ld x8 (Rect.unit (s := S4x128x128) ![n, 0, 0] ![1, 128, 128] inb) (ix3 0 c d) = p.wp q c d := by
  refine Eq.trans (congrArg x8 (?_ : _ = ix3 q c d)) (h.wp q c d)
  funext a
  match a with
  | ⟨0, _⟩ => exact Fin.ext (show n + 1 * 0 = q.val by omega)
  | ⟨1, _⟩ => exact Fin.ext (show 0 + 1 * c.val = c.val by omega)
  | ⟨2, _⟩ => exact Fin.ext (show 0 + 1 * d.val = d.val by omega)
/-- The gradient of a group of channels, by the group's matrix. -/
theorem group0_apply (w : FVec Ideal S1x128x128 .f32) (e : ∀ c d, w (ix3 0 c d) = p.wp 0 c d) (i : Fin 256) (c : Fin 128) :
    k0_pay21 (F := Ideal) (k0_pay16 (k0_pay4 x0 x5) (k0_pay6 (hiPart x3)) x7) x9 w (ix2 i c) = p.dpooled (J i) (at' 0 c) := by
  rw [dpooled_at]
  pointwise [k0_pay21]
  refine Finset.sum_congr rfl fun d _ => ?_
  have ei : (⟨d.val, by omega⟩ : Fin 512) = at' 0 d := Fin.ext (by show d.val = 128 * 0 + d.val; omega)
  exact congrArg₂ (· * ·) ((congrArg (fun k : Fin 512 => k0_pay20 (F := Ideal) (k0_pay16 (k0_pay4 x0 x5) (k0_pay6 (hiPart x3)) x7) x9 (ix2 i k)) ei).trans
    (pay20_apply h i (at' 0 d))) (e c d)
theorem group1_apply (w : FVec Ideal S1x128x128 .f32) (e : ∀ c d, w (ix3 0 c d) = p.wp 1 c d) (i : Fin 256) (c : Fin 128) :
    k0_pay22 (F := Ideal) (k0_pay16 (k0_pay4 x0 x5) (k0_pay6 (hiPart x3)) x7) x9 w (ix2 i c) = p.dpooled (J i) (at' 1 c) := by
  rw [dpooled_at]
  pointwise [k0_pay22]
  refine Finset.sum_congr rfl fun d _ => ?_
  exact congrArg₂ (· * ·) (pay20_apply h i (at' 1 d)) (e c d)
theorem group2_apply (w : FVec Ideal S1x128x128 .f32) (e : ∀ c d, w (ix3 0 c d) = p.wp 2 c d) (i : Fin 256) (c : Fin 128) :
    k0_pay23 (F := Ideal) (k0_pay16 (k0_pay4 x0 x5) (k0_pay6 (hiPart x3)) x7) x9 w (ix2 i c) = p.dpooled (J i) (at' 2 c) := by
  rw [dpooled_at]
  pointwise [k0_pay23]
  refine Finset.sum_congr rfl fun d _ => ?_
  exact congrArg₂ (· * ·) (pay20_apply h i (at' 2 d)) (e c d)
theorem group3_apply (w : FVec Ideal S1x128x128 .f32) (e : ∀ c d, w (ix3 0 c d) = p.wp 3 c d) (i : Fin 256) (c : Fin 128) :
    k0_pay1 (F := Ideal) (k0_pay24 (k0_pay16 (k0_pay4 x0 x5) (k0_pay6 (hiPart x3)) x7) x9) w (ix2 i c) = p.dpooled (J i) (at' 3 c) := by
  rw [dpooled_at]
  pointwise [k0_pay1, k0_pay24]
  refine Finset.sum_congr rfl fun d _ => ?_
  exact congrArg₂ (· * ·) (pay20_apply h i (at' 3 d)) (e c d)

end pay

variable (m : (ℓ : Loc nD τ sig) → Buf (Elt Ideal) ℓ)

def AtPoint (c : Dev nD) (t : Fin cfg0.N) (p : MixArgs) (J : Fin 256 → Fin 2048) : Prop :=
  Blocks p J (iblk m c 0 t) (iblk m c 1 t) (iblk m c 2 t) (iblk m c 3 t) (iblk m c 4 t) (iblk m c 5 t) (iblk m c 6 t) (iblk m c 7 t) (iblk m c 8 t) (iblk m c 9 t)

theorem dz_block (c : Dev nD) (t : Fin cfg0.N) (h : AtPoint m c t p J) (i : Fin 256) (j : Fin 2048) :
    (outsAt0 (F := Ideal) m c t.val t.isLt).1 (ix2 i j) = p.dz (J i) j := by
  obtain ⟨k, rfl | rfl⟩ := lo_or_hi j
  · rw [dz_lo]
    by_cases h0 : t.val % 8 = 0
    · rw [outsAt0_A m c t h0]; frame_out
      exact (canon_miss _ _ _ i (lo k) (.inl k.isLt)).trans ((canon_hit _ _ _ i k i (lo k) (by omega) (by simp [lo])).trans (pay9_apply h i k))
    · rw [outsAt0_B m c t h0]; frame_out
      exact (canon_miss _ _ _ i (lo k) (.inl k.isLt)).trans ((canon_hit _ _ _ i k i (lo k) (by omega) (by simp [lo])).trans (pay9_apply h i k))
  · rw [dz_hi]
    by_cases h0 : t.val % 8 = 0
    · rw [outsAt0_A m c t h0]; frame_out
      exact (canon_hit _ _ _ i k i (hi k) (by omega) (by simp [hi])).trans (pay10_apply h i k)
    · rw [outsAt0_B m c t h0]; frame_out
      exact (canon_hit _ _ _ i k i (hi k) (by omega) (by simp [hi])).trans (pay10_apply h i k)

theorem dya_block (c : Dev nD) (t : Fin cfg0.N) (h : AtPoint m c t p J) (i : Fin 256) (k : Fin 1024) :
    (outsAt0 (F := Ideal) m c t.val t.isLt).2.1 (ix2 i k) = p.dya (J i) k := by
  by_cases h0 : t.val % 8 = 0
  · rw [outsAt0_A m c t h0]; frame_out
    exact pay13_apply h i k
  · rw [outsAt0_B m c t h0]; frame_out
    exact pay13_apply h i k

theorem dyp_block (c : Dev nD) (t : Fin cfg0.N) (h : AtPoint m c t p J) (i : Fin 256) (k : Fin 1024) :
    (outsAt0 (F := Ideal) m c t.val t.isLt).2.2.1 (ix2 i k) = p.dyp (J i) k := by
  by_cases h0 : t.val % 8 = 0
  · rw [outsAt0_A m c t h0]; frame_out
    exact pay14_apply h i k
  · rw [outsAt0_B m c t h0]; frame_out
    exact pay14_apply h i k

theorem do'_block (c : Dev nD) (t : Fin cfg0.N) (h : AtPoint m c t p J) (i : Fin 256) (k : Fin 512) :
    (outsAt0 (F := Ideal) m c t.val t.isLt).2.2.2.1 (ix2 i k) = p.do' (J i) k := by
  by_cases h0 : t.val % 8 = 0
  · rw [outsAt0_A m c t h0]; frame_out
    exact pay15_apply h i k
  · rw [outsAt0_B m c t h0]; frame_out
    exact pay15_apply h i k

theorem dmixed_block (c : Dev nD) (t : Fin cfg0.N) (h : AtPoint m c t p J) (i : Fin 256) (k : Fin 512) :
    (outsAt0 (F := Ideal) m c t.val t.isLt).2.2.2.2.1 (ix2 i k) = p.dmixed (J i) k := by
  by_cases h0 : t.val % 8 = 0
  · rw [outsAt0_A m c t h0]; frame_out
    exact pay20_apply h i k
  · rw [outsAt0_B m c t h0]; frame_out
    exact pay20_apply h i k

/-- The gradient of the pooled array is stored group by group. -/
theorem groups {P0 P1 P2 P3 : (⟨2, ![256, 128]⟩ : Shape).Idx → Ideal .f32} (i : Fin 256) (j : Fin 512) (v : EReal)
    (i0 i1 i2 i3) (h0 : ∀ c, j = at' 0 c → P0 (ix2 i c) = v) (h1 : ∀ c, j = at' 1 c → P1 (ix2 i c) = v)
    (h2 : ∀ c, j = at' 2 c → P2 (ix2 i c) = v) (h3 : ∀ c, j = at' 3 c → P3 (ix2 i c) = v) :
    View.canon (Val := Elt Ideal) (s := S256x512) (e := .f32) [⟨Rect.unit (s := S256x512) ![0, 384] ![256, 128] i3, P3⟩, ⟨Rect.unit (s := S256x512) ![0, 256] ![256, 128] i2, P2⟩,
      ⟨Rect.unit (s := S256x512) ![0, 128] ![256, 128] i1, P1⟩, ⟨Rect.unit (s := S256x512) ![0, 0] ![256, 128] i0, P0⟩] (ix2 i j) = v := by
  obtain ⟨q, c, rfl⟩ := at_surj j
  match q with
  | ⟨0, _⟩ =>
    refine (canon_miss _ _ _ i _ (.inl (by show 128 * 0 + c.val < 384; omega))).trans ((canon_miss _ _ _ i _ (.inl (by show 128 * 0 + c.val < 256; omega))).trans
      ((canon_miss _ _ _ i _ (.inl (by show 128 * 0 + c.val < 128; omega))).trans ((canon_hit _ _ _ i c i _ (by omega) ?_).trans (h0 c rfl))))
    show 128 * 0 + c.val = 0 + c.val; omega
  | ⟨1, _⟩ =>
    refine (canon_miss _ _ _ i _ (.inl (by show 128 * 1 + c.val < 384; omega))).trans ((canon_miss _ _ _ i _ (.inl (by show 128 * 1 + c.val < 256; omega))).trans
      ((canon_hit _ _ _ i c i _ (by omega) ?_).trans (h1 c rfl)))
    show 128 * 1 + c.val = 128 + c.val; omega
  | ⟨2, _⟩ =>
    refine (canon_miss _ _ _ i _ (.inl (by show 128 * 2 + c.val < 384; omega))).trans ((canon_hit _ _ _ i c i _ (by omega) ?_).trans (h2 c rfl))
    show 128 * 2 + c.val = 256 + c.val; omega
  | ⟨3, _⟩ =>
    refine (canon_hit _ _ _ i c i _ (by omega) ?_).trans (h3 c rfl)
    show 128 * 3 + c.val = 384 + c.val; omega

theorem dpooled_block (c : Dev nD) (t : Fin cfg0.N) (h : AtPoint m c t p J) (i : Fin 256) (k : Fin 512) :
    (outsAt0 (F := Ideal) m c t.val t.isLt).2.2.2.2.2.1 (ix2 i k) = p.dpooled (J i) k := by
  by_cases h0 : t.val % 8 = 0
  · rw [outsAt0_A m c t h0]; frame_out
    exact groups i k _ _ _ _ _ (fun c e => e ▸ group0_apply h _ (wp_ld h 0 0 rfl _) i c) (fun c e => e ▸ group1_apply h _ (wp_ld h 1 1 rfl _) i c) (fun c e => e ▸ group2_apply h _ (wp_ld h 2 2 rfl _) i c)
      (fun c e => e ▸ group3_apply h _ (wp_ld h 3 3 rfl _) i c)
  · rw [outsAt0_B m c t h0]; frame_out
    exact groups i k _ _ _ _ _ (fun c e => e ▸ group0_apply h _ (wp_ld h 0 0 rfl _) i c) (fun c e => e ▸ group1_apply h _ (wp_ld h 1 1 rfl _) i c) (fun c e => e ▸ group2_apply h _ (wp_ld h 2 2 rfl _) i c)
      (fun c e => e ▸ group3_apply h _ (wp_ld h 3 3 rfl _) i c)

theorem points : cfg0.N ≤ 8 := le_of_eq N_0

/-- What the block of zeros holds, wherever it is read. -/
theorem zero_block (inb) (y : S1x2048.Idx) :
    View.canon (Val := Elt Ideal) (s := S1x2048) (e := .f32) [⟨Rect.unit (s := S1x2048) ![0, 0] ![1, 2048] inb, k0_pay2 (F := Ideal)⟩] y = (0 : EReal) := by
  obtain ⟨a, b, rfl⟩ : ∃ a b, y = ix2 a b := ⟨y 0, y 1, eq_ix2 y⟩
  have e := canon_hit (Val := Elt Ideal) (e := .f32) inb (k0_pay2 (F := Ideal)) [] a b a b (by omega) (by omega)
  have e' : k0_pay2 (F := Ideal) (ix2 a b) = (0 : EReal) := pay2_apply a b
  rw [e]
  exact e'

theorem db_block (c : Dev nD) (J : Fin cfg0.N → Fin 256 → Fin 2048) (h : ∀ t, AtPoint m c t p (J t)) (t : Fin cfg0.N)
    (ht : t.val + 1 = cfg0.N) (a : Fin 1) (j : Fin 2048) :
    (outsAt0 (F := Ideal) m c t.val t.isLt).2.2.2.2.2.2.1 (ix2 a j) = ∑ t : Fin cfg0.N, ∑ i, p.dz (J t i) j := by
  rw [Pipeline.eq_sum_fin_of_reset_step_apply_last (fun n h => (outsAt0 (F := Ideal) m c n h).2.2.2.2.2.2.1) 8 (fun _ => 0)
    (fun t j => ∑ i, p.dz (J t i) (j 1))
    (fun t h0 j => by
      obtain ⟨a, b, rfl⟩ : ∃ a b, j = ix2 a b := ⟨j 0, j 1, eq_ix2 j⟩
      rw [outsAt0_A m c t h0]; frame_out
      obtain ⟨k, rfl | rfl⟩ := lo_or_hi b
      · show _ = 0 + ∑ i, p.dz (J t i) (lo k)
        simp only [dz_lo]
        refine (canon_miss _ _ _ a (lo k) (.inl k.isLt)).trans ((canon_hit _ _ _ a k a (lo k) (by omega) (by simp [lo])).trans ((pay11_apply (h t) _ a k).trans ?_))
        congr 1
        rw [View.readCov_eq_canon']
        exact zero_block _ _
      · show _ = 0 + ∑ i, p.dz (J t i) (hi k)
        simp only [dz_hi]
        refine (canon_hit _ _ _ a k a (hi k) (by omega) (by simp [hi])).trans ((pay12_apply (h t) _ a k).trans ?_)
        congr 1
        rw [View.readCov_eq_canon']
        refine (congrArg (View.canon _) (unit_emb inb_S1x2048_S1x1024_0_1024 a k a (hi k) (by omega) (by simp [hi]))).trans ?_
        exact (canon_miss _ _ _ a (hi k) (.inr (by show 0 + 1024 ≤ 1024 + k.val; omega))).trans (zero_block _ _))
    (fun t h0 j => by
      obtain ⟨a, b, rfl⟩ : ∃ a b, j = ix2 a b := ⟨j 0, j 1, eq_ix2 j⟩
      rw [outsAt0_B m c t h0]; frame_out
      obtain ⟨k, rfl | rfl⟩ := lo_or_hi b
      · show _ = _ + ∑ i, p.dz (J t i) (lo k)
        simp only [dz_lo]
        refine (canon_miss _ _ _ a (lo k) (.inl k.isLt)).trans ((canon_hit _ _ _ a k a (lo k) (by omega) (by simp [lo])).trans ((pay11_apply (h t) _ a k).trans ?_))
        congr 1
        exact ld_piece _ _ a k a (lo k) (by omega) (by simp [lo])
      · show _ = _ + ∑ i, p.dz (J t i) (hi k)
        simp only [dz_hi]
        refine (canon_hit _ _ _ a k a (hi k) (by omega) (by simp [hi])).trans ((pay12_apply (h t) _ a k).trans ?_)
        congr 1
        exact ld_piece _ _ a k a (hi k) (by omega) (by simp [hi]))
    points t ht (ix2 a j), zero_add]
  rfl

theorem dps_block (c : Dev nD) (J : Fin cfg0.N → Fin 256 → Fin 2048) (h : ∀ t, AtPoint m c t p (J t)) (t : Fin cfg0.N)
    (ht : t.val + 1 = cfg0.N) (a : Fin 1) (k : Fin 512) :
    (outsAt0 (F := Ideal) m c t.val t.isLt).2.2.2.2.2.2.2 (ix2 a k) = ∑ t : Fin cfg0.N, ∑ i, p.dpre (J t i) k * p.mixed (J t i) k := by
  rw [Pipeline.eq_sum_fin_of_reset_step_apply_last (fun n h => (outsAt0 (F := Ideal) m c n h).2.2.2.2.2.2.2) 8 (fun _ => 0)
    (fun t j => ∑ i, p.dpre (J t i) (j 1) * p.mixed (J t i) (j 1))
    (fun t h0 j => by
      obtain ⟨a, b, rfl⟩ : ∃ a b, j = ix2 a b := ⟨j 0, j 1, eq_ix2 j⟩
      rw [outsAt0_A m c t h0]; frame_out; rw [pay19_apply (h t), pay3_apply]; rfl)
    (fun t h0 j => by
      obtain ⟨a, b, rfl⟩ : ∃ a b, j = ix2 a b := ⟨j 0, j 1, eq_ix2 j⟩
      rw [outsAt0_B m c t h0]; frame_out; rw [pay19_apply (h t)]; rfl)
    points t ht (ix2 a k), zero_add]
  rfl

end Mix

end Cert.Proof

end
-- ==== Proof.Proj.lean ====
/- THE INPUT PROJECTION WITH ITS ROTARY EMBEDDING: the specification, and what each of the kernel's payloads computes. -/
module

public import proofs.«01_k».proof.Defs
public import proofs.«01_k».proof.Proof.Gen.Kernel4Ideal.Value
public import proofs.«01_k».proof.Proof.MixBlock
public import proofs.«01_k».proof.Proof.Arrays
public import Idealize.ShloMosaic.Lib.KernelVsHost

@[expose] public section

noncomputable section

namespace Cert.Proof.Proj

open Idealize.ShloMosaic Idealize.ShloMosaic.TcCoe Idealize.ShloMosaic.StableHlo
open Cert.Kernel4Ideal Cert.Kernel4Ideal.Gen

/-- The arguments: the rows, the weight of all the sections, the bias of the gates. -/
structure ProjArgs where
  x : Fin 2048 → Fin 1024 → EReal
  w : Fin 1024 → Fin 4096 → EReal
  b : Fin 2048 → EReal

/-- The angles by which the pairs of lanes turn, position by position. -/
def angles : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (iotaInDim S32 32 0)) (broadcastInDim S32 ![] bcast_S_S32 (constant S_ .f32 0x42000000#32)))))))

def cosA (r : Fin 2048) (d : Fin 32) : EReal := (Host.cos angles : FVec Ideal S2048x32 .f32) (ix2 r d)
def sinA (r : Fin 2048) (d : Fin 32) : EReal := (Host.sin angles : FVec Ideal S2048x32 .f32) (ix2 r d)

/-- Column `j` of section `s`. -/
def sec (s : Fin 8) (j : Fin 512) : Fin 4096 := ⟨512 * s.val + j.val, by omega⟩

/-- The angle's number at a column, the other column of its pair, and the table of sines with its sign. -/
def ang (j : Fin 512) : Fin 32 := ⟨j.val % 32, by omega⟩
def other (j : Fin 512) : Fin 512 := if h : j.val % 64 < 32 then ⟨j.val + 32, by omega⟩ else ⟨j.val - 32, by omega⟩
def signed (r : Fin 2048) (j : Fin 512) : EReal := if j.val % 64 < 32 then -sinA r (ang j) else sinA r (ang j)

namespace ProjArgs
variable (p : ProjArgs)

def z (r : Fin 2048) (j : Fin 4096) : EReal := ∑ k, p.x r k * p.w k j
/-- Section `s` with its pairs of lanes turned. -/
def rot (s : Fin 8) (r : Fin 2048) (j : Fin 512) : EReal := p.z r (sec s j) * cosA r (ang j) + p.z r (sec s (other j)) * signed r j
/-- The gates' column is a column of sections 4 to 7. -/
def gcol (j : Fin 2048) : Fin 4096 := ⟨2048 + j.val, by omega⟩
def gate (r : Fin 2048) (j : Fin 2048) : EReal := Ideal.logistic (p.z r (gcol j) + p.b j)
/-- The mean over a block's rows of the turned keys. -/
def mean (c : Fin 8) (j : Fin 512) : EReal :=
  Ideal.div (∑ i : Fin 256, p.rot 1 ⟨256 * c.val + i.val, by omega⟩ j) ((FloatOps.ofBits .f32 0x43800000#32 : Ideal .f32))

end ProjArgs

/-- The blocks of a grid point hold rows `J l` of the arguments' arrays. -/
structure Blocks (p : ProjArgs) (J : Fin 256 → Fin 2048) (x0 : Vec Ideal S256x1024 .f32) (x1 : Vec Ideal S8x1024x512 .bf16) (x2 : Vec Ideal S1x2048 .f32)
    (x3 x4 : Vec Ideal S256x128 .f32) : Prop where
  x : ∀ l k, x0 (ix2 l k) = p.x (J l) k
  w : ∀ s k j, x1 (ix3 s k j) = p.w k (sec s j)
  b : ∀ i j, x2 (ix2 i j) = p.b j
  cos : ∀ i l, x3 (ix2 i l) = cosA (J i) ⟨l.val % 32, by omega⟩
  sin : ∀ i l, x4 (ix2 i l) = if l.val % 64 < 32 then -sinA (J i) ⟨l.val % 32, by omega⟩ else sinA (J i) ⟨l.val % 32, by omega⟩

/-- Which lanes are in the first half of their head. -/
theorem mask_apply (i : Fin 256) (l : Fin 128) : k0_pay10 (ix2 i l) = if l.val % 64 < 32 then 1#1 else 0#1 := by
  pointwise [k0_pay10]
  revert l
  decide +kernel

/-- A rotation of the lanes. -/
theorem roll_apply (sb : BitVec 32) (s : Nat) (hsb : sb.toNat = s) (t : FVec Ideal S256x128 .f32) (i : Fin 256) (l : Fin 128) :
    dynamicRotate 1 sb none t rotates_S256x128_d1 (ix2 i l) = t (ix2 i ⟨(l.val + 128 - s % 128) % 128, Nat.mod_lt _ (by omega)⟩) :=
  dynamicRotate_apply (1 : Fin 2) sb t rotates_S256x128_d1 (ix2 i l) _ (by
    intro b
    match b with
    | ⟨0, _⟩ => rfl
    | ⟨1, _⟩ => show (l.val + 128 - s % 128) % 128 = (l.val + 128 - sb.toNat % 128) % 128; rw [hsb])

/-- Turning the pairs of lanes of a block of 128 columns. -/
def rope (t cs sn : FVec Ideal S256x128 .f32) : FVec Ideal S256x128 .f32 :=
  addf (mulf t cs) (mulf (select k0_pay10 (dynamicRotate 1 96#32 none t rotates_S256x128_d1) (dynamicRotate 1 32#32 none t rotates_S256x128_d1)) sn)

/-- The other lane of a lane's pair. -/
def mate (l : Fin 128) : Fin 128 := if l.val % 64 < 32 then ⟨(l.val + 32) % 128, by omega⟩ else ⟨(l.val + 96) % 128, by omega⟩

theorem rope_apply (t cs sn : FVec Ideal S256x128 .f32) (i : Fin 256) (l : Fin 128) :
    rope t cs sn (ix2 i l) = t (ix2 i l) * cs (ix2 i l) + t (ix2 i (mate l)) * sn (ix2 i l) := by
  have e : (select k0_pay10 (dynamicRotate 1 96#32 none t rotates_S256x128_d1) (dynamicRotate 1 32#32 none t rotates_S256x128_d1)) (ix2 i l)
      = t (ix2 i (mate l)) := by
    show Scalar.select (k0_pay10 (ix2 i l)) _ _ = _
    rw [mask_apply, roll_apply 96#32 96 rfl, roll_apply 32#32 32 rfl]
    unfold mate
    split
    · exact congrArg (fun k => t (ix2 i k)) (Fin.ext (by show (l.val + 128 - 96 % 128) % 128 = (l.val + 32) % 128; omega))
    · exact congrArg (fun k => t (ix2 i k)) (Fin.ext (by show (l.val + 128 - 32 % 128) % 128 = (l.val + 96) % 128; omega))
  show t (ix2 i l) * cs (ix2 i l) + _ * sn (ix2 i l) = _
  rw [← e]

section pay
variable {p : ProjArgs} {J : Fin 256 → Fin 2048} {x0 : Vec Ideal S256x1024 .f32} {x1 : Vec Ideal S8x1024x512 .bf16} {x2 : Vec Ideal S1x2048 .f32}
  {x3 x4 : Vec Ideal S256x128 .f32} (h : Blocks p J x0 x1 x2 x3 x4)
include h

/-- A section's weight, loaded from the stack of eight. -/
theorem w_ld (s : Fin 8) (n : Nat) (hn : n = s.val) (inb : ∀ a, (![n, 0, 0] : Fin 3 → Nat) a + (![1, 1024, 512] : Fin 3 → Nat) a ≤ S8x1024x512.size a) (k : Fin 1024) (j : Fin 512) :
    View.ld x1 (Rect.unit (s := S8x1024x512) ![n, 0, 0] ![1, 1024, 512] inb) (ix3 0 k j) = p.w k (sec s j) := by
  refine Eq.trans (congrArg x1 (?_ : _ = ix3 s k j)) (h.w s k j)
  funext a
  match a with
  | ⟨0, _⟩ => exact Fin.ext (show n + 1 * 0 = s.val by omega)
  | ⟨1, _⟩ => exact Fin.ext (show 0 + 1 * k.val = k.val by omega)
  | ⟨2, _⟩ => exact Fin.ext (show 0 + 1 * j.val = j.val by omega)

theorem pay7_apply (s : Fin 8) (w : FVec Ideal S1x1024x512 .bf16) (e : ∀ k j, w (ix3 0 k j) = p.w k (sec s j)) (i : Fin 256) (j : Fin 512) :
    k0_pay7 (F := Ideal) x0 w (ix2 i j) = p.z (J i) (sec s j) := by
  pointwise [k0_pay7, k0_pay3]
  simp only [h.x, e]
  rfl

theorem pay23_apply (s : Fin 8) (w : FVec Ideal S1x1024x512 .bf16) (e : ∀ k j, w (ix3 0 k j) = p.w k (sec s j)) (i : Fin 256) (j : Fin 512) :
    k0_pay23 (F := Ideal) (k0_pay3 x0) w (ix2 i j) = p.z (J i) (sec s j) := pay7_apply h s w e i j
theorem pay38_apply (s : Fin 8) (w : FVec Ideal S1x1024x512 .bf16) (e : ∀ k j, w (ix3 0 k j) = p.w k (sec s j)) (i : Fin 256) (j : Fin 512) :
    k0_pay38 (F := Ideal) (k0_pay3 x0) w (ix2 i j) = p.z (J i) (sec s j) := pay7_apply h s w e i j
theorem pay37_apply (s : Fin 8) (w : FVec Ideal S1x1024x512 .bf16) (e : ∀ k j, w (ix3 0 k j) = p.w k (sec s j)) (i : Fin 256) (j : Fin 512) :
    k0_pay37 (F := Ideal) (k0_pay3 x0) w (ix2 i j) = p.z (J i) (sec s j) := pay7_apply h s w e i j

/-- A block of 128 columns of a section, turned. -/
theorem turned (s : Fin 8) (Z : FVec Ideal S256x512 .f32) (i : Fin 256) (hz : ∀ j, Z (ix2 i j) = p.z (J i) (sec s j)) (q : Fin 4) (o : Nat) (ho : o = 128 * q.val)
    (hs : S256x512.Slices ![0, o] S256x128) (l : Fin 128) :
    rope (extractStridedSlice S256x128 ![0, o] Z hs) (k0_pay5 x3) (k0_pay6 x4) (ix2 i l) = p.rot s (J i) (MixArgs.at' q l) := by
  have e : ∀ l : Fin 128, extractStridedSlice S256x128 ![0, o] Z hs (ix2 i l) = p.z (J i) (sec s (MixArgs.at' q l)) := fun l => by
    rw [← hz]
    subst ho
    pointwise
    rfl
  have e5 : k0_pay5 x3 (ix2 i l) = cosA (J i) ⟨l.val % 32, by omega⟩ := by
    rw [← h.cos i l]
    pointwise [k0_pay5]
  have e6 : k0_pay6 x4 (ix2 i l) = if l.val % 64 < 32 then -sinA (J i) ⟨l.val % 32, by omega⟩ else sinA (J i) ⟨l.val % 32, by omega⟩ := by
    rw [← h.sin i l]
    pointwise [k0_pay6]
  have ea : ang (MixArgs.at' q l) = ⟨l.val % 32, by omega⟩ := Fin.ext (by show (128 * q.val + l.val) % 32 = l.val % 32; omega)
  have ed : (MixArgs.at' q l).val % 64 = l.val % 64 := by show (128 * q.val + l.val) % 64 = l.val % 64; omega
  have eo : other (MixArgs.at' q l) = MixArgs.at' q (mate l) := by
    unfold other mate
    split <;> split
    · exact Fin.ext (by show 128 * q.val + l.val + 32 = 128 * q.val + (l.val + 32) % 128; omega)
    · omega
    · omega
    · exact Fin.ext (by show 128 * q.val + l.val - 32 = 128 * q.val + (l.val + 96) % 128; omega)
  rw [rope_apply, e, e, e5, e6, ProjArgs.rot, signed, ea, ed, eo]

theorem gate_apply (n : Fin 4) (w : FVec Ideal S1x1024x512 .bf16) (e : ∀ k j, w (ix3 0 k j) = p.w k (sec ⟨4 + n.val, by omega⟩ j))
    (b : FVec Ideal S1x512 .f32) (eb : ∀ i j, b (ix2 i j) = p.b ⟨512 * n.val + j.val, by omega⟩) (i : Fin 256) (j : Fin 512) :
    k0_pay39 (F := Ideal) (k0_pay3 x0) w b (ix2 i j) = p.gate (J i) ⟨512 * n.val + j.val, by omega⟩ := by
  have hz := pay7_apply h _ w e i j
  have hs : sec ⟨4 + n.val, by omega⟩ j = ProjArgs.gcol ⟨512 * n.val + j.val, by omega⟩ := Fin.ext (by show 512 * (4 + n.val) + j.val = 2048 + (512 * n.val + j.val); omega)
  rw [hs] at hz
  have e' : k0_pay39 (F := Ideal) (k0_pay3 x0) w b (ix2 i j) = Ideal.logistic (k0_pay7 (F := Ideal) x0 w (ix2 i j) + b (ix2 0 j)) := by
    pointwise [k0_pay39, k0_pay7]
  rw [e', hz, eb]
  rfl

variable (s : Fin 8) (w : FVec Ideal S1x1024x512 .bf16) (e : ∀ k j, w (ix3 0 k j) = p.w k (sec s j)) (i : Fin 256) (l : Fin 128)
include e

theorem q0 : k0_pay12 (F := Ideal) (k0_pay6 x4) (k0_pay8 x0 w) (k0_pay9 x0 x3 w) k0_pay10 (k0_pay11 x0 w) 32#32 (ix2 i l) = p.rot s (J i) (MixArgs.at' 0 l) :=
  turned h s _ i (pay7_apply h s w e i) 0 0 rfl slices_S256x512_o0_0_S256x128 l
theorem q1 : k0_pay13 (F := Ideal) (k0_pay5 x3) (k0_pay6 x4) (k0_pay7 x0 w) (ix2 i l) = p.rot s (J i) (MixArgs.at' 1 l) :=
  turned h s _ i (pay7_apply h s w e i) 1 128 rfl slices_S256x512_o0_128_S256x128 l
theorem q2 : k0_pay18 (F := Ideal) (k0_pay6 x4) (k0_pay14 (k0_pay7 x0 w)) (k0_pay15 (k0_pay5 x3) (k0_pay7 x0 w)) 64#32 k0_pay16 k0_pay17 (ix2 i l) = p.rot s (J i) (MixArgs.at' 2 l) :=
  turned h s _ i (pay7_apply h s w e i) 2 256 rfl slices_S256x512_o0_256_S256x128 l
theorem q3 : k0_pay22 (F := Ideal) (k0_pay20 (k0_pay5 x3) (k0_pay7 x0 w)) (k0_pay21 (k0_pay6 x4) (k0_pay7 x0 w)) (ix2 i l) = p.rot s (J i) (MixArgs.at' 3 l) :=
  turned h s _ i (pay7_apply h s w e i) 3 384 rfl slices_S256x512_o0_384_S256x128 l
theorem k0 : k0_pay24 (F := Ideal) (k0_pay3 x0) (k0_pay5 x3) (k0_pay6 x4) w (ix2 i l) = p.rot s (J i) (MixArgs.at' 0 l) :=
  turned h s _ i (pay7_apply h s w e i) 0 0 rfl slices_S256x512_o0_0_S256x128 l
theorem k1 : k0_pay28 (F := Ideal) (k0_pay6 x4) (k0_pay25 (k0_pay3 x0) w) (k0_pay26 (k0_pay3 x0) (k0_pay5 x3) w) (iota .tc S256x128 32 [1] iota_S256x128_d1_w32) 64#32 k0_pay27 (ix2 i l)
    = p.rot s (J i) (MixArgs.at' 1 l) :=
  turned h s _ i (pay7_apply h s w e i) 1 128 rfl slices_S256x512_o0_128_S256x128 l
theorem k2 : k0_pay33 (F := Ideal) (k0_pay6 x4) (k0_pay29 (k0_pay23 (k0_pay3 x0) w)) (k0_pay30 (k0_pay5 x3) (k0_pay23 (k0_pay3 x0) w)) k0_pay31 (k0_pay32 (k0_pay23 (k0_pay3 x0) w)) (ix2 i l)
    = p.rot s (J i) (MixArgs.at' 2 l) :=
  turned h s _ i (pay7_apply h s w e i) 2 256 rfl slices_S256x512_o0_256_S256x128 l
theorem k3 : k0_pay34 (F := Ideal) (k0_pay5 x3) (k0_pay6 x4) (k0_pay23 (k0_pay3 x0) w) (ix2 i l) = p.rot s (J i) (MixArgs.at' 3 l) :=
  turned h s _ i (pay7_apply h s w e i) 3 384 rfl slices_S256x512_o0_384_S256x128 l

end pay

theorem pay35_apply (v : FVec Ideal S256x512 .f32) (j : Fin 512) :
    k0_pay36 (F := Ideal) (k0_pay35 v) (ix3 0 0 j) = Ideal.div (∑ i, v (ix2 i j)) ((FloatOps.ofBits .f32 0x43800000#32 : Ideal .f32)) := by
  pointwise [k0_pay36, k0_pay35]

end Cert.Proof.Proj

end
-- ==== Proof.ProjBlock.lean ====
/- THE INPUT PROJECTION: what each point of the kernel's grid leaves in its result blocks. -/
module

public import proofs.«01_k».proof.Proof.Proj

@[expose] public section

noncomputable section

namespace Cert.Proof.Proj

open Idealize.ShloMosaic Idealize.ShloMosaic.TcCoe
open Cert.Kernel4Ideal Cert.Kernel4Ideal.Gen
open Cert.Proof.Mix (groups)
open Cert.Proof.MixArgs (at')

variable {p : ProjArgs} {J : Fin 256 → Fin 2048}
variable (m : (ℓ : Loc nD τ sig) → Buf (Elt Ideal) ℓ)

def AtPoint (c : Dev nD) (t : Fin cfg0.N) (p : ProjArgs) (J : Fin 256 → Fin 2048) : Prop :=
  Blocks p J (iblk m c 0 t) (iblk m c 1 t) (iblk m c 2 t) (iblk m c 3 t) (iblk m c 4 t)

/-- The four column blocks of the gates, each of one section. -/
theorem quarters {P0 P1 P2 P3 : (⟨2, ![256, 512]⟩ : Shape).Idx → Ideal .f32} (i : Fin 256) (j : Fin 2048) (v : EReal)
    (i0 i1 i2 i3) (h0 : ∀ c : Fin 512, j = ⟨512 * 0 + c.val, by omega⟩ → P0 (ix2 i c) = v) (h1 : ∀ c : Fin 512, j = ⟨512 * 1 + c.val, by omega⟩ → P1 (ix2 i c) = v)
    (h2 : ∀ c : Fin 512, j = ⟨512 * 2 + c.val, by omega⟩ → P2 (ix2 i c) = v) (h3 : ∀ c : Fin 512, j = ⟨512 * 3 + c.val, by omega⟩ → P3 (ix2 i c) = v) :
    View.canon (Val := Elt Ideal) (s := S256x2048) (e := .f32) [⟨Rect.unit (s := S256x2048) ![0, 1536] ![256, 512] i3, P3⟩, ⟨Rect.unit (s := S256x2048) ![0, 1024] ![256, 512] i2, P2⟩,
      ⟨Rect.unit (s := S256x2048) ![0, 512] ![256, 512] i1, P1⟩, ⟨Rect.unit (s := S256x2048) ![0, 0] ![256, 512] i0, P0⟩] (ix2 i j) = v := by
  have hj := j.isLt
  by_cases b3 : 1536 ≤ j.val
  · exact (canon_hit _ _ _ i ⟨j.val - 1536, by omega⟩ i j (by omega) (by show j.val = 1536 + (j.val - 1536); omega)).trans
      (h3 ⟨j.val - 1536, by omega⟩ (Fin.ext (by show j.val = 512 * 3 + (j.val - 1536); omega)))
  refine (canon_miss _ _ _ i j (.inl (by omega))).trans ?_
  by_cases b2 : 1024 ≤ j.val
  · exact (canon_hit _ _ _ i ⟨j.val - 1024, by omega⟩ i j (by omega) (by show j.val = 1024 + (j.val - 1024); omega)).trans
      (h2 ⟨j.val - 1024, by omega⟩ (Fin.ext (by show j.val = 512 * 2 + (j.val - 1024); omega)))
  refine (canon_miss _ _ _ i j (.inl (by omega))).trans ?_
  by_cases b1 : 512 ≤ j.val
  · exact (canon_hit _ _ _ i ⟨j.val - 512, by omega⟩ i j (by omega) (by show j.val = 512 + (j.val - 512); omega)).trans
      (h1 ⟨j.val - 512, by omega⟩ (Fin.ext (by show j.val = 512 * 1 + (j.val - 512); omega)))
  refine (canon_miss _ _ _ i j (.inl (by omega))).trans ?_
  exact (canon_hit _ _ _ i ⟨j.val, by omega⟩ i j (by omega) (by show j.val = 0 + j.val; omega)).trans
      (h0 ⟨j.val, by omega⟩ (Fin.ext (by show j.val = 512 * 0 + j.val; omega)))

/-- A part of the bias, loaded from the row. -/
theorem b_ld {x0 : Vec Ideal S256x1024 .f32} {x1 : Vec Ideal S8x1024x512 .bf16} {x2 : Vec Ideal S1x2048 .f32} {x3 x4 : Vec Ideal S256x128 .f32} (h : Blocks p J x0 x1 x2 x3 x4)
    (n : Fin 4) (o : Nat) (ho : o = 512 * n.val) (inb : ∀ a, (![0, o] : Fin 2 → Nat) a + (![1, 512] : Fin 2 → Nat) a ≤ S1x2048.size a) (i : Fin 1) (j : Fin 512) :
    View.ld x2 (Rect.unit (s := S1x2048) ![0, o] ![1, 512] inb) (ix2 i j) = p.b ⟨512 * n.val + j.val, by omega⟩ :=
  (ld_piece inb x2 i j i ⟨512 * n.val + j.val, by omega⟩ (by omega) (by show 512 * n.val + j.val = o + j.val; omega)).trans (h.b _ _)

theorem xt_block (c : Dev nD) (t : Fin cfg0.N) (h : AtPoint m c t p J) (k : Fin 1024) (i : Fin 256) :
    (outsAt0 (F := Ideal) m c t).1 (ix2 k i) = p.x (J i) k := by
  unfold outsAt0; frame_out
  rw [← h.x i k]
  pointwise [k0_pay4]

theorem q_block (c : Dev nD) (t : Fin cfg0.N) (h : AtPoint m c t p J) (i : Fin 256) (j : Fin 512) :
    (outsAt0 (F := Ideal) m c t).2.1 (ix2 i j) = p.rot 0 (J i) j := by
  unfold outsAt0; frame_out
  exact groups i j _ _ _ _ _ (fun l e => e ▸ q0 h 0 _ (w_ld h 0 0 rfl _) i l) (fun l e => e ▸ q1 h 0 _ (w_ld h 0 0 rfl _) i l) (fun l e => e ▸ q2 h 0 _ (w_ld h 0 0 rfl _) i l)
    (fun l e => e ▸ q3 h 0 _ (w_ld h 0 0 rfl _) i l)

theorem k_block (c : Dev nD) (t : Fin cfg0.N) (h : AtPoint m c t p J) (i : Fin 256) (j : Fin 512) :
    (outsAt0 (F := Ideal) m c t).2.2.1 (ix2 i j) = p.rot 1 (J i) j := by
  unfold outsAt0; frame_out
  exact groups i j _ _ _ _ _ (fun l e => e ▸ k0 h 1 _ (w_ld h 1 1 rfl _) i l) (fun l e => e ▸ k1 h 1 _ (w_ld h 1 1 rfl _) i l) (fun l e => e ▸ k2 h 1 _ (w_ld h 1 1 rfl _) i l)
    (fun l e => e ▸ k3 h 1 _ (w_ld h 1 1 rfl _) i l)

theorem v_block (c : Dev nD) (t : Fin cfg0.N) (h : AtPoint m c t p J) (i : Fin 256) (j : Fin 512) :
    (outsAt0 (F := Ideal) m c t).2.2.2.1 (ix2 i j) = p.z (J i) (sec 2 j) := by
  unfold outsAt0; frame_out
  exact pay37_apply h 2 _ (w_ld h 2 2 rfl _) i j

theorem u_block (c : Dev nD) (t : Fin cfg0.N) (h : AtPoint m c t p J) (i : Fin 256) (j : Fin 512) :
    (outsAt0 (F := Ideal) m c t).2.2.2.2.1 (ix2 i j) = p.z (J i) (sec 3 j) := by
  unfold outsAt0; frame_out
  exact pay38_apply h 3 _ (w_ld h 3 3 rfl _) i j

theorem g_block (c : Dev nD) (t : Fin cfg0.N) (h : AtPoint m c t p J) (i : Fin 256) (j : Fin 2048) :
    (outsAt0 (F := Ideal) m c t).2.2.2.2.2.1 (ix2 i j) = p.gate (J i) j := by
  unfold outsAt0; frame_out
  exact quarters i j _ _ _ _ _ (fun l e => e ▸ gate_apply h 0 _ (w_ld h 4 4 rfl _) _ (b_ld h 0 0 rfl _) i l)
    (fun l e => e ▸ gate_apply h 1 _ (w_ld h 5 5 rfl _) _ (b_ld h 1 512 rfl _) i l)
    (fun l e => e ▸ gate_apply h 2 _ (w_ld h 6 6 rfl _) _ (b_ld h 2 1024 rfl _) i l)
    (fun l e => e ▸ gate_apply h 3 _ (w_ld h 7 7 rfl _) _ (b_ld h 3 1536 rfl _) i l)

theorem mean_block (c : Dev nD) (t : Fin cfg0.N) (h : AtPoint m c t p J) (j : Fin 512) :
    (outsAt0 (F := Ideal) m c t).2.2.2.2.2.2 (ix3 0 0 j)
      = Ideal.div (∑ i : Fin 256, p.rot 1 (J i) j) ((FloatOps.ofBits .f32 0x43800000#32 : Ideal .f32)) := by
  unfold outsAt0; frame_out
  rw [pay35_apply]
  refine congrArg (fun v => Ideal.div v _) (Finset.sum_congr rfl fun i _ => ?_)
  rw [View.readCov_eq_canon']
  refine (congrArg (View.canon _) (unit_emb inb_S256x512_S256x512_0_0 i j i j (by omega) (by omega))).trans ?_
  exact groups i j _ _ _ _ _ (fun l e => e ▸ k0 h 1 _ (w_ld h 1 1 rfl _) i l) (fun l e => e ▸ k1 h 1 _ (w_ld h 1 1 rfl _) i l) (fun l e => e ▸ k2 h 1 _ (w_ld h 1 1 rfl _) i l)
    (fun l e => e ▸ k3 h 1 _ (w_ld h 1 1 rfl _) i l)

end Cert.Proof.Proj

end
-- ==== Proof.ProjProof.lean ====
/- THE INPUT PROJECTION: what its seven result arrays hold, what its reference computes, and their claim. -/
module

public import proofs.«01_k».proof.Defs
public import proofs.«01_k».proof.Proof.ProjBlock
public import proofs.«01_k».proof.Proof.Gen.Reference4Ideal.Run
public import proofs.«01_k».proof.Proof.Same
public import Idealize.ShloMosaic.Lib.Pointwise
public import Idealize.ShloMosaic.Lib.Quiescent
public import Idealize.ShloMosaic.Lib.Pipeline.ValueKit.Geometry

@[expose] public section

noncomputable section

namespace Cert.Proof.Proj

open Idealize.ShloMosaic Idealize.ShloMosaic.TcCoe Idealize.ShloMosaic.StableHlo Idealize.SL.Sem

/-- The arguments, of their arrays. -/
def projArgs (x : FVec Ideal ⟨2, ![2048, 1024]⟩ .f32) (w : FVec Ideal ⟨2, ![1024, 4096]⟩ .f32) (b : FVec Ideal ⟨1, ![2048]⟩ .f32) : ProjArgs where
  x r k := x (ix2 r k)
  w k j := w (ix2 k j)
  b j := b (ix1 j)

section kernel
open Cert.Kernel4Ideal Cert.Kernel4Ideal.Gen

variable (m : (ℓ : Loc nD τ sig) → Buf (Elt Ideal) ℓ) (c : Dev nD)

/-- The program's arguments on device `c`, as arrays. -/
abbrev A0 : FVec Ideal S2048x1024 .f32 := m ((c : Thread nD τ).loc main_arg0)
abbrev A1 : FVec Ideal S1024x4096 .f32 := m ((c : Thread nD τ).loc main_arg1)
abbrev A2 : FVec Ideal S2048 .f32 := m ((c : Thread nD τ).loc main_arg2)

abbrev kargs : ProjArgs := projArgs (A0 m c) (A1 m c) (A2 m c)

theorem entry_x (i : Fin 2048) (k : Fin 1024) : (V m c main_arg0 : FVec Ideal S2048x1024 .f32) (ix2 i k) = (kargs m c).x i k := by
  have e : (V m c main_arg0 : FVec Ideal S2048x1024 .f32) = A0 m c := by
    simp only [V, hostOps0]
    after_results_simp <;> rfl
  rw [e]; rfl

theorem entry_w (s : Fin 8) (k : Fin 1024) (j : Fin 512) : (V m c main_v25 : FVec Ideal S8x1024x512 .bf16) (ix3 s k j) = (kargs m c).w k (sec s j) := by
  have e : (V m c main_v25 : FVec Ideal S8x1024x512 .bf16)
      = truncf .bf16 (transpose S8x1024x512 [1, 0, 2] (shapeCast S1024x8x512 (A1 m c) shapeCasts_S1024x4096_S1024x8x512) transposes_S1024x8x512_S8x1024x512_1_0_2) bitsLt_bf16_f32 := by
    simp only [V, hostOps0]
    after_results_simp <;> rfl
  rw [e]
  pointwise
  refine congrArg (A1 m c) (congrArg (ix2 k) (Fin.ext ?_))
  show s.val * 512 + j.val = 512 * s.val + j.val
  omega

theorem entry_b (i : Fin 1) (j : Fin 2048) : (V m c main_v26 : FVec Ideal S1x2048 .f32) (ix2 i j) = (kargs m c).b j := by
  have e : (V m c main_v26 : FVec Ideal S1x2048 .f32) = broadcastInDim S1x2048 ![1] bcast_S2048_S1x2048_1 (A2 m c) := by
    simp only [V, hostOps0]
    after_results_simp <;> rfl
  rw [e]
  pointwise
  rfl

theorem entry_cos (i : Fin 2048) (l : Fin 128) : (V m c main_v17 : FVec Ideal S2048x128 .f32) (ix2 i l) = cosA i ⟨l.val % 32, by omega⟩ := by
  have e : (V m c main_v17 : FVec Ideal S2048x128 .f32)
      = shapeCast S2048x128 (broadcastInDim S1x2048x4x32 ![0, 1, 2, 3] bcast_S1x2048x1x32_S1x2048x4x32_0_1_2_3
          (shapeCast S1x2048x1x32 (Host.cos angles : FVec Ideal S2048x32 .f32) shapeCasts_S2048x32_S1x2048x1x32)) shapeCasts_S1x2048x4x32_S2048x128 := by
    simp only [V, hostOps0]
    after_results_simp <;> rfl
  rw [e, cosA]
  generalize (Host.cos angles : FVec Ideal S2048x32 .f32) = C
  pointwise

theorem entry_sin (i : Fin 2048) (l : Fin 128) : (V m c main_v22 : FVec Ideal S2048x128 .f32) (ix2 i l)
    = if l.val % 64 < 32 then -sinA i ⟨l.val % 32, by omega⟩ else sinA i ⟨l.val % 32, by omega⟩ := by
  have e : (V m c main_v22 : FVec Ideal S2048x128 .f32)
      = shapeCast S2048x128 (broadcastInDim S1x2048x2x64 ![0, 1, 2, 3] bcast_S1x2048x1x64_S1x2048x2x64_0_1_2_3
          (shapeCast S1x2048x1x64 (concatenate S2048x64 1 [⟨S2048x32, (Host.negf (Host.sin angles : FVec Ideal S2048x32 .f32) : FVec Ideal S2048x32 .f32)⟩,
            ⟨S2048x32, (Host.sin angles : FVec Ideal S2048x32 .f32)⟩] concatenates_S2048x32_S2048x32_S2048x64_d1) shapeCasts_S2048x64_S1x2048x1x64)) shapeCasts_S1x2048x2x64_S2048x128 := by
    simp only [V, hostOps0]
    after_results_simp <;> rfl
  rw [e, sinA]
  generalize (Host.sin angles : FVec Ideal S2048x32 .f32) = C
  pointwise
  by_cases h : l.val % 64 < 32
  · rw [dif_pos h, if_pos h]
    exact congrArg (fun d => -C (ix2 i d)) (Fin.ext (by show l.val % 64 = l.val % 32; omega))
  · rw [dif_neg h, if_neg h]
    exact congrArg (fun d => C (ix2 i d)) (Fin.ext (by show l.val % 64 - 32 = l.val % 32; omega))

/-- The row that row `l` of point `t`'s blocks is. -/
def row (t : Fin cfg0.N) (l : Fin 256) : Fin 2048 := ⟨t.val * 256 + l.val, by have := t.isLt; have : cfg0.N = 8 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![0, t.val] := (by decide +kernel : ∀ t : Fin grid0.N, win0_5.index t = ![0, t.val])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0] := (by decide +kernel : ∀ t : Fin grid0.N, win0_8.index t = ![t.val, 0])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])
theorem index11 : ∀ t : Fin cfg0.N, win0_11.index t = ![t.val, 0, 0] := (by decide +kernel : ∀ t : Fin grid0.N, win0_11.index t = ![t.val, 0, 0])

theorem emb0 (t : Fin cfg0.N) (i : Fin 256) (j : Fin 1024) : (win0_0.rect t).emb (ix2 i j) = ix2 (row t i) j :=
  eq_of_emb (a := 2048) (b := 1024) _ _ _ (I := ![t.val, 0]) (S := ![256, 1024]) (y := ![i.val, j.val])
    (fun k => by rw [win0_0.rect_emb_val, index0]; match k with | ⟨0, _⟩ => rfl | ⟨1, _⟩ => rfl) rfl (by simp)
theorem emb2 (t : Fin cfg0.N) (i : Fin 1) (j : Fin 2048) : (win0_2.rect t).emb (ix2 i j) = ix2 i j :=
  eq_of_emb (a := 1) (b := 2048) _ _ _ (I := ![0, 0]) (S := ![1, 2048]) (y := ![i.val, j.val])
    (fun k => by rw [win0_2.rect_emb_val, index2]; match k with | ⟨0, _⟩ => rfl | ⟨1, _⟩ => rfl) (by simp) (by simp)
theorem emb3 (t : Fin cfg0.N) (i : Fin 256) (j : Fin 128) : (win0_3.rect t).emb (ix2 i j) = ix2 (row t i) j :=
  eq_of_emb (a := 2048) (b := 128) _ _ _ (I := ![t.val, 0]) (S := ![256, 128]) (y := ![i.val, j.val])
    (fun k => by rw [win0_3.rect_emb_val, index3]; match k with | ⟨0, _⟩ => rfl | ⟨1, _⟩ => rfl) rfl (by simp)
theorem emb4 (t : Fin cfg0.N) (i : Fin 256) (j : Fin 128) : (win0_4.rect t).emb (ix2 i j) = ix2 (row t i) j :=
  eq_of_emb (a := 2048) (b := 128) _ _ _ (I := ![t.val, 0]) (S := ![256, 128]) (y := ![i.val, j.val])
    (fun k => by rw [win0_4.rect_emb_val, index4]; match k with | ⟨0, _⟩ => rfl | ⟨1, _⟩ => rfl) rfl (by simp)
theorem emb5 (t : Fin cfg0.N) (i : Fin 1024) (j : Fin 256) : (win0_5.rect t).emb (ix2 i j) = ix2 i (row t j) :=
  eq_of_emb (a := 1024) (b := 2048) _ _ _ (I := ![0, t.val]) (S := ![1024, 256]) (y := ![i.val, j.val])
    (fun k => by rw [win0_5.rect_emb_val, index5]; match k with | ⟨0, _⟩ => rfl | ⟨1, _⟩ => rfl) (by simp) rfl
theorem emb6 (t : Fin cfg0.N) (i : Fin 256) (j : Fin 512) : (win0_6.rect t).emb (ix2 i j) = ix2 (row t i) j :=
  eq_of_emb (a := 2048) (b := 512) _ _ _ (I := ![t.val, 0]) (S := ![256, 512]) (y := ![i.val, j.val])
    (fun k => by rw [win0_6.rect_emb_val, index6]; match k with | ⟨0, _⟩ => rfl | ⟨1, _⟩ => rfl) rfl (by simp)
theorem emb7 (t : Fin cfg0.N) (i : Fin 256) (j : Fin 512) : (win0_7.rect t).emb (ix2 i j) = ix2 (row t i) j :=
  eq_of_emb (a := 2048) (b := 512) _ _ _ (I := ![t.val, 0]) (S := ![256, 512]) (y := ![i.val, j.val])
    (fun k => by rw [win0_7.rect_emb_val, index7]; match k with | ⟨0, _⟩ => rfl | ⟨1, _⟩ => rfl) rfl (by simp)
theorem emb8 (t : Fin cfg0.N) (i : Fin 256) (j : Fin 512) : (win0_8.rect t).emb (ix2 i j) = ix2 (row t i) j :=
  eq_of_emb (a := 2048) (b := 512) _ _ _ (I := ![t.val, 0]) (S := ![256, 512]) (y := ![i.val, j.val])
    (fun k => by rw [win0_8.rect_emb_val, index8]; match k with | ⟨0, _⟩ => rfl | ⟨1, _⟩ => rfl) rfl (by simp)
theorem emb9 (t : Fin cfg0.N) (i : Fin 256) (j : Fin 512) : (win0_9.rect t).emb (ix2 i j) = ix2 (row t i) j :=
  eq_of_emb (a := 2048) (b := 512) _ _ _ (I := ![t.val, 0]) (S := ![256, 512]) (y := ![i.val, j.val])
    (fun k => by rw [win0_9.rect_emb_val, index9]; match k with | ⟨0, _⟩ => rfl | ⟨1, _⟩ => rfl) rfl (by simp)
theorem emb10 (t : Fin cfg0.N) (i : Fin 256) (j : Fin 2048) : (win0_10.rect t).emb (ix2 i j) = ix2 (row t i) j :=
  eq_of_emb (a := 2048) (b := 2048) _ _ _ (I := ![t.val, 0]) (S := ![256, 2048]) (y := ![i.val, j.val])
    (fun k => by rw [win0_10.rect_emb_val, index10]; match k with | ⟨0, _⟩ => rfl | ⟨1, _⟩ => rfl) rfl (by simp)
theorem emb1 (t : Fin cfg0.N) (i : Fin 8) (j : Fin 1024) (k : Fin 512) : (win0_1.rect t).emb (ix3 i j k) = ix3 i j k :=
  eq_of_emb3 (a := 8) (b := 1024) (c := 512) _ _ _ _ (I := ![0, 0, 0]) (S := ![8, 1024, 512]) (y := ![i.val, j.val, k.val])
    (fun q => by rw [win0_1.rect_emb_val, index1]; match q with | ⟨0, _⟩ => rfl | ⟨1, _⟩ => rfl | ⟨2, _⟩ => rfl) (by simp) (by simp) (by simp)
/-- The block of rows that a point is at. -/
def blk (t : Fin cfg0.N) : Fin 8 := ⟨t.val, by have := t.isLt; have : cfg0.N = 8 := N_0; omega⟩
theorem emb11 (t : Fin cfg0.N) (k : Fin 512) : (win0_11.rect t).emb (ix3 0 0 k) = ix3 (blk t) 0 k :=
  eq_of_emb3 (a := 8) (b := 1) (c := 512) _ _ _ _ (I := ![t.val, 0, 0]) (S := ![1, 1, 512]) (y := ![0, 0, k.val])
    (fun q => by rw [win0_11.rect_emb_val, index11]; match q with | ⟨0, _⟩ => rfl | ⟨1, _⟩ => rfl | ⟨2, _⟩ => rfl) (by simp [blk]) (by simp) (by simp)

/- So every point reads its own rows of the arguments' arrays. -/

theorem at_x (t : Fin cfg0.N) (i : Fin 256) (j : Fin 1024) : iblk m c 0 t (ix2 i j) = (kargs m c).x (row t i) j :=
  (congrArg (V m c main_arg0) (emb0 t i j)).trans (entry_x m c (row t i) j)
theorem at_w (t : Fin cfg0.N) (s : Fin 8) (k : Fin 1024) (j : Fin 512) : iblk m c 1 t (ix3 s k j) = (kargs m c).w k (sec s j) :=
  (congrArg (V m c main_v25) (emb1 t s k j)).trans (entry_w m c s k j)
theorem at_b (t : Fin cfg0.N) (i : Fin 1) (j : Fin 2048) : iblk m c 2 t (ix2 i j) = (kargs m c).b j :=
  (congrArg (V m c main_v26) (emb2 t i j)).trans (entry_b m c i j)
theorem at_cos (t : Fin cfg0.N) (i : Fin 256) (l : Fin 128) : iblk m c 3 t (ix2 i l) = cosA (row t i) ⟨l.val % 32, by omega⟩ :=
  (congrArg (V m c main_v17) (emb3 t i l)).trans (entry_cos m c (row t i) l)
theorem at_sin (t : Fin cfg0.N) (i : Fin 256) (l : Fin 128) : iblk m c 4 t (ix2 i l)
    = if l.val % 64 < 32 then -sinA (row t i) ⟨l.val % 32, by omega⟩ else sinA (row t i) ⟨l.val % 32, by omega⟩ :=
  (congrArg (V m c main_v22) (emb4 t i l)).trans (entry_sin m c (row t i) l)
theorem atPoint (t : Fin cfg0.N) : AtPoint m c t (kargs m c) (row t) := ⟨at_x m c t, at_w m c t, at_b m c t, at_cos m c t, at_sin m c t⟩

theorem row_surj (j : Fin 2048) : ∃ t l, row t l = j :=
  ⟨⟨j.val / 256, by have : cfg0.N = 8 := N_0; omega⟩, ⟨j.val % 256, by omega⟩,
    Fin.ext (by show j.val / 256 * 256 + j.val % 256 = j.val; omega)⟩

theorem final_xt (k : Fin 1024) (r : Fin 2048) : ((dats m 0 c).arrAt 5 cfg0.N : FVec Ideal S1024x2048 .bf16) (ix2 k r) = (kargs m c).x r k := by
  obtain ⟨t, l, rfl⟩ := row_surj r
  have e : ((cfg0.win 5).blk t).view.emb (ix2 k l) = _ := emb5 t k l
  have h := (dats m 0 c).arrAt_emb_eq_flushed 5 Value.disjoint5 t (flush0_5 t) (ix2 k l)
  rw [e, Value.flushed5] at h
  have hb := xt_block m c t (atPoint m c t) k l
  generalize (outsAt0 (F := Ideal) m c t).1 = o at h hb
  exact h.trans hb

theorem final_q (r : Fin 2048) (j : Fin 512) : ((dats m 0 c).arrAt 6 cfg0.N : FVec Ideal S2048x512 .f32) (ix2 r j) = (kargs m c).rot 0 r j := by
  obtain ⟨t, l, rfl⟩ := row_surj r
  have e : ((cfg0.win 6).blk t).view.emb (ix2 l j) = _ := emb6 t l j
  have h := (dats m 0 c).arrAt_emb_eq_flushed 6 Value.disjoint6 t (flush0_6 t) (ix2 l j)
  rw [e, Value.flushed6] at h
  have hb := q_block m c t (atPoint m c t) l j
  generalize (outsAt0 (F := Ideal) m c t).2.1 = o at h hb
  exact h.trans hb

theorem final_k (r : Fin 2048) (j : Fin 512) : ((dats m 0 c).arrAt 7 cfg0.N : FVec Ideal S2048x512 .f32) (ix2 r j) = (kargs m c).rot 1 r j := by
  obtain ⟨t, l, rfl⟩ := row_surj r
  have e : ((cfg0.win 7).blk t).view.emb (ix2 l j) = _ := emb7 t l j
  have h := (dats m 0 c).arrAt_emb_eq_flushed 7 Value.disjoint7 t (flush0_7 t) (ix2 l j)
  rw [e, Value.flushed7] at h
  have hb := k_block m c t (atPoint m c t) l j
  generalize (outsAt0 (F := Ideal) m c t).2.2.1 = o at h hb
  exact h.trans hb

theorem final_v (r : Fin 2048) (j : Fin 512) : ((dats m 0 c).arrAt 8 cfg0.N : FVec Ideal S2048x512 .bf16) (ix2 r j) = (kargs m c).z r (sec 2 j) := by
  obtain ⟨t, l, rfl⟩ := row_surj r
  have e : ((cfg0.win 8).blk t).view.emb (ix2 l j) = _ := emb8 t l j
  have h := (dats m 0 c).arrAt_emb_eq_flushed 8 Value.disjoint8 t (flush0_8 t) (ix2 l j)
  rw [e, Value.flushed8] at h
  have hb := v_block m c t (atPoint m c t) l j
  generalize (outsAt0 (F := Ideal) m c t).2.2.2.1 = o at h hb
  exact h.trans hb

theorem final_u (r : Fin 2048) (j : Fin 512) : ((dats m 0 c).arrAt 9 cfg0.N : FVec Ideal S2048x512 .f32) (ix2 r j) = (kargs m c).z r (sec 3 j) := by
  obtain ⟨t, l, rfl⟩ := row_surj r
  have e : ((cfg0.win 9).blk t).view.emb (ix2 l j) = _ := emb9 t l j
  have h := (dats m 0 c).arrAt_emb_eq_flushed 9 Value.disjoint9 t (flush0_9 t) (ix2 l j)
  rw [e, Value.flushed9] at h
  have hb := u_block m c t (atPoint m c t) l j
  generalize (outsAt0 (F := Ideal) m c t).2.2.2.2.1 = o at h hb
  exact h.trans hb

theorem final_g (r : Fin 2048) (j : Fin 2048) : ((dats m 0 c).arrAt 10 cfg0.N : FVec Ideal S2048x2048 .f32) (ix2 r j) = (kargs m c).gate r j := by
  obtain ⟨t, l, rfl⟩ := row_surj r
  have e : ((cfg0.win 10).blk t).view.emb (ix2 l j) = _ := emb10 t l j
  have h := (dats m 0 c).arrAt_emb_eq_flushed 10 Value.disjoint10 t (flush0_10 t) (ix2 l j)
  rw [e, Value.flushed10] at h
  have hb := g_block m c t (atPoint m c t) l j
  generalize (outsAt0 (F := Ideal) m c t).2.2.2.2.2.1 = o at h hb
  exact h.trans hb

theorem final_mean (b : Fin 8) (a : Fin 1) (j : Fin 512) : ((dats m 0 c).arrAt 11 cfg0.N : FVec Ideal S8x1x512 .f32) (ix3 b a j) = (kargs m c).mean b j := by
  obtain rfl : a = 0 := Fin.ext (by omega)
  obtain ⟨t, rfl⟩ : ∃ t, blk t = b := ⟨⟨b.val, by have : cfg0.N = 8 := N_0; omega⟩, rfl⟩
  have e : ((cfg0.win 11).blk t).view.emb (ix3 0 0 j) = _ := emb11 t j
  have h := (dats m 0 c).arrAt_emb_eq_flushed 11 Value.disjoint11 t (flush0_11 t) (ix3 0 0 j)
  rw [e, Value.flushed11] at h
  have hb := mean_block m c t (atPoint m c t) j
  generalize (outsAt0 (F := Ideal) m c t).2.2.2.2.2.2 = o at h hb
  refine (h.trans hb).trans ?_
  refine congrArg (fun v => Ideal.div v _) (Finset.sum_congr rfl fun i _ => ?_)
  exact congrArg (fun r => (kargs m c).rot 1 r j) (Fin.ext (by show t.val * 256 + i.val = 256 * t.val + i.val; omega))

end kernel

namespace Ref
open Cert.Reference4Ideal Cert.Reference4Ideal.Gen

section stages
variable (x : FVec Ideal S2048x1024 .f32) (w : FVec Ideal S1024x4096 .f32) (b : FVec Ideal S2048 .f32)

/-- The product; a section's columns turned, as an array of heads: arrays. -/
abbrev prod : FVec Ideal S2048x4096 .f32 := Host.dotGeneral (φ₁ := .f32) (φ₂ := .f32) dot_S2048x1024_S1024x4096_S2048x4096_1_0_0_1_n_n none x w
def hd (n : Nat) (h : S2048x4096.Slices ![0, n] S2048x512) (Z : FVec Ideal S2048x4096 .f32) : FVec Ideal S8x2048x64 .f32 :=
  transpose S8x2048x64 [1, 0, 2] (shapeCast _ (extractStridedSlice S2048x512 ![0, n] Z h) shapeCasts_S2048x512_S2048x8x64) transposes_S2048x8x64_S8x2048x64_1_0_2
def tab (T : FVec Ideal S2048x32 .f32) : FVec Ideal S8x2048x32 .f32 :=
  broadcastInDim S8x2048x32 ![0, 1, 2] bcast_S1x2048x32_S8x2048x32_0_1_2 (broadcastInDim S1x2048x32 ![1, 2] bcast_S2048x32_S1x2048x32_1_2 T)
def turn (C S : FVec Ideal S2048x32 .f32) (H : FVec Ideal S8x2048x64 .f32) : FVec Ideal S8x2048x64 .f32 :=
  concatenate S8x2048x64 2 [⟨S8x2048x32, (subf (F := Ideal) (φ := .f32) (s := S8x2048x32) (mulf (extractStridedSlice S8x2048x32 ![0, 0, 0] H slices_S8x2048x64_S8x2048x32_0_0_0) (tab C))
      (mulf (extractStridedSlice S8x2048x32 ![0, 0, 32] H slices_S8x2048x64_S8x2048x32_0_0_32) (tab S)))⟩,
    ⟨S8x2048x32, (addf (F := Ideal) (φ := .f32) (s := S8x2048x32) (mulf (extractStridedSlice S8x2048x32 ![0, 0, 32] H slices_S8x2048x64_S8x2048x32_0_0_32) (tab C))
      (mulf (extractStridedSlice S8x2048x32 ![0, 0, 0] H slices_S8x2048x64_S8x2048x32_0_0_0) (tab S)))⟩] concatenates_S8x2048x32_S8x2048x32_S8x2048x64_d2
def flat (H : FVec Ideal S8x2048x64 .f32) : FVec Ideal S2048x512 .f32 :=
  shapeCast _ (transpose S2048x8x64 [1, 0, 2] H transposes_S8x2048x64_S2048x8x64_1_0_2) shapeCasts_S2048x8x64_S2048x512
def means (H : FVec Ideal S8x2048x64 .f32) : FVec Ideal S8x1x512 .f32 :=
  broadcastInDim S8x1x512 ![0, 2] bcast_S8x512_S8x1x512_0_2 (shapeCast _ (transpose S8x8x64 [1, 0, 2]
    (Host.divf (F := Ideal) (φ := .f32) (s := S8x8x64) (Host.reduceAdd (F := Ideal) (φ := .f32) (shapeCast S8x8x256x64 H shapeCasts_S8x2048x64_S8x8x256x64) (constant S_ .f32 0x00000000#32) reducesTo_S8x8x256x64_S8x8x64_d2 h_S_)
      (broadcastInDim S8x8x64 ![] bcast_S_S8x8x64 (constant S_ .f32 0x43800000#32))) transposes_S8x8x64_S8x8x64_1_0_2) shapeCasts_S8x8x64_S8x512)
def gates (Z : FVec Ideal S2048x4096 .f32) : FVec Ideal S2048x2048 .f32 :=
  Host.divf (F := Ideal) (φ := .f32) (s := S2048x2048) (broadcastInDim S2048x2048 ![] bcast_S_S2048x2048 (constant S_ .f32 0x3F800000#32))
    (addf (broadcastInDim S2048x2048 ![] bcast_S_S2048x2048 (constant S_ .f32 0x3F800000#32)) (Host.exp (Host.negf (addf
      (extractStridedSlice S2048x2048 ![0, 2048] Z slices_S2048x4096_S2048x2048_0_2048)
      (broadcastInDim S2048x2048 ![0, 1] bcast_S1x2048_S2048x2048_0_1 (broadcastInDim S1x2048 ![1] bcast_S2048_S1x2048_1 b))))))

theorem z_apply (r : Fin 2048) (j : Fin 4096) : prod x w (ix2 r j) = (projArgs x w b).z r j := by
  pointwise [prod]
  rfl

/-- A column of a section, by its head and lane. -/
def lane (q : Fin 8) (d : Fin 64) : Fin 512 := ⟨64 * q.val + d.val, by omega⟩
theorem lane_surj (j : Fin 512) : ∃ q d, j = lane q d :=
  ⟨⟨j.val / 64, by omega⟩, ⟨j.val % 64, by omega⟩, Fin.ext (by show j.val = 64 * (j.val / 64) + j.val % 64; omega)⟩

theorem hd_apply (s : Fin 8) (h : S2048x4096.Slices ![0, 512 * s.val] S2048x512) (Z : FVec Ideal S2048x4096 .f32) (q : Fin 8) (r : Fin 2048) (d : Fin 64) :
    hd (512 * s.val) h Z (ix3 q r d) = Z (ix2 r (sec s (lane q d))) := by
  pointwise [hd]
  exact congrArg (fun j => Z (ix2 r j)) (Fin.ext (by show 512 * s.val + (q.val * 64 + d.val) = 512 * s.val + (64 * q.val + d.val); omega))

theorem turn_apply (C S : FVec Ideal S2048x32 .f32) (H : FVec Ideal S8x2048x64 .f32) (q : Fin 8) (r : Fin 2048) (d : Fin 64) :
    turn C S H (ix3 q r d) = if h : d.val < 32 then H (ix3 q r d) * C (ix2 r ⟨d.val, h⟩) - H (ix3 q r ⟨d.val + 32, by omega⟩) * S (ix2 r ⟨d.val, h⟩)
      else H (ix3 q r d) * C (ix2 r ⟨d.val - 32, by omega⟩) + H (ix3 q r ⟨d.val - 32, by omega⟩) * S (ix2 r ⟨d.val - 32, by omega⟩) := by
  pointwise [turn, tab]
  have e : (32 : Nat) + d.val = d.val + 32 := Nat.add_comm _ _
  by_cases h : d.val < 32
  · rw [dif_pos h, dif_pos h]
    exact congrArg (fun a => H (ix3 q r d) * C (ix2 r ⟨d.val, h⟩) - H (ix3 q r a) * S (ix2 r ⟨d.val, h⟩)) (Fin.ext (Nat.add_comm _ _))
  · rw [dif_neg h, dif_neg h]
    exact congrArg (fun a => H (ix3 q r a) * C (ix2 r ⟨d.val - 32, _⟩) + H (ix3 q r ⟨d.val - 32, _⟩) * S (ix2 r ⟨d.val - 32, _⟩))
      (Fin.ext (by show 32 + (d.val - 32) = d.val; omega))

theorem flat_apply (H : FVec Ideal S8x2048x64 .f32) (r : Fin 2048) (q : Fin 8) (d : Fin 64) : flat H (ix2 r (lane q d)) = H (ix3 q r d) := by
  pointwise [flat]
  refine congrArg H ?_
  rw [show (⟨(lane q d).val / 64, by omega⟩ : Fin 8) = q from Fin.ext (by show (64 * q.val + d.val) / 64 = q.val; omega),
    show (⟨(lane q d).val % 64, by omega⟩ : Fin 64) = d from Fin.ext (by show (64 * q.val + d.val) % 64 = d.val; omega)]

theorem means_apply (H : FVec Ideal S8x2048x64 .f32) (b : Fin 8) (a : Fin 1) (q : Fin 8) (d : Fin 64) : means H (ix3 b a (lane q d))
    = Ideal.div (∑ i : Fin 256, H (ix3 q ⟨256 * b.val + i.val, by omega⟩ d)) ((FloatOps.ofBits .f32 0x43800000#32 : Ideal .f32)) := by
  pointwise [means]
  refine congrArg (fun v => Ideal.div v _) (Finset.sum_congr rfl fun i _ => congrArg H ?_)
  rw [show (⟨(lane q d).val / 64, by omega⟩ : Fin 8) = q from Fin.ext (by show (64 * q.val + d.val) / 64 = q.val; omega),
    show (⟨(lane q d).val % 64, by omega⟩ : Fin 64) = d from Fin.ext (by show (64 * q.val + d.val) % 64 = d.val; omega),
    show (⟨b.val * 256 + i.val, by omega⟩ : Fin 2048) = ⟨256 * b.val + i.val, by omega⟩ from Fin.ext (by show b.val * 256 + i.val = 256 * b.val + i.val; omega)]

theorem gates_apply (r : Fin 2048) (j : Fin 2048) : gates b (prod x w) (ix2 r j) = (projArgs x w b).gate r j := by
  have hz := z_apply x w b r (ProjArgs.gcol j)
  generalize prod x w = Z at hz ⊢
  have e : gates b Z (ix2 r j) = Ideal.logistic (Z (ix2 r (ProjArgs.gcol j)) + b (ix1 j)) := by
    pointwise [gates]
    rfl
  rw [e, hz]
  rfl

/-- A section's turned heads are the turned section: the first lane of a pair takes the second's times minus the sine. -/
theorem turned_apply (s : Fin 8) (h : S2048x4096.Slices ![0, 512 * s.val] S2048x512) (q : Fin 8) (r : Fin 2048) (d : Fin 64) :
    turn (Host.cos angles) (Host.sin angles) (hd (512 * s.val) h (prod x w)) (ix3 q r d) = (projArgs x w b).rot s r (lane q d) := by
  have hC : ∀ e, (Host.cos angles : FVec Ideal S2048x32 .f32) (ix2 r e) = cosA r e := fun _ => rfl
  have hS : ∀ e, (Host.sin angles : FVec Ideal S2048x32 .f32) (ix2 r e) = sinA r e := fun _ => rfl
  have hz := fun j => z_apply x w b r j
  generalize (Host.cos angles : FVec Ideal S2048x32 .f32) = C at hC ⊢
  generalize (Host.sin angles : FVec Ideal S2048x32 .f32) = S at hS ⊢
  generalize prod x w = Z at hz ⊢
  have hm : (lane q d).val % 64 = d.val := by show (64 * q.val + d.val) % 64 = d.val; omega
  have ha : (lane q d).val % 32 = d.val % 32 := by show (64 * q.val + d.val) % 32 = d.val % 32; omega
  rw [turn_apply]
  unfold ProjArgs.rot signed
  by_cases hd' : d.val < 32
  · have eo : other (lane q d) = lane q ⟨d.val + 32, by omega⟩ := by
      unfold other
      rw [dif_pos (by omega)]
      exact Fin.ext (by show 64 * q.val + d.val + 32 = 64 * q.val + (d.val + 32); omega)
    have ea : ang (lane q d) = ⟨d.val, hd'⟩ := Fin.ext (by show (lane q d).val % 32 = d.val; omega)
    rw [dif_pos hd', hd_apply, hd_apply, hC, hS, hz, hz, if_pos (by omega), eo, ea, sub_eq_add_neg, mul_neg]
  · have eo : other (lane q d) = lane q ⟨d.val - 32, by omega⟩ := by
      unfold other
      rw [dif_neg (by omega)]
      exact Fin.ext (by show 64 * q.val + d.val - 32 = 64 * q.val + (d.val - 32); omega)
    have ea : ang (lane q d) = ⟨d.val - 32, by omega⟩ := Fin.ext (by show (lane q d).val % 32 = d.val - 32; omega)
    rw [dif_neg hd', hd_apply, hd_apply, hC, hS, hz, hz, if_neg (by omega), eo, ea]

theorem rot_apply (s : Fin 8) (h : S2048x4096.Slices ![0, 512 * s.val] S2048x512) (r : Fin 2048) (j : Fin 512) :
    flat (turn (Host.cos angles) (Host.sin angles) (hd (512 * s.val) h (prod x w))) (ix2 r j) = (projArgs x w b).rot s r j := by
  obtain ⟨q, d, rfl⟩ := lane_surj j
  rw [flat_apply]
  exact turned_apply x w b s h q r d

theorem mean_apply (h : S2048x4096.Slices ![0, 512 * (1 : Fin 8).val] S2048x512) (n : Fin 8) (a : Fin 1) (j : Fin 512) :
    means (turn (Host.cos angles) (Host.sin angles) (hd (512 * (1 : Fin 8).val) h (prod x w))) (ix3 n a j) = (projArgs x w b).mean n j := by
  obtain ⟨q, d, rfl⟩ := lane_surj j
  rw [means_apply]
  exact congrArg (fun v => Ideal.div v _) (Finset.sum_congr rfl fun i _ => turned_apply x w b 1 h q _ d)

theorem xt_apply (k : Fin 1024) (r : Fin 2048) :
    truncf (F := Ideal) .bf16 (transpose S1024x2048 [1, 0] x transposes_S2048x1024_S1024x2048_1_0) bitsLt_bf16_f32 (ix2 k r) = (projArgs x w b).x r k := by
  pointwise
  rfl

theorem v_apply (r : Fin 2048) (j : Fin 512) :
    truncf (F := Ideal) .bf16 (extractStridedSlice S2048x512 ![0, 1024] (prod x w) slices_S2048x4096_S2048x512_0_1024) bitsLt_bf16_f32 (ix2 r j)
      = (projArgs x w b).z r (sec 2 j) := by
  rw [← z_apply]
  generalize prod x w = Z
  pointwise
  rfl

theorem u_apply (r : Fin 2048) (j : Fin 512) :
    (extractStridedSlice S2048x512 ![0, 1536] (prod x w) slices_S2048x4096_S2048x512_0_1536 : FVec Ideal S2048x512 .f32) (ix2 r j)
      = (projArgs x w b).z r (sec 3 j) := by
  rw [← z_apply]
  generalize prod x w = Z
  pointwise
  rfl

end stages
end Ref

theorem frame_ref : quiescent_Reference4Ideal (hReference4Ideal := Cert.Reference4Ideal.Gen.facts) := fun m ρ _ =>
  (θ_run (Cert.Reference4Ideal.defs (F := Ideal)) _ _).mono
    (fun r h => And.intro (fun c => (h c).2.2.2.2.2.2.2) (sem_eq_zero_of_no_sems rfl r.2)) (Cert.Reference4Ideal.Value.run m ρ)

section
open Cert.Reference4Ideal Cert.Reference4Ideal.Gen
variable (m : (ℓ : Loc nD τ sig) → Buf (Elt Ideal) ℓ) (c : Dev nD)

/-- The reference's arguments, and the results that its run states by a name. -/
abbrev B0 : FVec Ideal S2048x1024 .f32 := m ((c.tc : Thread nD τ).loc main_arg0)
abbrev B1 : FVec Ideal S1024x4096 .f32 := m ((c.tc : Thread nD τ).loc main_arg1)

theorem out_q : Value.res_out1 m c = Ref.flat (Ref.turn (Host.cos angles) (Host.sin angles) (Ref.hd 0 slices_S2048x4096_S2048x512_0_0 (Ref.prod (B0 m c) (B1 m c)))) := by
  unfold Value.res_out1 Value.res_main_v73
  rfl
theorem out_k : Value.res_out2 m c = Ref.flat (Ref.turn (Host.cos angles) (Host.sin angles) (Ref.hd 512 slices_S2048x4096_S2048x512_0_512 (Ref.prod (B0 m c) (B1 m c)))) := by
  unfold Value.res_out2 Value.res_main_v75
  rfl
theorem out_mean : Value.res_out6 m c = Ref.means (Ref.turn (Host.cos angles) (Host.sin angles) (Ref.hd 512 slices_S2048x4096_S2048x512_0_512 (Ref.prod (B0 m c) (B1 m c)))) := by
  unfold Value.res_out6 Value.res_main_v81
  rfl
end

theorem algebraic : algebraic_Kernel4Ideal_Reference4Ideal (hKernel4Ideal := Cert.Kernel4Ideal.Gen.facts)
    (hReference4Ideal := Cert.Reference4Ideal.Gen.facts) := by
  intro m g m' g' _ hargs
  refine ⟨_, _, _, _, _, _, _, Cert.Kernel4Ideal.Value.run_blocks m g, ?_⟩
  refine (θ_run (Cert.Reference4Ideal.defs (F := Ideal)) _ _).mono (fun r h c => ?_) (Cert.Reference4Ideal.Value.run m' g')
  obtain ⟨h0, h1, h2, h3, h4, h5, h6, hk⟩ := h c
  obtain ⟨e0, e1, e2⟩ := hargs c
  refine ⟨h0.trans ?_, h1.trans ((out_q m' c).trans ?_), h2.trans ((out_k m' c).trans ?_), h3.trans ?_, h4.trans ?_, h5.trans ?_,
    h6.trans ((out_mean m' c).trans ?_), hk⟩
  · rw [e0]
    exact same _ _ (fun k r => (kargs m c).x r k) (fun k r => Ref.xt_apply _ (A1 m c) (A2 m c) k r) (final_xt m c)
  · refine same _ _ ((kargs m c).rot 0) (fun r j => ?_) (final_q m c)
    unfold B0 B1
    rw [e0, e1]
    exact Ref.rot_apply _ _ (A2 m c) 0 _ r j
  · refine same _ _ ((kargs m c).rot 1) (fun r j => ?_) (final_k m c)
    unfold B0 B1
    rw [e0, e1]
    exact Ref.rot_apply _ _ (A2 m c) 1 _ r j
  · rw [e0, e1]
    exact same _ _ (fun r j => (kargs m c).z r (sec 2 j)) (fun r j => Ref.v_apply _ _ (A2 m c) r j) (final_v m c)
  · rw [e0, e1]
    exact same _ _ (fun r j => (kargs m c).z r (sec 3 j)) (fun r j => Ref.u_apply _ _ (A2 m c) r j) (final_u m c)
  · rw [e0, e1, e2]
    exact same _ _ (kargs m c).gate (fun r j => Ref.gates_apply _ _ _ r j) (final_g m c)
  · refine same3 _ _ (fun n _ j => (kargs m c).mean n j) (fun n a j => ?_) (final_mean m c)
    unfold B0 B1
    rw [e0, e1]
    exact Ref.mean_apply _ _ (A2 m c) _ n a j

end Cert.Proof.Proj

end
-- ==== Proof.Ln1.lean ====
/- THE BACKWARD PASS THROUGH THE FIRST NORM: the specification, and one block of rows of it as the kernel computes it. -/
module

public import proofs.«01_k».proof.Proof.Gen.Kernel5Ideal.Value
public import proofs.«01_k».proof.Proof.HeadReal
public import proofs.«01_k».proof.Proof.Arrays
public import Idealize.ShloMosaic.Lib.Pointwise
public import Idealize.ShloMosaic.Lib.Pipeline.ValueKit.Acc

@[expose] public section

noncomputable section

namespace Cert.Proof

open Idealize.ShloMosaic Idealize.ShloMosaic.TcCoe

/-- The arrays of the call, as functions of a row and a column. -/
structure Ln1Args where
  dr2 : Fin 2048 → Fin 1024 → EReal
  da : Fin 2048 → Fin 2816 → EReal
  du : Fin 2048 → Fin 2816 → EReal
  wg : Fin 1024 → Fin 2816 → EReal
  wu : Fin 1024 → Fin 2816 → EReal
  r : Fin 2048 → Fin 1024 → EReal
  g : Fin 1024 → EReal

namespace Ln1Args
variable (p : Ln1Args)

/-- The gradient of the norm's value: by the residual, the gate projection and the up projection. -/
def dh (i : Fin 2048) (k : Fin 1024) : EReal :=
  alpha * p.dr2 i k + (∑ j : Fin 2816, p.da i j * p.wg k j) + ∑ j : Fin 2816, p.du i j * p.wu k j
/-- The results: the gradients of the residual sum, of the gain and of the bias. -/
def dr (i : Fin 2048) (k : Fin 1024) : EReal := normGrad (p.r i) (fun j => p.dh i j * p.g j) k
def dg (k : Fin 1024) : EReal := ∑ i, p.dh i k * xhat (p.r i) k
def db (k : Fin 1024) : EReal := ∑ i, p.dh i k

structure Finite : Prop where
  dr2 : ∀ i k, Real' (p.dr2 i k)
  da : ∀ i j, Real' (p.da i j)
  du : ∀ i j, Real' (p.du i j)
  wg : ∀ k j, Real' (p.wg k j)
  wu : ∀ k j, Real' (p.wu k j)
  r : ∀ i k, Real' (p.r i k)
  g : ∀ k, Real' (p.g k)

theorem Finite.e {p : Ln1Args} (h : p.Finite) (i : Fin 2048) (k : Fin 1024) : Real' (p.dh i k * p.g k) :=
  (((alpha_real.mul (h.dr2 i k)).add (.sum _ _ fun j _ => (h.da i j).mul (h.wg k j))).add (.sum _ _ fun j _ => (h.du i j).mul (h.wu k j))).mul (h.g k)

end Ln1Args

namespace Ln1

open Cert.Kernel5Ideal Cert.Kernel5Ideal.Gen

variable {p : Ln1Args} {J : Fin 256 → Fin 2048}

/-- The blocks of a grid point hold the rows `J r` of the specification's arrays. -/
structure Blocks (p : Ln1Args) (J : Fin 256 → Fin 2048) (x0 : Vec Ideal S256x1024 .f32) (x1 x2 : Vec Ideal S256x2816 .bf16) (x3 x4 : Vec Ideal S2816x1024 .bf16)
    (x5 : Vec Ideal S256x1024 .f32) (x6 : Vec Ideal S256x128 .f32) (x7 : Vec Ideal S1x1024 .f32) : Prop where
  dr2 : ∀ i k, x0 (ix2 i k) = p.dr2 (J i) k
  da : ∀ i j, x1 (ix2 i j) = p.da (J i) j
  du : ∀ i j, x2 (ix2 i j) = p.du (J i) j
  wg : ∀ j k, x3 (ix2 j k) = p.wg k j
  wu : ∀ j k, x4 (ix2 j k) = p.wu k j
  xhat : ∀ i k, x5 (ix2 i k) = xhat (p.r (J i)) k
  rstd : ∀ i k, x6 (ix2 i k) = rstd (p.r (J i))
  g : ∀ i k, x7 (ix2 i k) = p.g k

section pay
variable {x0 : Vec Ideal S256x1024 .f32} {x1 x2 : Vec Ideal S256x2816 .bf16} {x3 x4 : Vec Ideal S2816x1024 .bf16}
    {x5 : Vec Ideal S256x1024 .f32} {x6 : Vec Ideal S256x128 .f32} {x7 : Vec Ideal S1x1024 .f32} (h : Blocks p J x0 x1 x2 x3 x4 x5 x6 x7)
include h

theorem pay5_apply (i : Fin 256) (k : Fin 1024) : k0_pay5 (F := Ideal) x0 x1 x3 x2 x4 (ix2 i k) = p.dh (J i) k := by
  pointwise [k0_pay5]
  simp only [h.dr2, h.da, h.du, h.wg, h.wu]
  rfl

theorem pay1_apply (y : Vec Ideal S256x1 .f32) (hy : ∀ i k, y (ix2 i k) = rstd (p.r (J i))) (i : Fin 256) (k : Fin 1024) :
    k0_pay1 (F := Ideal) (k0_pay5 x0 x1 x3 x2 x4) (k0_pay6 x5) y x7 (ix2 i k) = p.dr (J i) k := by
  pointwise [k0_pay1, k0_pay6]
  simp only [pay5_apply h, h.xhat, h.g, hy, ofBits_width]
  rfl

/-- The reciprocal deviations are read at the first of their equal columns. -/
theorem rstd_ld (i : Fin 256) (k : Fin 1) :
    View.ld x6 (Rect.unit ![0, 0] ![256, 1] inb_S256x128_S256x1_0_0) (ix2 i k) = rstd (p.r (J i)) := by
  refine Eq.trans (congrArg x6 (?_ : _ = ix2 i 0)) (h.rstd i 0)
  refine eq_of_emb (a := 256) (b := 128) _ _ _ (I := ![0, 0]) (S := ![256, 1]) (y := ![i.val, k.val]) (fun q => ?_) (by simp) ?_
  · match q with
    | ⟨0, _⟩ => simp
    | ⟨1, _⟩ => simp
  · show 0 * 1 + k.val = 0
    omega

theorem pay7_apply (v : Vec Ideal S1x1024 .f32) (i : Fin 1) (k : Fin 1024) :
    k0_pay7 (F := Ideal) x0 x1 x3 x2 x4 x5 v (ix2 i k) = v (ix2 i k) + ∑ r, p.dh (J r) k * xhat (p.r (J r)) k := by
  pointwise [k0_pay7, k0_pay6]
  simp only [pay5_apply h, h.xhat]

theorem pay8_apply (v : Vec Ideal S1x1024 .f32) (i : Fin 1) (k : Fin 1024) :
    k0_pay8 (F := Ideal) x0 x1 x3 x2 x4 v (ix2 i k) = v (ix2 i k) + ∑ r, p.dh (J r) k := by
  pointwise [k0_pay8]
  simp only [pay5_apply h]

end pay

theorem pay3_apply (i : Fin 1) (k : Fin 1024) : k0_pay3 (F := Ideal) (ix2 i k) = 0 := by
  pointwise [k0_pay3]
theorem pay4_apply (i : Fin 1) (k : Fin 1024) : k0_pay4 (F := Ideal) (ix2 i k) = 0 := by
  pointwise [k0_pay4]

variable (m : (ℓ : Loc nD τ sig) → Buf (Elt Ideal) ℓ)

def AtPoint (c : Dev nD) (t : Fin cfg0.N) (p : Ln1Args) (J : Fin 256 → Fin 2048) : Prop :=
  Blocks p J (iblk m c 0 t) (iblk m c 1 t) (iblk m c 2 t) (iblk m c 3 t) (iblk m c 4 t) (iblk m c 5 t) (iblk m c 6 t) (iblk m c 7 t)

theorem dr_block (c : Dev nD) (t : Fin cfg0.N) (h : AtPoint m c t p J) (i : Fin 256) (k : Fin 1024) :
    (outsAt0 (F := Ideal) m c t.val t.isLt).1 (ix2 i k) = p.dr (J i) k := by
  by_cases h0 : t.val % 8 = 0
  · rw [outsAt0_A m c t h0]; frame_out
    exact pay1_apply h _ (rstd_ld h) i k
  · rw [outsAt0_B m c t h0]; frame_out
    exact pay1_apply h _ (rstd_ld h) i k

theorem drb_block (c : Dev nD) (t : Fin cfg0.N) (h : AtPoint m c t p J) (i : Fin 256) (k : Fin 1024) :
    (outsAt0 (F := Ideal) m c t.val t.isLt).2.1 (ix2 i k) = p.dr (J i) k := by
  by_cases h0 : t.val % 8 = 0
  · rw [outsAt0_A m c t h0]; frame_out
    exact pay1_apply h _ (rstd_ld h) i k
  · rw [outsAt0_B m c t h0]; frame_out
    exact pay1_apply h _ (rstd_ld h) i k

theorem points : cfg0.N ≤ 8 := le_of_eq N_0

theorem dg_block (c : Dev nD) (J : Fin cfg0.N → Fin 256 → Fin 2048) (h : ∀ t, AtPoint m c t p (J t)) (t : Fin cfg0.N)
    (ht : t.val + 1 = cfg0.N) (a : Fin 1) (k : Fin 1024) :
    (outsAt0 (F := Ideal) m c t.val t.isLt).2.2.1 (ix2 a k) = ∑ t : Fin cfg0.N, ∑ i, p.dh (J t i) k * xhat (p.r (J t i)) k := by
  rw [Pipeline.eq_sum_fin_of_reset_step_apply_last (fun n h => (outsAt0 (F := Ideal) m c n h).2.2.1) 8 (fun _ => 0)
    (fun t j => ∑ i, p.dh (J t i) (j 1) * xhat (p.r (J t i)) (j 1))
    (fun t h0 j => by
      obtain ⟨a, b, rfl⟩ : ∃ a b, j = ix2 a b := ⟨j 0, j 1, eq_ix2 j⟩
      rw [outsAt0_A m c t h0]; frame_out; rw [pay7_apply (h t), pay3_apply]; rfl)
    (fun t h0 j => by
      obtain ⟨a, b, rfl⟩ : ∃ a b, j = ix2 a b := ⟨j 0, j 1, eq_ix2 j⟩
      rw [outsAt0_B m c t h0]; frame_out; rw [pay7_apply (h t)]; rfl)
    points t ht (ix2 a k), zero_add]
  rfl

theorem db_block (c : Dev nD) (J : Fin cfg0.N → Fin 256 → Fin 2048) (h : ∀ t, AtPoint m c t p (J t)) (t : Fin cfg0.N)
    (ht : t.val + 1 = cfg0.N) (a : Fin 1) (k : Fin 1024) :
    (outsAt0 (F := Ideal) m c t.val t.isLt).2.2.2 (ix2 a k) = ∑ t : Fin cfg0.N, ∑ i, p.dh (J t i) k := by
  rw [Pipeline.eq_sum_fin_of_reset_step_apply_last (fun n h => (outsAt0 (F := Ideal) m c n h).2.2.2) 8 (fun _ => 0)
    (fun t j => ∑ i, p.dh (J t i) (j 1))
    (fun t h0 j => by
      obtain ⟨a, b, rfl⟩ : ∃ a b, j = ix2 a b := ⟨j 0, j 1, eq_ix2 j⟩
      rw [outsAt0_A m c t h0]; frame_out; rw [pay8_apply (h t), pay4_apply]; rfl)
    (fun t h0 j => by
      obtain ⟨a, b, rfl⟩ : ∃ a b, j = ix2 a b := ⟨j 0, j 1, eq_ix2 j⟩
      rw [outsAt0_B m c t h0]; frame_out; rw [pay8_apply (h t)]; rfl)
    points t ht (ix2 a k), zero_add]
  rfl

end Ln1

end Cert.Proof

end
-- ==== Proof.Ln1Proof.lean ====
/- THE FIRST NORM'S BACKWARD PASS: what its result arrays hold, what its reference computes, and their claim. -/
module

public import proofs.«01_k».proof.Defs
public import proofs.«01_k».proof.Proof.Ln1
public import proofs.«01_k».proof.Proof.HeadRef
public import proofs.«01_k».proof.Proof.Gen.Reference5Ideal.Run
public import proofs.«01_k».proof.Proof.Pre
public import proofs.«01_k».proof.Proof.Same
public import Idealize.ShloMosaic.Lib.Pipeline.ValueKit.Geometry
public import Idealize.ShloMosaic.Lib.Quiescent

@[expose] public section

noncomputable section

namespace Cert.Proof.Ln1

open Idealize.ShloMosaic Idealize.ShloMosaic.TcCoe Idealize.ShloMosaic.StableHlo Idealize.SL.Sem
open Cert.Proof.Head.Ref (offT varT rstdT lineT drT colSum offT_apply varT_apply rstdT_apply lineT_apply drT_apply colSum_apply)

section kernel
open Cert.Kernel5Ideal Cert.Kernel5Ideal.Gen

variable (m : (ℓ : Loc nD τ sig) → Buf (Elt Ideal) ℓ) (c : Dev nD)

/-- The program's arguments on device `c`, as arrays. -/
abbrev A0 : FVec Ideal S2048x1024 .f32 := m ((c : Thread nD τ).loc main_arg0)
abbrev A1 : FVec Ideal S2048x2816 .bf16 := m ((c : Thread nD τ).loc main_arg1)
abbrev A2 : FVec Ideal S2048x2816 .bf16 := m ((c : Thread nD τ).loc main_arg2)
abbrev A3 : FVec Ideal S1024x2816 .f32 := m ((c : Thread nD τ).loc main_arg3)
abbrev A4 : FVec Ideal S1024x2816 .f32 := m ((c : Thread nD τ).loc main_arg4)
abbrev A5 : FVec Ideal S2048x1024 .f32 := m ((c : Thread nD τ).loc main_arg5)
abbrev A6 : FVec Ideal S1024 .f32 := m ((c : Thread nD τ).loc main_arg6)

/-- The same, as functions of a row and a column. -/
def kargs : Ln1Args where
  dr2 i k := A0 m c (ix2 i k)
  da i j := A1 m c (ix2 i j)
  du i j := A2 m c (ix2 i j)
  wg k j := A3 m c (ix2 k j)
  wu k j := A4 m c (ix2 k j)
  r i k := A5 m c (ix2 i k)
  g k := A6 m c (ix1 k)

theorem off_apply (i : Fin 2048) (k : Fin 1024) : offT (A5 m c) (ix2 i k) = off ((kargs m c).r i) k := offT_apply _ _ (fun _ _ => rfl) i k
theorem var_apply (i : Fin 2048) (k : Fin 1) : varT (offT (A5 m c)) (ix2 i k) = var ((kargs m c).r i) + eps := varT_apply _ _ (off_apply m c) i k

theorem entry_dr2 (i : Fin 2048) (k : Fin 1024) : (V m c main_arg0 : FVec Ideal S2048x1024 .f32) (ix2 i k) = (kargs m c).dr2 i k := by
  have e : (V m c main_arg0 : FVec Ideal S2048x1024 .f32) = A0 m c := by
    simp only [V, hostOps0]
    after_results_simp <;> rfl
  rw [e]; rfl

theorem entry_da (i : Fin 2048) (k : Fin 2816) : (V m c main_arg1 : FVec Ideal S2048x2816 .bf16) (ix2 i k) = (kargs m c).da i k := by
  have e : (V m c main_arg1 : FVec Ideal S2048x2816 .bf16) = A1 m c := by
    simp only [V, hostOps0]
    after_results_simp <;> rfl
  rw [e]; rfl

theorem entry_du (i : Fin 2048) (k : Fin 2816) : (V m c main_arg2 : FVec Ideal S2048x2816 .bf16) (ix2 i k) = (kargs m c).du i k := by
  have e : (V m c main_arg2 : FVec Ideal S2048x2816 .bf16) = A2 m c := by
    simp only [V, hostOps0]
    after_results_simp <;> rfl
  rw [e]; rfl

theorem entry_wg (i : Fin 2816) (k : Fin 1024) : (V m c main_v15 : FVec Ideal S2816x1024 .bf16) (ix2 i k) = (kargs m c).wg k i := by
  have e : (V m c main_v15 : FVec Ideal S2816x1024 .bf16) = truncf .bf16 (transpose S2816x1024 [1, 0] (A3 m c) transposes_S1024x2816_S2816x1024_1_0) bitsLt_bf16_f32 := by
    simp only [V, hostOps0]
    after_results_simp <;> rfl
  rw [e]
  pointwise
  rfl

theorem entry_wu (i : Fin 2816) (k : Fin 1024) : (V m c main_v17 : FVec Ideal S2816x1024 .bf16) (ix2 i k) = (kargs m c).wu k i := by
  have e : (V m c main_v17 : FVec Ideal S2816x1024 .bf16) = truncf .bf16 (transpose S2816x1024 [1, 0] (A4 m c) transposes_S1024x2816_S2816x1024_1_0) bitsLt_bf16_f32 := by
    simp only [V, hostOps0]
    after_results_simp <;> rfl
  rw [e]
  pointwise
  rfl

theorem entry_xhat (i : Fin 2048) (k : Fin 1024) : (V m c main_v19 : FVec Ideal S2048x1024 .f32) (ix2 i k) = xhat ((kargs m c).r i) k := by
  have e : (V m c main_v19 : FVec Ideal S2048x1024 .f32) = mulf (offT (A5 m c)) (rstdT (varT (offT (A5 m c)))) := by
    simp only [V, hostOps0]
    after_results_simp <;> rfl
  rw [e]
  pointwise
  rw [off_apply, rstdT_apply _ _ (var_apply m c)]
  rfl

theorem entry_rstd (i : Fin 2048) (k : Fin 128) : (V m c main_v20 : FVec Ideal S2048x128 .f32) (ix2 i k) = rstd ((kargs m c).r i) := by
  have e : (V m c main_v20 : FVec Ideal S2048x128 .f32) = broadcastInDim S2048x128 ![0, 1] bcast_S2048x1_S2048x128_0_1 (Host.rsqrt (varT (offT (A5 m c)))) := by
    simp only [V, hostOps0]
    after_results_simp <;> rfl
  rw [e]
  pointwise
  rw [var_apply]
  rfl

theorem entry_g (i : Fin 1) (k : Fin 1024) : (V m c main_v21 : FVec Ideal S1x1024 .f32) (ix2 i k) = (kargs m c).g k := by
  have e : (V m c main_v21 : FVec Ideal S1x1024 .f32) = broadcastInDim S1x1024 ![1] bcast_S1024_S1x1024_1 (A6 m c) := by
    simp only [V, hostOps0]
    after_results_simp <;> rfl
  rw [e]
  pointwise
  rfl

/-- The row that line `l` of point `t`'s blocks is. -/
def row (t : Fin cfg0.N) (l : Fin 256) : Fin 2048 :=
  ⟨t.val * 256 + l.val, by have := t.isLt; have : cfg0.N = 8 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![0, 0] := (by decide +kernel : ∀ t : Fin grid0.N, win0_7.index t = ![0, 0])
theorem index8 : ∀ t : Fin cfg0.N, win0_8.index t = ![t.val, 0] := (by decide +kernel : ∀ t : Fin grid0.N, win0_8.index t = ![t.val, 0])
theorem index9 : ∀ t : Fin cfg0.N, win0_9.index t = ![t.val, 0] := (by decide +kernel : ∀ t : Fin grid0.N, win0_9.index t = ![t.val, 0])

theorem emb0 (t : Fin cfg0.N) (i : Fin 256) (j : Fin 1024) : (win0_0.rect t).emb (ix2 i j) = ix2 (row t i) j :=
  eq_of_emb (a := 2048) (b := 1024) _ _ _ (I := ![t.val, 0]) (S := ![256, 1024]) (y := ![i.val, j.val])
    (fun k => by rw [win0_0.rect_emb_val, index0]; match k with | ⟨0, _⟩ => rfl | ⟨1, _⟩ => rfl) rfl (by simp)
theorem emb1 (t : Fin cfg0.N) (i : Fin 256) (j : Fin 2816) : (win0_1.rect t).emb (ix2 i j) = ix2 (row t i) j :=
  eq_of_emb (a := 2048) (b := 2816) _ _ _ (I := ![t.val, 0]) (S := ![256, 2816]) (y := ![i.val, j.val])
    (fun k => by rw [win0_1.rect_emb_val, index1]; match k with | ⟨0, _⟩ => rfl | ⟨1, _⟩ => rfl) rfl (by simp)
theorem emb2 (t : Fin cfg0.N) (i : Fin 256) (j : Fin 2816) : (win0_2.rect t).emb (ix2 i j) = ix2 (row t i) j :=
  eq_of_emb (a := 2048) (b := 2816) _ _ _ (I := ![t.val, 0]) (S := ![256, 2816]) (y := ![i.val, j.val])
    (fun k => by rw [win0_2.rect_emb_val, index2]; match k with | ⟨0, _⟩ => rfl | ⟨1, _⟩ => rfl) rfl (by simp)
theorem emb3 (t : Fin cfg0.N) (i : Fin 2816) (j : Fin 1024) : (win0_3.rect t).emb (ix2 i j) = ix2 i j :=
  eq_of_emb (a := 2816) (b := 1024) _ _ _ (I := ![0, 0]) (S := ![2816, 1024]) (y := ![i.val, j.val])
    (fun k => by rw [win0_3.rect_emb_val, index3]; match k with | ⟨0, _⟩ => rfl | ⟨1, _⟩ => rfl) (by simp) (by simp)
theorem emb4 (t : Fin cfg0.N) (i : Fin 2816) (j : Fin 1024) : (win0_4.rect t).emb (ix2 i j) = ix2 i j :=
  eq_of_emb (a := 2816) (b := 1024) _ _ _ (I := ![0, 0]) (S := ![2816, 1024]) (y := ![i.val, j.val])
    (fun k => by rw [win0_4.rect_emb_val, index4]; match k with | ⟨0, _⟩ => rfl | ⟨1, _⟩ => rfl) (by simp) (by simp)
theorem emb5 (t : Fin cfg0.N) (i : Fin 256) (j : Fin 1024) : (win0_5.rect t).emb (ix2 i j) = ix2 (row t i) j :=
  eq_of_emb (a := 2048) (b := 1024) _ _ _ (I := ![t.val, 0]) (S := ![256, 1024]) (y := ![i.val, j.val])
    (fun k => by rw [win0_5.rect_emb_val, index5]; match k with | ⟨0, _⟩ => rfl | ⟨1, _⟩ => rfl) rfl (by simp)
theorem emb6 (t : Fin cfg0.N) (i : Fin 256) (j : Fin 128) : (win0_6.rect t).emb (ix2 i j) = ix2 (row t i) j :=
  eq_of_emb (a := 2048) (b := 128) _ _ _ (I := ![t.val, 0]) (S := ![256, 128]) (y := ![i.val, j.val])
    (fun k => by rw [win0_6.rect_emb_val, index6]; match k with | ⟨0, _⟩ => rfl | ⟨1, _⟩ => rfl) rfl (by simp)
theorem emb7 (t : Fin cfg0.N) (i : Fin 1) (j : Fin 1024) : (win0_7.rect t).emb (ix2 i j) = ix2 i j :=
  eq_of_emb (a := 1) (b := 1024) _ _ _ (I := ![0, 0]) (S := ![1, 1024]) (y := ![i.val, j.val])
    (fun k => by rw [win0_7.rect_emb_val, index7]; match k with | ⟨0, _⟩ => rfl | ⟨1, _⟩ => rfl) (by simp) (by simp)
theorem emb8 (t : Fin cfg0.N) (i : Fin 256) (j : Fin 1024) : (win0_8.rect t).emb (ix2 i j) = ix2 (row t i) j :=
  eq_of_emb (a := 2048) (b := 1024) _ _ _ (I := ![t.val, 0]) (S := ![256, 1024]) (y := ![i.val, j.val])
    (fun k => by rw [win0_8.rect_emb_val, index8]; match k with | ⟨0, _⟩ => rfl | ⟨1, _⟩ => rfl) rfl (by simp)
theorem emb9 (t : Fin cfg0.N) (i : Fin 256) (j : Fin 1024) : (win0_9.rect t).emb (ix2 i j) = ix2 (row t i) j :=
  eq_of_emb (a := 2048) (b := 1024) _ _ _ (I := ![t.val, 0]) (S := ![256, 1024]) (y := ![i.val, j.val])
    (fun k => by rw [win0_9.rect_emb_val, index9]; match k with | ⟨0, _⟩ => rfl | ⟨1, _⟩ => rfl) rfl (by simp)

/- So every point reads its own rows of the arguments' arrays. -/

theorem at_dr2 (t : Fin cfg0.N) (i : Fin 256) (j : Fin 1024) : iblk m c 0 t (ix2 i j) = (kargs m c).dr2 (row t i) j :=
  (congrArg (V m c main_arg0) (emb0 t i j)).trans (entry_dr2 m c (row t i) j)
theorem at_da (t : Fin cfg0.N) (i : Fin 256) (j : Fin 2816) : iblk m c 1 t (ix2 i j) = (kargs m c).da (row t i) j :=
  (congrArg (V m c main_arg1) (emb1 t i j)).trans (entry_da m c (row t i) j)
theorem at_du (t : Fin cfg0.N) (i : Fin 256) (j : Fin 2816) : iblk m c 2 t (ix2 i j) = (kargs m c).du (row t i) j :=
  (congrArg (V m c main_arg2) (emb2 t i j)).trans (entry_du m c (row t i) j)
theorem at_wg (t : Fin cfg0.N) (i : Fin 2816) (j : Fin 1024) : iblk m c 3 t (ix2 i j) = (kargs m c).wg j i :=
  (congrArg (V m c main_v15) (emb3 t i j)).trans (entry_wg m c i j)
theorem at_wu (t : Fin cfg0.N) (i : Fin 2816) (j : Fin 1024) : iblk m c 4 t (ix2 i j) = (kargs m c).wu j i :=
  (congrArg (V m c main_v17) (emb4 t i j)).trans (entry_wu m c i j)
theorem at_xhat (t : Fin cfg0.N) (i : Fin 256) (j : Fin 1024) : iblk m c 5 t (ix2 i j) = xhat ((kargs m c).r (row t i)) j :=
  (congrArg (V m c main_v19) (emb5 t i j)).trans (entry_xhat m c (row t i) j)
theorem at_rstd (t : Fin cfg0.N) (i : Fin 256) (j : Fin 128) : iblk m c 6 t (ix2 i j) = rstd ((kargs m c).r (row t i)) :=
  (congrArg (V m c main_v20) (emb6 t i j)).trans (entry_rstd m c (row t i) j)
theorem at_g (t : Fin cfg0.N) (i : Fin 1) (j : Fin 1024) : iblk m c 7 t (ix2 i j) = (kargs m c).g j :=
  (congrArg (V m c main_v21) (emb7 t i j)).trans (entry_g m c i j)
theorem atPoint (t : Fin cfg0.N) : AtPoint m c t (kargs m c) (row t) :=
  ⟨at_dr2 m c t, at_da m c t, at_du m c t, at_wg m c t, at_wu m c t, at_xhat m c t, at_rstd m c t, at_g m c t⟩

theorem row_surj (j : Fin 2048) : ∃ t l, row t l = j :=
  ⟨⟨j.val / 256, by have : cfg0.N = 8 := N_0; omega⟩, ⟨j.val % 256, by omega⟩,
    Fin.ext (by show j.val / 256 * 256 + j.val % 256 = j.val; omega)⟩

theorem final_dr (i : Fin 2048) (k : Fin 1024) :
    ((dats m 0 c).arrAt 8 cfg0.N : FVec Ideal S2048x1024 .f32) (ix2 i k) = (kargs m c).dr i k := by
  obtain ⟨t, l, rfl⟩ := row_surj i
  have e : ((cfg0.win 8).blk t).view.emb (ix2 l k) = _ := emb8 t l k
  have h := (dats m 0 c).arrAt_emb_eq_flushed 8 Value.disjoint8 t (flush0_8 t) (ix2 l k)
  rw [e, Value.flushed8] at h
  exact h.trans (dr_block m c t (atPoint m c t) l k)

theorem final_drb (i : Fin 2048) (k : Fin 1024) :
    ((dats m 0 c).arrAt 9 cfg0.N : FVec Ideal S2048x1024 .bf16) (ix2 i k) = (kargs m c).dr i k := by
  obtain ⟨t, l, rfl⟩ := row_surj i
  have e : ((cfg0.win 9).blk t).view.emb (ix2 l k) = _ := emb9 t l k
  have h := (dats m 0 c).arrAt_emb_eq_flushed 9 Value.disjoint9 t (flush0_9 t) (ix2 l k)
  rw [e, Value.flushed9] at h
  exact h.trans (drb_block m c t (atPoint m c t) l k)

abbrev last : Fin cfg0.N := ⟨7, (by decide +kernel : 7 < grid0.N)⟩

theorem last_eq : last.val + 1 = cfg0.N := (N_0 : cfg0.N = 8).symm

/-- The points' rows are all the rows. -/
theorem sum_rows (f : Fin 2048 → EReal) : ∑ t : Fin cfg0.N, ∑ l, f (row t l) = ∑ i, f i :=
  Fin.sum_mul_add_fin (S := cfg0.N) 256 f (by have : cfg0.N = 8 := N_0; omega)

theorem final_dg (i : Fin 1) (k : Fin 1024) :
    ((dats m 0 c).arrAt 10 cfg0.N : FVec Ideal S1x1024 .f32) (ix2 i k) = (kargs m c).dg k := by
  refine ((dats m 0 c).arrAt_emb_eq_after_last 10 last (by decide +kernel) (ix2 i k)).trans ?_
  rw [after0_10]
  refine (dg_block m c row (atPoint m c) last last_eq i k).trans ?_
  exact sum_rows fun i => (kargs m c).dh i k * xhat ((kargs m c).r i) k

theorem final_db (i : Fin 1) (k : Fin 1024) :
    ((dats m 0 c).arrAt 11 cfg0.N : FVec Ideal S1x1024 .f32) (ix2 i k) = (kargs m c).db k := by
  refine ((dats m 0 c).arrAt_emb_eq_after_last 11 last (by decide +kernel) (ix2 i k)).trans ?_
  rw [after0_11]
  refine (db_block m c row (atPoint m c) last last_eq i k).trans ?_
  exact sum_rows fun i => (kargs m c).dh i k

end kernel

namespace Ref
open Cert.Reference5Ideal Cert.Reference5Ideal.Gen Cert.Reference5Ideal.Value

variable (m : (ℓ : Loc nD τ sig) → Buf (Elt Ideal) ℓ) (c : Dev nD)

/-- The reference's arguments on device `c`, as arrays. -/
abbrev A0 : FVec Ideal S2048x1024 .f32 := m ((c.tc : Thread nD τ).loc main_arg0)
abbrev A1 : FVec Ideal S2048x2816 .bf16 := m ((c.tc : Thread nD τ).loc main_arg1)
abbrev A2 : FVec Ideal S2048x2816 .bf16 := m ((c.tc : Thread nD τ).loc main_arg2)
abbrev A3 : FVec Ideal S1024x2816 .f32 := m ((c.tc : Thread nD τ).loc main_arg3)
abbrev A4 : FVec Ideal S1024x2816 .f32 := m ((c.tc : Thread nD τ).loc main_arg4)
abbrev A5 : FVec Ideal S2048x1024 .f32 := m ((c.tc : Thread nD τ).loc main_arg5)
abbrev A6 : FVec Ideal S1024 .f32 := m ((c.tc : Thread nD τ).loc main_arg6)

def args : Ln1Args where
  dr2 i k := A0 m c (ix2 i k)
  da i j := A1 m c (ix2 i j)
  du i j := A2 m c (ix2 i j)
  wg k j := A3 m c (ix2 k j)
  wu k j := A4 m c (ix2 k j)
  r i k := A5 m c (ix2 i k)
  g k := A6 m c (ix1 k)

/-- The gradient of the norm's value; the row less its mean; its variance; the gradient of the normalized row: arrays. -/
def dhM : FVec Ideal S2048x1024 .f32 :=
  addf (addf (Host.dotGeneral (φ₁ := .f32) (φ₂ := .f32) dot_S2048x2816_S1024x2816_S2048x1024_1_1_0_0_n_n none (extf .f32 (A2 m c) bitsLt_bf16_f32) (A4 m c))
    (Host.dotGeneral (φ₁ := .f32) (φ₂ := .f32) dot_S2048x2816_S1024x2816_S2048x1024_1_1_0_0_n_n none (extf .f32 (A1 m c) bitsLt_bf16_f32) (A3 m c)))
    (mulf (broadcastInDim S2048x1024 ![] bcast_S_S2048x1024 (constant S_ .f32 0x3F9837F0#32)) (A0 m c))
def oM : FVec Ideal S2048x1024 .f32 := offT (A5 m c)
def vM : FVec Ideal S2048x1 .f32 := varT (oM m c)
def eM : FVec Ideal S2048x1024 .f32 := mulf (dhM m c) (lineT (A6 m c))

theorem dhM_apply (i : Fin 2048) (k : Fin 1024) : dhM m c (ix2 i k) = (args m c).dh i k := by
  pointwise [dhM]
  rw [add_comm (∑ j : Fin 2816, _), add_comm, ← add_assoc]
  rfl
theorem oM_apply (i : Fin 2048) (k : Fin 1024) : oM m c (ix2 i k) = off ((args m c).r i) k := offT_apply _ _ (fun _ _ => rfl) i k
theorem vM_apply (i : Fin 2048) (k : Fin 1) : vM m c (ix2 i k) = var ((args m c).r i) + eps := varT_apply _ _ (oM_apply m c) i k
theorem eM_apply (i : Fin 2048) (k : Fin 1024) : eM m c (ix2 i k) = (args m c).dh i k * (args m c).g k := by
  pointwise [eM]
  rw [dhM_apply, lineT_apply]
  rfl

theorem out0 : res_main_v75 m c = drT (oM m c) (eM m c) (vM m c) := rfl
theorem out1 : res_main_v76 m c = truncf .bf16 (drT (oM m c) (eM m c) (vM m c)) bitsLt_bf16_f32 := rfl

/-- What the reference's results hold. -/
theorem run_args (ρ : Dev nD → PrngReg) (hp : ∀ c, (args m c).Finite) :
    θ_run defs (onTc (τ := τ) (main (F := Ideal))) ⟨m, fun _ => 0, ρ⟩ fun r => ∀ c : Dev nD,
      (∀ i k, (r.2.mem ((c.tc : Thread nD τ).loc main_v75) : FVec Ideal S2048x1024 .f32) (ix2 i k) = (args m c).dr i k)
      ∧ (∀ i k, (r.2.mem ((c.tc : Thread nD τ).loc main_v76) : FVec Ideal S2048x1024 .bf16) (ix2 i k) = (args m c).dr i k)
      ∧ (∀ i k, (r.2.mem ((c.tc : Thread nD τ).loc main_v77) : FVec Ideal S1x1024 .f32) (ix2 i k) = (args m c).dg k)
      ∧ (∀ i k, (r.2.mem ((c.tc : Thread nD τ).loc main_v78) : FVec Ideal S1x1024 .f32) (ix2 i k) = (args m c).db k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run m ρ)
  obtain ⟨h0, h1, h2, h3, hk⟩ := h c
  have hdr : ∀ i k, drT (oM m c) (eM m c) (vM m c) (ix2 i k) = (args m c).dr i k := fun i k =>
    drT_apply _ _ _ _ _ (oM_apply m c) (eM_apply m c) (vM_apply m c) (hp c).r (hp c).e i k
  have h2 : _ = colSum (mulf (mulf (oM m c) (rstdT (vM m c))) (dhM m c)) := h2
  have h3 : _ = colSum (dhM m c) := h3
  refine ⟨fun i k => (congrFun (h0.trans (out0 m c)) _).trans (hdr i k), fun i k => (congrFun (h1.trans (out1 m c)) _).trans (hdr i k),
    fun i k => (congrFun h2 _).trans ((colSum_apply _ i k).trans (Finset.sum_congr rfl fun j _ => ?_)),
    fun i k => (congrFun h3 _).trans ((colSum_apply _ i k).trans (Finset.sum_congr rfl fun j _ => dhM_apply m c j k)), hk⟩
  pointwise
  rw [oM_apply, rstdT_apply _ _ (vM_apply m c), dhM_apply, mul_comm]
  rfl

end Ref

theorem pre_facts : Cert.Pre_finite5.Facts where
  bcast_S_S2048x1024 := by decide
  reducesTo_S2048x1024_S_d0_1 := by decide
  h_S_ := by decide
  bcast_S_S2048x2816 := by decide
  reducesTo_S2048x2816_S_d0_1 := by decide
  bcast_S_S1024x2816 := by decide
  reducesTo_S1024x2816_S_d0_1 := by decide
  bcast_S_S1024 := by decide
  reducesTo_S1024_S_d0 := by decide

open Cert.Pre_finite5 in
/-- What the precondition says of the seven arguments. -/
theorem real_of_pre [hF : Cert.Pre_finite5.Facts] (x0 : FVec Ideal S2048x1024 .f32) (x1 x2 : FVec Ideal S2048x2816 .bf16) (x3 x4 : FVec Ideal S1024x2816 .f32)
    (x5 : FVec Ideal S2048x1024 .f32) (x6 : FVec Ideal S1024 .f32) (h : Cert.Pre_finite5.fn (F := Ideal) x0 x1 x2 x3 x4 x5 x6 = fun _ => 1#1) :
    (∀ i, Real' (x0 i)) ∧ (∀ i, Real' (x1 i)) ∧ (∀ i, Real' (x2 i)) ∧ (∀ i, Real' (x3 i)) ∧ (∀ i, Real' (x4 i)) ∧ (∀ i, Real' (x5 i))
      ∧ ∀ i, Real' (x6 i) := by
  have j : S_.Idx := fun k => k.elim0
  have h := congrFun h j
  unfold Cert.Pre_finite5.fn fn_part1 at h
  dsimp only at h
  obtain ⟨⟨⟨⟨⟨⟨h0, h1⟩, h2⟩, h3⟩, h4⟩, h5⟩, h6⟩ : ((((((_ ∧ _) ∧ _) ∧ _) ∧ _) ∧ _) ∧ _) := by
    simpa only [andi, IntOp.andi_eq_one] using h
  exact ⟨real_of_all _ _ _ _ j h0, real_of_all_half _ _ _ _ j h1, real_of_all_half _ _ _ _ j h2, real_of_all _ _ _ _ j h3,
    real_of_all _ _ _ _ j h4, real_of_all _ _ _ _ j h5, real_of_all _ _ _ _ j h6⟩

theorem finite_kargs (m : (ℓ : Loc Cert.Kernel5Ideal.nD Cert.Kernel5Ideal.τ Cert.Kernel5Ideal.sig) → Buf (Elt Ideal) ℓ)
    (h : Pre_Kernel5Ideal_finite5 (hPre_finite5 := pre_facts) m) (c : Dev Cert.Kernel5Ideal.nD) : (kargs m c).Finite := by
  obtain ⟨h0, h1, h2, h3, h4, h5, h6⟩ := real_of_pre (hF := pre_facts) _ _ _ _ _ _ _ (h c)
  exact ⟨fun i k => h0 (ix2 i k), fun i j => h1 (ix2 i j), fun i j => h2 (ix2 i j), fun k j => h3 (ix2 k j), fun k j => h4 (ix2 k j),
    fun i k => h5 (ix2 i k), fun k => h6 (ix1 k)⟩

theorem frame_ref : quiescent_Reference5Ideal (hReference5Ideal := Cert.Reference5Ideal.Gen.facts) := fun m ρ _ =>
  (θ_run (Cert.Reference5Ideal.defs (F := Ideal)) _ _).mono
    (fun r h => And.intro (fun c => (h c).2.2.2.2) (sem_eq_zero_of_no_sems rfl r.2)) (Cert.Reference5Ideal.Value.run m ρ)

theorem algebraic : algebraic_Kernel5Ideal_Reference5Ideal_pre_finite5 (hKernel5Ideal := Cert.Kernel5Ideal.Gen.facts)
    (hReference5Ideal := Cert.Reference5Ideal.Gen.facts) (hPre_finite5 := pre_facts) := by
  intro m g m' g' hpre hargs
  have hp := finite_kargs m hpre
  have e : ∀ c, Ref.args m' c = kargs m c := by
    intro c
    obtain ⟨h0, h1, h2, h3, h4, h5, h6⟩ := hargs c
    unfold Ref.args kargs Ref.A0 Ref.A1 Ref.A2 Ref.A3 Ref.A4 Ref.A5 Ref.A6 A0 A1 A2 A3 A4 A5 A6
    rw [h0, h1, h2, h3, h4, h5, h6]
  have hp' : ∀ c, (Ref.args m' c).Finite := fun c => by rw [e c]; exact hp c
  refine ⟨_, _, _, _, Cert.Kernel5Ideal.Value.run_blocks m g, ?_⟩
  refine (θ_run (Cert.Reference5Ideal.defs (F := Ideal)) _ _).mono (fun r h c => ?_) (Ref.run_args m' g' hp')
  obtain ⟨h0, h1, h2, h3, hk⟩ := h c
  rw [e c] at h0 h1 h2 h3
  refine ⟨?_, ?_, ?_, ?_, hk⟩
  · exact same _ _ (kargs m c).dr h0 (final_dr m c)
  · exact same _ _ (kargs m c).dr h1 (final_drb m c)
  · exact same _ _ (fun _ => (kargs m c).dg) h2 (final_dg m c)
  · exact same _ _ (fun _ => (kargs m c).db) h3 (final_db m c)

end Cert.Proof.Ln1

end
-- ==== Proof.MixProof.lean ====
/- THE BACKWARD PASS THROUGH THE MERGE OF THE TWO BRANCHES: what its result arrays hold, what its reference computes, and their claim. -/
module

public import proofs.«01_k».proof.Defs
public import proofs.«01_k».proof.Proof.MixBlock
public import proofs.«01_k».proof.Proof.Same
public import proofs.«01_k».proof.Proof.Gen.Reference6Ideal.Run
public import Idealize.ShloMosaic.Lib.Pipeline.ValueKit.Geometry
public import Idealize.ShloMosaic.Lib.Quiescent

@[expose] public section

noncomputable section

namespace Cert.Proof.Mix

open Idealize.ShloMosaic Idealize.ShloMosaic.TcCoe Idealize.ShloMosaic.StableHlo Idealize.SL.Sem
open MixArgs (lo hi at')

section forward
open Cert.Reference6Ideal Cert.Reference6Ideal.Gen

/- What the forward pass saved, as arrays: the gates, the mixed groups, and the two branches' outputs. -/

def gT (z : FVec Ideal S2048x2048 .f32) (b : FVec Ideal S2048 .f32) : FVec Ideal S2048x2048 .f32 :=
  Host.divf (broadcastInDim S2048x2048 ![] bcast_S_S2048x2048 (constant S_ .f32 0x3F800000#32)) (addf (broadcastInDim S2048x2048 ![] bcast_S_S2048x2048 (constant S_ .f32 0x3F800000#32))
    (Host.exp (Host.negf (addf z (broadcastInDim S2048x2048 ![0, 1] bcast_S1x2048_S2048x2048_0_1 (broadcastInDim S1x2048 ![1] bcast_S2048_S1x2048_1 b))))))
def mixT (x : FVec Ideal S2048x512 .f32) (w : FVec Ideal S4x128x128 .f32) : FVec Ideal S2048x512 .f32 :=
  shapeCast _ (transpose S2048x4x128 [2, 0, 1] (Host.dotGeneral (φ₁ := .f32) (φ₂ := .f32) dot_S4x128x128_S2048x4x128_S4x128x2048_1_2_2_0_0_1 none w
    (shapeCast _ x shapeCasts_S2048x512_S2048x4x128)) transposes_S4x128x2048_S2048x4x128_2_0_1) shapeCasts_S2048x4x128_S2048x512
def scaleT (ps : FVec Ideal S512 .f32) : FVec Ideal S2048x512 .f32 :=
  broadcastInDim S2048x512 ![0, 1] bcast_S1x512_S2048x512_0_1 (broadcastInDim S1x512 ![1] bcast_S512_S1x512_1 ps)
def branchT (x : FVec Ideal S2048x512 .f32) (w : FVec Ideal S512x1024 .f32) : FVec Ideal S2048x1024 .f32 :=
  Host.dotGeneral (φ₁ := .f32) (φ₂ := .f32) dot_S2048x512_S512x1024_S2048x1024_1_0_0_1_n_n none x w

/-- The call's arrays, of the program's arguments. -/
def ofArrays (a0 : FVec Ideal S2048x1024 .f32) (a1 a2 : FVec Ideal S2048x512 .f32) (a3 : FVec Ideal S2048x2048 .f32) (a4 : FVec Ideal S2048 .f32)
    (a5 : FVec Ideal S512x1024 .f32) (a6 : FVec Ideal S4x128x128 .f32) (a7 : FVec Ideal S512 .f32) (a8 : FVec Ideal S512x1024 .f32)
    (a9 : FVec Ideal S1024x1024 .f32) : MixArgs where
  dr i k := a0 (ix2 i k)
  ya i k := branchT a1 a5 (ix2 i k)
  yp i k := branchT (mulf (mixT a2 a6) (scaleT a7)) a8 (ix2 i k)
  g i j := gT a3 a4 (ix2 i j)
  mixed i j := mixT a2 a6 (ix2 i j)
  wout k i := a9 (ix2 k i)
  wba j k := a5 (ix2 j k)
  wbp j k := a8 (ix2 j k)
  wp q c d := a6 (ix3 q c d)
  ps j := a7 (ix1 j)

end forward

section kernel
open Cert.Kernel6Ideal Cert.Kernel6Ideal.Gen

variable (m : (ℓ : Loc nD τ sig) → Buf (Elt Ideal) ℓ) (c : Dev nD)

/-- The program's arguments on device `c`, as arrays. -/
abbrev A0 : FVec Ideal S2048x1024 .f32 := m ((c : Thread nD τ).loc main_arg0)
abbrev A1 : FVec Ideal S2048x512 .f32 := m ((c : Thread nD τ).loc main_arg1)
abbrev A2 : FVec Ideal S2048x512 .f32 := m ((c : Thread nD τ).loc main_arg2)
abbrev A3 : FVec Ideal S2048x2048 .f32 := m ((c : Thread nD τ).loc main_arg3)
abbrev A4 : FVec Ideal S2048 .f32 := m ((c : Thread nD τ).loc main_arg4)
abbrev A5 : FVec Ideal S512x1024 .f32 := m ((c : Thread nD τ).loc main_arg5)
abbrev A6 : FVec Ideal S4x128x128 .f32 := m ((c : Thread nD τ).loc main_arg6)
abbrev A7 : FVec Ideal S512 .f32 := m ((c : Thread nD τ).loc main_arg7)
abbrev A8 : FVec Ideal S512x1024 .f32 := m ((c : Thread nD τ).loc main_arg8)
abbrev A9 : FVec Ideal S1024x1024 .f32 := m ((c : Thread nD τ).loc main_arg9)

/-- The call's arrays. -/
def kargs : MixArgs := ofArrays (A0 m c) (A1 m c) (A2 m c) (A3 m c) (A4 m c) (A5 m c) (A6 m c) (A7 m c) (A8 m c) (A9 m c)

theorem entry_dr (i : Fin 2048) (k : Fin 1024) : (V m c main_v4 : FVec Ideal S2048x1024 .bf16) (ix2 i k) = (kargs m c).dr i k := by
  have e : (V m c main_v4 : FVec Ideal S2048x1024 .bf16) = truncf .bf16 (A0 m c) bitsLt_bf16_f32 := by
    simp only [V, hostOps0]
    after_results_simp <;> rfl
  rw [e]
  rfl

theorem entry_ya (i : Fin 2048) (k : Fin 1024) : (V m c main_v6 : FVec Ideal S2048x1024 .bf16) (ix2 i k) = (kargs m c).ya i k := by
  have e : (V m c main_v6 : FVec Ideal S2048x1024 .bf16) = truncf .bf16 (branchT (A1 m c) (A5 m c)) bitsLt_bf16_f32 := by
    simp only [V, hostOps0]
    after_results_simp <;> rfl
  rw [e]
  rfl

theorem entry_yp (i : Fin 2048) (k : Fin 1024) : (V m c main_v11 : FVec Ideal S2048x1024 .bf16) (ix2 i k) = (kargs m c).yp i k := by
  have e : (V m c main_v11 : FVec Ideal S2048x1024 .bf16) = truncf .bf16 (branchT (mulf (mixT (A2 m c) (A6 m c)) (scaleT (A7 m c))) (A8 m c)) bitsLt_bf16_f32 := by
    simp only [V, hostOps0]
    after_results_simp <;> rfl
  rw [e]
  rfl

theorem entry_g (i : Fin 2048) (k : Fin 2048) : (V m c main_v20 : FVec Ideal S2048x2048 .f32) (ix2 i k) = (kargs m c).g i k := by
  have e : (V m c main_v20 : FVec Ideal S2048x2048 .f32) = gT (A3 m c) (A4 m c) := by
    simp only [V, hostOps0]
    after_results_simp <;> rfl
  rw [e]
  rfl

theorem entry_mixed (i : Fin 2048) (k : Fin 512) : (V m c main_v3 : FVec Ideal S2048x512 .f32) (ix2 i k) = (kargs m c).mixed i k := by
  have e : (V m c main_v3 : FVec Ideal S2048x512 .f32) = mixT (A2 m c) (A6 m c) := by
    simp only [V, hostOps0]
    after_results_simp <;> rfl
  rw [e]
  rfl

theorem entry_wout (i : Fin 1024) (k : Fin 1024) : (V m c main_v21 : FVec Ideal S1024x1024 .bf16) (ix2 i k) = (kargs m c).wout i k := by
  have e : (V m c main_v21 : FVec Ideal S1024x1024 .bf16) = truncf .bf16 (A9 m c) bitsLt_bf16_f32 := by
    simp only [V, hostOps0]
    after_results_simp <;> rfl
  rw [e]
  rfl

theorem entry_wba (i : Fin 512) (k : Fin 1024) : (V m c main_v22 : FVec Ideal S512x1024 .bf16) (ix2 i k) = (kargs m c).wba i k := by
  have e : (V m c main_v22 : FVec Ideal S512x1024 .bf16) = truncf .bf16 (A5 m c) bitsLt_bf16_f32 := by
    simp only [V, hostOps0]
    after_results_simp <;> rfl
  rw [e]
  rfl

theorem entry_wbp (i : Fin 512) (k : Fin 1024) : (V m c main_v23 : FVec Ideal S512x1024 .bf16) (ix2 i k) = (kargs m c).wbp i k := by
  have e : (V m c main_v23 : FVec Ideal S512x1024 .bf16) = truncf .bf16 (A8 m c) bitsLt_bf16_f32 := by
    simp only [V, hostOps0]
    after_results_simp <;> rfl
  rw [e]
  rfl

theorem entry_ps (i : Fin 1) (k : Fin 512) : (V m c main_v24 : FVec Ideal S1x512 .f32) (ix2 i k) = (kargs m c).ps k := by
  have e : (V m c main_v24 : FVec Ideal S1x512 .f32) = broadcastInDim S1x512 ![1] bcast_S512_S1x512_1 (A7 m c) := by
    simp only [V, hostOps0]
    after_results_simp <;> rfl
  rw [e]
  pointwise
  rfl
theorem entry_wp (q : Fin 4) (i d : Fin 128) : (V m c main_arg6 : FVec Ideal S4x128x128 .f32) (ix3 q i d) = (kargs m c).wp q i d := by
  have e : (V m c main_arg6 : FVec Ideal S4x128x128 .f32) = A6 m c := by
    simp only [V, hostOps0]
    after_results_simp <;> rfl
  rw [e]; rfl

/-- The row that line `l` of point `t`'s blocks is. -/
def row (t : Fin cfg0.N) (l : Fin 256) : Fin 2048 :=
  ⟨t.val * 256 + l.val, by have := t.isLt; have : cfg0.N = 8 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0, 0] := (by decide +kernel : ∀ t : Fin grid0.N, win0_8.index t = ![0, 0, 0])
theorem index9 : ∀ t : Fin cfg0.N, win0_9.index t = ![0, 0] := (by decide +kernel : ∀ t : Fin grid0.N, win0_9.index t = ![0, 0])
theorem index10 : ∀ t : Fin cfg0.N, win0_10.index t = ![t.val, 0] := (by decide +kernel : ∀ t : Fin grid0.N, win0_10.index t = ![t.val, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])
theorem index13 : ∀ t : Fin cfg0.N, win0_13.index t = ![t.val, 0] := (by decide +kernel : ∀ t : Fin grid0.N, win0_13.index t = ![t.val, 0])
theorem index14 : ∀ t : Fin cfg0.N, win0_14.index t = ![t.val, 0] := (by decide +kernel : ∀ t : Fin grid0.N, win0_14.index t = ![t.val, 0])
theorem index15 : ∀ t : Fin cfg0.N, win0_15.index t = ![t.val, 0] := (by decide +kernel : ∀ t : Fin grid0.N, win0_15.index t = ![t.val, 0])

theorem emb0 (t : Fin cfg0.N) (i : Fin 256) (j : Fin 1024) : (win0_0.rect t).emb (ix2 i j) = ix2 (row t i) j :=
  eq_of_emb (a := 2048) (b := 1024) _ _ _ (I := ![t.val, 0]) (S := ![256, 1024]) (y := ![i.val, j.val])
    (fun k => by rw [win0_0.rect_emb_val, index0]; match k with | ⟨0, _⟩ => rfl | ⟨1, _⟩ => rfl) rfl (by simp)
theorem emb1 (t : Fin cfg0.N) (i : Fin 256) (j : Fin 1024) : (win0_1.rect t).emb (ix2 i j) = ix2 (row t i) j :=
  eq_of_emb (a := 2048) (b := 1024) _ _ _ (I := ![t.val, 0]) (S := ![256, 1024]) (y := ![i.val, j.val])
    (fun k => by rw [win0_1.rect_emb_val, index1]; match k with | ⟨0, _⟩ => rfl | ⟨1, _⟩ => rfl) rfl (by simp)
theorem emb2 (t : Fin cfg0.N) (i : Fin 256) (j : Fin 1024) : (win0_2.rect t).emb (ix2 i j) = ix2 (row t i) j :=
  eq_of_emb (a := 2048) (b := 1024) _ _ _ (I := ![t.val, 0]) (S := ![256, 1024]) (y := ![i.val, j.val])
    (fun k => by rw [win0_2.rect_emb_val, index2]; match k with | ⟨0, _⟩ => rfl | ⟨1, _⟩ => rfl) rfl (by simp)
theorem emb3 (t : Fin cfg0.N) (i : Fin 256) (j : Fin 2048) : (win0_3.rect t).emb (ix2 i j) = ix2 (row t i) j :=
  eq_of_emb (a := 2048) (b := 2048) _ _ _ (I := ![t.val, 0]) (S := ![256, 2048]) (y := ![i.val, j.val])
    (fun k => by rw [win0_3.rect_emb_val, index3]; match k with | ⟨0, _⟩ => rfl | ⟨1, _⟩ => rfl) rfl (by simp)
theorem emb4 (t : Fin cfg0.N) (i : Fin 256) (j : Fin 512) : (win0_4.rect t).emb (ix2 i j) = ix2 (row t i) j :=
  eq_of_emb (a := 2048) (b := 512) _ _ _ (I := ![t.val, 0]) (S := ![256, 512]) (y := ![i.val, j.val])
    (fun k => by rw [win0_4.rect_emb_val, index4]; match k with | ⟨0, _⟩ => rfl | ⟨1, _⟩ => rfl) rfl (by simp)
theorem emb5 (t : Fin cfg0.N) (i : Fin 1024) (j : Fin 1024) : (win0_5.rect t).emb (ix2 i j) = ix2 i j :=
  eq_of_emb (a := 1024) (b := 1024) _ _ _ (I := ![0, 0]) (S := ![1024, 1024]) (y := ![i.val, j.val])
    (fun k => by rw [win0_5.rect_emb_val, index5]; match k with | ⟨0, _⟩ => rfl | ⟨1, _⟩ => rfl) (by simp) (by simp)
theorem emb6 (t : Fin cfg0.N) (i : Fin 512) (j : Fin 1024) : (win0_6.rect t).emb (ix2 i j) = ix2 i j :=
  eq_of_emb (a := 512) (b := 1024) _ _ _ (I := ![0, 0]) (S := ![512, 1024]) (y := ![i.val, j.val])
    (fun k => by rw [win0_6.rect_emb_val, index6]; match k with | ⟨0, _⟩ => rfl | ⟨1, _⟩ => rfl) (by simp) (by simp)
theorem emb7 (t : Fin cfg0.N) (i : Fin 512) (j : Fin 1024) : (win0_7.rect t).emb (ix2 i j) = ix2 i j :=
  eq_of_emb (a := 512) (b := 1024) _ _ _ (I := ![0, 0]) (S := ![512, 1024]) (y := ![i.val, j.val])
    (fun k => by rw [win0_7.rect_emb_val, index7]; match k with | ⟨0, _⟩ => rfl | ⟨1, _⟩ => rfl) (by simp) (by simp)
theorem emb8 (t : Fin cfg0.N) (q : Fin 4) (i j : Fin 128) : (win0_8.rect t).emb (ix3 q i j) = ix3 q i j :=
  eq_of_emb3 (a := 4) (b := 128) (c := 128) _ _ _ _ (I := ![0, 0, 0]) (S := ![4, 128, 128]) (y := ![q.val, i.val, j.val])
    (fun k => by rw [win0_8.rect_emb_val, index8]; match k with | ⟨0, _⟩ => rfl | ⟨1, _⟩ => rfl | ⟨2, _⟩ => rfl) (by simp) (by simp) (by simp)
theorem emb9 (t : Fin cfg0.N) (i : Fin 1) (j : Fin 512) : (win0_9.rect t).emb (ix2 i j) = ix2 i j :=
  eq_of_emb (a := 1) (b := 512) _ _ _ (I := ![0, 0]) (S := ![1, 512]) (y := ![i.val, j.val])
    (fun k => by rw [win0_9.rect_emb_val, index9]; match k with | ⟨0, _⟩ => rfl | ⟨1, _⟩ => rfl) (by simp) (by simp)
theorem emb10 (t : Fin cfg0.N) (i : Fin 256) (j : Fin 2048) : (win0_10.rect t).emb (ix2 i j) = ix2 (row t i) j :=
  eq_of_emb (a := 2048) (b := 2048) _ _ _ (I := ![t.val, 0]) (S := ![256, 2048]) (y := ![i.val, j.val])
    (fun k => by rw [win0_10.rect_emb_val, index10]; match k with | ⟨0, _⟩ => rfl | ⟨1, _⟩ => rfl) rfl (by simp)
theorem emb11 (t : Fin cfg0.N) (i : Fin 256) (j : Fin 1024) : (win0_11.rect t).emb (ix2 i j) = ix2 (row t i) j :=
  eq_of_emb (a := 2048) (b := 1024) _ _ _ (I := ![t.val, 0]) (S := ![256, 1024]) (y := ![i.val, j.val])
    (fun k => by rw [win0_11.rect_emb_val, index11]; match k with | ⟨0, _⟩ => rfl | ⟨1, _⟩ => rfl) rfl (by simp)
theorem emb12 (t : Fin cfg0.N) (i : Fin 256) (j : Fin 1024) : (win0_12.rect t).emb (ix2 i j) = ix2 (row t i) j :=
  eq_of_emb (a := 2048) (b := 1024) _ _ _ (I := ![t.val, 0]) (S := ![256, 1024]) (y := ![i.val, j.val])
    (fun k => by rw [win0_12.rect_emb_val, index12]; match k with | ⟨0, _⟩ => rfl | ⟨1, _⟩ => rfl) rfl (by simp)
theorem emb13 (t : Fin cfg0.N) (i : Fin 256) (j : Fin 512) : (win0_13.rect t).emb (ix2 i j) = ix2 (row t i) j :=
  eq_of_emb (a := 2048) (b := 512) _ _ _ (I := ![t.val, 0]) (S := ![256, 512]) (y := ![i.val, j.val])
    (fun k => by rw [win0_13.rect_emb_val, index13]; match k with | ⟨0, _⟩ => rfl | ⟨1, _⟩ => rfl) rfl (by simp)
theorem emb14 (t : Fin cfg0.N) (i : Fin 256) (j : Fin 512) : (win0_14.rect t).emb (ix2 i j) = ix2 (row t i) j :=
  eq_of_emb (a := 2048) (b := 512) _ _ _ (I := ![t.val, 0]) (S := ![256, 512]) (y := ![i.val, j.val])
    (fun k => by rw [win0_14.rect_emb_val, index14]; match k with | ⟨0, _⟩ => rfl | ⟨1, _⟩ => rfl) rfl (by simp)
theorem emb15 (t : Fin cfg0.N) (i : Fin 256) (j : Fin 512) : (win0_15.rect t).emb (ix2 i j) = ix2 (row t i) j :=
  eq_of_emb (a := 2048) (b := 512) _ _ _ (I := ![t.val, 0]) (S := ![256, 512]) (y := ![i.val, j.val])
    (fun k => by rw [win0_15.rect_emb_val, index15]; match k with | ⟨0, _⟩ => rfl | ⟨1, _⟩ => rfl) rfl (by simp)

/- So every point reads its own rows of the arguments' arrays. -/

theorem at_dr (t : Fin cfg0.N) (i : Fin 256) (j : Fin 1024) : iblk m c 0 t (ix2 i j) = (kargs m c).dr (row t i) j :=
  (congrArg (V m c main_v4) (emb0 t i j)).trans (entry_dr m c (row t i) j)
theorem at_ya (t : Fin cfg0.N) (i : Fin 256) (j : Fin 1024) : iblk m c 1 t (ix2 i j) = (kargs m c).ya (row t i) j :=
  (congrArg (V m c main_v6) (emb1 t i j)).trans (entry_ya m c (row t i) j)
theorem at_yp (t : Fin cfg0.N) (i : Fin 256) (j : Fin 1024) : iblk m c 2 t (ix2 i j) = (kargs m c).yp (row t i) j :=
  (congrArg (V m c main_v11) (emb2 t i j)).trans (entry_yp m c (row t i) j)
theorem at_g (t : Fin cfg0.N) (i : Fin 256) (j : Fin 2048) : iblk m c 3 t (ix2 i j) = (kargs m c).g (row t i) j :=
  (congrArg (V m c main_v20) (emb3 t i j)).trans (entry_g m c (row t i) j)
theorem at_mixed (t : Fin cfg0.N) (i : Fin 256) (j : Fin 512) : iblk m c 4 t (ix2 i j) = (kargs m c).mixed (row t i) j :=
  (congrArg (V m c main_v3) (emb4 t i j)).trans (entry_mixed m c (row t i) j)
theorem at_wout (t : Fin cfg0.N) (i : Fin 1024) (j : Fin 1024) : iblk m c 5 t (ix2 i j) = (kargs m c).wout i j :=
  (congrArg (V m c main_v21) (emb5 t i j)).trans (entry_wout m c i j)
theorem at_wba (t : Fin cfg0.N) (i : Fin 512) (j : Fin 1024) : iblk m c 6 t (ix2 i j) = (kargs m c).wba i j :=
  (congrArg (V m c main_v22) (emb6 t i j)).trans (entry_wba m c i j)
theorem at_wbp (t : Fin cfg0.N) (i : Fin 512) (j : Fin 1024) : iblk m c 7 t (ix2 i j) = (kargs m c).wbp i j :=
  (congrArg (V m c main_v23) (emb7 t i j)).trans (entry_wbp m c i j)
theorem at_ps (t : Fin cfg0.N) (i : Fin 1) (j : Fin 512) : iblk m c 9 t (ix2 i j) = (kargs m c).ps j :=
  (congrArg (V m c main_v24) (emb9 t i j)).trans (entry_ps m c i j)
theorem at_wp (t : Fin cfg0.N) (q : Fin 4) (i j : Fin 128) : iblk m c 8 t (ix3 q i j) = (kargs m c).wp q i j :=
  (congrArg (V m c main_arg6) (emb8 t q i j)).trans (entry_wp m c q i j)
theorem atPoint (t : Fin cfg0.N) : AtPoint m c t (kargs m c) (row t) :=
  ⟨at_dr m c t, at_ya m c t, at_yp m c t, at_g m c t, at_mixed m c t, at_wout m c t, at_wba m c t, at_wbp m c t, at_wp m c t, at_ps m c t⟩

theorem row_surj (j : Fin 2048) : ∃ t l, row t l = j :=
  ⟨⟨j.val / 256, by have : cfg0.N = 8 := N_0; omega⟩, ⟨j.val % 256, by omega⟩,
    Fin.ext (by show j.val / 256 * 256 + j.val % 256 = j.val; omega)⟩

theorem final_dz (i : Fin 2048) (k : Fin 2048) :
    ((dats m 0 c).arrAt 10 cfg0.N : FVec Ideal S2048x2048 .bf16) (ix2 i k) = (kargs m c).dz i k := by
  obtain ⟨t, l, rfl⟩ := row_surj i
  have e : ((cfg0.win 10).blk t).view.emb (ix2 l k) = _ := emb10 t l k
  have h := (dats m 0 c).arrAt_emb_eq_flushed 10 Value.disjoint10 t (flush0_10 t) (ix2 l k)
  rw [e, Value.flushed10] at h
  exact h.trans (dz_block m c t (atPoint m c t) l k)

theorem final_dya (i : Fin 2048) (k : Fin 1024) :
    ((dats m 0 c).arrAt 11 cfg0.N : FVec Ideal S2048x1024 .bf16) (ix2 i k) = (kargs m c).dya i k := by
  obtain ⟨t, l, rfl⟩ := row_surj i
  have e : ((cfg0.win 11).blk t).view.emb (ix2 l k) = _ := emb11 t l k
  have h := (dats m 0 c).arrAt_emb_eq_flushed 11 Value.disjoint11 t (flush0_11 t) (ix2 l k)
  rw [e, Value.flushed11] at h
  exact h.trans (dya_block m c t (atPoint m c t) l k)

theorem final_dyp (i : Fin 2048) (k : Fin 1024) :
    ((dats m 0 c).arrAt 12 cfg0.N : FVec Ideal S2048x1024 .bf16) (ix2 i k) = (kargs m c).dyp i k := by
  obtain ⟨t, l, rfl⟩ := row_surj i
  have e : ((cfg0.win 12).blk t).view.emb (ix2 l k) = _ := emb12 t l k
  have h := (dats m 0 c).arrAt_emb_eq_flushed 12 Value.disjoint12 t (flush0_12 t) (ix2 l k)
  rw [e, Value.flushed12] at h
  exact h.trans (dyp_block m c t (atPoint m c t) l k)

theorem final_do' (i : Fin 2048) (k : Fin 512) :
    ((dats m 0 c).arrAt 13 cfg0.N : FVec Ideal S2048x512 .f32) (ix2 i k) = (kargs m c).do' i k := by
  obtain ⟨t, l, rfl⟩ := row_surj i
  have e : ((cfg0.win 13).blk t).view.emb (ix2 l k) = _ := emb13 t l k
  have h := (dats m 0 c).arrAt_emb_eq_flushed 13 Value.disjoint13 t (flush0_13 t) (ix2 l k)
  rw [e, Value.flushed13] at h
  exact h.trans (do'_block m c t (atPoint m c t) l k)

theorem final_dmixed (i : Fin 2048) (k : Fin 512) :
    ((dats m 0 c).arrAt 14 cfg0.N : FVec Ideal S2048x512 .bf16) (ix2 i k) = (kargs m c).dmixed i k := by
  obtain ⟨t, l, rfl⟩ := row_surj i
  have e : ((cfg0.win 14).blk t).view.emb (ix2 l k) = _ := emb14 t l k
  have h := (dats m 0 c).arrAt_emb_eq_flushed 14 Value.disjoint14 t (flush0_14 t) (ix2 l k)
  rw [e, Value.flushed14] at h
  exact h.trans (dmixed_block m c t (atPoint m c t) l k)

theorem final_dpooled (i : Fin 2048) (k : Fin 512) :
    ((dats m 0 c).arrAt 15 cfg0.N : FVec Ideal S2048x512 .f32) (ix2 i k) = (kargs m c).dpooled i k := by
  obtain ⟨t, l, rfl⟩ := row_surj i
  have e : ((cfg0.win 15).blk t).view.emb (ix2 l k) = _ := emb15 t l k
  have h := (dats m 0 c).arrAt_emb_eq_flushed 15 Value.disjoint15 t (flush0_15 t) (ix2 l k)
  rw [e, Value.flushed15] at h
  exact h.trans (dpooled_block m c t (atPoint m c t) l k)

abbrev last : Fin cfg0.N := ⟨7, (by decide +kernel : 7 < grid0.N)⟩

theorem last_eq : last.val + 1 = cfg0.N := (N_0 : cfg0.N = 8).symm

/-- The points' rows are all the rows. -/
theorem sum_rows (f : Fin 2048 → EReal) : ∑ t : Fin cfg0.N, ∑ l, f (row t l) = ∑ i, f i :=
  Fin.sum_mul_add_fin (S := cfg0.N) 256 f (by have : cfg0.N = 8 := N_0; omega)

theorem final_db (i : Fin 1) (k : Fin 2048) :
    ((dats m 0 c).arrAt 16 cfg0.N : FVec Ideal S1x2048 .f32) (ix2 i k) = (kargs m c).db k := by
  refine ((dats m 0 c).arrAt_emb_eq_after_last 16 last (by decide +kernel) (ix2 i k)).trans ?_
  rw [after0_16]
  refine (db_block m c row (atPoint m c) last last_eq i k).trans ?_
  exact sum_rows fun i => (kargs m c).dz i k

theorem final_dps (i : Fin 1) (k : Fin 512) :
    ((dats m 0 c).arrAt 17 cfg0.N : FVec Ideal S1x512 .f32) (ix2 i k) = (kargs m c).dps k := by
  refine ((dats m 0 c).arrAt_emb_eq_after_last 17 last (by decide +kernel) (ix2 i k)).trans ?_
  rw [after0_17]
  refine (dps_block m c row (atPoint m c) last last_eq i k).trans ?_
  exact sum_rows fun i => (kargs m c).dpre i k * (kargs m c).mixed i k

end kernel

namespace Ref
open Cert.Reference6Ideal Cert.Reference6Ideal.Gen Cert.Reference6Ideal.Value

variable (m : (ℓ : Loc nD τ sig) → Buf (Elt Ideal) ℓ) (c : Dev nD)

/-- The reference's arguments on device `c`, as arrays. -/
abbrev A0 : FVec Ideal S2048x1024 .f32 := m ((c.tc : Thread nD τ).loc main_arg0)
abbrev A1 : FVec Ideal S2048x512 .f32 := m ((c.tc : Thread nD τ).loc main_arg1)
abbrev A2 : FVec Ideal S2048x512 .f32 := m ((c.tc : Thread nD τ).loc main_arg2)
abbrev A3 : FVec Ideal S2048x2048 .f32 := m ((c.tc : Thread nD τ).loc main_arg3)
abbrev A4 : FVec Ideal S2048 .f32 := m ((c.tc : Thread nD τ).loc main_arg4)
abbrev A5 : FVec Ideal S512x1024 .f32 := m ((c.tc : Thread nD τ).loc main_arg5)
abbrev A6 : FVec Ideal S4x128x128 .f32 := m ((c.tc : Thread nD τ).loc main_arg6)
abbrev A7 : FVec Ideal S512 .f32 := m ((c.tc : Thread nD τ).loc main_arg7)
abbrev A8 : FVec Ideal S512x1024 .f32 := m ((c.tc : Thread nD τ).loc main_arg8)
abbrev A9 : FVec Ideal S1024x1024 .f32 := m ((c.tc : Thread nD τ).loc main_arg9)

/-- The call's arrays. -/
def args : MixArgs := ofArrays (A0 m c) (A1 m c) (A2 m c) (A3 m c) (A4 m c) (A5 m c) (A6 m c) (A7 m c) (A8 m c) (A9 m c)

/- The gradients as the reference spells them, as arrays: of the merged array, of the two branches, of the gates before the sigmoid, and of
   the pooled branch on its way back. -/

def dmM : FVec Ideal S2048x1024 .f32 := Host.dotGeneral (φ₁ := .f32) (φ₂ := .f32) dot_S2048x1024_S1024x1024_S2048x1024_1_1_0_0_n_n none (A0 m c) (A9 m c)
def dyaM : FVec Ideal S2048x1024 .f32 := mulf (extractStridedSlice S2048x1024 ![0, 0] (gT (A3 m c) (A4 m c)) slices_S2048x2048_S2048x1024_0_0) (dmM m c)
def dypM : FVec Ideal S2048x1024 .f32 := mulf (extractStridedSlice S2048x1024 ![0, 1024] (gT (A3 m c) (A4 m c)) slices_S2048x2048_S2048x1024_0_1024) (dmM m c)
def padHi (x : FVec Ideal S2048x1024 .f32) : FVec Ideal S2048x2048 .f32 :=
  pad S2048x2048 ![0, 1024] ![0, 0] ![0, 0] x (constant S_ .f32 0x00000000#32) pads_S2048x1024_S2048x2048_000_102400 h_S_
def padLo (x : FVec Ideal S2048x1024 .f32) : FVec Ideal S2048x2048 .f32 :=
  pad S2048x2048 ![0, 0] ![0, 1024] ![0, 0] x (constant S_ .f32 0x00000000#32) pads_S2048x1024_S2048x2048_000_010240 h_S_
def dzM : FVec Ideal S2048x2048 .f32 :=
  mulf (addf (padHi (mulf (dmM m c) (branchT (mulf (mixT (A2 m c) (A6 m c)) (scaleT (A7 m c))) (A8 m c)))) (padLo (mulf (dmM m c) (branchT (A1 m c) (A5 m c)))))
    (mulf (gT (A3 m c) (A4 m c)) (subf (broadcastInDim S2048x2048 ![] bcast_S_S2048x2048 (constant S_ .f32 0x3F800000#32)) (gT (A3 m c) (A4 m c))))
def doM : FVec Ideal S2048x512 .f32 := Host.dotGeneral (φ₁ := .f32) (φ₂ := .f32) dot_S2048x1024_S512x1024_S2048x512_1_1_0_0_n_n none (dyaM m c) (A5 m c)
def dpreM : FVec Ideal S2048x512 .f32 := Host.dotGeneral (φ₁ := .f32) (φ₂ := .f32) dot_S2048x1024_S512x1024_S2048x512_1_1_0_0_n_n none (dypM m c) (A8 m c)
def dmixedM : FVec Ideal S2048x512 .f32 := mulf (dpreM m c) (scaleT (A7 m c))
def poolT (x : FVec Ideal S2048x512 .f32) (w : FVec Ideal S4x128x128 .f32) : FVec Ideal S2048x512 .f32 :=
  shapeCast _ (transpose S2048x4x128 [1, 0, 2] (Host.dotGeneral (φ₁ := .f32) (φ₂ := .f32) dot_S4x128x2048_S4x128x128_S4x2048x128_1_2_2_1_0_0 none
    (transpose S4x128x2048 [1, 2, 0] (shapeCast _ x shapeCasts_S2048x512_S2048x4x128) transposes_S2048x4x128_S4x128x2048_1_2_0) w)
    transposes_S4x2048x128_S2048x4x128_1_0_2) shapeCasts_S2048x4x128_S2048x512
def sumB (x : FVec Ideal S2048x2048 .f32) : FVec Ideal S1x2048 .f32 :=
  broadcastInDim S1x2048 ![1] bcast_S2048_S1x2048_1 (Host.reduceAdd (shapeCast _ (Host.reduceAdd x (constant S_ .f32 0x00000000#32) reducesTo_S2048x2048_S2048_d0 h_S_)
    shapeCasts_S2048_S1x2048) (constant S_ .f32 0x00000000#32) reducesTo_S1x2048_S2048_d0 h_S_)
def sumS (x : FVec Ideal S2048x512 .f32) : FVec Ideal S1x512 .f32 :=
  broadcastInDim S1x512 ![1] bcast_S512_S1x512_1 (Host.reduceAdd (shapeCast _ (Host.reduceAdd x (constant S_ .f32 0x00000000#32) reducesTo_S2048x512_S512_d0 h_S_)
    shapeCasts_S512_S1x512) (constant S_ .f32 0x00000000#32) reducesTo_S1x512_S512_d0 h_S_)

theorem dmM_apply (i : Fin 2048) (k : Fin 1024) : dmM m c (ix2 i k) = (args m c).dm i k := by
  pointwise [dmM]
  rfl
theorem dyaM_apply (i : Fin 2048) (k : Fin 1024) : dyaM m c (ix2 i k) = (args m c).dya i k := by
  pointwise [dyaM]
  rw [dmM_apply, mul_comm]
  rfl
theorem dypM_apply (i : Fin 2048) (k : Fin 1024) : dypM m c (ix2 i k) = (args m c).dyp i k := by
  pointwise [dypM]
  rw [dmM_apply, mul_comm]
  rfl
theorem padHi_lo (x : FVec Ideal S2048x1024 .f32) (i : Fin 2048) (k : Fin 1024) : padHi x (ix2 i (lo k)) = 0 := by
  pointwise [padHi]
  exact dif_neg (fun h => absurd h.1 (Nat.not_le.mpr k.isLt))
theorem padHi_hi (x : FVec Ideal S2048x1024 .f32) (i : Fin 2048) (k : Fin 1024) : padHi x (ix2 i (hi k)) = x (ix2 i k) := by
  pointwise [padHi]
  refine (dif_pos ⟨Nat.le_add_right _ _, by show 1024 + k.val - 1024 < 1024; omega⟩).trans ?_
  exact congrArg (fun l : Fin 1024 => x (ix2 i l)) (Fin.ext (by show 1024 + k.val - 1024 = k.val; omega))
theorem padLo_lo (x : FVec Ideal S2048x1024 .f32) (i : Fin 2048) (k : Fin 1024) : padLo x (ix2 i (lo k)) = x (ix2 i k) := by
  pointwise [padLo]
  exact dif_pos k.isLt
theorem padLo_hi (x : FVec Ideal S2048x1024 .f32) (i : Fin 2048) (k : Fin 1024) : padLo x (ix2 i (hi k)) = 0 := by
  pointwise [padLo]
  exact dif_neg (by show ¬ 1024 + k.val < 1024; omega)
theorem dzM_apply (i : Fin 2048) (j : Fin 2048) : dzM m c (ix2 i j) = (args m c).dz i j := by
  obtain ⟨k, rfl | rfl⟩ := MixArgs.lo_or_hi j
  · rw [MixArgs.dz_lo]
    pointwise [dzM]
    rw [padHi_lo, padLo_lo, zero_add]
    pointwise
    rw [dmM_apply, ← mul_assoc]
    rfl
  · rw [MixArgs.dz_hi]
    pointwise [dzM]
    rw [padHi_hi, padLo_hi, add_zero]
    pointwise
    rw [dmM_apply, ← mul_assoc]
    rfl
theorem doM_apply (i : Fin 2048) (k : Fin 512) : doM m c (ix2 i k) = (args m c).do' i k := by
  pointwise [doM]
  simp only [dyaM_apply]
  rfl
theorem dpreM_apply (i : Fin 2048) (k : Fin 512) : dpreM m c (ix2 i k) = (args m c).dpre i k := by
  pointwise [dpreM]
  simp only [dypM_apply]
  rfl
theorem dmixedM_apply (i : Fin 2048) (k : Fin 512) : dmixedM m c (ix2 i k) = (args m c).dmixed i k := by
  pointwise [dmixedM, scaleT]
  rw [dpreM_apply]
  rfl
theorem poolM_apply (i : Fin 2048) (j : Fin 512) : poolT (dmixedM m c) (A6 m c) (ix2 i j) = (args m c).dpooled i j := by
  pointwise [poolT]
  unfold MixArgs.dpooled
  refine Finset.sum_congr rfl fun d _ => ?_
  rw [← dmixedM_apply]
  exact congrArg (· * _) (congrArg (fun l : Fin 512 => dmixedM m c (ix2 i l)) (Fin.ext (by show j.val / 128 * 128 + d.val = 128 * (j.val / 128) + d.val; omega)))
theorem sumB_apply (x : FVec Ideal S2048x2048 .f32) (i : Fin 1) (k : Fin 2048) : sumB x (ix2 i k) = ∑ r : Fin 2048, x (ix2 r k) := by
  pointwise [sumB]
  exact Fin.sum_univ_one _
theorem sumS_apply (x : FVec Ideal S2048x512 .f32) (i : Fin 1) (k : Fin 512) : sumS x (ix2 i k) = ∑ r : Fin 2048, x (ix2 r k) := by
  pointwise [sumS]
  exact Fin.sum_univ_one _

/-- What the reference's results hold. -/
theorem run_args (ρ : Dev nD → PrngReg) :
    θ_run defs (onTc (τ := τ) (main (F := Ideal))) ⟨m, fun _ => 0, ρ⟩ fun r => ∀ c : Dev nD,
      (∀ i k, (r.2.mem ((c.tc : Thread nD τ).loc main_v46) : FVec Ideal S2048x2048 .bf16) (ix2 i k) = (args m c).dz i k)
      ∧ (∀ i k, (r.2.mem ((c.tc : Thread nD τ).loc main_v47) : FVec Ideal S2048x1024 .bf16) (ix2 i k) = (args m c).dya i k)
      ∧ (∀ i k, (r.2.mem ((c.tc : Thread nD τ).loc main_v48) : FVec Ideal S2048x1024 .bf16) (ix2 i k) = (args m c).dyp i k)
      ∧ (∀ i k, (r.2.mem ((c.tc : Thread nD τ).loc main_v49) : FVec Ideal S2048x512 .f32) (ix2 i k) = (args m c).do' i k)
      ∧ (∀ i k, (r.2.mem ((c.tc : Thread nD τ).loc main_v50) : FVec Ideal S2048x512 .bf16) (ix2 i k) = (args m c).dmixed i k)
      ∧ (∀ i k, (r.2.mem ((c.tc : Thread nD τ).loc main_v55) : FVec Ideal S2048x512 .f32) (ix2 i k) = (args m c).dpooled i k)
      ∧ (∀ i k, (r.2.mem ((c.tc : Thread nD τ).loc main_v56) : FVec Ideal S1x2048 .f32) (ix2 i k) = (args m c).db k)
      ∧ (∀ i k, (r.2.mem ((c.tc : Thread nD τ).loc main_v57) : FVec Ideal S1x512 .f32) (ix2 i k) = (args m c).dps k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (run m ρ)
  obtain ⟨h0, h1, h2, h3, h4, h5, h6, h7, hk⟩ := h c
  have h0 : _ = truncf .bf16 (dzM m c) bitsLt_bf16_f32 := h0
  have h1 : _ = truncf .bf16 (dyaM m c) bitsLt_bf16_f32 := h1
  have h2 : _ = truncf .bf16 (dypM m c) bitsLt_bf16_f32 := h2
  have h3 : _ = doM m c := h3
  have h4 : _ = truncf .bf16 (dmixedM m c) bitsLt_bf16_f32 := h4
  have h5 : _ = poolT (dmixedM m c) (A6 m c) := h5
  have h6 : _ = sumB (dzM m c) := h6
  have h7 : _ = sumS (mulf (mixT (A2 m c) (A6 m c)) (dpreM m c)) := h7
  refine ⟨fun i k => (congrFun h0 _).trans (dzM_apply m c i k), fun i k => (congrFun h1 _).trans (dyaM_apply m c i k),
    fun i k => (congrFun h2 _).trans (dypM_apply m c i k), fun i k => (congrFun h3 _).trans (doM_apply m c i k),
    fun i k => (congrFun h4 _).trans (dmixedM_apply m c i k), fun i k => (congrFun h5 _).trans (poolM_apply m c i k),
    fun i k => (congrFun h6 _).trans ((sumB_apply _ i k).trans (Finset.sum_congr rfl fun j _ => dzM_apply m c j k)),
    fun i k => (congrFun h7 _).trans ((sumS_apply _ i k).trans (Finset.sum_congr rfl fun j _ => ?_)), hk⟩
  pointwise
  rw [dpreM_apply, mul_comm]
  rfl

end Ref

theorem frame_ref : quiescent_Reference6Ideal (hReference6Ideal := Cert.Reference6Ideal.Gen.facts) := fun m ρ _ =>
  (θ_run (Cert.Reference6Ideal.defs (F := Ideal)) _ _).mono
    (fun r h => And.intro (fun c => (h c).2.2.2.2.2.2.2.2) (sem_eq_zero_of_no_sems rfl r.2)) (Cert.Reference6Ideal.Value.run m ρ)

theorem algebraic : algebraic_Kernel6Ideal_Reference6Ideal (hKernel6Ideal := Cert.Kernel6Ideal.Gen.facts)
    (hReference6Ideal := Cert.Reference6Ideal.Gen.facts) := by
  intro m g m' g' _ hargs
  have e : ∀ c, Ref.args m' c = kargs m c := by
    intro c
    obtain ⟨h0, h1, h2, h3, h4, h5, h6, h7, h8, h9⟩ := hargs c
    unfold Ref.args kargs Ref.A0 Ref.A1 Ref.A2 Ref.A3 Ref.A4 Ref.A5 Ref.A6 Ref.A7 Ref.A8 Ref.A9 A0 A1 A2 A3 A4 A5 A6 A7 A8 A9
    rw [h0, h1, h2, h3, h4, h5, h6, h7, h8, h9]
  refine ⟨_, _, _, _, _, _, _, _, Cert.Kernel6Ideal.Value.run_blocks m g, ?_⟩
  refine (θ_run (Cert.Reference6Ideal.defs (F := Ideal)) _ _).mono (fun r h c => ?_) (Ref.run_args m' g')
  obtain ⟨h0, h1, h2, h3, h4, h5, h6, h7, hk⟩ := h c
  rw [e c] at h0 h1 h2 h3 h4 h5 h6 h7
  refine ⟨?_, ?_, ?_, ?_, ?_, ?_, ?_, ?_, hk⟩
  · exact same _ _ (kargs m c).dz h0 (final_dz m c)
  · exact same _ _ (kargs m c).dya h1 (final_dya m c)
  · exact same _ _ (kargs m c).dyp h2 (final_dyp m c)
  · exact same _ _ (kargs m c).do' h3 (final_do' m c)
  · exact same _ _ (kargs m c).dmixed h4 (final_dmixed m c)
  · exact same _ _ (kargs m c).dpooled h5 (final_dpooled m c)
  · exact same _ _ (fun _ => (kargs m c).db) h6 (final_db m c)
  · exact same _ _ (fun _ => (kargs m c).dps) h7 (final_dps m c)

end Cert.Proof.Mix

end
-- ==== Proof.InW.lean ====
/- THE GRADIENT OF THE INPUT PROJECTION'S WEIGHTS: one product, its columns by their owner. Both programs' results read at an index, and
   their claim. -/
module

public import proofs.«01_k».proof.Defs
public import proofs.«01_k».proof.Proof.Gen.Kernel7Ideal.Value
public import proofs.«01_k».proof.Proof.Gen.Reference7Ideal.Run
public import proofs.«01_k».proof.Proof.Arrays
public import proofs.«01_k».proof.Proof.Same
public import Idealize.ShloMosaic.Lib.Pointwise
public import Idealize.ShloMosaic.Lib.Quiescent

@[expose] public section

noncomputable section

namespace Cert.Proof.InW

open Idealize.ShloMosaic Idealize.ShloMosaic.TcCoe Idealize.ShloMosaic.StableHlo Idealize.SL.Sem

/-- Column `j` of owner `n`. -/
def col (n : Fin 8) (j : Fin 512) : Fin 4096 := ⟨n.val * 512 + j.val, by omega⟩

/-- The gradient: the input's transpose times the gradient of the projection. -/
def dw (x : FVec Ideal ⟨2, ![2048, 1024]⟩ .f32) (dz : FVec Ideal ⟨2, ![2048, 4096]⟩ .bf16) (n : Fin 8) (k : Fin 1024) (j : Fin 512) : EReal :=
  ∑ s : Fin 2048, x (ix2 s k) * dz (ix2 s (col n j))

section kernel
open Cert.Kernel7Ideal Cert.Kernel7Ideal.Gen

variable (m : (ℓ : Loc nD τ sig) → Buf (Elt Ideal) ℓ) (c : Dev nD)

abbrev A0 : FVec Ideal S2048x1024 .f32 := m ((c : Thread nD τ).loc main_arg0)
abbrev A1 : FVec Ideal S2048x4096 .bf16 := m ((c : Thread nD τ).loc main_arg1)

theorem pay_apply (v0 : Vec Ideal S1024x2048 .bf16) (v2 : Vec Ideal S2048x512 .bf16) (a : Fin 1) (k : Fin 1024) (j : Fin 512) :
    k0_pay1 (F := Ideal) v0 v2 (ix3 a k j) = ∑ s : Fin 2048, v0 (ix2 k s) * v2 (ix2 s j) := by
  pointwise [k0_pay1]

theorem entry_x (k : Fin 1024) (s : Fin 2048) : (V m c main_v1 : FVec Ideal S1024x2048 .bf16) (ix2 k s) = A0 m c (ix2 s k) := by
  have e : (V m c main_v1 : FVec Ideal S1024x2048 .bf16)
      = truncf .bf16 (transpose S1024x2048 [1, 0] (A0 m c) transposes_S2048x1024_S1024x2048_1_0) bitsLt_bf16_f32 := by
    simp only [V, hostOps0]
    after_results_simp <;> rfl
  rw [e]
  pointwise

theorem entry_dz : (V m c main_arg1 : FVec Ideal S2048x4096 .bf16) = A1 m c := V_main_arg1 m c

theorem index0 : ∀ t : Fin cfg0.N, win0_0.index t = ![0, 0] := (by decide +kernel : ∀ t : Fin grid0.N, win0_0.index t = ![0, 0])
theorem index1 : ∀ t : Fin cfg0.N, win0_1.index t = ![0, t.val] := (by decide +kernel : ∀ t : Fin grid0.N, win0_1.index t = ![0, t.val])
theorem index2 : ∀ t : Fin cfg0.N, win0_2.index t = ![t.val, 0, 0] := (by decide +kernel : ∀ t : Fin grid0.N, win0_2.index t = ![t.val, 0, 0])

abbrev own (t : Fin cfg0.N) : Fin 8 := ⟨t.val, by have := t.isLt; have : cfg0.N = 8 := N_0; omega⟩

theorem emb0 (t : Fin cfg0.N) (i : Fin 1024) (j : Fin 2048) : (win0_0.rect t).emb (ix2 i j) = ix2 i j :=
  eq_of_emb (a := 1024) (b := 2048) _ _ _ (I := ![0, 0]) (S := ![1024, 2048]) (y := ![i.val, j.val])
    (fun k => by rw [win0_0.rect_emb_val, index0]; match k with | ⟨0, _⟩ => rfl | ⟨1, _⟩ => rfl) (by simp) (by simp)
theorem emb1 (t : Fin cfg0.N) (i : Fin 2048) (j : Fin 512) : (win0_1.rect t).emb (ix2 i j) = ix2 i (col (own t) j) :=
  eq_of_emb (a := 2048) (b := 4096) _ _ _ (I := ![0, t.val]) (S := ![2048, 512]) (y := ![i.val, j.val])
    (fun k => by rw [win0_1.rect_emb_val, index1]; match k with | ⟨0, _⟩ => rfl | ⟨1, _⟩ => rfl) (by simp) rfl
theorem emb2 (t : Fin cfg0.N) (a : Fin 1) (i : Fin 1024) (j : Fin 512) : (win0_2.rect t).emb (ix3 a i j) = ix3 (own t) i j :=
  eq_of_emb3 (a := 8) (b := 1024) (c := 512) _ _ _ _ (I := ![t.val, 0, 0]) (S := ![1, 1024, 512]) (y := ![a.val, i.val, j.val])
    (fun k => by rw [win0_2.rect_emb_val, index2]; match k with | ⟨0, _⟩ => rfl | ⟨1, _⟩ => rfl | ⟨2, _⟩ => rfl)
    (by show t.val * 1 + a.val = t.val; omega) (by simp) (by simp)

theorem block (t : Fin cfg0.N) (a : Fin 1) (k : Fin 1024) (j : Fin 512) :
    out0_2 (F := Ideal) (iblk m c 0 t) (iblk m c 1 t) (ix3 a k j) = dw (A0 m c) (A1 m c) (own t) k j := by
  have e : out0_2 (F := Ideal) (iblk m c 0 t) (iblk m c 1 t) = k0_pay1 (F := Ideal) (iblk m c 0 t) (iblk m c 1 t) := by
    unfold out0_2
    refine (View.canon_unit_zero zero3 _ _).trans ?_
    rw [ld_whole, ld_whole]
  rw [e, pay_apply]
  refine Finset.sum_congr rfl fun s _ => ?_
  have h0 : iblk m c 0 t (ix2 k s) = A0 m c (ix2 s k) := (congrArg (V m c main_v1) (emb0 t k s)).trans (entry_x m c k s)
  have h1 : iblk m c 1 t (ix2 s j) = A1 m c (ix2 s (col (own t) j)) :=
    (congrArg (V m c main_arg1) (emb1 t s j)).trans (congrFun (entry_dz m c) _)
  rw [h0, h1]

theorem final (n : Fin 8) (k : Fin 1024) (j : Fin 512) :
    ((dats m 0 c).arrAt 2 cfg0.N : FVec Ideal S8x1024x512 .bf16) (ix3 n k j) = dw (A0 m c) (A1 m c) n k j := by
  let t : Fin cfg0.N := ⟨n.val, by have : cfg0.N = 8 := N_0; omega⟩
  have e : ((cfg0.win 2).blk t).view.emb (ix3 0 k j) = _ := emb2 t 0 k j
  have h := (dats m 0 c).arrAt_emb_eq_flushed 2 Value.disjoint2 t (flush0_2 t) (ix3 0 k j)
  rw [e, Value.flushed2] at h
  have hb := block m c t 0 k j
  generalize out0_2 (F := Ideal) (iblk m c 0 t) (iblk m c 1 t) = o at h hb
  exact h.trans hb

end kernel

section reference
open Cert.Reference7Ideal Cert.Reference7Ideal.Gen

variable (x : FVec Ideal S2048x1024 .f32) (dz : FVec Ideal S2048x4096 .bf16)

def out : FVec Ideal S8x1024x512 .bf16 :=
  truncf .bf16 (transpose S8x1024x512 [1, 0, 2] (shapeCast S1024x8x512 (transpose S1024x4096 [1, 0]
    (Host.dotGeneral (φ₁ := .f32) (φ₂ := .f32) dot_S2048x4096_S2048x1024_S4096x1024_0_0_1_1_n_n none (extf .f32 dz bitsLt_bf16_f32) x)
    transposes_S4096x1024_S1024x4096_1_0) shapeCasts_S1024x4096_S1024x8x512) transposes_S1024x8x512_S8x1024x512_1_0_2) bitsLt_bf16_f32

theorem out_apply (n : Fin 8) (k : Fin 1024) (j : Fin 512) : out x dz (ix3 n k j) = dw x dz n k j := by
  pointwise [out]
  exact Finset.sum_congr rfl fun s _ => mul_comm _ _

end reference

theorem frame_ref : quiescent_Reference7Ideal (hReference7Ideal := Cert.Reference7Ideal.Gen.facts) := fun m ρ _ =>
  (θ_run (Cert.Reference7Ideal.defs (F := Ideal)) _ _).mono
    (fun r h => And.intro (fun c => (h c).2) (sem_eq_zero_of_no_sems rfl r.2)) (Cert.Reference7Ideal.Value.run m ρ)

theorem algebraic : algebraic_Kernel7Ideal_Reference7Ideal (hKernel7Ideal := Cert.Kernel7Ideal.Gen.facts)
    (hReference7Ideal := Cert.Reference7Ideal.Gen.facts) := by
  intro m g m' g' _ hargs
  refine ⟨_, Cert.Kernel7Ideal.Value.run_blocks m g, ?_⟩
  refine (θ_run (Cert.Reference7Ideal.defs (F := Ideal)) _ _).mono (fun r h c => ?_) (Cert.Reference7Ideal.Value.run m' g')
  obtain ⟨h0, hk⟩ := h c
  obtain ⟨e0, e1⟩ := hargs c
  refine ⟨h0.trans ?_, hk⟩
  refine same3 _ _ (dw (A0 m c) (A1 m c)) (fun n k j => ?_) (final m c)
  rw [e0, e1]
  exact out_apply _ _ n k j

end Cert.Proof.InW

end
-- ==== Proof.Up.lean ====
/- THE UP PROJECTION AND ITS GATED ACTIVATION: what its three result arrays hold, what its reference computes, and their claim. -/
module

public import proofs.«01_k».proof.Defs
public import proofs.«01_k».proof.Proof.Gen.Kernel8Ideal.Value
public import proofs.«01_k».proof.Proof.Gen.Reference8Ideal.Frame
public import proofs.«01_k».proof.Proof.Arrays
public import proofs.«01_k».proof.Proof.RefRegion
public import proofs.«01_k».proof.Proof.Same
public import Idealize.ShloMosaic.Lib.Pipeline.ValueKit.Geometry

@[expose] public section

noncomputable section

namespace Cert.Proof.Up

open Idealize.ShloMosaic Idealize.ShloMosaic.TcCoe Idealize.ShloMosaic.StableHlo Idealize.SL.Sem
open Cert.Proof.Ref (dite_late conv_eq)

/-- The arguments that the up projection has, among those of the whole channel mixer; the others are not read. -/
def upArgs (x : FVec Ideal ⟨2, ![2048, 1024]⟩ .f32) (wg wu : FVec Ideal ⟨2, ![1024, 2816]⟩ .f32) (cw : FVec Ideal ⟨2, ![3, 2816]⟩ .f32)
    (cb : FVec Ideal ⟨1, ![2816]⟩ .f32) : Args where
  x r k := x (ix2 r k)
  dr _ _ := 0
  wg k j := wg (ix2 k j)
  wu k j := wu (ix2 k j)
  cw i j := cw (ix2 i j)
  cb j := cb (ix1 j)
  wd _ _ := 0

section kernel
open Cert.Kernel8Ideal Cert.Kernel8Ideal.Gen

theorem named_root_half : (Named.named (F := Ideal) Cert.Kernel8Ideal.κ "root_half" 0x3F3504F3#32 : Ideal .f32) = rootHalf :=
  IdealRules.named_const.ideal_named_scalar _ _ _ _ rfl

/-- The five blocks of a grid point hold the columns `J l` of the specification's arrays. -/
structure Blocks (p : Args) (J : Fin 256 → Fin 2816) (x0 : Vec Ideal S2048x1024 .bf16) (x1 x2 : Vec Ideal S256x1024 .bf16)
    (x3 : Vec Ideal S3x256 .f32) (x4 : Vec Ideal S1x256 .f32) : Prop where
  x : ∀ r k, x0 (ix2 r k) = p.x r k
  wg : ∀ l k, x1 (ix2 l k) = p.wg k (J l)
  wu : ∀ l k, x2 (ix2 l k) = p.wu k (J l)
  cw : ∀ i l, x3 (ix2 i l) = p.cw i (J l)
  cb : ∀ i l, x4 (ix2 i l) = p.cb (J l)

section pay
variable {p : Args} {J : Fin 256 → Fin 2816} {x0 : Vec Ideal S2048x1024 .bf16} {x1 x2 : Vec Ideal S256x1024 .bf16}
    {x3 : Vec Ideal S3x256 .f32} {x4 : Vec Ideal S1x256 .f32} (h : Blocks p J x0 x1 x2 x3 x4)
include h

theorem pay3_apply (r : Fin 2048) (l : Fin 256) : k0_pay3 (F := Ideal) x0 x1 (ix2 r l) = p.a (J l) r := by
  pointwise [k0_pay3, k0_pay2]
  simp only [h.x, h.wg]
  rfl

theorem pay4_apply (r : Fin 2048) (l : Fin 256) : k0_pay4 (F := Ideal) x0 x2 (ix2 r l) = p.u (J l) r := by
  pointwise [k0_pay4, k0_pay2]
  simp only [h.x, h.wu]
  rfl

theorem conv_apply (r : Fin 2048) (l : Fin 256) :
    k0_pay6 (F := Ideal) x0 x1 x3 (ix2 r l) + k0_pay7 (F := Ideal) x0 x1 x3 (ix2 r l) + k0_pay5 (F := Ideal) x4 (ix2 0 l) = p.ac (J l) r := by
  pointwise [k0_pay6, k0_pay7, k0_pay5]
  simp only [pay3_apply h, h.cw, h.cb]
  rw [select_late 1 (by omega), select_late 2 (by omega)]
  rfl

theorem pay1_apply (r : Fin 2048) (l : Fin 256) :
    k0_pay1 (F := Ideal) (k0_pay4 x0 x2) (k0_pay5 x4) (k0_pay6 x0 x1 x3) (k0_pay7 x0 x1 x3) (ix2 r l) = p.act (J l) r := by
  pointwise [k0_pay1]
  rw [conv_apply h, pay4_apply h, named_root_half, ofBits_half]
  rfl

end pay

variable (m : (ℓ : Loc nD τ sig) → Buf (Elt Ideal) ℓ) (c : Dev nD)

/-- The program's arguments on device `c`, as arrays. -/
abbrev A0 : FVec Ideal S2048x1024 .f32 := m ((c : Thread nD τ).loc main_arg0)
abbrev A1 : FVec Ideal S1024x2816 .f32 := m ((c : Thread nD τ).loc main_arg1)
abbrev A2 : FVec Ideal S1024x2816 .f32 := m ((c : Thread nD τ).loc main_arg2)
abbrev A3 : FVec Ideal S3x2816 .f32 := m ((c : Thread nD τ).loc main_arg3)
abbrev A4 : FVec Ideal S2816 .f32 := m ((c : Thread nD τ).loc main_arg4)

abbrev kargs : Args := upArgs (A0 m c) (A1 m c) (A2 m c) (A3 m c) (A4 m c)

theorem entry_x (i : Fin 2048) (k : Fin 1024) : (V m c main_v0 : FVec Ideal S2048x1024 .bf16) (ix2 i k) = (kargs m c).x i k := by
  have e : (V m c main_v0 : FVec Ideal S2048x1024 .bf16) = truncf .bf16 (A0 m c) bitsLt_bf16_f32 := by
    simp only [V, hostOps0]
    after_results_simp <;> rfl
  rw [e]; rfl

theorem entry_wg (i : Fin 2816) (k : Fin 1024) : (V m c main_v2 : FVec Ideal S2816x1024 .bf16) (ix2 i k) = (kargs m c).wg k i := by
  have e : (V m c main_v2 : FVec Ideal S2816x1024 .bf16) = truncf .bf16 (transpose S2816x1024 [1, 0] (A1 m c) transposes_S1024x2816_S2816x1024_1_0) bitsLt_bf16_f32 := by
    simp only [V, hostOps0]
    after_results_simp <;> rfl
  rw [e]
  pointwise
  rfl

theorem entry_wu (i : Fin 2816) (k : Fin 1024) : (V m c main_v4 : FVec Ideal S2816x1024 .bf16) (ix2 i k) = (kargs m c).wu k i := by
  have e : (V m c main_v4 : FVec Ideal S2816x1024 .bf16) = truncf .bf16 (transpose S2816x1024 [1, 0] (A2 m c) transposes_S1024x2816_S2816x1024_1_0) bitsLt_bf16_f32 := by
    simp only [V, hostOps0]
    after_results_simp <;> rfl
  rw [e]
  pointwise
  rfl

theorem entry_cw (i : Fin 3) (k : Fin 2816) : (V m c main_arg3 : FVec Ideal S3x2816 .f32) (ix2 i k) = (kargs m c).cw i k := by
  have e : (V m c main_arg3 : FVec Ideal S3x2816 .f32) = A3 m c := by
    simp only [V, hostOps0]
    after_results_simp <;> rfl
  rw [e]; rfl

theorem entry_cb (i : Fin 1) (k : Fin 2816) : (V m c main_v5 : FVec Ideal S1x2816 .f32) (ix2 i k) = (kargs m c).cb k := by
  have e : (V m c main_v5 : FVec Ideal S1x2816 .f32) = broadcastInDim S1x2816 ![1] bcast_S2816_S1x2816_1 (A4 m c) := by
    simp only [V, hostOps0]
    after_results_simp <;> rfl
  rw [e]
  pointwise
  rfl

/-- The column that column `l` of point `t`'s blocks is. -/
def col (t : Fin cfg0.N) (l : Fin 256) : Fin 2816 :=
  ⟨t.val * 256 + l.val, by have := t.isLt; have : cfg0.N = 11 := N_0; omega⟩

theorem index0 : ∀ t : Fin cfg0.N, win0_0.index t = ![0, 0] := (by decide +kernel : ∀ t : Fin grid0.N, win0_0.index t = ![0, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, t.val] := (by decide +kernel : ∀ t : Fin grid0.N, win0_3.index t = ![0, t.val])
theorem index4 : ∀ t : Fin cfg0.N, win0_4.index t = ![0, t.val] := (by decide +kernel : ∀ t : Fin grid0.N, win0_4.index t = ![0, t.val])
theorem index5 : ∀ t : Fin cfg0.N, win0_5.index t = ![0, t.val] := (by decide +kernel : ∀ t : Fin grid0.N, win0_5.index t = ![0, t.val])
theorem index6 : ∀ t : Fin cfg0.N, win0_6.index t = ![0, t.val] := (by decide +kernel : ∀ t : Fin grid0.N, win0_6.index t = ![0, t.val])
theorem index7 : ∀ t : Fin cfg0.N, win0_7.index t = ![0, t.val] := (by decide +kernel : ∀ t : Fin grid0.N, win0_7.index t = ![0, t.val])

theorem emb0 (t : Fin cfg0.N) (i : Fin 2048) (j : Fin 1024) : (win0_0.rect t).emb (ix2 i j) = ix2 i j :=
  eq_of_emb (a := 2048) (b := 1024) _ _ _ (I := ![0, 0]) (S := ![2048, 1024]) (y := ![i.val, j.val])
    (fun k => by rw [win0_0.rect_emb_val, index0]; match k with | ⟨0, _⟩ => rfl | ⟨1, _⟩ => rfl) (by simp) (by simp)
theorem emb1 (t : Fin cfg0.N) (i : Fin 256) (j : Fin 1024) : (win0_1.rect t).emb (ix2 i j) = ix2 (col t i) j :=
  eq_of_emb (a := 2816) (b := 1024) _ _ _ (I := ![t.val, 0]) (S := ![256, 1024]) (y := ![i.val, j.val])
    (fun k => by rw [win0_1.rect_emb_val, index1]; match k with | ⟨0, _⟩ => rfl | ⟨1, _⟩ => rfl) rfl (by simp)
theorem emb2 (t : Fin cfg0.N) (i : Fin 256) (j : Fin 1024) : (win0_2.rect t).emb (ix2 i j) = ix2 (col t i) j :=
  eq_of_emb (a := 2816) (b := 1024) _ _ _ (I := ![t.val, 0]) (S := ![256, 1024]) (y := ![i.val, j.val])
    (fun k => by rw [win0_2.rect_emb_val, index2]; match k with | ⟨0, _⟩ => rfl | ⟨1, _⟩ => rfl) rfl (by simp)
theorem emb3 (t : Fin cfg0.N) (i : Fin 3) (j : Fin 256) : (win0_3.rect t).emb (ix2 i j) = ix2 i (col t j) :=
  eq_of_emb (a := 3) (b := 2816) _ _ _ (I := ![0, t.val]) (S := ![3, 256]) (y := ![i.val, j.val])
    (fun k => by rw [win0_3.rect_emb_val, index3]; match k with | ⟨0, _⟩ => rfl | ⟨1, _⟩ => rfl) (by simp) rfl
theorem emb4 (t : Fin cfg0.N) (i : Fin 1) (j : Fin 256) : (win0_4.rect t).emb (ix2 i j) = ix2 i (col t j) :=
  eq_of_emb (a := 1) (b := 2816) _ _ _ (I := ![0, t.val]) (S := ![1, 256]) (y := ![i.val, j.val])
    (fun k => by rw [win0_4.rect_emb_val, index4]; match k with | ⟨0, _⟩ => rfl | ⟨1, _⟩ => rfl) (by simp) rfl
theorem emb5 (t : Fin cfg0.N) (i : Fin 2048) (j : Fin 256) : (win0_5.rect t).emb (ix2 i j) = ix2 i (col t j) :=
  eq_of_emb (a := 2048) (b := 2816) _ _ _ (I := ![0, t.val]) (S := ![2048, 256]) (y := ![i.val, j.val])
    (fun k => by rw [win0_5.rect_emb_val, index5]; match k with | ⟨0, _⟩ => rfl | ⟨1, _⟩ => rfl) (by simp) rfl
theorem emb6 (t : Fin cfg0.N) (i : Fin 2048) (j : Fin 256) : (win0_6.rect t).emb (ix2 i j) = ix2 i (col t j) :=
  eq_of_emb (a := 2048) (b := 2816) _ _ _ (I := ![0, t.val]) (S := ![2048, 256]) (y := ![i.val, j.val])
    (fun k => by rw [win0_6.rect_emb_val, index6]; match k with | ⟨0, _⟩ => rfl | ⟨1, _⟩ => rfl) (by simp) rfl
theorem emb7 (t : Fin cfg0.N) (i : Fin 2048) (j : Fin 256) : (win0_7.rect t).emb (ix2 i j) = ix2 i (col t j) :=
  eq_of_emb (a := 2048) (b := 2816) _ _ _ (I := ![0, t.val]) (S := ![2048, 256]) (y := ![i.val, j.val])
    (fun k => by rw [win0_7.rect_emb_val, index7]; match k with | ⟨0, _⟩ => rfl | ⟨1, _⟩ => rfl) (by simp) rfl

/- So every point reads its own columns of the arguments' arrays. -/

theorem at_x (t : Fin cfg0.N) (i : Fin 2048) (j : Fin 1024) : iblk m c 0 t (ix2 i j) = (kargs m c).x i j :=
  (congrArg (V m c main_v0) (emb0 t i j)).trans (entry_x m c i j)
theorem at_wg (t : Fin cfg0.N) (i : Fin 256) (j : Fin 1024) : iblk m c 1 t (ix2 i j) = (kargs m c).wg j (col t i) :=
  (congrArg (V m c main_v2) (emb1 t i j)).trans (entry_wg m c (col t i) j)
theorem at_wu (t : Fin cfg0.N) (i : Fin 256) (j : Fin 1024) : iblk m c 2 t (ix2 i j) = (kargs m c).wu j (col t i) :=
  (congrArg (V m c main_v4) (emb2 t i j)).trans (entry_wu m c (col t i) j)
theorem at_cw (t : Fin cfg0.N) (i : Fin 3) (j : Fin 256) : iblk m c 3 t (ix2 i j) = (kargs m c).cw i (col t j) :=
  (congrArg (V m c main_arg3) (emb3 t i j)).trans (entry_cw m c i (col t j))
theorem at_cb (t : Fin cfg0.N) (i : Fin 1) (j : Fin 256) : iblk m c 4 t (ix2 i j) = (kargs m c).cb (col t j) :=
  (congrArg (V m c main_v5) (emb4 t i j)).trans (entry_cb m c i (col t j))
theorem atPoint (t : Fin cfg0.N) : Blocks (kargs m c) (col t) (iblk m c 0 t) (iblk m c 1 t) (iblk m c 2 t) (iblk m c 3 t) (iblk m c 4 t) :=
  ⟨at_x m c t, at_wg m c t, at_wu m c t, at_cw m c t, at_cb m c t⟩

theorem col_surj (j : Fin 2816) : ∃ t l, col t l = j :=
  ⟨⟨j.val / 256, by have : cfg0.N = 11 := N_0; omega⟩, ⟨j.val % 256, by omega⟩,
    Fin.ext (by show j.val / 256 * 256 + j.val % 256 = j.val; omega)⟩

theorem block_a (t : Fin cfg0.N) (i : Fin 2048) (l : Fin 256) :
    out0_5 (F := Ideal) (iblk m c 0 t) (iblk m c 1 t) (iblk m c 2 t) (iblk m c 3 t) (iblk m c 4 t) (ix2 i l) = (kargs m c).a (col t l) i := by
  have e : out0_5 (F := Ideal) (iblk m c 0 t) (iblk m c 1 t) (iblk m c 2 t) (iblk m c 3 t) (iblk m c 4 t)
      = k0_pay3 (F := Ideal) (iblk m c 0 t) (iblk m c 1 t) := by
    unfold out0_5
    refine (View.canon_unit_zero zero2 _ _).trans ?_
    repeat rw [ld_whole]
  rw [e]
  exact pay3_apply (atPoint m c t) i l

theorem final_a (i : Fin 2048) (j : Fin 2816) : ((dats m 0 c).arrAt 5 cfg0.N : FVec Ideal S2048x2816 .f32) (ix2 i j) = (kargs m c).a j i := by
  obtain ⟨t, l, rfl⟩ := col_surj j
  have e : ((cfg0.win 5).blk t).view.emb (ix2 i l) = _ := emb5 t i l
  have h := (dats m 0 c).arrAt_emb_eq_flushed 5 Value.disjoint5 t (flush0_5 t) (ix2 i l)
  rw [e, Value.flushed5] at h
  have hb := block_a m c t i l
  generalize out0_5 (F := Ideal) (iblk m c 0 t) (iblk m c 1 t) (iblk m c 2 t) (iblk m c 3 t) (iblk m c 4 t) = o at h hb
  exact h.trans hb

theorem block_u (t : Fin cfg0.N) (i : Fin 2048) (l : Fin 256) :
    out0_6 (F := Ideal) (iblk m c 0 t) (iblk m c 1 t) (iblk m c 2 t) (iblk m c 3 t) (iblk m c 4 t) (ix2 i l) = (kargs m c).u (col t l) i := by
  have e : out0_6 (F := Ideal) (iblk m c 0 t) (iblk m c 1 t) (iblk m c 2 t) (iblk m c 3 t) (iblk m c 4 t)
      = k0_pay4 (F := Ideal) (iblk m c 0 t) (iblk m c 2 t) := by
    unfold out0_6
    refine (View.canon_unit_zero zero2 _ _).trans ?_
    repeat rw [ld_whole]
  rw [e]
  exact pay4_apply (atPoint m c t) i l

theorem final_u (i : Fin 2048) (j : Fin 2816) : ((dats m 0 c).arrAt 6 cfg0.N : FVec Ideal S2048x2816 .f32) (ix2 i j) = (kargs m c).u j i := by
  obtain ⟨t, l, rfl⟩ := col_surj j
  have e : ((cfg0.win 6).blk t).view.emb (ix2 i l) = _ := emb6 t i l
  have h := (dats m 0 c).arrAt_emb_eq_flushed 6 Value.disjoint6 t (flush0_6 t) (ix2 i l)
  rw [e, Value.flushed6] at h
  have hb := block_u m c t i l
  generalize out0_6 (F := Ideal) (iblk m c 0 t) (iblk m c 1 t) (iblk m c 2 t) (iblk m c 3 t) (iblk m c 4 t) = o at h hb
  exact h.trans hb

theorem block_act (t : Fin cfg0.N) (i : Fin 2048) (l : Fin 256) :
    out0_7 (F := Ideal) (iblk m c 0 t) (iblk m c 1 t) (iblk m c 2 t) (iblk m c 3 t) (iblk m c 4 t) (ix2 i l) = (kargs m c).act (col t l) i := by
  have e : out0_7 (F := Ideal) (iblk m c 0 t) (iblk m c 1 t) (iblk m c 2 t) (iblk m c 3 t) (iblk m c 4 t)
      = k0_pay1 (F := Ideal) (k0_pay4 (iblk m c 0 t) (iblk m c 2 t)) (k0_pay5 (iblk m c 4 t)) (k0_pay6 (iblk m c 0 t) (iblk m c 1 t) (iblk m c 3 t))
        (k0_pay7 (iblk m c 0 t) (iblk m c 1 t) (iblk m c 3 t)) := by
    unfold out0_7
    refine (View.canon_unit_zero zero2 _ _).trans ?_
    repeat rw [ld_whole]
  rw [e]
  exact pay1_apply (atPoint m c t) i l

theorem final_act (i : Fin 2048) (j : Fin 2816) : ((dats m 0 c).arrAt 7 cfg0.N : FVec Ideal S2048x2816 .bf16) (ix2 i j) = (kargs m c).act j i := by
  obtain ⟨t, l, rfl⟩ := col_surj j
  have e : ((cfg0.win 7).blk t).view.emb (ix2 i l) = _ := emb7 t i l
  have h := (dats m 0 c).arrAt_emb_eq_flushed 7 Value.disjoint7 t (flush0_7 t) (ix2 i l)
  rw [e, Value.flushed7] at h
  have hb := block_act m c t i l
  generalize out0_7 (F := Ideal) (iblk m c 0 t) (iblk m c 1 t) (iblk m c 2 t) (iblk m c 3 t) (iblk m c 4 t) = o at h hb
  exact h.trans hb

end kernel

namespace Ref
open Cert.Reference8Ideal Cert.Reference8Ideal.Gen

theorem named_root_half : (Named.named (F := Ideal) Cert.Reference8Ideal.κ "root_half" 0x3F3504F3#32 : Ideal .f32) = rootHalf :=
  IdealRules.named_const.ideal_named_scalar _ _ _ _ rfl

section stages
variable (x : FVec Ideal S2048x1024 .f32) (wg wu : FVec Ideal S1024x2816 .f32) (cw : FVec Ideal S3x2816 .f32) (cb : FVec Ideal S2816 .f32)

/-- The product; it below two rows of zeros; a row of the taps along every row; the convolved gate: arrays. -/
abbrev prod (w : FVec Ideal S1024x2816 .f32) : FVec Ideal S2048x2816 .f32 :=
  Host.dotGeneral (φ₁ := .f32) (φ₂ := .f32) dot_S2048x1024_S1024x2816_S2048x2816_1_0_0_1_n_n none x w
def padded (a : FVec Ideal S2048x2816 .f32) : FVec Ideal S2050x2816 .f32 :=
  concatenate S2050x2816 0 [⟨S2x2816, broadcastInDim S2x2816 ![] bcast_S_S2x2816 (constant S_ .f32 0x00000000#32)⟩,
    ⟨S2048x2816, a⟩] concatenates_S2x2816_S2048x2816_S2050x2816_d0
def tap (i : Nat) (h : S3x2816.Slices ![i, 0] S1x2816) : FVec Ideal S2048x2816 .f32 :=
  broadcastInDim S2048x2816 ![0, 1] bcast_S1x2816_S2048x2816_0_1 (broadcastInDim S1x2816 ![1] bcast_S2816_S1x2816_1
    (shapeCast _ (extractStridedSlice S1x2816 ![i, 0] cw h) shapeCasts_S1x2816_S2816))
def bias : FVec Ideal S2048x2816 .f32 :=
  broadcastInDim S2048x2816 ![0, 1] bcast_S1x2816_S2048x2816_0_1 (broadcastInDim S1x2816 ![1] bcast_S2816_S1x2816_1 cb)
def part (a : FVec Ideal S2048x2816 .f32) (i : Nat) (h : S2050x2816.Slices ![i, 0] S2048x2816) : FVec Ideal S2048x2816 .f32 :=
  extractStridedSlice S2048x2816 ![i, 0] (padded a) h
def convT (a : FVec Ideal S2048x2816 .f32) : FVec Ideal S2048x2816 .f32 :=
  addf (F := Ideal) (φ := .f32) (s := S2048x2816) (addf (addf (addf
      (broadcastInDim S2048x2816 ![] bcast_S_S2048x2816 (constant S_ .f32 0x00000000#32))
      (mulf (part a 0 slices_S2050x2816_S2048x2816_0_0) (tap cw 0 slices_S3x2816_S1x2816_0_0)))
      (mulf (part a 1 slices_S2050x2816_S2048x2816_1_0) (tap cw 1 slices_S3x2816_S1x2816_1_0)))
      (mulf (part a 2 slices_S2050x2816_S2048x2816_2_0) (tap cw 2 slices_S3x2816_S1x2816_2_0)))
      (bias cb)

theorem part0 (a : FVec Ideal S2048x2816 .f32) (f : Fin 2816 → Fin 2048 → EReal) (h : ∀ r j, a (ix2 r j) = f j r) (r : Fin 2048) (j : Fin 2816) :
    part a 0 slices_S2050x2816_S2048x2816_0_0 (ix2 r j) = late 2 (f j) r := by
  obtain rfl : (fun j r => a (ix2 r j)) = f := funext fun j => funext fun r => h r j
  pointwise [part, padded]
  exact dite_late 2 (fun r => a (ix2 r j)) r r.val rfl (by omega)
theorem part1 (a : FVec Ideal S2048x2816 .f32) (f : Fin 2816 → Fin 2048 → EReal) (h : ∀ r j, a (ix2 r j) = f j r) (r : Fin 2048) (j : Fin 2816) :
    part a 1 slices_S2050x2816_S2048x2816_1_0 (ix2 r j) = late 1 (f j) r := by
  obtain rfl : (fun j r => a (ix2 r j)) = f := funext fun j => funext fun r => h r j
  pointwise [part, padded]
  exact dite_late 1 (fun r => a (ix2 r j)) r (1 + r.val) (by omega) (by omega)
theorem part2 (a : FVec Ideal S2048x2816 .f32) (f : Fin 2816 → Fin 2048 → EReal) (h : ∀ r j, a (ix2 r j) = f j r) (r : Fin 2048) (j : Fin 2816) :
    part a 2 slices_S2050x2816_S2048x2816_2_0 (ix2 r j) = f j r := by
  rw [← h]
  pointwise [part, padded]
theorem tap_apply (i : Fin 3) (h : S3x2816.Slices ![i.val, 0] S1x2816) (r : Fin 2048) (j : Fin 2816) : tap cw i.val h (ix2 r j) = cw (ix2 i j) := by
  pointwise [tap]
theorem bias_apply (r : Fin 2048) (j : Fin 2816) : bias cb (ix2 r j) = cb (ix1 j) := by
  pointwise [bias]

theorem a_apply (r : Fin 2048) (j : Fin 2816) : prod x wg (ix2 r j) = (upArgs x wg wu cw cb).a j r := by
  pointwise [prod]
  rfl
theorem u_apply (r : Fin 2048) (j : Fin 2816) : prod x wu (ix2 r j) = (upArgs x wg wu cw cb).u j r := by
  pointwise [prod]
  rfl

theorem conv_apply (r : Fin 2048) (j : Fin 2816) : convT cw cb (prod x wg) (ix2 r j) = (upArgs x wg wu cw cb).ac j r := by
  have h := a_apply x wg wu cw cb
  generalize prod x wg = a at h
  unfold Args.ac
  rw [← conv_eq, ← part0 a _ h, ← part1 a _ h, ← part2 a _ h]
  show _ = 0 + part a 0 _ (ix2 r j) * cw (ix2 0 j) + part a 1 _ (ix2 r j) * cw (ix2 1 j) + part a 2 _ (ix2 r j) * cw (ix2 2 j) + cb (ix1 j)
  rw [← tap_apply cw 0 slices_S3x2816_S1x2816_0_0 r, ← tap_apply cw 1 slices_S3x2816_S1x2816_1_0 r,
    ← tap_apply cw 2 slices_S3x2816_S1x2816_2_0 r, ← bias_apply cb r j]
  pointwise [convT]

theorem pay1_apply (x0 x1 : Vec Ideal S2048x2816 .f32) (p : Args) (h0 : ∀ r j, x0 (ix2 r j) = p.ac j r) (h1 : ∀ r j, x1 (ix2 r j) = p.u j r)
    (r : Fin 2048) (j : Fin 2816) : k0_pay1 (F := Ideal) x0 x1 (ix2 r j) = p.act j r := by
  pointwise [k0_pay1]
  rw [h0, h1, named_root_half, ofBits_half, Args.act, ← gelu_eq]
  rfl

end stages

variable (m : (ℓ : Loc nD τ sig) → Buf (Elt Ideal) ℓ) (c : Dev nD)

/-- The reference's arguments on device `c`, as arrays. -/
abbrev A0 : FVec Ideal S2048x1024 .f32 := m ((c : Thread nD τ).loc main_arg0)
abbrev A1 : FVec Ideal S1024x2816 .f32 := m ((c : Thread nD τ).loc main_arg1)
abbrev A2 : FVec Ideal S1024x2816 .f32 := m ((c : Thread nD τ).loc main_arg2)
abbrev A3 : FVec Ideal S3x2816 .f32 := m ((c : Thread nD τ).loc main_arg3)
abbrev A4 : FVec Ideal S2816 .f32 := m ((c : Thread nD τ).loc main_arg4)

abbrev args : Args := upArgs (A0 m c) (A1 m c) (A2 m c) (A3 m c) (A4 m c)

theorem V_a : (V m c main_v0 : FVec Ideal S2048x2816 .f32) = prod (A0 m c) (A1 m c) := by
  simp only [V, hostOps0]
  after_results_simp <;> rfl
theorem V_u : (V m c main_v1 : FVec Ideal S2048x2816 .f32) = prod (A0 m c) (A2 m c) := by
  simp only [V, hostOps0]
  after_results_simp <;> rfl
theorem V_ac : (V m c main_v28 : FVec Ideal S2048x2816 .f32) = convT (A3 m c) (A4 m c) (prod (A0 m c) (A1 m c)) := by
  simp only [V, hostOps0]
  after_results_simp <;> rfl

theorem entry_a (r : Fin 2048) (j : Fin 2816) : (V m c main_v0 : FVec Ideal S2048x2816 .f32) (ix2 r j) = (args m c).a j r := by
  rw [V_a]; exact a_apply _ _ _ _ _ r j
theorem entry_u (r : Fin 2048) (j : Fin 2816) : (V m c main_v1 : FVec Ideal S2048x2816 .f32) (ix2 r j) = (args m c).u j r := by
  rw [V_u]; exact u_apply _ _ _ _ _ r j
theorem entry_ac (r : Fin 2048) (j : Fin 2816) : (V m c main_v28 : FVec Ideal S2048x2816 .f32) (ix2 r j) = (args m c).ac j r := by
  rw [V_ac]; exact conv_apply _ _ _ _ _ r j

/- The region's one point reads its two arrays whole and writes its result whole. -/

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem emb0 (t : Fin cfg0.N) (i : Fin 2048) (j : Fin 2816) : (win0_0.rect t).emb (ix2 i j) = ix2 i j :=
  Cert.Proof.eq_of_emb (a := 2048) (b := 2816) _ _ _ (I := ![0, 0]) (S := ![2048, 2816]) (y := ![i.val, j.val])
    (fun k => by rw [win0_0.rect_emb_val, index0]; match k with | ⟨0, _⟩ => rfl | ⟨1, _⟩ => rfl) (by simp) (by simp)
theorem emb1 (t : Fin cfg0.N) (i : Fin 2048) (j : Fin 2816) : (win0_1.rect t).emb (ix2 i j) = ix2 i j :=
  Cert.Proof.eq_of_emb (a := 2048) (b := 2816) _ _ _ (I := ![0, 0]) (S := ![2048, 2816]) (y := ![i.val, j.val])
    (fun k => by rw [win0_1.rect_emb_val, index1]; match k with | ⟨0, _⟩ => rfl | ⟨1, _⟩ => rfl) (by simp) (by simp)
theorem emb2 (t : Fin cfg0.N) (i : Fin 2048) (j : Fin 2816) : (win0_2.rect t).emb (ix2 i j) = ix2 i j :=
  Cert.Proof.eq_of_emb (a := 2048) (b := 2816) _ _ _ (I := ![0, 0]) (S := ![2048, 2816]) (y := ![i.val, j.val])
    (fun k => by rw [win0_2.rect_emb_val, index2]; match k with | ⟨0, _⟩ => rfl | ⟨1, _⟩ => rfl) (by simp) (by simp)

theorem one (t t' : Fin cfg0.N) : t = t' := by have := t.isLt; have := t'.isLt; have : cfg0.N = 1 := N_0; exact Fin.ext (by omega)
theorem one2 : ∀ t t' : Fin cfg0.N, (cfg0.win 2).flush t = true → (cfg0.win 2).flush t' = true → t ≠ t' →
    Disjoint ((cfg0.win 2).blk t).view.set ((cfg0.win 2).blk t').view.set := fun t t' _ _ hn => absurd (one t t') hn

theorem at_ac (t : Fin cfg0.N) (i : Fin 2048) (j : Fin 2816) : iblk m c 0 t (ix2 i j) = (args m c).ac j i :=
  (congrArg (V m c main_v28) (emb0 t i j)).trans (entry_ac m c i j)
theorem at_u (t : Fin cfg0.N) (i : Fin 2048) (j : Fin 2816) : iblk m c 1 t (ix2 i j) = (args m c).u j i :=
  (congrArg (V m c main_v1) (emb1 t i j)).trans (entry_u m c i j)

theorem block_act (t : Fin cfg0.N) (i : Fin 2048) (j : Fin 2816) :
    out0_2 (F := Ideal) (iblk m c 0 t) (iblk m c 1 t) (ix2 i j) = (args m c).act j i := by
  have e : out0_2 (F := Ideal) (iblk m c 0 t) (iblk m c 1 t) = k0_pay1 (F := Ideal) (iblk m c 0 t) (iblk m c 1 t) := by
    unfold out0_2
    refine (View.canon_unit_zero zero2 _ _).trans ?_
    repeat rw [ld_whole]
  rw [e]
  exact pay1_apply _ _ _ (at_ac m c t) (at_u m c t) i j

theorem flushed2 (t : Fin cfg0.N) : (dats m 0 c).flushed 2 t = (cfg0.win 2).cut (grid0.coords t) (out0_2 (iblk m c 0 t) (iblk m c 1 t)) := by
  show (cfg0.win 2).cut (grid0.coords t) ((dats m 0 c).after 2 t) = _
  rw [after0_2]

theorem final_act (i : Fin 2048) (j : Fin 2816) : ((dats m 0 c).arrAt 2 cfg0.N : FVec Ideal S2048x2816 .bf16) (ix2 i j) = (args m c).act j i := by
  let t : Fin cfg0.N := ⟨0, by have : cfg0.N = 1 := N_0; omega⟩
  have e : ((cfg0.win 2).blk t).view.emb (ix2 i j) = _ := emb2 t i j
  have h := (dats m 0 c).arrAt_emb_eq_flushed 2 one2 t (flush0_2 t) (ix2 i j)
  rw [e, flushed2] at h
  have hb := block_act m c t i j
  generalize out0_2 (F := Ideal) (iblk m c 0 t) (iblk m c 1 t) = o at h hb
  exact h.trans hb

/-- What the reference's results hold. -/
theorem run_args (ρ : Dev nD → PrngReg) :
    θ_run defs (onTc (τ := τ) (main (F := Ideal))) ⟨m, fun _ => 0, ρ⟩ fun r => ∀ c : Dev nD,
      (∀ i j, (r.2.mem ((c.tc : Thread nD τ).loc main_v0) : FVec Ideal S2048x2816 .f32) (ix2 i j) = (args m c).a j i)
      ∧ (∀ i j, (r.2.mem ((c.tc : Thread nD τ).loc main_v1) : FVec Ideal S2048x2816 .f32) (ix2 i j) = (args m c).u j i)
      ∧ (∀ i j, (r.2.mem ((c.tc : Thread nD τ).loc main_v29) : FVec Ideal S2048x2816 .bf16) (ix2 i j) = (args m c).act j i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run_main m ρ)
  refine ⟨fun i j => ?_, fun i j => ?_, fun i j => ?_,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩
  · exact (congrFun ((h c).2 main_v0 (Pipeline.mem_restRefs_of main_v0 (by decide) (by decide))) _).trans (entry_a m c i j)
  · have e : r.2.mem ((c.tc : Thread nD τ).loc main_v1) = V m c main_v1 := ((h c).1 1).trans (((dats m 0 c).arrAt_in 1 rfl _).trans (A_eq m c 1))
    exact (congrFun e _).trans (entry_u m c i j)
  · have e : r.2.mem ((c.tc : Thread nD τ).loc main_v29) = (dats m 0 c).arrAt 2 cfg0.N := (h c).1 2
    exact (congrFun e _).trans (final_act m c i j)

end Ref

theorem algebraic : algebraic_Kernel8Ideal_Reference8Ideal (hKernel8Ideal := Cert.Kernel8Ideal.Gen.facts)
    (hReference8Ideal := Cert.Reference8Ideal.Gen.facts) := by
  intro m g m' g' _ hargs
  have e : ∀ c, Ref.args m' c = kargs m c := by
    intro c
    obtain ⟨h0, h1, h2, h3, h4⟩ := hargs c
    unfold Ref.args kargs Ref.A0 Ref.A1 Ref.A2 Ref.A3 Ref.A4 A0 A1 A2 A3 A4
    rw [h0, h1, h2, h3, h4]
  refine ⟨_, _, _, Cert.Kernel8Ideal.Value.run_blocks m g, ?_⟩
  refine (θ_run (Cert.Reference8Ideal.defs (F := Ideal)) _ _).mono (fun r h c => ?_) (Ref.run_args m' g')
  obtain ⟨h0, h1, h2, hk⟩ := h c
  rw [e c] at h0 h1 h2
  refine ⟨?_, ?_, ?_, hk⟩
  · exact same _ _ (fun i j => (kargs m c).a j i) h0 (final_a m c)
  · exact same _ _ (fun i j => (kargs m c).u j i) h1 (final_u m c)
  · exact same _ _ (fun i j => (kargs m c).act j i) h2 (final_act m c)

end Cert.Proof.Up

end
-- ==== Proof.lean ====
module

public import proofs.«01_k».proof.Defs
public import proofs.«01_k».proof.Proof.Gen.Kernel.Frame
public import proofs.«01_k».proof.Proof.Arrays
public import proofs.«01_k».proof.Proof.RefResults
public import proofs.«01_k».proof.Proof.Pre
public import proofs.«01_k».proof.Proof.Same
public import proofs.«01_k».proof.Proof.Gen.Kernel2.Frame
public import proofs.«01_k».proof.Proof.HeadProof
public import proofs.«01_k».proof.Proof.Gen.Kernel3.Frame
public import proofs.«01_k».proof.Proof.InX
public import proofs.«01_k».proof.Proof.Gen.Kernel4.Frame
public import proofs.«01_k».proof.Proof.ProjProof
public import proofs.«01_k».proof.Proof.Gen.Kernel5.Frame
public import proofs.«01_k».proof.Proof.Ln1Proof
public import proofs.«01_k».proof.Proof.Gen.Kernel6.Frame
public import proofs.«01_k».proof.Proof.MixProof
public import proofs.«01_k».proof.Proof.Gen.Kernel7.Frame
public import proofs.«01_k».proof.Proof.InW
public import proofs.«01_k».proof.Proof.Gen.Kernel8.Frame
public import proofs.«01_k».proof.Proof.Up
public import Idealize.ShloMosaic.Adequacy
public import Idealize.ShloMosaic.Init

@[expose] public section

noncomputable section

namespace Cert.Proof

open Idealize.ShloMosaic Idealize.SL.Sem

theorem finite_kargs (m : (ℓ : Loc Cert.KernelIdeal.nD Cert.KernelIdeal.τ Cert.KernelIdeal.sig) → Buf (Elt Ideal) ℓ)
    (h : Pre_KernelIdeal_finite (hPre_finite := pre_facts) m) (c : Dev Cert.KernelIdeal.nD) : (kargs m c).Finite := by
  obtain ⟨h0, h1, h2, h3, h4, h5, h6⟩ := real_of_pre (hF := pre_facts) _ _ _ _ _ _ _ (h c)
  exact ⟨fun r k => h0 (ix2 r k), fun r k => h1 (ix2 r k), fun k j => h2 (ix2 k j), fun k j => h3 (ix2 k j), fun i j => h4 (ix2 i j),
    fun j => h5 (ix1 j), fun j k => h6 (ix2 j k)⟩

theorem algebraic : algebraic_KernelIdeal_ReferenceIdeal_pre_finite (hKernelIdeal := Cert.KernelIdeal.Gen.facts)
    (hReferenceIdeal := Cert.ReferenceIdeal.Gen.facts) (hPre_finite := pre_facts) := by
  intro m g m' g' hpre hargs
  have hp := finite_kargs m hpre
  have e : ∀ c, Ref.args m' c = kargs m c := by
    intro c
    obtain ⟨h0, h1, h2, h3, h4, h5, h6⟩ := hargs c
    unfold Ref.args kargs Ref.A0 Ref.A1 Ref.A2 Ref.A3 Ref.A4 Ref.A5 Ref.A6 A0 A1 A2 A3 A4 A5 A6
    rw [h0, h1, h2, h3, h4, h5, h6]
  have hp' : ∀ c, (Ref.args m' c).Finite := fun c => by rw [e c]; exact hp c
  refine ⟨_, _, _, _, _, _, Cert.KernelIdeal.Value.run_blocks m g, ?_⟩
  refine (θ_run (Cert.ReferenceIdeal.defs (F := Ideal)) _ _).mono (fun r h c => ?_) (Ref.run_args m' g' hp')
  obtain ⟨h80, h81, h82, h84, h86, h79, hk⟩ := h c
  rw [e c] at h80 h81 h82 h84 h86 h79
  refine ⟨?_, ?_, ?_, ?_, ?_, ?_, hk⟩
  · exact same _ _ (fun i j => (kargs m c).da j i) h80 (final_da m c)
  · exact same _ _ (fun i j => (kargs m c).du j i) h81 (final_du m c)
  · exact same _ _ (kargs m c).dwd h82 (final_dwd m c)
  · exact same _ _ (kargs m c).dwg h84 (final_dwg m c)
  · exact same _ _ (kargs m c).dwu h86 (final_dwu m c)
  · exact same _ _ (kargs m c).dc h79 (final_dc m c)

/-- The two named constants of the kernel, each within a rounding of its value. -/
theorem preserves : preserves_Kernel_KernelIdeal :=
  ⟨IdealRules.named_const.statement Cert.KernelIdeal.κ "root_half" .f32 0x3F3504F3#32 _ rfl,
    IdealRules.named_const.statement Cert.KernelIdeal.κ "gauss" .f32 0x3ECC422A#32 _ rfl⟩

/-- The one named constant of the up projection's kernel. -/
theorem preserves_up : preserves_Kernel8_Kernel8Ideal :=
  IdealRules.named_const.statement Cert.Kernel8Ideal.κ "root_half" .f32 0x3F3504F3#32 _ rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    pre_facts,
    Head.pre_facts,
    InX.pre_facts,
    Ln1.pre_facts,
    fun m ρ _ => Cert.Kernel.Gen.frame m ρ, fun m ρ _ => Cert.KernelIdeal.Gen.frame m ρ, fun m ρ _ => Cert.KernelIdeal.Gen.frame m ρ, fun m ρ _ => Cert.ReferenceIdeal.Gen.frame m ρ, fun m ρ _ => Cert.ReferenceIdeal.Gen.frame m ρ,
    fun m ρ _ => Cert.Kernel2.Gen.frame m ρ, fun m ρ _ => Cert.Kernel2Ideal.Gen.frame m ρ, fun m ρ _ => Cert.Kernel2Ideal.Gen.frame m ρ, Head.frame_ref, fun m ρ _ => Head.frame_ref m ρ trivial,
    fun m ρ _ => Cert.Kernel3.Gen.frame m ρ, fun m ρ _ => Cert.Kernel3Ideal.Gen.frame m ρ, fun m ρ _ => Cert.Kernel3Ideal.Gen.frame m ρ, InX.frame_ref, fun m ρ _ => InX.frame_ref m ρ trivial,
    fun m ρ _ => Cert.Kernel4.Gen.frame m ρ, fun m ρ _ => Cert.Kernel4Ideal.Gen.frame m ρ, Proj.frame_ref,
    fun m ρ _ => Cert.Kernel5.Gen.frame m ρ, fun m ρ _ => Cert.Kernel5Ideal.Gen.frame m ρ, fun m ρ _ => Cert.Kernel5Ideal.Gen.frame m ρ, Ln1.frame_ref, fun m ρ _ => Ln1.frame_ref m ρ trivial,
    fun m ρ _ => Cert.Kernel6.Gen.frame m ρ, fun m ρ _ => Cert.Kernel6Ideal.Gen.frame m ρ, Mix.frame_ref,
    fun m ρ _ => Cert.Kernel7.Gen.frame m ρ, fun m ρ _ => Cert.Kernel7Ideal.Gen.frame m ρ, InW.frame_ref,
    fun m ρ _ => Cert.Kernel8.Gen.frame m ρ, fun m ρ _ => Cert.Kernel8Ideal.Gen.frame m ρ, fun m ρ _ => Cert.Reference8Ideal.Gen.frame m ρ,
    preserves, algebraic, trivial, Head.algebraic, trivial, InX.algebraic, trivial, Proj.algebraic, trivial, Ln1.algebraic, trivial, Mix.algebraic, trivial, InW.algebraic, preserves_up, Up.algebraic⟩

end Cert.Proof

end
